-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v21)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v21) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v58) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v23)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v23) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v58) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v21)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v21) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v58) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_scores.lean ====
abbrev S8x8192x8x64 : Shape := ⟨4, ![8, 8192, 8, 64]⟩
abbrev S8x8192x8x32 : Shape := ⟨4, ![8, 8192, 8, 32]⟩
abbrev S8x8192x32 : Shape := ⟨3, ![8, 8192, 32]⟩
abbrev S8x8192x1x32 : Shape := ⟨4, ![8, 8192, 1, 32]⟩
abbrev S8x8192x8x192 : Shape := ⟨4, ![8, 8192, 8, 192]⟩
abbrev S_ : Shape := ⟨0, ![]⟩

class Facts : Prop where
  bcast_S8x8192x32_S8x8192x1x32_0_1_3 : S8x8192x32.BroadcastsInDim S8x8192x1x32 (![0, 1, 3] : Fin 3 → Fin S8x8192x1x32.rank)
  bcast_S8x8192x1x32_S8x8192x8x32_0_1_2_3 : S8x8192x1x32.BroadcastsInDim S8x8192x8x32 (![0, 1, 2, 3] : Fin 4 → Fin S8x8192x8x32.rank)
  concatenates_S8x8192x8x64_S8x8192x8x32_S8x8192x8x64_S8x8192x8x32_S8x8192x8x192_d3 : Shape.Concatenates [S8x8192x8x64, S8x8192x8x32, S8x8192x8x64, S8x8192x8x32] S8x8192x8x192 3
  bcast_S_S8x8192x8x192 : S_.BroadcastsInDim S8x8192x8x192 (![] : Fin 0 → Fin S8x8192x8x192.rank)

variable [Facts]

def fn {F : FTy → Type} [FloatOps F] (main_arg0 : FVec F S8x8192x8x64 .f32) (main_arg1 : FVec F S8x8192x8x32 .f32) (main_arg2 : FVec F S8x8192x8x64 .f32) (main_arg3 : FVec F S8x8192x32 .f32) (main_arg4 : FVec F S8x8192x8x64 .f32) : IVec S8x8192x8x192 1 :=
  let main_v0 : FVec F S8x8192x1x32 .f32 := broadcastInDim S8x8192x1x32 ![0, 1, 3] bcast_S8x8192x32_S8x8192x1x32_0_1_3 main_arg3
  let main_v1 : FVec F S8x8192x8x32 .f32 := broadcastInDim S8x8192x8x32 ![0, 1, 2, 3] bcast_S8x8192x1x32_S8x8192x8x32_0_1_2_3 main_v0
  let main_v2 : FVec F S8x8192x8x192 .f32 := concatenate S8x8192x8x192 3 [⟨S8x8192x8x64, main_arg0⟩, ⟨S8x8192x8x32, main_arg1⟩, ⟨S8x8192x8x64, main_arg2⟩, ⟨S8x8192x8x32, main_v1⟩] concatenates_S8x8192x8x64_S8x8192x8x32_S8x8192x8x64_S8x8192x8x32_S8x8192x8x192_d3
  let main_v3 : FVec F S8x8192x8x192 .f32 := Host.absf main_v2
  let main_cst : FVec F S_ .f32 := constant S_ .f32 0x7F800000#32
  let main_v4 : FVec F S8x8192x8x192 .f32 := broadcastInDim S8x8192x8x192 ![] bcast_S_S8x8192x8x192 main_cst
  let main_v5 : IVec S8x8192x8x192 1 := cmpf .olt main_v3 main_v4
  main_v5
-- ==== Kernel.lean ====
abbrev S8x8192x8x64 : Shape := ⟨4, ![8, 8192, 8, 64]⟩
abbrev S8x8192x8x32 : Shape := ⟨4, ![8, 8192, 8, 32]⟩
abbrev S8x8192x32 : Shape := ⟨3, ![8, 8192, 32]⟩
abbrev S_ : Shape := ⟨0, ![]⟩
abbrev S8x8192x8x128 : Shape := ⟨4, ![8, 8192, 8, 128]⟩
abbrev S8x16x512x8x128 : Shape := ⟨5, ![8, 16, 512, 8, 128]⟩
abbrev S8x8x16x128x512 : Shape := ⟨5, ![8, 8, 16, 128, 512]⟩
abbrev S8x8192x1x32 : Shape := ⟨4, ![8, 8192, 1, 32]⟩
abbrev S8x8x8192x128 : Shape := ⟨4, ![8, 8, 8192, 128]⟩
abbrev S8x8192x8x1 : Shape := ⟨4, ![8, 8192, 8, 1]⟩
abbrev S8x8192x8x15 : Shape := ⟨4, ![8, 8192, 8, 15]⟩
abbrev S8x8192x8x80 : Shape := ⟨4, ![8, 8192, 8, 80]⟩
abbrev S8x16x512x8x80 : Shape := ⟨5, ![8, 16, 512, 8, 80]⟩
abbrev S8x16x8x80x512 : Shape := ⟨5, ![8, 16, 8, 80, 512]⟩
abbrev S8x16x640x512 : Shape := ⟨4, ![8, 16, 640, 512]⟩
abbrev S8x8x16x64x512 : Shape := ⟨5, ![8, 8, 16, 64, 512]⟩
abbrev S1x2x16x128x512 : Shape := ⟨5, ![1, 2, 16, 128, 512]⟩
abbrev S1x2x8192x128 : Shape := ⟨4, ![1, 2, 8192, 128]⟩
abbrev S1x16x160x512 : Shape := ⟨4, ![1, 16, 160, 512]⟩
abbrev S1x2x16x64x512 : Shape := ⟨5, ![1, 2, 16, 64, 512]⟩
abbrev S512x512 : Shape := ⟨2, ![512, 512]⟩
abbrev S1x512 : Shape := ⟨2, ![1, 512]⟩
abbrev S80x512 : Shape := ⟨2, ![80, 512]⟩
abbrev S1x1x1x128x512 : Shape := ⟨5, ![1, 1, 1, 128, 512]⟩
abbrev S128x512 : Shape := ⟨2, ![128, 512]⟩
abbrev S1x1x512x128 : Shape := ⟨4, ![1, 1, 512, 128]⟩
abbrev S512x128 : Shape := ⟨2, ![512, 128]⟩
abbrev S512 : Shape := ⟨1, ![512]⟩
abbrev S1x1x80x512 : Shape := ⟨4, ![1, 1, 80, 512]⟩
abbrev S64x512 : Shape := ⟨2, ![64, 512]⟩
abbrev S1x1x1x64x512 : Shape := ⟨5, ![1, 1, 1, 64, 512]⟩

abbrev nBuf : Space → Nat
  | .hbm => 37
  | .vmem => 74
  | .smem => 0
  | _ => 0

abbrev bufTy : (tb : Table) → Fin (tcTables nBuf tb) → BufTy
  | .hbm, ⟨0, _⟩ => ⟨S8x8192x8x64, .f32⟩
  | .hbm, ⟨1, _⟩ => ⟨S8x8192x8x32, .f32⟩
  | .hbm, ⟨2, _⟩ => ⟨S8x8192x8x64, .f32⟩
  | .hbm, ⟨3, _⟩ => ⟨S8x8192x32, .f32⟩
  | .hbm, ⟨4, _⟩ => ⟨S8x8192x8x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8x8192x8x32, .f32⟩
  | .hbm, ⟨14, _⟩ => ⟨S8x8192x8x128, .f32⟩
  | .hbm, ⟨15, _⟩ => ⟨S8x8192x8x128, .f32⟩
  | .hbm, ⟨16, _⟩ => ⟨S8x8192x8x128, .f32⟩
  | .hbm, ⟨17, _⟩ => ⟨S8x16x512x8x128, .f32⟩
  | .hbm, ⟨18, _⟩ => ⟨S8x8x16x128x512, .f32⟩
  | .hbm, ⟨19, _⟩ => ⟨S8x8x16x128x512, .bf16⟩
  | .hbm, ⟨20, _⟩ => ⟨S8x8192x1x32, .f32⟩
  | .hbm, ⟨21, _⟩ => ⟨S8x8192x8x32, .f32⟩
  | .hbm, ⟨22, _⟩ => ⟨S_, .f32⟩
  | .hbm, ⟨23, _⟩ => ⟨S8x8192x8x32, .f32⟩
  | .hbm, ⟨24, _⟩ => ⟨S8x8192x8x128, .f32⟩
  | .hbm, ⟨25, _⟩ => ⟨S8x8x8192x128, .f32⟩
  | .hbm, ⟨26, _⟩ => ⟨S8x8x8192x128, .bf16⟩
  | .hbm, ⟨27, _⟩ => ⟨S_, .f32⟩
  | .hbm, ⟨28, _⟩ => ⟨S8x8192x8x1, .f32⟩
  | .hbm, ⟨29, _⟩ => ⟨S_, .f32⟩
  | .hbm, ⟨30, _⟩ => ⟨S8x8192x8x15, .f32⟩
  | .hbm, ⟨31, _⟩ => ⟨S8x8192x8x80, .f32⟩
  | .hbm, ⟨32, _⟩ => ⟨S8x16x512x8x80, .f32⟩
  | .hbm, ⟨33, _⟩ => ⟨S8x16x8x80x512, .f32⟩
  | .hbm, ⟨34, _⟩ => ⟨S8x16x640x512, .f32⟩
  | .hbm, ⟨35, _⟩ => ⟨S8x16x640x512, .bf16⟩
  | .hbm, ⟨36, _⟩ => ⟨S8x8x16x64x512, .bf16⟩
  | .local _ .vmem, ⟨0, _⟩ => ⟨S1x2x16x128x512, .bf16⟩
  | .local _ .vmem, ⟨1, _⟩ => ⟨S1x2x16x128x512, .bf16⟩
  | .local _ .vmem, ⟨2, _⟩ => ⟨S1x2x8192x128, .bf16⟩
  | .local _ .vmem, ⟨3, _⟩ => ⟨S1x2x8192x128, .bf16⟩
  | .local _ .vmem, ⟨4, _⟩ => ⟨S1x16x160x512, .bf16⟩
  | .local _ .vmem, ⟨5, _⟩ => ⟨S1x16x160x512, .bf16⟩
  | .local _ .vmem, ⟨6, _⟩ => ⟨S1x2x16x64x512, .bf16⟩
  | .local _ .vmem, ⟨7, _⟩ => ⟨S1x2x16x64x512, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S1x512, .f32⟩
  | .local _ .vmem, ⟨25, _⟩ => ⟨S1x512, .f32⟩
  | .local _ .vmem, ⟨26, _⟩ => ⟨S1x512, .f32⟩
  | .local _ .vmem, ⟨27, _⟩ => ⟨S1x512, .f32⟩
  | .local _ .vmem, ⟨28, _⟩ => ⟨S1x512, .f32⟩
  | .local _ .vmem, ⟨29, _⟩ => ⟨S1x512, .f32⟩
  | .local _ .vmem, ⟨30, _⟩ => ⟨S1x512, .f32⟩
  | .local _ .vmem, ⟨31, _⟩ => ⟨S1x512, .f32⟩
  | .local _ .vmem, ⟨32, _⟩ => ⟨S1x512, .f32⟩
  | .local _ .vmem, ⟨33, _⟩ => ⟨S1x512, .f32⟩
  | .local _ .vmem, ⟨34, _⟩ => ⟨S1x512, .f32⟩
  | .local _ .vmem, ⟨35, _⟩ => ⟨S1x512, .f32⟩
  | .local _ .vmem, ⟨36, _⟩ => ⟨S1x512, .f32⟩
  | .local _ .vmem, ⟨37, _⟩ => ⟨S1x512, .f32⟩
  | .local _ .vmem, ⟨38, _⟩ => ⟨S1x512, .f32⟩
  | .local _ .vmem, ⟨39, _⟩ => ⟨S1x512, .f32⟩
  | .local _ .vmem, ⟨40, _⟩ => ⟨S512x512, .bf16⟩
  | .local _ .vmem, ⟨41, _⟩ => ⟨S512x512, .bf16⟩
  | .local _ .vmem, ⟨42, _⟩ => ⟨S512x512, .bf16⟩
  | .local _ .vmem, ⟨43, _⟩ => ⟨S512x512, .bf16⟩
  | .local _ .vmem, ⟨44, _⟩ => ⟨S512x512, .bf16⟩
  | .local _ .vmem, ⟨45, _⟩ => ⟨S512x512, .bf16⟩
  | .local _ .vmem, ⟨46, _⟩ => ⟨S512x512, .bf16⟩
  | .local _ .vmem, ⟨47, _⟩ => ⟨S512x512, .bf16⟩
  | .local _ .vmem, ⟨48, _⟩ => ⟨S512x512, .bf16⟩
  | .local _ .vmem, ⟨49, _⟩ => ⟨S512x512, .bf16⟩
  | .local _ .vmem, ⟨50, _⟩ => ⟨S512x512, .bf16⟩
  | .local _ .vmem, ⟨51, _⟩ => ⟨S512x512, .bf16⟩
  | .local _ .vmem, ⟨52, _⟩ => ⟨S512x512, .bf16⟩
  | .local _ .vmem, ⟨53, _⟩ => ⟨S512x512, .bf16⟩
  | .local _ .vmem, ⟨54, _⟩ => ⟨S512x512, .bf16⟩
  | .local _ .vmem, ⟨55, _⟩ => ⟨S512x512, .bf16⟩
  | .local _ .vmem, ⟨56, _⟩ => ⟨S1x512, .f32⟩
  | .local _ .vmem, ⟨57, _⟩ => ⟨S1x512, .f32⟩
  | .local _ .vmem, ⟨58, _⟩ => ⟨S1x512, .f32⟩
  | .local _ .vmem, ⟨59, _⟩ => ⟨S1x512, .f32⟩
  | .local _ .vmem, ⟨60, _⟩ => ⟨S1x512, .f32⟩
  | .local _ .vmem, ⟨61, _⟩ => ⟨S1x512, .f32⟩
  | .local _ .vmem, ⟨62, _⟩ => ⟨S1x512, .f32⟩
  | .local _ .vmem, ⟨63, _⟩ => ⟨S1x512, .f32⟩
  | .local _ .vmem, ⟨64, _⟩ => ⟨S1x512, .f32⟩
  | .local _ .vmem, ⟨65, _⟩ => ⟨S1x512, .f32⟩
  | .local _ .vmem, ⟨66, _⟩ => ⟨S1x512, .f32⟩
  | .local _ .vmem, ⟨67, _⟩ => ⟨S1x512, .f32⟩
  | .local _ .vmem, ⟨68, _⟩ => ⟨S1x512, .f32⟩
  | .local _ .vmem, ⟨69, _⟩ => ⟨S1x512, .f32⟩
  | .local _ .vmem, ⟨70, _⟩ => ⟨S1x512, .f32⟩
  | .local _ .vmem, ⟨71, _⟩ => ⟨S1x512, .f32⟩
  | .local _ .vmem, ⟨72, _⟩ => ⟨S1x512, .f32⟩
  | .local _ .vmem, ⟨73, _⟩ => ⟨S80x512, .f32⟩
  | _, _ => ⟨S8x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_scratch8 : Ref sig .tc := ⟨.vmem, 16, rfl⟩
abbrev cc0_scratch9 : Ref sig .tc := ⟨.vmem, 17, rfl⟩
abbrev cc0_scratch10 : Ref sig .tc := ⟨.vmem, 18, rfl⟩
abbrev cc0_scratch11 : Ref sig .tc := ⟨.vmem, 19, rfl⟩
abbrev cc0_scratch12 : Ref sig .tc := ⟨.vmem, 20, rfl⟩
abbrev cc0_scratch13 : Ref sig .tc := ⟨.vmem, 21, rfl⟩
abbrev cc0_scratch14 : Ref sig .tc := ⟨.vmem, 22, rfl⟩
abbrev cc0_scratch15 : Ref sig .tc := ⟨.vmem, 23, rfl⟩
abbrev cc0_scratch16 : Ref sig .tc := ⟨.vmem, 24, rfl⟩
abbrev cc0_scratch17 : Ref sig .tc := ⟨.vmem, 25, rfl⟩
abbrev cc0_scratch18 : Ref sig .tc := ⟨.vmem, 26, rfl⟩
abbrev cc0_scratch19 : Ref sig .tc := ⟨.vmem, 27, rfl⟩
abbrev cc0_scratch20 : Ref sig .tc := ⟨.vmem, 28, rfl⟩
abbrev cc0_scratch21 : Ref sig .tc := ⟨.vmem, 29, rfl⟩
abbrev cc0_scratch22 : Ref sig .tc := ⟨.vmem, 30, rfl⟩
abbrev cc0_scratch23 : Ref sig .tc := ⟨.vmem, 31, rfl⟩
abbrev cc0_scratch24 : Ref sig .tc := ⟨.vmem, 32, rfl⟩
abbrev cc0_scratch25 : Ref sig .tc := ⟨.vmem, 33, rfl⟩
abbrev cc0_scratch26 : Ref sig .tc := ⟨.vmem, 34, rfl⟩
abbrev cc0_scratch27 : Ref sig .tc := ⟨.vmem, 35, rfl⟩
abbrev cc0_scratch28 : Ref sig .tc := ⟨.vmem, 36, rfl⟩
abbrev cc0_scratch29 : Ref sig .tc := ⟨.vmem, 37, rfl⟩
abbrev cc0_scratch30 : Ref sig .tc := ⟨.vmem, 38, rfl⟩
abbrev cc0_scratch31 : Ref sig .tc := ⟨.vmem, 39, rfl⟩
abbrev cc0_scratch32 : Ref sig .tc := ⟨.vmem, 40, rfl⟩
abbrev cc0_scratch33 : Ref sig .tc := ⟨.vmem, 41, rfl⟩
abbrev cc0_scratch34 : Ref sig .tc := ⟨.vmem, 42, rfl⟩
abbrev cc0_scratch35 : Ref sig .tc := ⟨.vmem, 43, rfl⟩
abbrev cc0_scratch36 : Ref sig .tc := ⟨.vmem, 44, rfl⟩
abbrev cc0_scratch37 : Ref sig .tc := ⟨.vmem, 45, rfl⟩
abbrev cc0_scratch38 : Ref sig .tc := ⟨.vmem, 46, rfl⟩
abbrev cc0_scratch39 : Ref sig .tc := ⟨.vmem, 47, rfl⟩
abbrev cc0_scratch40 : Ref sig .tc := ⟨.vmem, 48, rfl⟩
abbrev cc0_scratch41 : Ref sig .tc := ⟨.vmem, 49, rfl⟩
abbrev cc0_scratch42 : Ref sig .tc := ⟨.vmem, 50, rfl⟩
abbrev cc0_scratch43 : Ref sig .tc := ⟨.vmem, 51, rfl⟩
abbrev cc0_scratch44 : Ref sig .tc := ⟨.vmem, 52, rfl⟩
abbrev cc0_scratch45 : Ref sig .tc := ⟨.vmem, 53, rfl⟩
abbrev cc0_scratch46 : Ref sig .tc := ⟨.vmem, 54, rfl⟩
abbrev cc0_scratch47 : Ref sig .tc := ⟨.vmem, 55, rfl⟩
abbrev cc0_scratch48 : Ref sig .tc := ⟨.vmem, 56, rfl⟩
abbrev cc0_scratch49 : Ref sig .tc := ⟨.vmem, 57, rfl⟩
abbrev cc0_scratch50 : Ref sig .tc := ⟨.vmem, 58, rfl⟩
abbrev cc0_scratch51 : Ref sig .tc := ⟨.vmem, 59, rfl⟩
abbrev cc0_scratch52 : Ref sig .tc := ⟨.vmem, 60, rfl⟩
abbrev cc0_scratch53 : Ref sig .tc := ⟨.vmem, 61, rfl⟩
abbrev cc0_scratch54 : Ref sig .tc := ⟨.vmem, 62, rfl⟩
abbrev cc0_scratch55 : Ref sig .tc := ⟨.vmem, 63, rfl⟩
abbrev cc0_scratch56 : Ref sig .tc := ⟨.vmem, 64, rfl⟩
abbrev cc0_scratch57 : Ref sig .tc := ⟨.vmem, 65, rfl⟩
abbrev cc0_scratch58 : Ref sig .tc := ⟨.vmem, 66, rfl⟩
abbrev cc0_scratch59 : Ref sig .tc := ⟨.vmem, 67, rfl⟩
abbrev cc0_scratch60 : Ref sig .tc := ⟨.vmem, 68, rfl⟩
abbrev cc0_scratch61 : Ref sig .tc := ⟨.vmem, 69, rfl⟩
abbrev cc0_scratch62 : Ref sig .tc := ⟨.vmem, 70, rfl⟩
abbrev cc0_scratch63 : Ref sig .tc := ⟨.vmem, 71, rfl⟩
abbrev cc0_scratch64 : Ref sig .tc := ⟨.vmem, 72, rfl⟩
abbrev cc0_scratch65 : Ref sig .tc := ⟨.vmem, 73, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c2_i32 : BitVec 32 := 2#32
  let c62_i32 : BitVec 32 := 62#32
  let v576 : BitVec 32 := Scalar.addi c2_i32 c62_i32
  let c1_i32 : BitVec 32 := 1#32
  ⟨c2_i32, v576, c1_i32⟩
def k0_cond1 (k0_t1 : Fin k0_t1_loop.trips) : BitVec 1 :=
  let c2_i32 : BitVec 32 := 2#32
  let c1_i32 : BitVec 32 := 1#32
  let arg72 : BitVec 32 := Scf.iv c2_i32 c1_i32 k0_t1
  let c2_i32_850 : BitVec 32 := 2#32
  let c0_i32 : BitVec 32 := 0#32
  let v1145 : BitVec 1 := Scalar.cmpi .eq c2_i32_850 c0_i32
  let c1_i32_851 : BitVec 32 := 1#32
  let v1146 : BitVec 32 := Scalar.select v1145 c1_i32_851 c2_i32_850
  let v1147 : BitVec 32 := Scalar.remsi arg72 v1146
  let c0_i32_853 : BitVec 32 := 0#32
  let v1149 : BitVec 1 := Scalar.cmpi .slt v1147 c0_i32_853
  let c0_i32_854 : BitVec 32 := 0#32
  let v1150 : BitVec 1 := Scalar.cmpi .slt v1146 c0_i32_854
  let v1151 : BitVec 1 := Scalar.xori v1149 v1150
  let c0_i32_852 : BitVec 32 := 0#32
  let v1148 : BitVec 1 := Scalar.cmpi .ne v1147 c0_i32_852
  let v1152 : BitVec 1 := Scalar.andi v1151 v1148
  let v1153 : BitVec 32 := Scalar.addi v1147 v1146
  let v1154 : BitVec 32 := Scalar.select v1152 v1153 v1147
  let c0_i32_855 : BitVec 32 := 0#32
  let v1155 : BitVec 1 := Scalar.cmpi .eq v1154 c0_i32_855
  let v1156 : BitVec 32 := Scalar.extui v1155
  let c0_i32_856 : BitVec 32 := 0#32
  let v1157 : BitVec 1 := Scalar.cmpi .ne v1156 c0_i32_856
  v1157

def k0_mult1 (k0_t1 : Fin k0_t1_loop.trips) : BitVec 32 :=
  let c2_i32 : BitVec 32 := 2#32
  let c1_i32 : BitVec 32 := 1#32
  let arg72 : BitVec 32 := Scf.iv c2_i32 c1_i32 k0_t1
  let c8_i32 : BitVec 32 := 8#32
  let v1158 : BitVec 32 := Scalar.muli arg72 c8_i32
  let c0_i32_857 : BitVec 32 := 0#32
  let v1159 : BitVec 32 := Scalar.addi v1158 c0_i32_857
  let c16_i32_884 : BitVec 32 := 16#32
  let c0_i32_885 : BitVec 32 := 0#32
  let v1221 : BitVec 1 := Scalar.cmpi .eq c16_i32_884 c0_i32_885
  let c1_i32_886 : BitVec 32 := 1#32
  let v1222 : BitVec 32 := Scalar.select v1221 c1_i32_886 c16_i32_884
  let v1223 : BitVec 32 := Scalar.remsi v1159 v1222
  let c0_i32_888 : BitVec 32 := 0#32
  let v1225 : BitVec 1 := Scalar.cmpi .slt v1223 c0_i32_888
  let c0_i32_889 : BitVec 32 := 0#32
  let v1226 : BitVec 1 := Scalar.cmpi .slt v1222 c0_i32_889
  let v1227 : BitVec 1 := Scalar.xori v1225 v1226
  let c0_i32_887 : BitVec 32 := 0#32
  let v1224 : BitVec 1 := Scalar.cmpi .ne v1223 c0_i32_887
  let v1228 : BitVec 1 := Scalar.andi v1227 v1224
  let v1229 : BitVec 32 := Scalar.addi v1223 v1222
  let v1230 : BitVec 32 := Scalar.select v1228 v1229 v1223
  let c512_i32 : BitVec 32 := 512#32
  let v1231 : BitVec 32 := Scalar.muli v1230 c512_i32
  v1231
def k0_off1 (k0_t1 : Fin k0_t1_loop.trips) (c0_i32_857 : BitVec 32) : Fin 5 → Nat :=
  let c0_890 : Index := 0#32
  let c2_i32 : BitVec 32 := 2#32
  let c1_i32 : BitVec 32 := 1#32
  let arg72 : BitVec 32 := Scf.iv c2_i32 c1_i32 k0_t1
  let c8_i32 : BitVec 32 := 8#32
  let v1158 : BitVec 32 := Scalar.muli arg72 c8_i32
  let v1159 : BitVec 32 := Scalar.addi v1158 c0_i32_857
  let c0_i32_858 : BitVec 32 := 0#32
  let v1161 : BitVec 1 := Scalar.cmpi .sgt v1159 c0_i32_858
  let v1162 : BitVec 32 := Scalar.extui v1161
  let c0_i32_859 : BitVec 32 := 0#32
  let v1163 : BitVec 1 := Scalar.cmpi .slt v1159 c0_i32_859
  let v1164 : BitVec 32 := Scalar.extui v1163
  let v1165 : BitVec 32 := Scalar.subi v1162 v1164
  let c16_i32 : BitVec 32 := 16#32
  let c0_i32_860 : BitVec 32 := 0#32
  let v1166 : BitVec 1 := Scalar.cmpi .sgt c16_i32 c0_i32_860
  let v1167 : BitVec 32 := Scalar.extui v1166
  let c0_i32_861 : BitVec 32 := 0#32
  let v1168 : BitVec 1 := Scalar.cmpi .slt c16_i32 c0_i32_861
  let v1169 : BitVec 32 := Scalar.extui v1168
  let v1170 : BitVec 32 := Scalar.subi v1167 v1169
  let v1171 : BitVec 1 := Scalar.cmpi .ne v1165 v1170
  let v1172 : BitVec 32 := Scalar.remsi v1159 c16_i32
  let c0_i32_862 : BitVec 32 := 0#32
  let v1173 : BitVec 1 := Scalar.cmpi .ne v1172 c0_i32_862
  let v1174 : BitVec 1 := Scalar.andi v1171 v1173
  let v1160 : BitVec 32 := Scalar.divsi v1159 c16_i32
  let c1_i32_863 : BitVec 32 := 1#32
  let v1175 : BitVec 32 := Scalar.subi v1160 c1_i32_863
  let v1176 : BitVec 32 := Scalar.select v1174 v1175 v1160
  let c0_i32_865 : BitVec 32 := 0#32
  let v1178 : BitVec 1 := Scalar.cmpi .sgt v1176 c0_i32_865
  let v1179 : BitVec 32 := Scalar.extui v1178
  let c0_i32_866 : BitVec 32 := 0#32
  let v1180 : BitVec 1 := Scalar.cmpi .slt v1176 c0_i32_866
  let v1181 : BitVec 32 := Scalar.extui v1180
  let v1182 : BitVec 32 := Scalar.subi v1179 v1181
  let c16_i32_864 : BitVec 32 := 16#32
  let c0_i32_867 : BitVec 32 := 0#32
  let v1183 : BitVec 1 := Scalar.cmpi .sgt c16_i32_864 c0_i32_867
  let v1184 : BitVec 32 := Scalar.extui v1183
  let c0_i32_868 : BitVec 32 := 0#32
  let v1185 : BitVec 1 := Scalar.cmpi .slt c16_i32_864 c0_i32_868
  let v1186 : BitVec 32 := Scalar.extui v1185
  let v1187 : BitVec 32 := Scalar.subi v1184 v1186
  let v1188 : BitVec 1 := Scalar.cmpi .ne v1182 v1187
  let v1189 : BitVec 32 := Scalar.remsi v1176 c16_i32_864
  let c0_i32_869 : BitVec 32 := 0#32
  let v1190 : BitVec 1 := Scalar.cmpi .ne v1189 c0_i32_869
  let v1191 : BitVec 1 := Scalar.andi v1188 v1190
  let v1177 : BitVec 32 := Scalar.divsi v1176 c16_i32_864
  let c1_i32_870 : BitVec 32 := 1#32
  let v1192 : BitVec 32 := Scalar.subi v1177 c1_i32_870
  let v1193 : BitVec 32 := Scalar.select v1191 v1192 v1177
  let v1233 : Index := Scalar.indexCast v1193
  let c0_i32_872 : BitVec 32 := 0#32
  let v1195 : BitVec 1 := Scalar.cmpi .sgt v1159 c0_i32_872
  let v1196 : BitVec 32 := Scalar.extui v1195
  let c0_i32_873 : BitVec 32 := 0#32
  let v1197 : BitVec 1 := Scalar.cmpi .slt v1159 c0_i32_873
  let v1198 : BitVec 32 := Scalar.extui v1197
  let v1199 : BitVec 32 := Scalar.subi v1196 v1198
  let c16_i32_871 : BitVec 32 := 16#32
  let c0_i32_874 : BitVec 32 := 0#32
  let v1200 : BitVec 1 := Scalar.cmpi .sgt c16_i32_871 c0_i32_874
  let v1201 : BitVec 32 := Scalar.extui v1200
  let c0_i32_875 : BitVec 32 := 0#32
  let v1202 : BitVec 1 := Scalar.cmpi .slt c16_i32_871 c0_i32_875
  let v1203 : BitVec 32 := Scalar.extui v1202
  let v1204 : BitVec 32 := Scalar.subi v1201 v1203
  let v1205 : BitVec 1 := Scalar.cmpi .ne v1199 v1204
  let v1206 : BitVec 32 := Scalar.remsi v1159 c16_i32_871
  let c0_i32_876 : BitVec 32 := 0#32
  let v1207 : BitVec 1 := Scalar.cmpi .ne v1206 c0_i32_876
  let v1208 : BitVec 1 := Scalar.andi v1205 v1207
  let v1194 : BitVec 32 := Scalar.divsi v1159 c16_i32_871
  let c1_i32_877 : BitVec 32 := 1#32
  let v1209 : BitVec 32 := Scalar.subi v1194 c1_i32_877
  let v1210 : BitVec 32 := Scalar.select v1208 v1209 v1194
  let c16_i32_878 : BitVec 32 := 16#32
  let c0_i32_879 : BitVec 32 := 0#32
  let v1211 : BitVec 1 := Scalar.cmpi .eq c16_i32_878 c0_i32_879
  let c1_i32_880 : BitVec 32 := 1#32
  let v1212 : BitVec 32 := Scalar.select v1211 c1_i32_880 c16_i32_878
  let v1213 : BitVec 32 := Scalar.remsi v1210 v1212
  let c0_i32_882 : BitVec 32 := 0#32
  let v1215 : BitVec 1 := Scalar.cmpi .slt v1213 c0_i32_882
  let c0_i32_883 : BitVec 32 := 0#32
  let v1216 : BitVec 1 := Scalar.cmpi .slt v1212 c0_i32_883
  let v1217 : BitVec 1 := Scalar.xori v1215 v1216
  let c0_i32_881 : BitVec 32 := 0#32
  let v1214 : BitVec 1 := Scalar.cmpi .ne v1213 c0_i32_881
  let v1218 : BitVec 1 := Scalar.andi v1217 v1214
  let v1219 : BitVec 32 := Scalar.addi v1213 v1212
  let v1220 : BitVec 32 := Scalar.select v1218 v1219 v1213
  let v1234 : Index := Scalar.indexCast v1220
  let c0_891 : Index := 0#32
  let c0_892 : Index := 0#32
  ![0, v1233.toNat, v1234.toNat, 0, 0]
def k0_off2 (k0_t1 : Fin k0_t1_loop.trips) (c0_i32_857 : BitVec 32) : Fin 4 → Nat :=
  let c0_893 : Index := 0#32
  let c2_i32 : BitVec 32 := 2#32
  let c1_i32 : BitVec 32 := 1#32
  let arg72 : BitVec 32 := Scf.iv c2_i32 c1_i32 k0_t1
  let c8_i32 : BitVec 32 := 8#32
  let v1158 : BitVec 32 := Scalar.muli arg72 c8_i32
  let v1159 : BitVec 32 := Scalar.addi v1158 c0_i32_857
  let c0_i32_858 : BitVec 32 := 0#32
  let v1161 : BitVec 1 := Scalar.cmpi .sgt v1159 c0_i32_858
  let v1162 : BitVec 32 := Scalar.extui v1161
  let c0_i32_859 : BitVec 32 := 0#32
  let v1163 : BitVec 1 := Scalar.cmpi .slt v1159 c0_i32_859
  let v1164 : BitVec 32 := Scalar.extui v1163
  let v1165 : BitVec 32 := Scalar.subi v1162 v1164
  let c16_i32 : BitVec 32 := 16#32
  let c0_i32_860 : BitVec 32 := 0#32
  let v1166 : BitVec 1 := Scalar.cmpi .sgt c16_i32 c0_i32_860
  let v1167 : BitVec 32 := Scalar.extui v1166
  let c0_i32_861 : BitVec 32 := 0#32
  let v1168 : BitVec 1 := Scalar.cmpi .slt c16_i32 c0_i32_861
  let v1169 : BitVec 32 := Scalar.extui v1168
  let v1170 : BitVec 32 := Scalar.subi v1167 v1169
  let v1171 : BitVec 1 := Scalar.cmpi .ne v1165 v1170
  let v1172 : BitVec 32 := Scalar.remsi v1159 c16_i32
  let c0_i32_862 : BitVec 32 := 0#32
  let v1173 : BitVec 1 := Scalar.cmpi .ne v1172 c0_i32_862
  let v1174 : BitVec 1 := Scalar.andi v1171 v1173
  let v1160 : BitVec 32 := Scalar.divsi v1159 c16_i32
  let c1_i32_863 : BitVec 32 := 1#32
  let v1175 : BitVec 32 := Scalar.subi v1160 c1_i32_863
  let v1176 : BitVec 32 := Scalar.select v1174 v1175 v1160
  let c0_i32_865 : BitVec 32 := 0#32
  let v1178 : BitVec 1 := Scalar.cmpi .sgt v1176 c0_i32_865
  let v1179 : BitVec 32 := Scalar.extui v1178
  let c0_i32_866 : BitVec 32 := 0#32
  let v1180 : BitVec 1 := Scalar.cmpi .slt v1176 c0_i32_866
  let v1181 : BitVec 32 := Scalar.extui v1180
  let v1182 : BitVec 32 := Scalar.subi v1179 v1181
  let c16_i32_864 : BitVec 32 := 16#32
  let c0_i32_867 : BitVec 32 := 0#32
  let v1183 : BitVec 1 := Scalar.cmpi .sgt c16_i32_864 c0_i32_867
  let v1184 : BitVec 32 := Scalar.extui v1183
  let c0_i32_868 : BitVec 32 := 0#32
  let v1185 : BitVec 1 := Scalar.cmpi .slt c16_i32_864 c0_i32_868
  let v1186 : BitVec 32 := Scalar.extui v1185
  let v1187 : BitVec 32 := Scalar.subi v1184 v1186
  let v1188 : BitVec 1 := Scalar.cmpi .ne v1182 v1187
  let v1189 : BitVec 32 := Scalar.remsi v1176 c16_i32_864
  let c0_i32_869 : BitVec 32 := 0#32
  let v1190 : BitVec 1 := Scalar.cmpi .ne v1189 c0_i32_869
  let v1191 : BitVec 1 := Scalar.andi v1188 v1190
  let v1177 : BitVec 32 := Scalar.divsi v1176 c16_i32_864
  let c1_i32_870 : BitVec 32 := 1#32
  let v1192 : BitVec 32 := Scalar.subi v1177 c1_i32_870
  let v1193 : BitVec 32 := Scalar.select v1191 v1192 v1177
  let v1237 : Index := Scalar.indexCast v1193
  let c16_i32_884 : BitVec 32 := 16#32
  let c0_i32_885 : BitVec 32 := 0#32
  let v1221 : BitVec 1 := Scalar.cmpi .eq c16_i32_884 c0_i32_885
  let c1_i32_886 : BitVec 32 := 1#32
  let v1222 : BitVec 32 := Scalar.select v1221 c1_i32_886 c16_i32_884
  let v1223 : BitVec 32 := Scalar.remsi v1159 v1222
  let c0_i32_888 : BitVec 32 := 0#32
  let v1225 : BitVec 1 := Scalar.cmpi .slt v1223 c0_i32_888
  let c0_i32_889 : BitVec 32 := 0#32
  let v1226 : BitVec 1 := Scalar.cmpi .slt v1222 c0_i32_889
  let v1227 : BitVec 1 := Scalar.xori v1225 v1226
  let c0_i32_887 : BitVec 32 := 0#32
  let v1224 : BitVec 1 := Scalar.cmpi .ne v1223 c0_i32_887
  let v1228 : BitVec 1 := Scalar.andi v1227 v1224
  let v1229 : BitVec 32 := Scalar.addi v1223 v1222
  let v1230 : BitVec 32 := Scalar.select v1228 v1229 v1223
  let c512_i32 : BitVec 32 := 512#32
  let v1231 : BitVec 32 := Scalar.muli v1230 c512_i32
  let v1232 : BitVec 32 := v1231
  let v1238 : Index := Scalar.indexCast v1232
  let c0_894 : Index := 0#32
  ![0, v1237.toNat, v1238.toNat, 0]
def k0_mult2 (k0_t1 : Fin k0_t1_loop.trips) : BitVec 32 :=
  let c2_i32 : BitVec 32 := 2#32
  let c1_i32 : BitVec 32 := 1#32
  let arg72 : BitVec 32 := Scf.iv c2_i32 c1_i32 k0_t1
  let c2_i32_936 : BitVec 32 := 2#32
  let v1309 : BitVec 32 := Scalar.subi arg72 c2_i32_936
  let c8_i32_937 : BitVec 32 := 8#32
  let v1310 : BitVec 32 := Scalar.muli v1309 c8_i32_937
  let c0_i32_938 : BitVec 32 := 0#32
  let v1311 : BitVec 32 := Scalar.addi v1310 c0_i32_938
  let c0_i32_940 : BitVec 32 := 0#32
  let v1313 : BitVec 1 := Scalar.cmpi .sgt v1311 c0_i32_940
  let v1314 : BitVec 32 := Scalar.extui v1313
  let c0_i32_941 : BitVec 32 := 0#32
  let v1315 : BitVec 1 := Scalar.cmpi .slt v1311 c0_i32_941
  let v1316 : BitVec 32 := Scalar.extui v1315
  let v1317 : BitVec 32 := Scalar.subi v1314 v1316
  let c16_i32_939 : BitVec 32 := 16#32
  let c0_i32_942 : BitVec 32 := 0#32
  let v1318 : BitVec 1 := Scalar.cmpi .sgt c16_i32_939 c0_i32_942
  let v1319 : BitVec 32 := Scalar.extui v1318
  let c0_i32_943 : BitVec 32 := 0#32
  let v1320 : BitVec 1 := Scalar.cmpi .slt c16_i32_939 c0_i32_943
  let v1321 : BitVec 32 := Scalar.extui v1320
  let v1322 : BitVec 32 := Scalar.subi v1319 v1321
  let v1323 : BitVec 1 := Scalar.cmpi .ne v1317 v1322
  let v1324 : BitVec 32 := Scalar.remsi v1311 c16_i32_939
  let c0_i32_944 : BitVec 32 := 0#32
  let v1325 : BitVec 1 := Scalar.cmpi .ne v1324 c0_i32_944
  let v1326 : BitVec 1 := Scalar.andi v1323 v1325
  let v1312 : BitVec 32 := Scalar.divsi v1311 c16_i32_939
  let c1_i32_945 : BitVec 32 := 1#32
  let v1327 : BitVec 32 := Scalar.subi v1312 c1_i32_945
  let v1328 : BitVec 32 := Scalar.select v1326 v1327 v1312
  let c0_i32_947 : BitVec 32 := 0#32
  let v1330 : BitVec 1 := Scalar.cmpi .sgt v1328 c0_i32_947
  let v1331 : BitVec 32 := Scalar.extui v1330
  let c0_i32_948 : BitVec 32 := 0#32
  let v1332 : BitVec 1 := Scalar.cmpi .slt v1328 c0_i32_948
  let v1333 : BitVec 32 := Scalar.extui v1332
  let v1334 : BitVec 32 := Scalar.subi v1331 v1333
  let c16_i32_946 : BitVec 32 := 16#32
  let c0_i32_949 : BitVec 32 := 0#32
  let v1335 : BitVec 1 := Scalar.cmpi .sgt c16_i32_946 c0_i32_949
  let v1336 : BitVec 32 := Scalar.extui v1335
  let c0_i32_950 : BitVec 32 := 0#32
  let v1337 : BitVec 1 := Scalar.cmpi .slt c16_i32_946 c0_i32_950
  let v1338 : BitVec 32 := Scalar.extui v1337
  let v1339 : BitVec 32 := Scalar.subi v1336 v1338
  let v1340 : BitVec 1 := Scalar.cmpi .ne v1334 v1339
  let v1341 : BitVec 32 := Scalar.remsi v1328 c16_i32_946
  let c0_i32_951 : BitVec 32 := 0#32
  let v1342 : BitVec 1 := Scalar.cmpi .ne v1341 c0_i32_951
  let v1343 : BitVec 1 := Scalar.andi v1340 v1342
  let v1329 : BitVec 32 := Scalar.divsi v1328 c16_i32_946
  let c1_i32_952 : BitVec 32 := 1#32
  let v1344 : BitVec 32 := Scalar.subi v1329 c1_i32_952
  let v1345 : BitVec 32 := Scalar.select v1343 v1344 v1329
  let c80_i32 : BitVec 32 := 80#32
  let v1346 : BitVec 32 := Scalar.muli v1345 c80_i32
  v1346
def k0_off3 (k0_t1 : Fin k0_t1_loop.trips) (c0_i32_938 : BitVec 32) : Fin 4 → Nat :=
  let c0_959 : Index := 0#32
  let c2_i32 : BitVec 32 := 2#32
  let c1_i32 : BitVec 32 := 1#32
  let arg72 : BitVec 32 := Scf.iv c2_i32 c1_i32 k0_t1
  let c2_i32_936 : BitVec 32 := 2#32
  let v1309 : BitVec 32 := Scalar.subi arg72 c2_i32_936
  let c8_i32_937 : BitVec 32 := 8#32
  let v1310 : BitVec 32 := Scalar.muli v1309 c8_i32_937
  let v1311 : BitVec 32 := Scalar.addi v1310 c0_i32_938
  let c16_i32_953 : BitVec 32 := 16#32
  let c0_i32_954 : BitVec 32 := 0#32
  let v1348 : BitVec 1 := Scalar.cmpi .eq c16_i32_953 c0_i32_954
  let c1_i32_955 : BitVec 32 := 1#32
  let v1349 : BitVec 32 := Scalar.select v1348 c1_i32_955 c16_i32_953
  let v1350 : BitVec 32 := Scalar.remsi v1311 v1349
  let c0_i32_957 : BitVec 32 := 0#32
  let v1352 : BitVec 1 := Scalar.cmpi .slt v1350 c0_i32_957
  let c0_i32_958 : BitVec 32 := 0#32
  let v1353 : BitVec 1 := Scalar.cmpi .slt v1349 c0_i32_958
  let v1354 : BitVec 1 := Scalar.xori v1352 v1353
  let c0_i32_956 : BitVec 32 := 0#32
  let v1351 : BitVec 1 := Scalar.cmpi .ne v1350 c0_i32_956
  let v1355 : BitVec 1 := Scalar.andi v1354 v1351
  let v1356 : BitVec 32 := Scalar.addi v1350 v1349
  let v1357 : BitVec 32 := Scalar.select v1355 v1356 v1350
  let v1358 : Index := Scalar.indexCast v1357
  let c0_i32_940 : BitVec 32 := 0#32
  let v1313 : BitVec 1 := Scalar.cmpi .sgt v1311 c0_i32_940
  let v1314 : BitVec 32 := Scalar.extui v1313
  let c0_i32_941 : BitVec 32 := 0#32
  let v1315 : BitVec 1 := Scalar.cmpi .slt v1311 c0_i32_941
  let v1316 : BitVec 32 := Scalar.extui v1315
  let v1317 : BitVec 32 := Scalar.subi v1314 v1316
  let c16_i32_939 : BitVec 32 := 16#32
  let c0_i32_942 : BitVec 32 := 0#32
  let v1318 : BitVec 1 := Scalar.cmpi .sgt c16_i32_939 c0_i32_942
  let v1319 : BitVec 32 := Scalar.extui v1318
  let c0_i32_943 : BitVec 32 := 0#32
  let v1320 : BitVec 1 := Scalar.cmpi .slt c16_i32_939 c0_i32_943
  let v1321 : BitVec 32 := Scalar.extui v1320
  let v1322 : BitVec 32 := Scalar.subi v1319 v1321
  let v1323 : BitVec 1 := Scalar.cmpi .ne v1317 v1322
  let v1324 : BitVec 32 := Scalar.remsi v1311 c16_i32_939
  let c0_i32_944 : BitVec 32 := 0#32
  let v1325 : BitVec 1 := Scalar.cmpi .ne v1324 c0_i32_944
  let v1326 : BitVec 1 := Scalar.andi v1323 v1325
  let v1312 : BitVec 32 := Scalar.divsi v1311 c16_i32_939
  let c1_i32_945 : BitVec 32 := 1#32
  let v1327 : BitVec 32 := Scalar.subi v1312 c1_i32_945
  let v1328 : BitVec 32 := Scalar.select v1326 v1327 v1312
  let c0_i32_947 : BitVec 32 := 0#32
  let v1330 : BitVec 1 := Scalar.cmpi .sgt v1328 c0_i32_947
  let v1331 : BitVec 32 := Scalar.extui v1330
  let c0_i32_948 : BitVec 32 := 0#32
  let v1332 : BitVec 1 := Scalar.cmpi .slt v1328 c0_i32_948
  let v1333 : BitVec 32 := Scalar.extui v1332
  let v1334 : BitVec 32 := Scalar.subi v1331 v1333
  let c16_i32_946 : BitVec 32 := 16#32
  let c0_i32_949 : BitVec 32 := 0#32
  let v1335 : BitVec 1 := Scalar.cmpi .sgt c16_i32_946 c0_i32_949
  let v1336 : BitVec 32 := Scalar.extui v1335
  let c0_i32_950 : BitVec 32 := 0#32
  let v1337 : BitVec 1 := Scalar.cmpi .slt c16_i32_946 c0_i32_950
  let v1338 : BitVec 32 := Scalar.extui v1337
  let v1339 : BitVec 32 := Scalar.subi v1336 v1338
  let v1340 : BitVec 1 := Scalar.cmpi .ne v1334 v1339
  let v1341 : BitVec 32 := Scalar.remsi v1328 c16_i32_946
  let c0_i32_951 : BitVec 32 := 0#32
  let v1342 : BitVec 1 := Scalar.cmpi .ne v1341 c0_i32_951
  let v1343 : BitVec 1 := Scalar.andi v1340 v1342
  let v1329 : BitVec 32 := Scalar.divsi v1328 c16_i32_946
  let c1_i32_952 : BitVec 32 := 1#32
  let v1344 : BitVec 32 := Scalar.subi v1329 c1_i32_952
  let v1345 : BitVec 32 := Scalar.select v1343 v1344 v1329
  let c80_i32 : BitVec 32 := 80#32
  let v1346 : BitVec 32 := Scalar.muli v1345 c80_i32
  let v1347 : BitVec 32 := v1346
  let v1359 : Index := Scalar.indexCast v1347
  let c0_960 : Index := 0#32
  ![0, v1358.toNat, v1359.toNat, 0]
def k0_mult3 (k0_t1 : Fin k0_t1_loop.trips) : BitVec 32 :=
  let c2_i32 : BitVec 32 := 2#32
  let c1_i32 : BitVec 32 := 1#32
  let arg72 : BitVec 32 := Scf.iv c2_i32 c1_i32 k0_t1
  let c8_i32_970 : BitVec 32 := 8#32
  let v1372 : BitVec 32 := Scalar.muli arg72 c8_i32_970
  let c1_i32_971 : BitVec 32 := 1#32
  let v1373 : BitVec 32 := Scalar.addi v1372 c1_i32_971
  let c16_i32_999 : BitVec 32 := 16#32
  let c0_i32_1000 : BitVec 32 := 0#32
  let v1435 : BitVec 1 := Scalar.cmpi .eq c16_i32_999 c0_i32_1000
  let c1_i32_1001 : BitVec 32 := 1#32
  let v1436 : BitVec 32 := Scalar.select v1435 c1_i32_1001 c16_i32_999
  let v1437 : BitVec 32 := Scalar.remsi v1373 v1436
  let c0_i32_1003 : BitVec 32 := 0#32
  let v1439 : BitVec 1 := Scalar.cmpi .slt v1437 c0_i32_1003
  let c0_i32_1004 : BitVec 32 := 0#32
  let v1440 : BitVec 1 := Scalar.cmpi .slt v1436 c0_i32_1004
  let v1441 : BitVec 1 := Scalar.xori v1439 v1440
  let c0_i32_1002 : BitVec 32 := 0#32
  let v1438 : BitVec 1 := Scalar.cmpi .ne v1437 c0_i32_1002
  let v1442 : BitVec 1 := Scalar.andi v1441 v1438
  let v1443 : BitVec 32 := Scalar.addi v1437 v1436
  let v1444 : BitVec 32 := Scalar.select v1442 v1443 v1437
  let c512_i32_1005 : BitVec 32 := 512#32
  let v1445 : BitVec 32 := Scalar.muli v1444 c512_i32_1005
  v1445
def k0_mult4 (k0_t1 : Fin k0_t1_loop.trips) : BitVec 32 :=
  let c2_i32 : BitVec 32 := 2#32
  let c1_i32 : BitVec 32 := 1#32
  let arg72 : BitVec 32 := Scf.iv c2_i32 c1_i32 k0_t1
  let c2_i32_1052 : BitVec 32 := 2#32
  let v1523 : BitVec 32 := Scalar.subi arg72 c2_i32_1052
  let c8_i32_1053 : BitVec 32 := 8#32
  let v1524 : BitVec 32 := Scalar.muli v1523 c8_i32_1053
  let c1_i32_1054 : BitVec 32 := 1#32
  let v1525 : BitVec 32 := Scalar.addi v1524 c1_i32_1054
  let c0_i32_1056 : BitVec 32 := 0#32
  let v1527 : BitVec 1 := Scalar.cmpi .sgt v1525 c0_i32_1056
  let v1528 : BitVec 32 := Scalar.extui v1527
  let c0_i32_1057 : BitVec 32 := 0#32
  let v1529 : BitVec 1 := Scalar.cmpi .slt v1525 c0_i32_1057
  let v1530 : BitVec 32 := Scalar.extui v1529
  let v1531 : BitVec 32 := Scalar.subi v1528 v1530
  let c16_i32_1055 : BitVec 32 := 16#32
  let c0_i32_1058 : BitVec 32 := 0#32
  let v1532 : BitVec 1 := Scalar.cmpi .sgt c16_i32_1055 c0_i32_1058
  let v1533 : BitVec 32 := Scalar.extui v1532
  let c0_i32_1059 : BitVec 32 := 0#32
  let v1534 : BitVec 1 := Scalar.cmpi .slt c16_i32_1055 c0_i32_1059
  let v1535 : BitVec 32 := Scalar.extui v1534
  let v1536 : BitVec 32 := Scalar.subi v1533 v1535
  let v1537 : BitVec 1 := Scalar.cmpi .ne v1531 v1536
  let v1538 : BitVec 32 := Scalar.remsi v1525 c16_i32_1055
  let c0_i32_1060 : BitVec 32 := 0#32
  let v1539 : BitVec 1 := Scalar.cmpi .ne v1538 c0_i32_1060
  let v1540 : BitVec 1 := Scalar.andi v1537 v1539
  let v1526 : BitVec 32 := Scalar.divsi v1525 c16_i32_1055
  let c1_i32_1061 : BitVec 32 := 1#32
  let v1541 : BitVec 32 := Scalar.subi v1526 c1_i32_1061
  let v1542 : BitVec 32 := Scalar.select v1540 v1541 v1526
  let c0_i32_1063 : BitVec 32 := 0#32
  let v1544 : BitVec 1 := Scalar.cmpi .sgt v1542 c0_i32_1063
  let v1545 : BitVec 32 := Scalar.extui v1544
  let c0_i32_1064 : BitVec 32 := 0#32
  let v1546 : BitVec 1 := Scalar.cmpi .slt v1542 c0_i32_1064
  let v1547 : BitVec 32 := Scalar.extui v1546
  let v1548 : BitVec 32 := Scalar.subi v1545 v1547
  let c16_i32_1062 : BitVec 32 := 16#32
  let c0_i32_1065 : BitVec 32 := 0#32
  let v1549 : BitVec 1 := Scalar.cmpi .sgt c16_i32_1062 c0_i32_1065
  let v1550 : BitVec 32 := Scalar.extui v1549
  let c0_i32_1066 : BitVec 32 := 0#32
  let v1551 : BitVec 1 := Scalar.cmpi .slt c16_i32_1062 c0_i32_1066
  let v1552 : BitVec 32 := Scalar.extui v1551
  let v1553 : BitVec 32 := Scalar.subi v1550 v1552
  let v1554 : BitVec 1 := Scalar.cmpi .ne v1548 v1553
  let v1555 : BitVec 32 := Scalar.remsi v1542 c16_i32_1062
  let c0_i32_1067 : BitVec 32 := 0#32
  let v1556 : BitVec 1 := Scalar.cmpi .ne v1555 c0_i32_1067
  let v1557 : BitVec 1 := Scalar.andi v1554 v1556
  let v1543 : BitVec 32 := Scalar.divsi v1542 c16_i32_1062
  let c1_i32_1068 : BitVec 32 := 1#32
  let v1558 : BitVec 32 := Scalar.subi v1543 c1_i32_1068
  let v1559 : BitVec 32 := Scalar.select v1557 v1558 v1543
  let c80_i32_1069 : BitVec 32 := 80#32
  let v1560 : BitVec 32 := Scalar.muli v1559 c80_i32_1069
  v1560
def k0_mult5 (k0_t1 : Fin k0_t1_loop.trips) : BitVec 32 :=
  let c2_i32 : BitVec 32 := 2#32
  let c1_i32 : BitVec 32 := 1#32
  let arg72 : BitVec 32 := Scf.iv c2_i32 c1_i32 k0_t1
  let c8_i32_1087 : BitVec 32 := 8#32
  let v1586 : BitVec 32 := Scalar.muli arg72 c8_i32_1087
  let c2_i32_1088 : BitVec 32 := 2#32
  let v1587 : BitVec 32 := Scalar.addi v1586 c2_i32_1088
  let c16_i32_1116 : BitVec 32 := 16#32
  let c0_i32_1117 : BitVec 32 := 0#32
  let v1649 : BitVec 1 := Scalar.cmpi .eq c16_i32_1116 c0_i32_1117
  let c1_i32_1118 : BitVec 32 := 1#32
  let v1650 : BitVec 32 := Scalar.select v1649 c1_i32_1118 c16_i32_1116
  let v1651 : BitVec 32 := Scalar.remsi v1587 v1650
  let c0_i32_1120 : BitVec 32 := 0#32
  let v1653 : BitVec 1 := Scalar.cmpi .slt v1651 c0_i32_1120
  let c0_i32_1121 : BitVec 32 := 0#32
  let v1654 : BitVec 1 := Scalar.cmpi .slt v1650 c0_i32_1121
  let v1655 : BitVec 1 := Scalar.xori v1653 v1654
  let c0_i32_1119 : BitVec 32 := 0#32
  let v1652 : BitVec 1 := Scalar.cmpi .ne v1651 c0_i32_1119
  let v1656 : BitVec 1 := Scalar.andi v1655 v1652
  let v1657 : BitVec 32 := Scalar.addi v1651 v1650
  let v1658 : BitVec 32 := Scalar.select v1656 v1657 v1651
  let c512_i32_1122 : BitVec 32 := 512#32
  let v1659 : BitVec 32 := Scalar.muli v1658 c512_i32_1122
  v1659
def k0_mult6 (k0_t1 : Fin k0_t1_loop.trips) : BitVec 32 :=
  let c2_i32 : BitVec 32 := 2#32
  let c1_i32 : BitVec 32 := 1#32
  let arg72 : BitVec 32 := Scf.iv c2_i32 c1_i32 k0_t1
  let c2_i32_1169 : BitVec 32 := 2#32
  let v1737 : BitVec 32 := Scalar.subi arg72 c2_i32_1169
  let c8_i32_1170 : BitVec 32 := 8#32
  let v1738 : BitVec 32 := Scalar.muli v1737 c8_i32_1170
  let c2_i32_1171 : BitVec 32 := 2#32
  let v1739 : BitVec 32 := Scalar.addi v1738 c2_i32_1171
  let c0_i32_1173 : BitVec 32 := 0#32
  let v1741 : BitVec 1 := Scalar.cmpi .sgt v1739 c0_i32_1173
  let v1742 : BitVec 32 := Scalar.extui v1741
  let c0_i32_1174 : BitVec 32 := 0#32
  let v1743 : BitVec 1 := Scalar.cmpi .slt v1739 c0_i32_1174
  let v1744 : BitVec 32 := Scalar.extui v1743
  let v1745 : BitVec 32 := Scalar.subi v1742 v1744
  let c16_i32_1172 : BitVec 32 := 16#32
  let c0_i32_1175 : BitVec 32 := 0#32
  let v1746 : BitVec 1 := Scalar.cmpi .sgt c16_i32_1172 c0_i32_1175
  let v1747 : BitVec 32 := Scalar.extui v1746
  let c0_i32_1176 : BitVec 32 := 0#32
  let v1748 : BitVec 1 := Scalar.cmpi .slt c16_i32_1172 c0_i32_1176
  let v1749 : BitVec 32 := Scalar.extui v1748
  let v1750 : BitVec 32 := Scalar.subi v1747 v1749
  let v1751 : BitVec 1 := Scalar.cmpi .ne v1745 v1750
  let v1752 : BitVec 32 := Scalar.remsi v1739 c16_i32_1172
  let c0_i32_1177 : BitVec 32 := 0#32
  let v1753 : BitVec 1 := Scalar.cmpi .ne v1752 c0_i32_1177
  let v1754 : BitVec 1 := Scalar.andi v1751 v1753
  let v1740 : BitVec 32 := Scalar.divsi v1739 c16_i32_1172
  let c1_i32_1178 : BitVec 32 := 1#32
  let v1755 : BitVec 32 := Scalar.subi v1740 c1_i32_1178
  let v1756 : BitVec 32 := Scalar.select v1754 v1755 v1740
  let c0_i32_1180 : BitVec 32 := 0#32
  let v1758 : BitVec 1 := Scalar.cmpi .sgt v1756 c0_i32_1180
  let v1759 : BitVec 32 := Scalar.extui v1758
  let c0_i32_1181 : BitVec 32 := 0#32
  let v1760 : BitVec 1 := Scalar.cmpi .slt v1756 c0_i32_1181
  let v1761 : BitVec 32 := Scalar.extui v1760
  let v1762 : BitVec 32 := Scalar.subi v1759 v1761
  let c16_i32_1179 : BitVec 32 := 16#32
  let c0_i32_1182 : BitVec 32 := 0#32
  let v1763 : BitVec 1 := Scalar.cmpi .sgt c16_i32_1179 c0_i32_1182
  let v1764 : BitVec 32 := Scalar.extui v1763
  let c0_i32_1183 : BitVec 32 := 0#32
  let v1765 : BitVec 1 := Scalar.cmpi .slt c16_i32_1179 c0_i32_1183
  let v1766 : BitVec 32 := Scalar.extui v1765
  let v1767 : BitVec 32 := Scalar.subi v1764 v1766
  let v1768 : BitVec 1 := Scalar.cmpi .ne v1762 v1767
  let v1769 : BitVec 32 := Scalar.remsi v1756 c16_i32_1179
  let c0_i32_1184 : BitVec 32 := 0#32
  let v1770 : BitVec 1 := Scalar.cmpi .ne v1769 c0_i32_1184
  let v1771 : BitVec 1 := Scalar.andi v1768 v1770
  let v1757 : BitVec 32 := Scalar.divsi v1756 c16_i32_1179
  let c1_i32_1185 : BitVec 32 := 1#32
  let v1772 : BitVec 32 := Scalar.subi v1757 c1_i32_1185
  let v1773 : BitVec 32 := Scalar.select v1771 v1772 v1757
  let c80_i32_1186 : BitVec 32 := 80#32
  let v1774 : BitVec 32 := Scalar.muli v1773 c80_i32_1186
  v1774
def k0_mult7 (k0_t1 : Fin k0_t1_loop.trips) : BitVec 32 :=
  let c2_i32 : BitVec 32 := 2#32
  let c1_i32 : BitVec 32 := 1#32
  let arg72 : BitVec 32 := Scf.iv c2_i32 c1_i32 k0_t1
  let c8_i32_1204 : BitVec 32 := 8#32
  let v1800 : BitVec 32 := Scalar.muli arg72 c8_i32_1204
  let c3_i32 : BitVec 32 := 3#32
  let v1801 : BitVec 32 := Scalar.addi v1800 c3_i32
  let c16_i32_1232 : BitVec 32 := 16#32
  let c0_i32_1233 : BitVec 32 := 0#32
  let v1863 : BitVec 1 := Scalar.cmpi .eq c16_i32_1232 c0_i32_1233
  let c1_i32_1234 : BitVec 32 := 1#32
  let v1864 : BitVec 32 := Scalar.select v1863 c1_i32_1234 c16_i32_1232
  let v1865 : BitVec 32 := Scalar.remsi v1801 v1864
  let c0_i32_1236 : BitVec 32 := 0#32
  let v1867 : BitVec 1 := Scalar.cmpi .slt v1865 c0_i32_1236
  let c0_i32_1237 : BitVec 32 := 0#32
  let v1868 : BitVec 1 := Scalar.cmpi .slt v1864 c0_i32_1237
  let v1869 : BitVec 1 := Scalar.xori v1867 v1868
  let c0_i32_1235 : BitVec 32 := 0#32
  let v1866 : BitVec 1 := Scalar.cmpi .ne v1865 c0_i32_1235
  let v1870 : BitVec 1 := Scalar.andi v1869 v1866
  let v1871 : BitVec 32 := Scalar.addi v1865 v1864
  let v1872 : BitVec 32 := Scalar.select v1870 v1871 v1865
  let c512_i32_1238 : BitVec 32 := 512#32
  let v1873 : BitVec 32 := Scalar.muli v1872 c512_i32_1238
  v1873
def k0_mult8 (k0_t1 : Fin k0_t1_loop.trips) : BitVec 32 :=
  let c2_i32 : BitVec 32 := 2#32
  let c1_i32 : BitVec 32 := 1#32
  let arg72 : BitVec 32 := Scf.iv c2_i32 c1_i32 k0_t1
  let c2_i32_1285 : BitVec 32 := 2#32
  let v1951 : BitVec 32 := Scalar.subi arg72 c2_i32_1285
  let c8_i32_1286 : BitVec 32 := 8#32
  let v1952 : BitVec 32 := Scalar.muli v1951 c8_i32_1286
  let c3_i32_1287 : BitVec 32 := 3#32
  let v1953 : BitVec 32 := Scalar.addi v1952 c3_i32_1287
  let c0_i32_1289 : BitVec 32 := 0#32
  let v1955 : BitVec 1 := Scalar.cmpi .sgt v1953 c0_i32_1289
  let v1956 : BitVec 32 := Scalar.extui v1955
  let c0_i32_1290 : BitVec 32 := 0#32
  let v1957 : BitVec 1 := Scalar.cmpi .slt v1953 c0_i32_1290
  let v1958 : BitVec 32 := Scalar.extui v1957
  let v1959 : BitVec 32 := Scalar.subi v1956 v1958
  let c16_i32_1288 : BitVec 32 := 16#32
  let c0_i32_1291 : BitVec 32 := 0#32
  let v1960 : BitVec 1 := Scalar.cmpi .sgt c16_i32_1288 c0_i32_1291
  let v1961 : BitVec 32 := Scalar.extui v1960
  let c0_i32_1292 : BitVec 32 := 0#32
  let v1962 : BitVec 1 := Scalar.cmpi .slt c16_i32_1288 c0_i32_1292
  let v1963 : BitVec 32 := Scalar.extui v1962
  let v1964 : BitVec 32 := Scalar.subi v1961 v1963
  let v1965 : BitVec 1 := Scalar.cmpi .ne v1959 v1964
  let v1966 : BitVec 32 := Scalar.remsi v1953 c16_i32_1288
  let c0_i32_1293 : BitVec 32 := 0#32
  let v1967 : BitVec 1 := Scalar.cmpi .ne v1966 c0_i32_1293
  let v1968 : BitVec 1 := Scalar.andi v1965 v1967
  let v1954 : BitVec 32 := Scalar.divsi v1953 c16_i32_1288
  let c1_i32_1294 : BitVec 32 := 1#32
  let v1969 : BitVec 32 := Scalar.subi v1954 c1_i32_1294
  let v1970 : BitVec 32 := Scalar.select v1968 v1969 v1954
  let c0_i32_1296 : BitVec 32 := 0#32
  let v1972 : BitVec 1 := Scalar.cmpi .sgt v1970 c0_i32_1296
  let v1973 : BitVec 32 := Scalar.extui v1972
  let c0_i32_1297 : BitVec 32 := 0#32
  let v1974 : BitVec 1 := Scalar.cmpi .slt v1970 c0_i32_1297
  let v1975 : BitVec 32 := Scalar.extui v1974
  let v1976 : BitVec 32 := Scalar.subi v1973 v1975
  let c16_i32_1295 : BitVec 32 := 16#32
  let c0_i32_1298 : BitVec 32 := 0#32
  let v1977 : BitVec 1 := Scalar.cmpi .sgt c16_i32_1295 c0_i32_1298
  let v1978 : BitVec 32 := Scalar.extui v1977
  let c0_i32_1299 : BitVec 32 := 0#32
  let v1979 : BitVec 1 := Scalar.cmpi .slt c16_i32_1295 c0_i32_1299
  let v1980 : BitVec 32 := Scalar.extui v1979
  let v1981 : BitVec 32 := Scalar.subi v1978 v1980
  let v1982 : BitVec 1 := Scalar.cmpi .ne v1976 v1981
  let v1983 : BitVec 32 := Scalar.remsi v1970 c16_i32_1295
  let c0_i32_1300 : BitVec 32 := 0#32
  let v1984 : BitVec 1 := Scalar.cmpi .ne v1983 c0_i32_1300
  let v1985 : BitVec 1 := Scalar.andi v1982 v1984
  let v1971 : BitVec 32 := Scalar.divsi v1970 c16_i32_1295
  let c1_i32_1301 : BitVec 32 := 1#32
  let v1986 : BitVec 32 := Scalar.subi v1971 c1_i32_1301
  let v1987 : BitVec 32 := Scalar.select v1985 v1986 v1971
  let c80_i32_1302 : BitVec 32 := 80#32
  let v1988 : BitVec 32 := Scalar.muli v1987 c80_i32_1302
  v1988
def k0_mult9 (k0_t1 : Fin k0_t1_loop.trips) : BitVec 32 :=
  let c2_i32 : BitVec 32 := 2#32
  let c1_i32 : BitVec 32 := 1#32
  let arg72 : BitVec 32 := Scf.iv c2_i32 c1_i32 k0_t1
  let c8_i32_1320 : BitVec 32 := 8#32
  let v2014 : BitVec 32 := Scalar.muli arg72 c8_i32_1320
  let c4_i32 : BitVec 32 := 4#32
  let v2015 : BitVec 32 := Scalar.addi v2014 c4_i32
  let c16_i32_1348 : BitVec 32 := 16#32
  let c0_i32_1349 : BitVec 32 := 0#32
  let v2077 : BitVec 1 := Scalar.cmpi .eq c16_i32_1348 c0_i32_1349
  let c1_i32_1350 : BitVec 32 := 1#32
  let v2078 : BitVec 32 := Scalar.select v2077 c1_i32_1350 c16_i32_1348
  let v2079 : BitVec 32 := Scalar.remsi v2015 v2078
  let c0_i32_1352 : BitVec 32 := 0#32
  let v2081 : BitVec 1 := Scalar.cmpi .slt v2079 c0_i32_1352
  let c0_i32_1353 : BitVec 32 := 0#32
  let v2082 : BitVec 1 := Scalar.cmpi .slt v2078 c0_i32_1353
  let v2083 : BitVec 1 := Scalar.xori v2081 v2082
  let c0_i32_1351 : BitVec 32 := 0#32
  let v2080 : BitVec 1 := Scalar.cmpi .ne v2079 c0_i32_1351
  let v2084 : BitVec 1 := Scalar.andi v2083 v2080
  let v2085 : BitVec 32 := Scalar.addi v2079 v2078
  let v2086 : BitVec 32 := Scalar.select v2084 v2085 v2079
  let c512_i32_1354 : BitVec 32 := 512#32
  let v2087 : BitVec 32 := Scalar.muli v2086 c512_i32_1354
  v2087
def k0_mult10 (k0_t1 : Fin k0_t1_loop.trips) : BitVec 32 :=
  let c2_i32 : BitVec 32 := 2#32
  let c1_i32 : BitVec 32 := 1#32
  let arg72 : BitVec 32 := Scf.iv c2_i32 c1_i32 k0_t1
  let c2_i32_1401 : BitVec 32 := 2#32
  let v2165 : BitVec 32 := Scalar.subi arg72 c2_i32_1401
  let c8_i32_1402 : BitVec 32 := 8#32
  let v2166 : BitVec 32 := Scalar.muli v2165 c8_i32_1402
  let c4_i32_1403 : BitVec 32 := 4#32
  let v2167 : BitVec 32 := Scalar.addi v2166 c4_i32_1403
  let c0_i32_1405 : BitVec 32 := 0#32
  let v2169 : BitVec 1 := Scalar.cmpi .sgt v2167 c0_i32_1405
  let v2170 : BitVec 32 := Scalar.extui v2169
  let c0_i32_1406 : BitVec 32 := 0#32
  let v2171 : BitVec 1 := Scalar.cmpi .slt v2167 c0_i32_1406
  let v2172 : BitVec 32 := Scalar.extui v2171
  let v2173 : BitVec 32 := Scalar.subi v2170 v2172
  let c16_i32_1404 : BitVec 32 := 16#32
  let c0_i32_1407 : BitVec 32 := 0#32
  let v2174 : BitVec 1 := Scalar.cmpi .sgt c16_i32_1404 c0_i32_1407
  let v2175 : BitVec 32 := Scalar.extui v2174
  let c0_i32_1408 : BitVec 32 := 0#32
  let v2176 : BitVec 1 := Scalar.cmpi .slt c16_i32_1404 c0_i32_1408
  let v2177 : BitVec 32 := Scalar.extui v2176
  let v2178 : BitVec 32 := Scalar.subi v2175 v2177
  let v2179 : BitVec 1 := Scalar.cmpi .ne v2173 v2178
  let v2180 : BitVec 32 := Scalar.remsi v2167 c16_i32_1404
  let c0_i32_1409 : BitVec 32 := 0#32
  let v2181 : BitVec 1 := Scalar.cmpi .ne v2180 c0_i32_1409
  let v2182 : BitVec 1 := Scalar.andi v2179 v2181
  let v2168 : BitVec 32 := Scalar.divsi v2167 c16_i32_1404
  let c1_i32_1410 : BitVec 32 := 1#32
  let v2183 : BitVec 32 := Scalar.subi v2168 c1_i32_1410
  let v2184 : BitVec 32 := Scalar.select v2182 v2183 v2168
  let c0_i32_1412 : BitVec 32 := 0#32
  let v2186 : BitVec 1 := Scalar.cmpi .sgt v2184 c0_i32_1412
  let v2187 : BitVec 32 := Scalar.extui v2186
  let c0_i32_1413 : BitVec 32 := 0#32
  let v2188 : BitVec 1 := Scalar.cmpi .slt v2184 c0_i32_1413
  let v2189 : BitVec 32 := Scalar.extui v2188
  let v2190 : BitVec 32 := Scalar.subi v2187 v2189
  let c16_i32_1411 : BitVec 32 := 16#32
  let c0_i32_1414 : BitVec 32 := 0#32
  let v2191 : BitVec 1 := Scalar.cmpi .sgt c16_i32_1411 c0_i32_1414
  let v2192 : BitVec 32 := Scalar.extui v2191
  let c0_i32_1415 : BitVec 32 := 0#32
  let v2193 : BitVec 1 := Scalar.cmpi .slt c16_i32_1411 c0_i32_1415
  let v2194 : BitVec 32 := Scalar.extui v2193
  let v2195 : BitVec 32 := Scalar.subi v2192 v2194
  let v2196 : BitVec 1 := Scalar.cmpi .ne v2190 v2195
  let v2197 : BitVec 32 := Scalar.remsi v2184 c16_i32_1411
  let c0_i32_1416 : BitVec 32 := 0#32
  let v2198 : BitVec 1 := Scalar.cmpi .ne v2197 c0_i32_1416
  let v2199 : BitVec 1 := Scalar.andi v2196 v2198
  let v2185 : BitVec 32 := Scalar.divsi v2184 c16_i32_1411
  let c1_i32_1417 : BitVec 32 := 1#32
  let v2200 : BitVec 32 := Scalar.subi v2185 c1_i32_1417
  let v2201 : BitVec 32 := Scalar.select v2199 v2200 v2185
  let c80_i32_1418 : BitVec 32 := 80#32
  let v2202 : BitVec 32 := Scalar.muli v2201 c80_i32_1418
  v2202
def k0_mult11 (k0_t1 : Fin k0_t1_loop.trips) : BitVec 32 :=
  let c2_i32 : BitVec 32 := 2#32
  let c1_i32 : BitVec 32 := 1#32
  let arg72 : BitVec 32 := Scf.iv c2_i32 c1_i32 k0_t1
  let c8_i32_1436 : BitVec 32 := 8#32
  let v2228 : BitVec 32 := Scalar.muli arg72 c8_i32_1436
  let c5_i32 : BitVec 32 := 5#32
  let v2229 : BitVec 32 := Scalar.addi v2228 c5_i32
  let c16_i32_1464 : BitVec 32 := 16#32
  let c0_i32_1465 : BitVec 32 := 0#32
  let v2291 : BitVec 1 := Scalar.cmpi .eq c16_i32_1464 c0_i32_1465
  let c1_i32_1466 : BitVec 32 := 1#32
  let v2292 : BitVec 32 := Scalar.select v2291 c1_i32_1466 c16_i32_1464
  let v2293 : BitVec 32 := Scalar.remsi v2229 v2292
  let c0_i32_1468 : BitVec 32 := 0#32
  let v2295 : BitVec 1 := Scalar.cmpi .slt v2293 c0_i32_1468
  let c0_i32_1469 : BitVec 32 := 0#32
  let v2296 : BitVec 1 := Scalar.cmpi .slt v2292 c0_i32_1469
  let v2297 : BitVec 1 := Scalar.xori v2295 v2296
  let c0_i32_1467 : BitVec 32 := 0#32
  let v2294 : BitVec 1 := Scalar.cmpi .ne v2293 c0_i32_1467
  let v2298 : BitVec 1 := Scalar.andi v2297 v2294
  let v2299 : BitVec 32 := Scalar.addi v2293 v2292
  let v2300 : BitVec 32 := Scalar.select v2298 v2299 v2293
  let c512_i32_1470 : BitVec 32 := 512#32
  let v2301 : BitVec 32 := Scalar.muli v2300 c512_i32_1470
  v2301
def k0_mult12 (k0_t1 : Fin k0_t1_loop.trips) : BitVec 32 :=
  let c2_i32 : BitVec 32 := 2#32
  let c1_i32 : BitVec 32 := 1#32
  let arg72 : BitVec 32 := Scf.iv c2_i32 c1_i32 k0_t1
  let c2_i32_1517 : BitVec 32 := 2#32
  let v2379 : BitVec 32 := Scalar.subi arg72 c2_i32_1517
  let c8_i32_1518 : BitVec 32 := 8#32
  let v2380 : BitVec 32 := Scalar.muli v2379 c8_i32_1518
  let c5_i32_1519 : BitVec 32 := 5#32
  let v2381 : BitVec 32 := Scalar.addi v2380 c5_i32_1519
  let c0_i32_1521 : BitVec 32 := 0#32
  let v2383 : BitVec 1 := Scalar.cmpi .sgt v2381 c0_i32_1521
  let v2384 : BitVec 32 := Scalar.extui v2383
  let c0_i32_1522 : BitVec 32 := 0#32
  let v2385 : BitVec 1 := Scalar.cmpi .slt v2381 c0_i32_1522
  let v2386 : BitVec 32 := Scalar.extui v2385
  let v2387 : BitVec 32 := Scalar.subi v2384 v2386
  let c16_i32_1520 : BitVec 32 := 16#32
  let c0_i32_1523 : BitVec 32 := 0#32
  let v2388 : BitVec 1 := Scalar.cmpi .sgt c16_i32_1520 c0_i32_1523
  let v2389 : BitVec 32 := Scalar.extui v2388
  let c0_i32_1524 : BitVec 32 := 0#32
  let v2390 : BitVec 1 := Scalar.cmpi .slt c16_i32_1520 c0_i32_1524
  let v2391 : BitVec 32 := Scalar.extui v2390
  let v2392 : BitVec 32 := Scalar.subi v2389 v2391
  let v2393 : BitVec 1 := Scalar.cmpi .ne v2387 v2392
  let v2394 : BitVec 32 := Scalar.remsi v2381 c16_i32_1520
  let c0_i32_1525 : BitVec 32 := 0#32
  let v2395 : BitVec 1 := Scalar.cmpi .ne v2394 c0_i32_1525
  let v2396 : BitVec 1 := Scalar.andi v2393 v2395
  let v2382 : BitVec 32 := Scalar.divsi v2381 c16_i32_1520
  let c1_i32_1526 : BitVec 32 := 1#32
  let v2397 : BitVec 32 := Scalar.subi v2382 c1_i32_1526
  let v2398 : BitVec 32 := Scalar.select v2396 v2397 v2382
  let c0_i32_1528 : BitVec 32 := 0#32
  let v2400 : BitVec 1 := Scalar.cmpi .sgt v2398 c0_i32_1528
  let v2401 : BitVec 32 := Scalar.extui v2400
  let c0_i32_1529 : BitVec 32 := 0#32
  let v2402 : BitVec 1 := Scalar.cmpi .slt v2398 c0_i32_1529
  let v2403 : BitVec 32 := Scalar.extui v2402
  let v2404 : BitVec 32 := Scalar.subi v2401 v2403
  let c16_i32_1527 : BitVec 32 := 16#32
  let c0_i32_1530 : BitVec 32 := 0#32
  let v2405 : BitVec 1 := Scalar.cmpi .sgt c16_i32_1527 c0_i32_1530
  let v2406 : BitVec 32 := Scalar.extui v2405
  let c0_i32_1531 : BitVec 32 := 0#32
  let v2407 : BitVec 1 := Scalar.cmpi .slt c16_i32_1527 c0_i32_1531
  let v2408 : BitVec 32 := Scalar.extui v2407
  let v2409 : BitVec 32 := Scalar.subi v2406 v2408
  let v2410 : BitVec 1 := Scalar.cmpi .ne v2404 v2409
  let v2411 : BitVec 32 := Scalar.remsi v2398 c16_i32_1527
  let c0_i32_1532 : BitVec 32 := 0#32
  let v2412 : BitVec 1 := Scalar.cmpi .ne v2411 c0_i32_1532
  let v2413 : BitVec 1 := Scalar.andi v2410 v2412
  let v2399 : BitVec 32 := Scalar.divsi v2398 c16_i32_1527
  let c1_i32_1533 : BitVec 32 := 1#32
  let v2414 : BitVec 32 := Scalar.subi v2399 c1_i32_1533
  let v2415 : BitVec 32 := Scalar.select v2413 v2414 v2399
  let c80_i32_1534 : BitVec 32 := 80#32
  let v2416 : BitVec 32 := Scalar.muli v2415 c80_i32_1534
  v2416
def k0_mult13 (k0_t1 : Fin k0_t1_loop.trips) : BitVec 32 :=
  let c2_i32 : BitVec 32 := 2#32
  let c1_i32 : BitVec 32 := 1#32
  let arg72 : BitVec 32 := Scf.iv c2_i32 c1_i32 k0_t1
  let c8_i32_1552 : BitVec 32 := 8#32
  let v2442 : BitVec 32 := Scalar.muli arg72 c8_i32_1552
  let c6_i32 : BitVec 32 := 6#32
  let v2443 : BitVec 32 := Scalar.addi v2442 c6_i32
  let c16_i32_1580 : BitVec 32 := 16#32
  let c0_i32_1581 : BitVec 32 := 0#32
  let v2505 : BitVec 1 := Scalar.cmpi .eq c16_i32_1580 c0_i32_1581
  let c1_i32_1582 : BitVec 32 := 1#32
  let v2506 : BitVec 32 := Scalar.select v2505 c1_i32_1582 c16_i32_1580
  let v2507 : BitVec 32 := Scalar.remsi v2443 v2506
  let c0_i32_1584 : BitVec 32 := 0#32
  let v2509 : BitVec 1 := Scalar.cmpi .slt v2507 c0_i32_1584
  let c0_i32_1585 : BitVec 32 := 0#32
  let v2510 : BitVec 1 := Scalar.cmpi .slt v2506 c0_i32_1585
  let v2511 : BitVec 1 := Scalar.xori v2509 v2510
  let c0_i32_1583 : BitVec 32 := 0#32
  let v2508 : BitVec 1 := Scalar.cmpi .ne v2507 c0_i32_1583
  let v2512 : BitVec 1 := Scalar.andi v2511 v2508
  let v2513 : BitVec 32 := Scalar.addi v2507 v2506
  let v2514 : BitVec 32 := Scalar.select v2512 v2513 v2507
  let c512_i32_1586 : BitVec 32 := 512#32
  let v2515 : BitVec 32 := Scalar.muli v2514 c512_i32_1586
  v2515
def k0_mult14 (k0_t1 : Fin k0_t1_loop.trips) : BitVec 32 :=
  let c2_i32 : BitVec 32 := 2#32
  let c1_i32 : BitVec 32 := 1#32
  let arg72 : BitVec 32 := Scf.iv c2_i32 c1_i32 k0_t1
  let c2_i32_1633 : BitVec 32 := 2#32
  let v2593 : BitVec 32 := Scalar.subi arg72 c2_i32_1633
  let c8_i32_1634 : BitVec 32 := 8#32
  let v2594 : BitVec 32 := Scalar.muli v2593 c8_i32_1634
  let c6_i32_1635 : BitVec 32 := 6#32
  let v2595 : BitVec 32 := Scalar.addi v2594 c6_i32_1635
  let c0_i32_1637 : BitVec 32 := 0#32
  let v2597 : BitVec 1 := Scalar.cmpi .sgt v2595 c0_i32_1637
  let v2598 : BitVec 32 := Scalar.extui v2597
  let c0_i32_1638 : BitVec 32 := 0#32
  let v2599 : BitVec 1 := Scalar.cmpi .slt v2595 c0_i32_1638
  let v2600 : BitVec 32 := Scalar.extui v2599
  let v2601 : BitVec 32 := Scalar.subi v2598 v2600
  let c16_i32_1636 : BitVec 32 := 16#32
  let c0_i32_1639 : BitVec 32 := 0#32
  let v2602 : BitVec 1 := Scalar.cmpi .sgt c16_i32_1636 c0_i32_1639
  let v2603 : BitVec 32 := Scalar.extui v2602
  let c0_i32_1640 : BitVec 32 := 0#32
  let v2604 : BitVec 1 := Scalar.cmpi .slt c16_i32_1636 c0_i32_1640
  let v2605 : BitVec 32 := Scalar.extui v2604
  let v2606 : BitVec 32 := Scalar.subi v2603 v2605
  let v2607 : BitVec 1 := Scalar.cmpi .ne v2601 v2606
  let v2608 : BitVec 32 := Scalar.remsi v2595 c16_i32_1636
  let c0_i32_1641 : BitVec 32 := 0#32
  let v2609 : BitVec 1 := Scalar.cmpi .ne v2608 c0_i32_1641
  let v2610 : BitVec 1 := Scalar.andi v2607 v2609
  let v2596 : BitVec 32 := Scalar.divsi v2595 c16_i32_1636
  let c1_i32_1642 : BitVec 32 := 1#32
  let v2611 : BitVec 32 := Scalar.subi v2596 c1_i32_1642
  let v2612 : BitVec 32 := Scalar.select v2610 v2611 v2596
  let c0_i32_1644 : BitVec 32 := 0#32
  let v2614 : BitVec 1 := Scalar.cmpi .sgt v2612 c0_i32_1644
  let v2615 : BitVec 32 := Scalar.extui v2614
  let c0_i32_1645 : BitVec 32 := 0#32
  let v2616 : BitVec 1 := Scalar.cmpi .slt v2612 c0_i32_1645
  let v2617 : BitVec 32 := Scalar.extui v2616
  let v2618 : BitVec 32 := Scalar.subi v2615 v2617
  let c16_i32_1643 : BitVec 32 := 16#32
  let c0_i32_1646 : BitVec 32 := 0#32
  let v2619 : BitVec 1 := Scalar.cmpi .sgt c16_i32_1643 c0_i32_1646
  let v2620 : BitVec 32 := Scalar.extui v2619
  let c0_i32_1647 : BitVec 32 := 0#32
  let v2621 : BitVec 1 := Scalar.cmpi .slt c16_i32_1643 c0_i32_1647
  let v2622 : BitVec 32 := Scalar.extui v2621
  let v2623 : BitVec 32 := Scalar.subi v2620 v2622
  let v2624 : BitVec 1 := Scalar.cmpi .ne v2618 v2623
  let v2625 : BitVec 32 := Scalar.remsi v2612 c16_i32_1643
  let c0_i32_1648 : BitVec 32 := 0#32
  let v2626 : BitVec 1 := Scalar.cmpi .ne v2625 c0_i32_1648
  let v2627 : BitVec 1 := Scalar.andi v2624 v2626
  let v2613 : BitVec 32 := Scalar.divsi v2612 c16_i32_1643
  let c1_i32_1649 : BitVec 32 := 1#32
  let v2628 : BitVec 32 := Scalar.subi v2613 c1_i32_1649
  let v2629 : BitVec 32 := Scalar.select v2627 v2628 v2613
  let c80_i32_1650 : BitVec 32 := 80#32
  let v2630 : BitVec 32 := Scalar.muli v2629 c80_i32_1650
  v2630
def k0_mult15 (k0_t1 : Fin k0_t1_loop.trips) : BitVec 32 :=
  let c2_i32 : BitVec 32 := 2#32
  let c1_i32 : BitVec 32 := 1#32
  let arg72 : BitVec 32 := Scf.iv c2_i32 c1_i32 k0_t1
  let c8_i32_1668 : BitVec 32 := 8#32
  let v2656 : BitVec 32 := Scalar.muli arg72 c8_i32_1668
  let c7_i32 : BitVec 32 := 7#32
  let v2657 : BitVec 32 := Scalar.addi v2656 c7_i32
  let c16_i32_1696 : BitVec 32 := 16#32
  let c0_i32_1697 : BitVec 32 := 0#32
  let v2719 : BitVec 1 := Scalar.cmpi .eq c16_i32_1696 c0_i32_1697
  let c1_i32_1698 : BitVec 32 := 1#32
  let v2720 : BitVec 32 := Scalar.select v2719 c1_i32_1698 c16_i32_1696
  let v2721 : BitVec 32 := Scalar.remsi v2657 v2720
  let c0_i32_1700 : BitVec 32 := 0#32
  let v2723 : BitVec 1 := Scalar.cmpi .slt v2721 c0_i32_1700
  let c0_i32_1701 : BitVec 32 := 0#32
  let v2724 : BitVec 1 := Scalar.cmpi .slt v2720 c0_i32_1701
  let v2725 : BitVec 1 := Scalar.xori v2723 v2724
  let c0_i32_1699 : BitVec 32 := 0#32
  let v2722 : BitVec 1 := Scalar.cmpi .ne v2721 c0_i32_1699
  let v2726 : BitVec 1 := Scalar.andi v2725 v2722
  let v2727 : BitVec 32 := Scalar.addi v2721 v2720
  let v2728 : BitVec 32 := Scalar.select v2726 v2727 v2721
  let c512_i32_1702 : BitVec 32 := 512#32
  let v2729 : BitVec 32 := Scalar.muli v2728 c512_i32_1702
  v2729
def k0_mult16 (k0_t1 : Fin k0_t1_loop.trips) : BitVec 32 :=
  let c2_i32 : BitVec 32 := 2#32
  let c1_i32 : BitVec 32 := 1#32
  let arg72 : BitVec 32 := Scf.iv c2_i32 c1_i32 k0_t1
  let c2_i32_1749 : BitVec 32 := 2#32
  let v2807 : BitVec 32 := Scalar.subi arg72 c2_i32_1749
  let c8_i32_1750 : BitVec 32 := 8#32
  let v2808 : BitVec 32 := Scalar.muli v2807 c8_i32_1750
  let c7_i32_1751 : BitVec 32 := 7#32
  let v2809 : BitVec 32 := Scalar.addi v2808 c7_i32_1751
  let c0_i32_1753 : BitVec 32 := 0#32
  let v2811 : BitVec 1 := Scalar.cmpi .sgt v2809 c0_i32_1753
  let v2812 : BitVec 32 := Scalar.extui v2811
  let c0_i32_1754 : BitVec 32 := 0#32
  let v2813 : BitVec 1 := Scalar.cmpi .slt v2809 c0_i32_1754
  let v2814 : BitVec 32 := Scalar.extui v2813
  let v2815 : BitVec 32 := Scalar.subi v2812 v2814
  let c16_i32_1752 : BitVec 32 := 16#32
  let c0_i32_1755 : BitVec 32 := 0#32
  let v2816 : BitVec 1 := Scalar.cmpi .sgt c16_i32_1752 c0_i32_1755
  let v2817 : BitVec 32 := Scalar.extui v2816
  let c0_i32_1756 : BitVec 32 := 0#32
  let v2818 : BitVec 1 := Scalar.cmpi .slt c16_i32_1752 c0_i32_1756
  let v2819 : BitVec 32 := Scalar.extui v2818
  let v2820 : BitVec 32 := Scalar.subi v2817 v2819
  let v2821 : BitVec 1 := Scalar.cmpi .ne v2815 v2820
  let v2822 : BitVec 32 := Scalar.remsi v2809 c16_i32_1752
  let c0_i32_1757 : BitVec 32 := 0#32
  let v2823 : BitVec 1 := Scalar.cmpi .ne v2822 c0_i32_1757
  let v2824 : BitVec 1 := Scalar.andi v2821 v2823
  let v2810 : BitVec 32 := Scalar.divsi v2809 c16_i32_1752
  let c1_i32_1758 : BitVec 32 := 1#32
  let v2825 : BitVec 32 := Scalar.subi v2810 c1_i32_1758
  let v2826 : BitVec 32 := Scalar.select v2824 v2825 v2810
  let c0_i32_1760 : BitVec 32 := 0#32
  let v2828 : BitVec 1 := Scalar.cmpi .sgt v2826 c0_i32_1760
  let v2829 : BitVec 32 := Scalar.extui v2828
  let c0_i32_1761 : BitVec 32 := 0#32
  let v2830 : BitVec 1 := Scalar.cmpi .slt v2826 c0_i32_1761
  let v2831 : BitVec 32 := Scalar.extui v2830
  let v2832 : BitVec 32 := Scalar.subi v2829 v2831
  let c16_i32_1759 : BitVec 32 := 16#32
  let c0_i32_1762 : BitVec 32 := 0#32
  let v2833 : BitVec 1 := Scalar.cmpi .sgt c16_i32_1759 c0_i32_1762
  let v2834 : BitVec 32 := Scalar.extui v2833
  let c0_i32_1763 : BitVec 32 := 0#32
  let v2835 : BitVec 1 := Scalar.cmpi .slt c16_i32_1759 c0_i32_1763
  let v2836 : BitVec 32 := Scalar.extui v2835
  let v2837 : BitVec 32 := Scalar.subi v2834 v2836
  let v2838 : BitVec 1 := Scalar.cmpi .ne v2832 v2837
  let v2839 : BitVec 32 := Scalar.remsi v2826 c16_i32_1759
  let c0_i32_1764 : BitVec 32 := 0#32
  let v2840 : BitVec 1 := Scalar.cmpi .ne v2839 c0_i32_1764
  let v2841 : BitVec 1 := Scalar.andi v2838 v2840
  let v2827 : BitVec 32 := Scalar.divsi v2826 c16_i32_1759
  let c1_i32_1765 : BitVec 32 := 1#32
  let v2842 : BitVec 32 := Scalar.subi v2827 c1_i32_1765
  let v2843 : BitVec 32 := Scalar.select v2841 v2842 v2827
  let c80_i32_1766 : BitVec 32 := 80#32
  let v2844 : BitVec 32 := Scalar.muli v2843 c80_i32_1766
  v2844
def k0_off4 (k0_t1 : Fin k0_t1_loop.trips) : Fin 5 → Nat :=
  let c0_1815 : Index := 0#32
  let c2_i32 : BitVec 32 := 2#32
  let c1_i32 : BitVec 32 := 1#32
  let arg72 : BitVec 32 := Scf.iv c2_i32 c1_i32 k0_t1
  let c2_i32_1749 : BitVec 32 := 2#32
  let v2807 : BitVec 32 := Scalar.subi arg72 c2_i32_1749
  let c8_i32_1750 : BitVec 32 := 8#32
  let v2808 : BitVec 32 := Scalar.muli v2807 c8_i32_1750
  let c7_i32_1751 : BitVec 32 := 7#32
  let v2809 : BitVec 32 := Scalar.addi v2808 c7_i32_1751
  let c0_i32_1789 : BitVec 32 := 0#32
  let v2876 : BitVec 1 := Scalar.cmpi .sgt v2809 c0_i32_1789
  let v2877 : BitVec 32 := Scalar.extui v2876
  let c0_i32_1790 : BitVec 32 := 0#32
  let v2878 : BitVec 1 := Scalar.cmpi .slt v2809 c0_i32_1790
  let v2879 : BitVec 32 := Scalar.extui v2878
  let v2880 : BitVec 32 := Scalar.subi v2877 v2879
  let c16_i32_1788 : BitVec 32 := 16#32
  let c0_i32_1791 : BitVec 32 := 0#32
  let v2881 : BitVec 1 := Scalar.cmpi .sgt c16_i32_1788 c0_i32_1791
  let v2882 : BitVec 32 := Scalar.extui v2881
  let c0_i32_1792 : BitVec 32 := 0#32
  let v2883 : BitVec 1 := Scalar.cmpi .slt c16_i32_1788 c0_i32_1792
  let v2884 : BitVec 32 := Scalar.extui v2883
  let v2885 : BitVec 32 := Scalar.subi v2882 v2884
  let v2886 : BitVec 1 := Scalar.cmpi .ne v2880 v2885
  let v2887 : BitVec 32 := Scalar.remsi v2809 c16_i32_1788
  let c0_i32_1793 : BitVec 32 := 0#32
  let v2888 : BitVec 1 := Scalar.cmpi .ne v2887 c0_i32_1793
  let v2889 : BitVec 1 := Scalar.andi v2886 v2888
  let v2875 : BitVec 32 := Scalar.divsi v2809 c16_i32_1788
  let c1_i32_1794 : BitVec 32 := 1#32
  let v2890 : BitVec 32 := Scalar.subi v2875 c1_i32_1794
  let v2891 : BitVec 32 := Scalar.select v2889 v2890 v2875
  let c0_i32_1796 : BitVec 32 := 0#32
  let v2893 : BitVec 1 := Scalar.cmpi .sgt v2891 c0_i32_1796
  let v2894 : BitVec 32 := Scalar.extui v2893
  let c0_i32_1797 : BitVec 32 := 0#32
  let v2895 : BitVec 1 := Scalar.cmpi .slt v2891 c0_i32_1797
  let v2896 : BitVec 32 := Scalar.extui v2895
  let v2897 : BitVec 32 := Scalar.subi v2894 v2896
  let c16_i32_1795 : BitVec 32 := 16#32
  let c0_i32_1798 : BitVec 32 := 0#32
  let v2898 : BitVec 1 := Scalar.cmpi .sgt c16_i32_1795 c0_i32_1798
  let v2899 : BitVec 32 := Scalar.extui v2898
  let c0_i32_1799 : BitVec 32 := 0#32
  let v2900 : BitVec 1 := Scalar.cmpi .slt c16_i32_1795 c0_i32_1799
  let v2901 : BitVec 32 := Scalar.extui v2900
  let v2902 : BitVec 32 := Scalar.subi v2899 v2901
  let v2903 : BitVec 1 := Scalar.cmpi .ne v2897 v2902
  let v2904 : BitVec 32 := Scalar.remsi v2891 c16_i32_1795
  let c0_i32_1800 : BitVec 32 := 0#32
  let v2905 : BitVec 1 := Scalar.cmpi .ne v2904 c0_i32_1800
  let v2906 : BitVec 1 := Scalar.andi v2903 v2905
  let v2892 : BitVec 32 := Scalar.divsi v2891 c16_i32_1795
  let c1_i32_1801 : BitVec 32 := 1#32
  let v2907 : BitVec 32 := Scalar.subi v2892 c1_i32_1801
  let v2908 : BitVec 32 := Scalar.select v2906 v2907 v2892
  let v2936 : Index := Scalar.indexCast v2908
  let c0_i32_1803 : BitVec 32 := 0#32
  let v2910 : BitVec 1 := Scalar.cmpi .sgt v2809 c0_i32_1803
  let v2911 : BitVec 32 := Scalar.extui v2910
  let c0_i32_1804 : BitVec 32 := 0#32
  let v2912 : BitVec 1 := Scalar.cmpi .slt v2809 c0_i32_1804
  let v2913 : BitVec 32 := Scalar.extui v2912
  let v2914 : BitVec 32 := Scalar.subi v2911 v2913
  let c16_i32_1802 : BitVec 32 := 16#32
  let c0_i32_1805 : BitVec 32 := 0#32
  let v2915 : BitVec 1 := Scalar.cmpi .sgt c16_i32_1802 c0_i32_1805
  let v2916 : BitVec 32 := Scalar.extui v2915
  let c0_i32_1806 : BitVec 32 := 0#32
  let v2917 : BitVec 1 := Scalar.cmpi .slt c16_i32_1802 c0_i32_1806
  let v2918 : BitVec 32 := Scalar.extui v2917
  let v2919 : BitVec 32 := Scalar.subi v2916 v2918
  let v2920 : BitVec 1 := Scalar.cmpi .ne v2914 v2919
  let v2921 : BitVec 32 := Scalar.remsi v2809 c16_i32_1802
  let c0_i32_1807 : BitVec 32 := 0#32
  let v2922 : BitVec 1 := Scalar.cmpi .ne v2921 c0_i32_1807
  let v2923 : BitVec 1 := Scalar.andi v2920 v2922
  let v2909 : BitVec 32 := Scalar.divsi v2809 c16_i32_1802
  let c1_i32_1808 : BitVec 32 := 1#32
  let v2924 : BitVec 32 := Scalar.subi v2909 c1_i32_1808
  let v2925 : BitVec 32 := Scalar.select v2923 v2924 v2909
  let c16_i32_1809 : BitVec 32 := 16#32
  let c0_i32_1810 : BitVec 32 := 0#32
  let v2926 : BitVec 1 := Scalar.cmpi .eq c16_i32_1809 c0_i32_1810
  let c1_i32_1811 : BitVec 32 := 1#32
  let v2927 : BitVec 32 := Scalar.select v2926 c1_i32_1811 c16_i32_1809
  let v2928 : BitVec 32 := Scalar.remsi v2925 v2927
  let c0_i32_1813 : BitVec 32 := 0#32
  let v2930 : BitVec 1 := Scalar.cmpi .slt v2928 c0_i32_1813
  let c0_i32_1814 : BitVec 32 := 0#32
  let v2931 : BitVec 1 := Scalar.cmpi .slt v2927 c0_i32_1814
  let v2932 : BitVec 1 := Scalar.xori v2930 v2931
  let c0_i32_1812 : BitVec 32 := 0#32
  let v2929 : BitVec 1 := Scalar.cmpi .ne v2928 c0_i32_1812
  let v2933 : BitVec 1 := Scalar.andi v2932 v2929
  let v2934 : BitVec 32 := Scalar.addi v2928 v2927
  let v2935 : BitVec 32 := Scalar.select v2933 v2934 v2928
  let v2937 : Index := Scalar.indexCast v2935
  let c0_1816 : Index := 0#32
  let c0_1817 : Index := 0#32
  ![0, v2936.toNat, v2937.toNat, 0, 0]
def k0_mult17 (k0_t1 : Fin k0_t1_loop.trips) : BitVec 32 :=
  let c2_i32 : BitVec 32 := 2#32
  let c1_i32 : BitVec 32 := 1#32
  let arg72 : BitVec 32 := Scf.iv c2_i32 c1_i32 k0_t1
  let c8_i32 : BitVec 32 := 8#32
  let v1158 : BitVec 32 := Scalar.muli arg72 c8_i32
  let c0_i32_857 : BitVec 32 := 0#32
  let v1159 : BitVec 32 := Scalar.addi v1158 c0_i32_857
  let c16_i32_884 : BitVec 32 := 16#32
  let c0_i32_885 : BitVec 32 := 0#32
  let v1221 : BitVec 1 := Scalar.cmpi .eq c16_i32_884 c0_i32_885
  let c1_i32_886 : BitVec 32 := 1#32
  let v1222 : BitVec 32 := Scalar.select v1221 c1_i32_886 c16_i32_884
  let v1223 : BitVec 32 := Scalar.remsi v1159 v1222
  let c0_i32_888 : BitVec 32 := 0#32
  let v1225 : BitVec 1 := Scalar.cmpi .slt v1223 c0_i32_888
  let c0_i32_889 : BitVec 32 := 0#32
  let v1226 : BitVec 1 := Scalar.cmpi .slt v1222 c0_i32_889
  let v1227 : BitVec 1 := Scalar.xori v1225 v1226
  let c0_i32_887 : BitVec 32 := 0#32
  let v1224 : BitVec 1 := Scalar.cmpi .ne v1223 c0_i32_887
  let v1228 : BitVec 1 := Scalar.andi v1227 v1224
  let v1229 : BitVec 32 := Scalar.addi v1223 v1222
  let v1230 : BitVec 32 := Scalar.select v1228 v1229 v1223
  let c512_i32 : BitVec 32 := 512#32
  let v1231 : BitVec 32 := Scalar.muli v1230 c512_i32
  v1231
def k0_off5 (k0_t1 : Fin k0_t1_loop.trips) (c0_i32_857 : BitVec 32) : Fin 5 → Nat :=
  let c0_890 : Index := 0#32
  let c2_i32 : BitVec 32 := 2#32
  let c1_i32 : BitVec 32 := 1#32
  let arg72 : BitVec 32 := Scf.iv c2_i32 c1_i32 k0_t1
  let c8_i32 : BitVec 32 := 8#32
  let v1158 : BitVec 32 := Scalar.muli arg72 c8_i32
  let v1159 : BitVec 32 := Scalar.addi v1158 c0_i32_857
  let c0_i32_858 : BitVec 32 := 0#32
  let v1161 : BitVec 1 := Scalar.cmpi .sgt v1159 c0_i32_858
  let v1162 : BitVec 32 := Scalar.extui v1161
  let c0_i32_859 : BitVec 32 := 0#32
  let v1163 : BitVec 1 := Scalar.cmpi .slt v1159 c0_i32_859
  let v1164 : BitVec 32 := Scalar.extui v1163
  let v1165 : BitVec 32 := Scalar.subi v1162 v1164
  let c16_i32 : BitVec 32 := 16#32
  let c0_i32_860 : BitVec 32 := 0#32
  let v1166 : BitVec 1 := Scalar.cmpi .sgt c16_i32 c0_i32_860
  let v1167 : BitVec 32 := Scalar.extui v1166
  let c0_i32_861 : BitVec 32 := 0#32
  let v1168 : BitVec 1 := Scalar.cmpi .slt c16_i32 c0_i32_861
  let v1169 : BitVec 32 := Scalar.extui v1168
  let v1170 : BitVec 32 := Scalar.subi v1167 v1169
  let v1171 : BitVec 1 := Scalar.cmpi .ne v1165 v1170
  let v1172 : BitVec 32 := Scalar.remsi v1159 c16_i32
  let c0_i32_862 : BitVec 32 := 0#32
  let v1173 : BitVec 1 := Scalar.cmpi .ne v1172 c0_i32_862
  let v1174 : BitVec 1 := Scalar.andi v1171 v1173
  let v1160 : BitVec 32 := Scalar.divsi v1159 c16_i32
  let c1_i32_863 : BitVec 32 := 1#32
  let v1175 : BitVec 32 := Scalar.subi v1160 c1_i32_863
  let v1176 : BitVec 32 := Scalar.select v1174 v1175 v1160
  let c0_i32_865 : BitVec 32 := 0#32
  let v1178 : BitVec 1 := Scalar.cmpi .sgt v1176 c0_i32_865
  let v1179 : BitVec 32 := Scalar.extui v1178
  let c0_i32_866 : BitVec 32 := 0#32
  let v1180 : BitVec 1 := Scalar.cmpi .slt v1176 c0_i32_866
  let v1181 : BitVec 32 := Scalar.extui v1180
  let v1182 : BitVec 32 := Scalar.subi v1179 v1181
  let c16_i32_864 : BitVec 32 := 16#32
  let c0_i32_867 : BitVec 32 := 0#32
  let v1183 : BitVec 1 := Scalar.cmpi .sgt c16_i32_864 c0_i32_867
  let v1184 : BitVec 32 := Scalar.extui v1183
  let c0_i32_868 : BitVec 32 := 0#32
  let v1185 : BitVec 1 := Scalar.cmpi .slt c16_i32_864 c0_i32_868
  let v1186 : BitVec 32 := Scalar.extui v1185
  let v1187 : BitVec 32 := Scalar.subi v1184 v1186
  let v1188 : BitVec 1 := Scalar.cmpi .ne v1182 v1187
  let v1189 : BitVec 32 := Scalar.remsi v1176 c16_i32_864
  let c0_i32_869 : BitVec 32 := 0#32
  let v1190 : BitVec 1 := Scalar.cmpi .ne v1189 c0_i32_869
  let v1191 : BitVec 1 := Scalar.andi v1188 v1190
  let v1177 : BitVec 32 := Scalar.divsi v1176 c16_i32_864
  let c1_i32_870 : BitVec 32 := 1#32
  let v1192 : BitVec 32 := Scalar.subi v1177 c1_i32_870
  let v1193 : BitVec 32 := Scalar.select v1191 v1192 v1177
  let v1233 : Index := Scalar.indexCast v1193
  let c0_i32_872 : BitVec 32 := 0#32
  let v1195 : BitVec 1 := Scalar.cmpi .sgt v1159 c0_i32_872
  let v1196 : BitVec 32 := Scalar.extui v1195
  let c0_i32_873 : BitVec 32 := 0#32
  let v1197 : BitVec 1 := Scalar.cmpi .slt v1159 c0_i32_873
  let v1198 : BitVec 32 := Scalar.extui v1197
  let v1199 : BitVec 32 := Scalar.subi v1196 v1198
  let c16_i32_871 : BitVec 32 := 16#32
  let c0_i32_874 : BitVec 32 := 0#32
  let v1200 : BitVec 1 := Scalar.cmpi .sgt c16_i32_871 c0_i32_874
  let v1201 : BitVec 32 := Scalar.extui v1200
  let c0_i32_875 : BitVec 32 := 0#32
  let v1202 : BitVec 1 := Scalar.cmpi .slt c16_i32_871 c0_i32_875
  let v1203 : BitVec 32 := Scalar.extui v1202
  let v1204 : BitVec 32 := Scalar.subi v1201 v1203
  let v1205 : BitVec 1 := Scalar.cmpi .ne v1199 v1204
  let v1206 : BitVec 32 := Scalar.remsi v1159 c16_i32_871
  let c0_i32_876 : BitVec 32 := 0#32
  let v1207 : BitVec 1 := Scalar.cmpi .ne v1206 c0_i32_876
  let v1208 : BitVec 1 := Scalar.andi v1205 v1207
  let v1194 : BitVec 32 := Scalar.divsi v1159 c16_i32_871
  let c1_i32_877 : BitVec 32 := 1#32
  let v1209 : BitVec 32 := Scalar.subi v1194 c1_i32_877
  let v1210 : BitVec 32 := Scalar.select v1208 v1209 v1194
  let c16_i32_878 : BitVec 32 := 16#32
  let c0_i32_879 : BitVec 32 := 0#32
  let v1211 : BitVec 1 := Scalar.cmpi .eq c16_i32_878 c0_i32_879
  let c1_i32_880 : BitVec 32 := 1#32
  let v1212 : BitVec 32 := Scalar.select v1211 c1_i32_880 c16_i32_878
  let v1213 : BitVec 32 := Scalar.remsi v1210 v1212
  let c0_i32_882 : BitVec 32 := 0#32
  let v1215 : BitVec 1 := Scalar.cmpi .slt v1213 c0_i32_882
  let c0_i32_883 : BitVec 32 := 0#32
  let v1216 : BitVec 1 := Scalar.cmpi .slt v1212 c0_i32_883
  let v1217 : BitVec 1 := Scalar.xori v1215 v1216
  let c0_i32_881 : BitVec 32 := 0#32
  let v1214 : BitVec 1 := Scalar.cmpi .ne v1213 c0_i32_881
  let v1218 : BitVec 1 := Scalar.andi v1217 v1214
  let v1219 : BitVec 32 := Scalar.addi v1213 v1212
  let v1220 : BitVec 32 := Scalar.select v1218 v1219 v1213
  let v1234 : Index := Scalar.indexCast v1220
  let c0_891 : Index := 0#32
  let c0_892 : Index := 0#32
  ![0, v1233.toNat, v1234.toNat, 0, 0]
def k0_off6 (k0_t1 : Fin k0_t1_loop.trips) (c0_i32_857 : BitVec 32) : Fin 4 → Nat :=
  let c0_893 : Index := 0#32
  let c2_i32 : BitVec 32 := 2#32
  let c1_i32 : BitVec 32 := 1#32
  let arg72 : BitVec 32 := Scf.iv c2_i32 c1_i32 k0_t1
  let c8_i32 : BitVec 32 := 8#32
  let v1158 : BitVec 32 := Scalar.muli arg72 c8_i32
  let v1159 : BitVec 32 := Scalar.addi v1158 c0_i32_857
  let c0_i32_858 : BitVec 32 := 0#32
  let v1161 : BitVec 1 := Scalar.cmpi .sgt v1159 c0_i32_858
  let v1162 : BitVec 32 := Scalar.extui v1161
  let c0_i32_859 : BitVec 32 := 0#32
  let v1163 : BitVec 1 := Scalar.cmpi .slt v1159 c0_i32_859
  let v1164 : BitVec 32 := Scalar.extui v1163
  let v1165 : BitVec 32 := Scalar.subi v1162 v1164
  let c16_i32 : BitVec 32 := 16#32
  let c0_i32_860 : BitVec 32 := 0#32
  let v1166 : BitVec 1 := Scalar.cmpi .sgt c16_i32 c0_i32_860
  let v1167 : BitVec 32 := Scalar.extui v1166
  let c0_i32_861 : BitVec 32 := 0#32
  let v1168 : BitVec 1 := Scalar.cmpi .slt c16_i32 c0_i32_861
  let v1169 : BitVec 32 := Scalar.extui v1168
  let v1170 : BitVec 32 := Scalar.subi v1167 v1169
  let v1171 : BitVec 1 := Scalar.cmpi .ne v1165 v1170
  let v1172 : BitVec 32 := Scalar.remsi v1159 c16_i32
  let c0_i32_862 : BitVec 32 := 0#32
  let v1173 : BitVec 1 := Scalar.cmpi .ne v1172 c0_i32_862
  let v1174 : BitVec 1 := Scalar.andi v1171 v1173
  let v1160 : BitVec 32 := Scalar.divsi v1159 c16_i32
  let c1_i32_863 : BitVec 32 := 1#32
  let v1175 : BitVec 32 := Scalar.subi v1160 c1_i32_863
  let v1176 : BitVec 32 := Scalar.select v1174 v1175 v1160
  let c0_i32_865 : BitVec 32 := 0#32
  let v1178 : BitVec 1 := Scalar.cmpi .sgt v1176 c0_i32_865
  let v1179 : BitVec 32 := Scalar.extui v1178
  let c0_i32_866 : BitVec 32 := 0#32
  let v1180 : BitVec 1 := Scalar.cmpi .slt v1176 c0_i32_866
  let v1181 : BitVec 32 := Scalar.extui v1180
  let v1182 : BitVec 32 := Scalar.subi v1179 v1181
  let c16_i32_864 : BitVec 32 := 16#32
  let c0_i32_867 : BitVec 32 := 0#32
  let v1183 : BitVec 1 := Scalar.cmpi .sgt c16_i32_864 c0_i32_867
  let v1184 : BitVec 32 := Scalar.extui v1183
  let c0_i32_868 : BitVec 32 := 0#32
  let v1185 : BitVec 1 := Scalar.cmpi .slt c16_i32_864 c0_i32_868
  let v1186 : BitVec 32 := Scalar.extui v1185
  let v1187 : BitVec 32 := Scalar.subi v1184 v1186
  let v1188 : BitVec 1 := Scalar.cmpi .ne v1182 v1187
  let v1189 : BitVec 32 := Scalar.remsi v1176 c16_i32_864
  let c0_i32_869 : BitVec 32 := 0#32
  let v1190 : BitVec 1 := Scalar.cmpi .ne v1189 c0_i32_869
  let v1191 : BitVec 1 := Scalar.andi v1188 v1190
  let v1177 : BitVec 32 := Scalar.divsi v1176 c16_i32_864
  let c1_i32_870 : BitVec 32 := 1#32
  let v1192 : BitVec 32 := Scalar.subi v1177 c1_i32_870
  let v1193 : BitVec 32 := Scalar.select v1191 v1192 v1177
  let v1237 : Index := Scalar.indexCast v1193
  let c16_i32_884 : BitVec 32 := 16#32
  let c0_i32_885 : BitVec 32 := 0#32
  let v1221 : BitVec 1 := Scalar.cmpi .eq c16_i32_884 c0_i32_885
  let c1_i32_886 : BitVec 32 := 1#32
  let v1222 : BitVec 32 := Scalar.select v1221 c1_i32_886 c16_i32_884
  let v1223 : BitVec 32 := Scalar.remsi v1159 v1222
  let c0_i32_888 : BitVec 32 := 0#32
  let v1225 : BitVec 1 := Scalar.cmpi .slt v1223 c0_i32_888
  let c0_i32_889 : BitVec 32 := 0#32
  let v1226 : BitVec 1 := Scalar.cmpi .slt v1222 c0_i32_889
  let v1227 : BitVec 1 := Scalar.xori v1225 v1226
  let c0_i32_887 : BitVec 32 := 0#32
  let v1224 : BitVec 1 := Scalar.cmpi .ne v1223 c0_i32_887
  let v1228 : BitVec 1 := Scalar.andi v1227 v1224
  let v1229 : BitVec 32 := Scalar.addi v1223 v1222
  let v1230 : BitVec 32 := Scalar.select v1228 v1229 v1223
  let c512_i32 : BitVec 32 := 512#32
  let v1231 : BitVec 32 := Scalar.muli v1230 c512_i32
  let v1232 : BitVec 32 := v1231
  let v1238 : Index := Scalar.indexCast v1232
  let c0_894 : Index := 0#32
  ![0, v1237.toNat, v1238.toNat, 0]
def k0_mult18 (k0_t1 : Fin k0_t1_loop.trips) : BitVec 32 :=
  let c2_i32 : BitVec 32 := 2#32
  let c1_i32 : BitVec 32 := 1#32
  let arg72 : BitVec 32 := Scf.iv c2_i32 c1_i32 k0_t1
  let c2_i32_936 : BitVec 32 := 2#32
  let v1309 : BitVec 32 := Scalar.subi arg72 c2_i32_936
  let c8_i32_937 : BitVec 32 := 8#32
  let v1310 : BitVec 32 := Scalar.muli v1309 c8_i32_937
  let c0_i32_938 : BitVec 32 := 0#32
  let v1311 : BitVec 32 := Scalar.addi v1310 c0_i32_938
  let c0_i32_940 : BitVec 32 := 0#32
  let v1313 : BitVec 1 := Scalar.cmpi .sgt v1311 c0_i32_940
  let v1314 : BitVec 32 := Scalar.extui v1313
  let c0_i32_941 : BitVec 32 := 0#32
  let v1315 : BitVec 1 := Scalar.cmpi .slt v1311 c0_i32_941
  let v1316 : BitVec 32 := Scalar.extui v1315
  let v1317 : BitVec 32 := Scalar.subi v1314 v1316
  let c16_i32_939 : BitVec 32 := 16#32
  let c0_i32_942 : BitVec 32 := 0#32
  let v1318 : BitVec 1 := Scalar.cmpi .sgt c16_i32_939 c0_i32_942
  let v1319 : BitVec 32 := Scalar.extui v1318
  let c0_i32_943 : BitVec 32 := 0#32
  let v1320 : BitVec 1 := Scalar.cmpi .slt c16_i32_939 c0_i32_943
  let v1321 : BitVec 32 := Scalar.extui v1320
  let v1322 : BitVec 32 := Scalar.subi v1319 v1321
  let v1323 : BitVec 1 := Scalar.cmpi .ne v1317 v1322
  let v1324 : BitVec 32 := Scalar.remsi v1311 c16_i32_939
  let c0_i32_944 : BitVec 32 := 0#32
  let v1325 : BitVec 1 := Scalar.cmpi .ne v1324 c0_i32_944
  let v1326 : BitVec 1 := Scalar.andi v1323 v1325
  let v1312 : BitVec 32 := Scalar.divsi v1311 c16_i32_939
  let c1_i32_945 : BitVec 32 := 1#32
  let v1327 : BitVec 32 := Scalar.subi v1312 c1_i32_945
  let v1328 : BitVec 32 := Scalar.select v1326 v1327 v1312
  let c0_i32_947 : BitVec 32 := 0#32
  let v1330 : BitVec 1 := Scalar.cmpi .sgt v1328 c0_i32_947
  let v1331 : BitVec 32 := Scalar.extui v1330
  let c0_i32_948 : BitVec 32 := 0#32
  let v1332 : BitVec 1 := Scalar.cmpi .slt v1328 c0_i32_948
  let v1333 : BitVec 32 := Scalar.extui v1332
  let v1334 : BitVec 32 := Scalar.subi v1331 v1333
  let c16_i32_946 : BitVec 32 := 16#32
  let c0_i32_949 : BitVec 32 := 0#32
  let v1335 : BitVec 1 := Scalar.cmpi .sgt c16_i32_946 c0_i32_949
  let v1336 : BitVec 32 := Scalar.extui v1335
  let c0_i32_950 : BitVec 32 := 0#32
  let v1337 : BitVec 1 := Scalar.cmpi .slt c16_i32_946 c0_i32_950
  let v1338 : BitVec 32 := Scalar.extui v1337
  let v1339 : BitVec 32 := Scalar.subi v1336 v1338
  let v1340 : BitVec 1 := Scalar.cmpi .ne v1334 v1339
  let v1341 : BitVec 32 := Scalar.remsi v1328 c16_i32_946
  let c0_i32_951 : BitVec 32 := 0#32
  let v1342 : BitVec 1 := Scalar.cmpi .ne v1341 c0_i32_951
  let v1343 : BitVec 1 := Scalar.andi v1340 v1342
  let v1329 : BitVec 32 := Scalar.divsi v1328 c16_i32_946
  let c1_i32_952 : BitVec 32 := 1#32
  let v1344 : BitVec 32 := Scalar.subi v1329 c1_i32_952
  let v1345 : BitVec 32 := Scalar.select v1343 v1344 v1329
  let c80_i32 : BitVec 32 := 80#32
  let v1346 : BitVec 32 := Scalar.muli v1345 c80_i32
  v1346
def k0_off7 (k0_t1 : Fin k0_t1_loop.trips) (c0_i32_938 : BitVec 32) : Fin 4 → Nat :=
  let c0_959 : Index := 0#32
  let c2_i32 : BitVec 32 := 2#32
  let c1_i32 : BitVec 32 := 1#32
  let arg72 : BitVec 32 := Scf.iv c2_i32 c1_i32 k0_t1
  let c2_i32_936 : BitVec 32 := 2#32
  let v1309 : BitVec 32 := Scalar.subi arg72 c2_i32_936
  let c8_i32_937 : BitVec 32 := 8#32
  let v1310 : BitVec 32 := Scalar.muli v1309 c8_i32_937
  let v1311 : BitVec 32 := Scalar.addi v1310 c0_i32_938
  let c16_i32_953 : BitVec 32 := 16#32
  let c0_i32_954 : BitVec 32 := 0#32
  let v1348 : BitVec 1 := Scalar.cmpi .eq c16_i32_953 c0_i32_954
  let c1_i32_955 : BitVec 32 := 1#32
  let v1349 : BitVec 32 := Scalar.select v1348 c1_i32_955 c16_i32_953
  let v1350 : BitVec 32 := Scalar.remsi v1311 v1349
  let c0_i32_957 : BitVec 32 := 0#32
  let v1352 : BitVec 1 := Scalar.cmpi .slt v1350 c0_i32_957
  let c0_i32_958 : BitVec 32 := 0#32
  let v1353 : BitVec 1 := Scalar.cmpi .slt v1349 c0_i32_958
  let v1354 : BitVec 1 := Scalar.xori v1352 v1353
  let c0_i32_956 : BitVec 32 := 0#32
  let v1351 : BitVec 1 := Scalar.cmpi .ne v1350 c0_i32_956
  let v1355 : BitVec 1 := Scalar.andi v1354 v1351
  let v1356 : BitVec 32 := Scalar.addi v1350 v1349
  let v1357 : BitVec 32 := Scalar.select v1355 v1356 v1350
  let v1358 : Index := Scalar.indexCast v1357
  let c0_i32_940 : BitVec 32 := 0#32
  let v1313 : BitVec 1 := Scalar.cmpi .sgt v1311 c0_i32_940
  let v1314 : BitVec 32 := Scalar.extui v1313
  let c0_i32_941 : BitVec 32 := 0#32
  let v1315 : BitVec 1 := Scalar.cmpi .slt v1311 c0_i32_941
  let v1316 : BitVec 32 := Scalar.extui v1315
  let v1317 : BitVec 32 := Scalar.subi v1314 v1316
  let c16_i32_939 : BitVec 32 := 16#32
  let c0_i32_942 : BitVec 32 := 0#32
  let v1318 : BitVec 1 := Scalar.cmpi .sgt c16_i32_939 c0_i32_942
  let v1319 : BitVec 32 := Scalar.extui v1318
  let c0_i32_943 : BitVec 32 := 0#32
  let v1320 : BitVec 1 := Scalar.cmpi .slt c16_i32_939 c0_i32_943
  let v1321 : BitVec 32 := Scalar.extui v1320
  let v1322 : BitVec 32 := Scalar.subi v1319 v1321
  let v1323 : BitVec 1 := Scalar.cmpi .ne v1317 v1322
  let v1324 : BitVec 32 := Scalar.remsi v1311 c16_i32_939
  let c0_i32_944 : BitVec 32 := 0#32
  let v1325 : BitVec 1 := Scalar.cmpi .ne v1324 c0_i32_944
  let v1326 : BitVec 1 := Scalar.andi v1323 v1325
  let v1312 : BitVec 32 := Scalar.divsi v1311 c16_i32_939
  let c1_i32_945 : BitVec 32 := 1#32
  let v1327 : BitVec 32 := Scalar.subi v1312 c1_i32_945
  let v1328 : BitVec 32 := Scalar.select v1326 v1327 v1312
  let c0_i32_947 : BitVec 32 := 0#32
  let v1330 : BitVec 1 := Scalar.cmpi .sgt v1328 c0_i32_947
  let v1331 : BitVec 32 := Scalar.extui v1330
  let c0_i32_948 : BitVec 32 := 0#32
  let v1332 : BitVec 1 := Scalar.cmpi .slt v1328 c0_i32_948
  let v1333 : BitVec 32 := Scalar.extui v1332
  let v1334 : BitVec 32 := Scalar.subi v1331 v1333
  let c16_i32_946 : BitVec 32 := 16#32
  let c0_i32_949 : BitVec 32 := 0#32
  let v1335 : BitVec 1 := Scalar.cmpi .sgt c16_i32_946 c0_i32_949
  let v1336 : BitVec 32 := Scalar.extui v1335
  let c0_i32_950 : BitVec 32 := 0#32
  let v1337 : BitVec 1 := Scalar.cmpi .slt c16_i32_946 c0_i32_950
  let v1338 : BitVec 32 := Scalar.extui v1337
  let v1339 : BitVec 32 := Scalar.subi v1336 v1338
  let v1340 : BitVec 1 := Scalar.cmpi .ne v1334 v1339
  let v1341 : BitVec 32 := Scalar.remsi v1328 c16_i32_946
  let c0_i32_951 : BitVec 32 := 0#32
  let v1342 : BitVec 1 := Scalar.cmpi .ne v1341 c0_i32_951
  let v1343 : BitVec 1 := Scalar.andi v1340 v1342
  let v1329 : BitVec 32 := Scalar.divsi v1328 c16_i32_946
  let c1_i32_952 : BitVec 32 := 1#32
  let v1344 : BitVec 32 := Scalar.subi v1329 c1_i32_952
  let v1345 : BitVec 32 := Scalar.select v1343 v1344 v1329
  let c80_i32 : BitVec 32 := 80#32
  let v1346 : BitVec 32 := Scalar.muli v1345 c80_i32
  let v1347 : BitVec 32 := v1346
  let v1359 : Index := Scalar.indexCast v1347
  let c0_960 : Index := 0#32
  ![0, v1358.toNat, v1359.toNat, 0]
def k0_mult19 (k0_t1 : Fin k0_t1_loop.trips) : BitVec 32 :=
  let c2_i32 : BitVec 32 := 2#32
  let c1_i32 : BitVec 32 := 1#32
  let arg72 : BitVec 32 := Scf.iv c2_i32 c1_i32 k0_t1
  let c8_i32_970 : BitVec 32 := 8#32
  let v1372 : BitVec 32 := Scalar.muli arg72 c8_i32_970
  let c1_i32_971 : BitVec 32 := 1#32
  let v1373 : BitVec 32 := Scalar.addi v1372 c1_i32_971
  let c16_i32_999 : BitVec 32 := 16#32
  let c0_i32_1000 : BitVec 32 := 0#32
  let v1435 : BitVec 1 := Scalar.cmpi .eq c16_i32_999 c0_i32_1000
  let c1_i32_1001 : BitVec 32 := 1#32
  let v1436 : BitVec 32 := Scalar.select v1435 c1_i32_1001 c16_i32_999
  let v1437 : BitVec 32 := Scalar.remsi v1373 v1436
  let c0_i32_1003 : BitVec 32 := 0#32
  let v1439 : BitVec 1 := Scalar.cmpi .slt v1437 c0_i32_1003
  let c0_i32_1004 : BitVec 32 := 0#32
  let v1440 : BitVec 1 := Scalar.cmpi .slt v1436 c0_i32_1004
  let v1441 : BitVec 1 := Scalar.xori v1439 v1440
  let c0_i32_1002 : BitVec 32 := 0#32
  let v1438 : BitVec 1 := Scalar.cmpi .ne v1437 c0_i32_1002
  let v1442 : BitVec 1 := Scalar.andi v1441 v1438
  let v1443 : BitVec 32 := Scalar.addi v1437 v1436
  let v1444 : BitVec 32 := Scalar.select v1442 v1443 v1437
  let c512_i32_1005 : BitVec 32 := 512#32
  let v1445 : BitVec 32 := Scalar.muli v1444 c512_i32_1005
  v1445
def k0_mult20 (k0_t1 : Fin k0_t1_loop.trips) : BitVec 32 :=
  let c2_i32 : BitVec 32 := 2#32
  let c1_i32 : BitVec 32 := 1#32
  let arg72 : BitVec 32 := Scf.iv c2_i32 c1_i32 k0_t1
  let c2_i32_1052 : BitVec 32 := 2#32
  let v1523 : BitVec 32 := Scalar.subi arg72 c2_i32_1052
  let c8_i32_1053 : BitVec 32 := 8#32
  let v1524 : BitVec 32 := Scalar.muli v1523 c8_i32_1053
  let c1_i32_1054 : BitVec 32 := 1#32
  let v1525 : BitVec 32 := Scalar.addi v1524 c1_i32_1054
  let c0_i32_1056 : BitVec 32 := 0#32
  let v1527 : BitVec 1 := Scalar.cmpi .sgt v1525 c0_i32_1056
  let v1528 : BitVec 32 := Scalar.extui v1527
  let c0_i32_1057 : BitVec 32 := 0#32
  let v1529 : BitVec 1 := Scalar.cmpi .slt v1525 c0_i32_1057
  let v1530 : BitVec 32 := Scalar.extui v1529
  let v1531 : BitVec 32 := Scalar.subi v1528 v1530
  let c16_i32_1055 : BitVec 32 := 16#32
  let c0_i32_1058 : BitVec 32 := 0#32
  let v1532 : BitVec 1 := Scalar.cmpi .sgt c16_i32_1055 c0_i32_1058
  let v1533 : BitVec 32 := Scalar.extui v1532
  let c0_i32_1059 : BitVec 32 := 0#32
  let v1534 : BitVec 1 := Scalar.cmpi .slt c16_i32_1055 c0_i32_1059
  let v1535 : BitVec 32 := Scalar.extui v1534
  let v1536 : BitVec 32 := Scalar.subi v1533 v1535
  let v1537 : BitVec 1 := Scalar.cmpi .ne v1531 v1536
  let v1538 : BitVec 32 := Scalar.remsi v1525 c16_i32_1055
  let c0_i32_1060 : BitVec 32 := 0#32
  let v1539 : BitVec 1 := Scalar.cmpi .ne v1538 c0_i32_1060
  let v1540 : BitVec 1 := Scalar.andi v1537 v1539
  let v1526 : BitVec 32 := Scalar.divsi v1525 c16_i32_1055
  let c1_i32_1061 : BitVec 32 := 1#32
  let v1541 : BitVec 32 := Scalar.subi v1526 c1_i32_1061
  let v1542 : BitVec 32 := Scalar.select v1540 v1541 v1526
  let c0_i32_1063 : BitVec 32 := 0#32
  let v1544 : BitVec 1 := Scalar.cmpi .sgt v1542 c0_i32_1063
  let v1545 : BitVec 32 := Scalar.extui v1544
  let c0_i32_1064 : BitVec 32 := 0#32
  let v1546 : BitVec 1 := Scalar.cmpi .slt v1542 c0_i32_1064
  let v1547 : BitVec 32 := Scalar.extui v1546
  let v1548 : BitVec 32 := Scalar.subi v1545 v1547
  let c16_i32_1062 : BitVec 32 := 16#32
  let c0_i32_1065 : BitVec 32 := 0#32
  let v1549 : BitVec 1 := Scalar.cmpi .sgt c16_i32_1062 c0_i32_1065
  let v1550 : BitVec 32 := Scalar.extui v1549
  let c0_i32_1066 : BitVec 32 := 0#32
  let v1551 : BitVec 1 := Scalar.cmpi .slt c16_i32_1062 c0_i32_1066
  let v1552 : BitVec 32 := Scalar.extui v1551
  let v1553 : BitVec 32 := Scalar.subi v1550 v1552
  let v1554 : BitVec 1 := Scalar.cmpi .ne v1548 v1553
  let v1555 : BitVec 32 := Scalar.remsi v1542 c16_i32_1062
  let c0_i32_1067 : BitVec 32 := 0#32
  let v1556 : BitVec 1 := Scalar.cmpi .ne v1555 c0_i32_1067
  let v1557 : BitVec 1 := Scalar.andi v1554 v1556
  let v1543 : BitVec 32 := Scalar.divsi v1542 c16_i32_1062
  let c1_i32_1068 : BitVec 32 := 1#32
  let v1558 : BitVec 32 := Scalar.subi v1543 c1_i32_1068
  let v1559 : BitVec 32 := Scalar.select v1557 v1558 v1543
  let c80_i32_1069 : BitVec 32 := 80#32
  let v1560 : BitVec 32 := Scalar.muli v1559 c80_i32_1069
  v1560
def k0_mult21 (k0_t1 : Fin k0_t1_loop.trips) : BitVec 32 :=
  let c2_i32 : BitVec 32 := 2#32
  let c1_i32 : BitVec 32 := 1#32
  let arg72 : BitVec 32 := Scf.iv c2_i32 c1_i32 k0_t1
  let c8_i32_1087 : BitVec 32 := 8#32
  let v1586 : BitVec 32 := Scalar.muli arg72 c8_i32_1087
  let c2_i32_1088 : BitVec 32 := 2#32
  let v1587 : BitVec 32 := Scalar.addi v1586 c2_i32_1088
  let c16_i32_1116 : BitVec 32 := 16#32
  let c0_i32_1117 : BitVec 32 := 0#32
  let v1649 : BitVec 1 := Scalar.cmpi .eq c16_i32_1116 c0_i32_1117
  let c1_i32_1118 : BitVec 32 := 1#32
  let v1650 : BitVec 32 := Scalar.select v1649 c1_i32_1118 c16_i32_1116
  let v1651 : BitVec 32 := Scalar.remsi v1587 v1650
  let c0_i32_1120 : BitVec 32 := 0#32
  let v1653 : BitVec 1 := Scalar.cmpi .slt v1651 c0_i32_1120
  let c0_i32_1121 : BitVec 32 := 0#32
  let v1654 : BitVec 1 := Scalar.cmpi .slt v1650 c0_i32_1121
  let v1655 : BitVec 1 := Scalar.xori v1653 v1654
  let c0_i32_1119 : BitVec 32 := 0#32
  let v1652 : BitVec 1 := Scalar.cmpi .ne v1651 c0_i32_1119
  let v1656 : BitVec 1 := Scalar.andi v1655 v1652
  let v1657 : BitVec 32 := Scalar.addi v1651 v1650
  let v1658 : BitVec 32 := Scalar.select v1656 v1657 v1651
  let c512_i32_1122 : BitVec 32 := 512#32
  let v1659 : BitVec 32 := Scalar.muli v1658 c512_i32_1122
  v1659
def k0_mult22 (k0_t1 : Fin k0_t1_loop.trips) : BitVec 32 :=
  let c2_i32 : BitVec 32 := 2#32
  let c1_i32 : BitVec 32 := 1#32
  let arg72 : BitVec 32 := Scf.iv c2_i32 c1_i32 k0_t1
  let c2_i32_1169 : BitVec 32 := 2#32
  let v1737 : BitVec 32 := Scalar.subi arg72 c2_i32_1169
  let c8_i32_1170 : BitVec 32 := 8#32
  let v1738 : BitVec 32 := Scalar.muli v1737 c8_i32_1170
  let c2_i32_1171 : BitVec 32 := 2#32
  let v1739 : BitVec 32 := Scalar.addi v1738 c2_i32_1171
  let c0_i32_1173 : BitVec 32 := 0#32
  let v1741 : BitVec 1 := Scalar.cmpi .sgt v1739 c0_i32_1173
  let v1742 : BitVec 32 := Scalar.extui v1741
  let c0_i32_1174 : BitVec 32 := 0#32
  let v1743 : BitVec 1 := Scalar.cmpi .slt v1739 c0_i32_1174
  let v1744 : BitVec 32 := Scalar.extui v1743
  let v1745 : BitVec 32 := Scalar.subi v1742 v1744
  let c16_i32_1172 : BitVec 32 := 16#32
  let c0_i32_1175 : BitVec 32 := 0#32
  let v1746 : BitVec 1 := Scalar.cmpi .sgt c16_i32_1172 c0_i32_1175
  let v1747 : BitVec 32 := Scalar.extui v1746
  let c0_i32_1176 : BitVec 32 := 0#32
  let v1748 : BitVec 1 := Scalar.cmpi .slt c16_i32_1172 c0_i32_1176
  let v1749 : BitVec 32 := Scalar.extui v1748
  let v1750 : BitVec 32 := Scalar.subi v1747 v1749
  let v1751 : BitVec 1 := Scalar.cmpi .ne v1745 v1750
  let v1752 : BitVec 32 := Scalar.remsi v1739 c16_i32_1172
  let c0_i32_1177 : BitVec 32 := 0#32
  let v1753 : BitVec 1 := Scalar.cmpi .ne v1752 c0_i32_1177
  let v1754 : BitVec 1 := Scalar.andi v1751 v1753
  let v1740 : BitVec 32 := Scalar.divsi v1739 c16_i32_1172
  let c1_i32_1178 : BitVec 32 := 1#32
  let v1755 : BitVec 32 := Scalar.subi v1740 c1_i32_1178
  let v1756 : BitVec 32 := Scalar.select v1754 v1755 v1740
  let c0_i32_1180 : BitVec 32 := 0#32
  let v1758 : BitVec 1 := Scalar.cmpi .sgt v1756 c0_i32_1180
  let v1759 : BitVec 32 := Scalar.extui v1758
  let c0_i32_1181 : BitVec 32 := 0#32
  let v1760 : BitVec 1 := Scalar.cmpi .slt v1756 c0_i32_1181
  let v1761 : BitVec 32 := Scalar.extui v1760
  let v1762 : BitVec 32 := Scalar.subi v1759 v1761
  let c16_i32_1179 : BitVec 32 := 16#32
  let c0_i32_1182 : BitVec 32 := 0#32
  let v1763 : BitVec 1 := Scalar.cmpi .sgt c16_i32_1179 c0_i32_1182
  let v1764 : BitVec 32 := Scalar.extui v1763
  let c0_i32_1183 : BitVec 32 := 0#32
  let v1765 : BitVec 1 := Scalar.cmpi .slt c16_i32_1179 c0_i32_1183
  let v1766 : BitVec 32 := Scalar.extui v1765
  let v1767 : BitVec 32 := Scalar.subi v1764 v1766
  let v1768 : BitVec 1 := Scalar.cmpi .ne v1762 v1767
  let v1769 : BitVec 32 := Scalar.remsi v1756 c16_i32_1179
  let c0_i32_1184 : BitVec 32 := 0#32
  let v1770 : BitVec 1 := Scalar.cmpi .ne v1769 c0_i32_1184
  let v1771 : BitVec 1 := Scalar.andi v1768 v1770
  let v1757 : BitVec 32 := Scalar.divsi v1756 c16_i32_1179
  let c1_i32_1185 : BitVec 32 := 1#32
  let v1772 : BitVec 32 := Scalar.subi v1757 c1_i32_1185
  let v1773 : BitVec 32 := Scalar.select v1771 v1772 v1757
  let c80_i32_1186 : BitVec 32 := 80#32
  let v1774 : BitVec 32 := Scalar.muli v1773 c80_i32_1186
  v1774
def k0_mult23 (k0_t1 : Fin k0_t1_loop.trips) : BitVec 32 :=
  let c2_i32 : BitVec 32 := 2#32
  let c1_i32 : BitVec 32 := 1#32
  let arg72 : BitVec 32 := Scf.iv c2_i32 c1_i32 k0_t1
  let c8_i32_1204 : BitVec 32 := 8#32
  let v1800 : BitVec 32 := Scalar.muli arg72 c8_i32_1204
  let c3_i32 : BitVec 32 := 3#32
  let v1801 : BitVec 32 := Scalar.addi v1800 c3_i32
  let c16_i32_1232 : BitVec 32 := 16#32
  let c0_i32_1233 : BitVec 32 := 0#32
  let v1863 : BitVec 1 := Scalar.cmpi .eq c16_i32_1232 c0_i32_1233
  let c1_i32_1234 : BitVec 32 := 1#32
  let v1864 : BitVec 32 := Scalar.select v1863 c1_i32_1234 c16_i32_1232
  let v1865 : BitVec 32 := Scalar.remsi v1801 v1864
  let c0_i32_1236 : BitVec 32 := 0#32
  let v1867 : BitVec 1 := Scalar.cmpi .slt v1865 c0_i32_1236
  let c0_i32_1237 : BitVec 32 := 0#32
  let v1868 : BitVec 1 := Scalar.cmpi .slt v1864 c0_i32_1237
  let v1869 : BitVec 1 := Scalar.xori v1867 v1868
  let c0_i32_1235 : BitVec 32 := 0#32
  let v1866 : BitVec 1 := Scalar.cmpi .ne v1865 c0_i32_1235
  let v1870 : BitVec 1 := Scalar.andi v1869 v1866
  let v1871 : BitVec 32 := Scalar.addi v1865 v1864
  let v1872 : BitVec 32 := Scalar.select v1870 v1871 v1865
  let c512_i32_1238 : BitVec 32 := 512#32
  let v1873 : BitVec 32 := Scalar.muli v1872 c512_i32_1238
  v1873
def k0_mult24 (k0_t1 : Fin k0_t1_loop.trips) : BitVec 32 :=
  let c2_i32 : BitVec 32 := 2#32
  let c1_i32 : BitVec 32 := 1#32
  let arg72 : BitVec 32 := Scf.iv c2_i32 c1_i32 k0_t1
  let c2_i32_1285 : BitVec 32 := 2#32
  let v1951 : BitVec 32 := Scalar.subi arg72 c2_i32_1285
  let c8_i32_1286 : BitVec 32 := 8#32
  let v1952 : BitVec 32 := Scalar.muli v1951 c8_i32_1286
  let c3_i32_1287 : BitVec 32 := 3#32
  let v1953 : BitVec 32 := Scalar.addi v1952 c3_i32_1287
  let c0_i32_1289 : BitVec 32 := 0#32
  let v1955 : BitVec 1 := Scalar.cmpi .sgt v1953 c0_i32_1289
  let v1956 : BitVec 32 := Scalar.extui v1955
  let c0_i32_1290 : BitVec 32 := 0#32
  let v1957 : BitVec 1 := Scalar.cmpi .slt v1953 c0_i32_1290
  let v1958 : BitVec 32 := Scalar.extui v1957
  let v1959 : BitVec 32 := Scalar.subi v1956 v1958
  let c16_i32_1288 : BitVec 32 := 16#32
  let c0_i32_1291 : BitVec 32 := 0#32
  let v1960 : BitVec 1 := Scalar.cmpi .sgt c16_i32_1288 c0_i32_1291
  let v1961 : BitVec 32 := Scalar.extui v1960
  let c0_i32_1292 : BitVec 32 := 0#32
  let v1962 : BitVec 1 := Scalar.cmpi .slt c16_i32_1288 c0_i32_1292
  let v1963 : BitVec 32 := Scalar.extui v1962
  let v1964 : BitVec 32 := Scalar.subi v1961 v1963
  let v1965 : BitVec 1 := Scalar.cmpi .ne v1959 v1964
  let v1966 : BitVec 32 := Scalar.remsi v1953 c16_i32_1288
  let c0_i32_1293 : BitVec 32 := 0#32
  let v1967 : BitVec 1 := Scalar.cmpi .ne v1966 c0_i32_1293
  let v1968 : BitVec 1 := Scalar.andi v1965 v1967
  let v1954 : BitVec 32 := Scalar.divsi v1953 c16_i32_1288
  let c1_i32_1294 : BitVec 32 := 1#32
  let v1969 : BitVec 32 := Scalar.subi v1954 c1_i32_1294
  let v1970 : BitVec 32 := Scalar.select v1968 v1969 v1954
  let c0_i32_1296 : BitVec 32 := 0#32
  let v1972 : BitVec 1 := Scalar.cmpi .sgt v1970 c0_i32_1296
  let v1973 : BitVec 32 := Scalar.extui v1972
  let c0_i32_1297 : BitVec 32 := 0#32
  let v1974 : BitVec 1 := Scalar.cmpi .slt v1970 c0_i32_1297
  let v1975 : BitVec 32 := Scalar.extui v1974
  let v1976 : BitVec 32 := Scalar.subi v1973 v1975
  let c16_i32_1295 : BitVec 32 := 16#32
  let c0_i32_1298 : BitVec 32 := 0#32
  let v1977 : BitVec 1 := Scalar.cmpi .sgt c16_i32_1295 c0_i32_1298
  let v1978 : BitVec 32 := Scalar.extui v1977
  let c0_i32_1299 : BitVec 32 := 0#32
  let v1979 : BitVec 1 := Scalar.cmpi .slt c16_i32_1295 c0_i32_1299
  let v1980 : BitVec 32 := Scalar.extui v1979
  let v1981 : BitVec 32 := Scalar.subi v1978 v1980
  let v1982 : BitVec 1 := Scalar.cmpi .ne v1976 v1981
  let v1983 : BitVec 32 := Scalar.remsi v1970 c16_i32_1295
  let c0_i32_1300 : BitVec 32 := 0#32
  let v1984 : BitVec 1 := Scalar.cmpi .ne v1983 c0_i32_1300
  let v1985 : BitVec 1 := Scalar.andi v1982 v1984
  let v1971 : BitVec 32 := Scalar.divsi v1970 c16_i32_1295
  let c1_i32_1301 : BitVec 32 := 1#32
  let v1986 : BitVec 32 := Scalar.subi v1971 c1_i32_1301
  let v1987 : BitVec 32 := Scalar.select v1985 v1986 v1971
  let c80_i32_1302 : BitVec 32 := 80#32
  let v1988 : BitVec 32 := Scalar.muli v1987 c80_i32_1302
  v1988
def k0_mult25 (k0_t1 : Fin k0_t1_loop.trips) : BitVec 32 :=
  let c2_i32 : BitVec 32 := 2#32
  let c1_i32 : BitVec 32 := 1#32
  let arg72 : BitVec 32 := Scf.iv c2_i32 c1_i32 k0_t1
  let c8_i32_1320 : BitVec 32 := 8#32
  let v2014 : BitVec 32 := Scalar.muli arg72 c8_i32_1320
  let c4_i32 : BitVec 32 := 4#32
  let v2015 : BitVec 32 := Scalar.addi v2014 c4_i32
  let c16_i32_1348 : BitVec 32 := 16#32
  let c0_i32_1349 : BitVec 32 := 0#32
  let v2077 : BitVec 1 := Scalar.cmpi .eq c16_i32_1348 c0_i32_1349
  let c1_i32_1350 : BitVec 32 := 1#32
  let v2078 : BitVec 32 := Scalar.select v2077 c1_i32_1350 c16_i32_1348
  let v2079 : BitVec 32 := Scalar.remsi v2015 v2078
  let c0_i32_1352 : BitVec 32 := 0#32
  let v2081 : BitVec 1 := Scalar.cmpi .slt v2079 c0_i32_1352
  let c0_i32_1353 : BitVec 32 := 0#32
  let v2082 : BitVec 1 := Scalar.cmpi .slt v2078 c0_i32_1353
  let v2083 : BitVec 1 := Scalar.xori v2081 v2082
  let c0_i32_1351 : BitVec 32 := 0#32
  let v2080 : BitVec 1 := Scalar.cmpi .ne v2079 c0_i32_1351
  let v2084 : BitVec 1 := Scalar.andi v2083 v2080
  let v2085 : BitVec 32 := Scalar.addi v2079 v2078
  let v2086 : BitVec 32 := Scalar.select v2084 v2085 v2079
  let c512_i32_1354 : BitVec 32 := 512#32
  let v2087 : BitVec 32 := Scalar.muli v2086 c512_i32_1354
  v2087
def k0_mult26 (k0_t1 : Fin k0_t1_loop.trips) : BitVec 32 :=
  let c2_i32 : BitVec 32 := 2#32
  let c1_i32 : BitVec 32 := 1#32
  let arg72 : BitVec 32 := Scf.iv c2_i32 c1_i32 k0_t1
  let c2_i32_1401 : BitVec 32 := 2#32
  let v2165 : BitVec 32 := Scalar.subi arg72 c2_i32_1401
  let c8_i32_1402 : BitVec 32 := 8#32
  let v2166 : BitVec 32 := Scalar.muli v2165 c8_i32_1402
  let c4_i32_1403 : BitVec 32 := 4#32
  let v2167 : BitVec 32 := Scalar.addi v2166 c4_i32_1403
  let c0_i32_1405 : BitVec 32 := 0#32
  let v2169 : BitVec 1 := Scalar.cmpi .sgt v2167 c0_i32_1405
  let v2170 : BitVec 32 := Scalar.extui v2169
  let c0_i32_1406 : BitVec 32 := 0#32
  let v2171 : BitVec 1 := Scalar.cmpi .slt v2167 c0_i32_1406
  let v2172 : BitVec 32 := Scalar.extui v2171
  let v2173 : BitVec 32 := Scalar.subi v2170 v2172
  let c16_i32_1404 : BitVec 32 := 16#32
  let c0_i32_1407 : BitVec 32 := 0#32
  let v2174 : BitVec 1 := Scalar.cmpi .sgt c16_i32_1404 c0_i32_1407
  let v2175 : BitVec 32 := Scalar.extui v2174
  let c0_i32_1408 : BitVec 32 := 0#32
  let v2176 : BitVec 1 := Scalar.cmpi .slt c16_i32_1404 c0_i32_1408
  let v2177 : BitVec 32 := Scalar.extui v2176
  let v2178 : BitVec 32 := Scalar.subi v2175 v2177
  let v2179 : BitVec 1 := Scalar.cmpi .ne v2173 v2178
  let v2180 : BitVec 32 := Scalar.remsi v2167 c16_i32_1404
  let c0_i32_1409 : BitVec 32 := 0#32
  let v2181 : BitVec 1 := Scalar.cmpi .ne v2180 c0_i32_1409
  let v2182 : BitVec 1 := Scalar.andi v2179 v2181
  let v2168 : BitVec 32 := Scalar.divsi v2167 c16_i32_1404
  let c1_i32_1410 : BitVec 32 := 1#32
  let v2183 : BitVec 32 := Scalar.subi v2168 c1_i32_1410
  let v2184 : BitVec 32 := Scalar.select v2182 v2183 v2168
  let c0_i32_1412 : BitVec 32 := 0#32
  let v2186 : BitVec 1 := Scalar.cmpi .sgt v2184 c0_i32_1412
  let v2187 : BitVec 32 := Scalar.extui v2186
  let c0_i32_1413 : BitVec 32 := 0#32
  let v2188 : BitVec 1 := Scalar.cmpi .slt v2184 c0_i32_1413
  let v2189 : BitVec 32 := Scalar.extui v2188
  let v2190 : BitVec 32 := Scalar.subi v2187 v2189
  let c16_i32_1411 : BitVec 32 := 16#32
  let c0_i32_1414 : BitVec 32 := 0#32
  let v2191 : BitVec 1 := Scalar.cmpi .sgt c16_i32_1411 c0_i32_1414
  let v2192 : BitVec 32 := Scalar.extui v2191
  let c0_i32_1415 : BitVec 32 := 0#32
  let v2193 : BitVec 1 := Scalar.cmpi .slt c16_i32_1411 c0_i32_1415
  let v2194 : BitVec 32 := Scalar.extui v2193
  let v2195 : BitVec 32 := Scalar.subi v2192 v2194
  let v2196 : BitVec 1 := Scalar.cmpi .ne v2190 v2195
  let v2197 : BitVec 32 := Scalar.remsi v2184 c16_i32_1411
  let c0_i32_1416 : BitVec 32 := 0#32
  let v2198 : BitVec 1 := Scalar.cmpi .ne v2197 c0_i32_1416
  let v2199 : BitVec 1 := Scalar.andi v2196 v2198
  let v2185 : BitVec 32 := Scalar.divsi v2184 c16_i32_1411
  let c1_i32_1417 : BitVec 32 := 1#32
  let v2200 : BitVec 32 := Scalar.subi v2185 c1_i32_1417
  let v2201 : BitVec 32 := Scalar.select v2199 v2200 v2185
  let c80_i32_1418 : BitVec 32 := 80#32
  let v2202 : BitVec 32 := Scalar.muli v2201 c80_i32_1418
  v2202
def k0_mult27 (k0_t1 : Fin k0_t1_loop.trips) : BitVec 32 :=
  let c2_i32 : BitVec 32 := 2#32
  let c1_i32 : BitVec 32 := 1#32
  let arg72 : BitVec 32 := Scf.iv c2_i32 c1_i32 k0_t1
  let c8_i32_1436 : BitVec 32 := 8#32
  let v2228 : BitVec 32 := Scalar.muli arg72 c8_i32_1436
  let c5_i32 : BitVec 32 := 5#32
  let v2229 : BitVec 32 := Scalar.addi v2228 c5_i32
  let c16_i32_1464 : BitVec 32 := 16#32
  let c0_i32_1465 : BitVec 32 := 0#32
  let v2291 : BitVec 1 := Scalar.cmpi .eq c16_i32_1464 c0_i32_1465
  let c1_i32_1466 : BitVec 32 := 1#32
  let v2292 : BitVec 32 := Scalar.select v2291 c1_i32_1466 c16_i32_1464
  let v2293 : BitVec 32 := Scalar.remsi v2229 v2292
  let c0_i32_1468 : BitVec 32 := 0#32
  let v2295 : BitVec 1 := Scalar.cmpi .slt v2293 c0_i32_1468
  let c0_i32_1469 : BitVec 32 := 0#32
  let v2296 : BitVec 1 := Scalar.cmpi .slt v2292 c0_i32_1469
  let v2297 : BitVec 1 := Scalar.xori v2295 v2296
  let c0_i32_1467 : BitVec 32 := 0#32
  let v2294 : BitVec 1 := Scalar.cmpi .ne v2293 c0_i32_1467
  let v2298 : BitVec 1 := Scalar.andi v2297 v2294
  let v2299 : BitVec 32 := Scalar.addi v2293 v2292
  let v2300 : BitVec 32 := Scalar.select v2298 v2299 v2293
  let c512_i32_1470 : BitVec 32 := 512#32
  let v2301 : BitVec 32 := Scalar.muli v2300 c512_i32_1470
  v2301
def k0_mult28 (k0_t1 : Fin k0_t1_loop.trips) : BitVec 32 :=
  let c2_i32 : BitVec 32 := 2#32
  let c1_i32 : BitVec 32 := 1#32
  let arg72 : BitVec 32 := Scf.iv c2_i32 c1_i32 k0_t1
  let c2_i32_1517 : BitVec 32 := 2#32
  let v2379 : BitVec 32 := Scalar.subi arg72 c2_i32_1517
  let c8_i32_1518 : BitVec 32 := 8#32
  let v2380 : BitVec 32 := Scalar.muli v2379 c8_i32_1518
  let c5_i32_1519 : BitVec 32 := 5#32
  let v2381 : BitVec 32 := Scalar.addi v2380 c5_i32_1519
  let c0_i32_1521 : BitVec 32 := 0#32
  let v2383 : BitVec 1 := Scalar.cmpi .sgt v2381 c0_i32_1521
  let v2384 : BitVec 32 := Scalar.extui v2383
  let c0_i32_1522 : BitVec 32 := 0#32
  let v2385 : BitVec 1 := Scalar.cmpi .slt v2381 c0_i32_1522
  let v2386 : BitVec 32 := Scalar.extui v2385
  let v2387 : BitVec 32 := Scalar.subi v2384 v2386
  let c16_i32_1520 : BitVec 32 := 16#32
  let c0_i32_1523 : BitVec 32 := 0#32
  let v2388 : BitVec 1 := Scalar.cmpi .sgt c16_i32_1520 c0_i32_1523
  let v2389 : BitVec 32 := Scalar.extui v2388
  let c0_i32_1524 : BitVec 32 := 0#32
  let v2390 : BitVec 1 := Scalar.cmpi .slt c16_i32_1520 c0_i32_1524
  let v2391 : BitVec 32 := Scalar.extui v2390
  let v2392 : BitVec 32 := Scalar.subi v2389 v2391
  let v2393 : BitVec 1 := Scalar.cmpi .ne v2387 v2392
  let v2394 : BitVec 32 := Scalar.remsi v2381 c16_i32_1520
  let c0_i32_1525 : BitVec 32 := 0#32
  let v2395 : BitVec 1 := Scalar.cmpi .ne v2394 c0_i32_1525
  let v2396 : BitVec 1 := Scalar.andi v2393 v2395
  let v2382 : BitVec 32 := Scalar.divsi v2381 c16_i32_1520
  let c1_i32_1526 : BitVec 32 := 1#32
  let v2397 : BitVec 32 := Scalar.subi v2382 c1_i32_1526
  let v2398 : BitVec 32 := Scalar.select v2396 v2397 v2382
  let c0_i32_1528 : BitVec 32 := 0#32
  let v2400 : BitVec 1 := Scalar.cmpi .sgt v2398 c0_i32_1528
  let v2401 : BitVec 32 := Scalar.extui v2400
  let c0_i32_1529 : BitVec 32 := 0#32
  let v2402 : BitVec 1 := Scalar.cmpi .slt v2398 c0_i32_1529
  let v2403 : BitVec 32 := Scalar.extui v2402
  let v2404 : BitVec 32 := Scalar.subi v2401 v2403
  let c16_i32_1527 : BitVec 32 := 16#32
  let c0_i32_1530 : BitVec 32 := 0#32
  let v2405 : BitVec 1 := Scalar.cmpi .sgt c16_i32_1527 c0_i32_1530
  let v2406 : BitVec 32 := Scalar.extui v2405
  let c0_i32_1531 : BitVec 32 := 0#32
  let v2407 : BitVec 1 := Scalar.cmpi .slt c16_i32_1527 c0_i32_1531
  let v2408 : BitVec 32 := Scalar.extui v2407
  let v2409 : BitVec 32 := Scalar.subi v2406 v2408
  let v2410 : BitVec 1 := Scalar.cmpi .ne v2404 v2409
  let v2411 : BitVec 32 := Scalar.remsi v2398 c16_i32_1527
  let c0_i32_1532 : BitVec 32 := 0#32
  let v2412 : BitVec 1 := Scalar.cmpi .ne v2411 c0_i32_1532
  let v2413 : BitVec 1 := Scalar.andi v2410 v2412
  let v2399 : BitVec 32 := Scalar.divsi v2398 c16_i32_1527
  let c1_i32_1533 : BitVec 32 := 1#32
  let v2414 : BitVec 32 := Scalar.subi v2399 c1_i32_1533
  let v2415 : BitVec 32 := Scalar.select v2413 v2414 v2399
  let c80_i32_1534 : BitVec 32 := 80#32
  let v2416 : BitVec 32 := Scalar.muli v2415 c80_i32_1534
  v2416
def k0_mult29 (k0_t1 : Fin k0_t1_loop.trips) : BitVec 32 :=
  let c2_i32 : BitVec 32 := 2#32
  let c1_i32 : BitVec 32 := 1#32
  let arg72 : BitVec 32 := Scf.iv c2_i32 c1_i32 k0_t1
  let c8_i32_1552 : BitVec 32 := 8#32
  let v2442 : BitVec 32 := Scalar.muli arg72 c8_i32_1552
  let c6_i32 : BitVec 32 := 6#32
  let v2443 : BitVec 32 := Scalar.addi v2442 c6_i32
  let c16_i32_1580 : BitVec 32 := 16#32
  let c0_i32_1581 : BitVec 32 := 0#32
  let v2505 : BitVec 1 := Scalar.cmpi .eq c16_i32_1580 c0_i32_1581
  let c1_i32_1582 : BitVec 32 := 1#32
  let v2506 : BitVec 32 := Scalar.select v2505 c1_i32_1582 c16_i32_1580
  let v2507 : BitVec 32 := Scalar.remsi v2443 v2506
  let c0_i32_1584 : BitVec 32 := 0#32
  let v2509 : BitVec 1 := Scalar.cmpi .slt v2507 c0_i32_1584
  let c0_i32_1585 : BitVec 32 := 0#32
  let v2510 : BitVec 1 := Scalar.cmpi .slt v2506 c0_i32_1585
  let v2511 : BitVec 1 := Scalar.xori v2509 v2510
  let c0_i32_1583 : BitVec 32 := 0#32
  let v2508 : BitVec 1 := Scalar.cmpi .ne v2507 c0_i32_1583
  let v2512 : BitVec 1 := Scalar.andi v2511 v2508
  let v2513 : BitVec 32 := Scalar.addi v2507 v2506
  let v2514 : BitVec 32 := Scalar.select v2512 v2513 v2507
  let c512_i32_1586 : BitVec 32 := 512#32
  let v2515 : BitVec 32 := Scalar.muli v2514 c512_i32_1586
  v2515
def k0_mult30 (k0_t1 : Fin k0_t1_loop.trips) : BitVec 32 :=
  let c2_i32 : BitVec 32 := 2#32
  let c1_i32 : BitVec 32 := 1#32
  let arg72 : BitVec 32 := Scf.iv c2_i32 c1_i32 k0_t1
  let c2_i32_1633 : BitVec 32 := 2#32
  let v2593 : BitVec 32 := Scalar.subi arg72 c2_i32_1633
  let c8_i32_1634 : BitVec 32 := 8#32
  let v2594 : BitVec 32 := Scalar.muli v2593 c8_i32_1634
  let c6_i32_1635 : BitVec 32 := 6#32
  let v2595 : BitVec 32 := Scalar.addi v2594 c6_i32_1635
  let c0_i32_1637 : BitVec 32 := 0#32
  let v2597 : BitVec 1 := Scalar.cmpi .sgt v2595 c0_i32_1637
  let v2598 : BitVec 32 := Scalar.extui v2597
  let c0_i32_1638 : BitVec 32 := 0#32
  let v2599 : BitVec 1 := Scalar.cmpi .slt v2595 c0_i32_1638
  let v2600 : BitVec 32 := Scalar.extui v2599
  let v2601 : BitVec 32 := Scalar.subi v2598 v2600
  let c16_i32_1636 : BitVec 32 := 16#32
  let c0_i32_1639 : BitVec 32 := 0#32
  let v2602 : BitVec 1 := Scalar.cmpi .sgt c16_i32_1636 c0_i32_1639
  let v2603 : BitVec 32 := Scalar.extui v2602
  let c0_i32_1640 : BitVec 32 := 0#32
  let v2604 : BitVec 1 := Scalar.cmpi .slt c16_i32_1636 c0_i32_1640
  let v2605 : BitVec 32 := Scalar.extui v2604
  let v2606 : BitVec 32 := Scalar.subi v2603 v2605
  let v2607 : BitVec 1 := Scalar.cmpi .ne v2601 v2606
  let v2608 : BitVec 32 := Scalar.remsi v2595 c16_i32_1636
  let c0_i32_1641 : BitVec 32 := 0#32
  let v2609 : BitVec 1 := Scalar.cmpi .ne v2608 c0_i32_1641
  let v2610 : BitVec 1 := Scalar.andi v2607 v2609
  let v2596 : BitVec 32 := Scalar.divsi v2595 c16_i32_1636
  let c1_i32_1642 : BitVec 32 := 1#32
  let v2611 : BitVec 32 := Scalar.subi v2596 c1_i32_1642
  let v2612 : BitVec 32 := Scalar.select v2610 v2611 v2596
  let c0_i32_1644 : BitVec 32 := 0#32
  let v2614 : BitVec 1 := Scalar.cmpi .sgt v2612 c0_i32_1644
  let v2615 : BitVec 32 := Scalar.extui v2614
  let c0_i32_1645 : BitVec 32 := 0#32
  let v2616 : BitVec 1 := Scalar.cmpi .slt v2612 c0_i32_1645
  let v2617 : BitVec 32 := Scalar.extui v2616
  let v2618 : BitVec 32 := Scalar.subi v2615 v2617
  let c16_i32_1643 : BitVec 32 := 16#32
  let c0_i32_1646 : BitVec 32 := 0#32
  let v2619 : BitVec 1 := Scalar.cmpi .sgt c16_i32_1643 c0_i32_1646
  let v2620 : BitVec 32 := Scalar.extui v2619
  let c0_i32_1647 : BitVec 32 := 0#32
  let v2621 : BitVec 1 := Scalar.cmpi .slt c16_i32_1643 c0_i32_1647
  let v2622 : BitVec 32 := Scalar.extui v2621
  let v2623 : BitVec 32 := Scalar.subi v2620 v2622
  let v2624 : BitVec 1 := Scalar.cmpi .ne v2618 v2623
  let v2625 : BitVec 32 := Scalar.remsi v2612 c16_i32_1643
  let c0_i32_1648 : BitVec 32 := 0#32
  let v2626 : BitVec 1 := Scalar.cmpi .ne v2625 c0_i32_1648
  let v2627 : BitVec 1 := Scalar.andi v2624 v2626
  let v2613 : BitVec 32 := Scalar.divsi v2612 c16_i32_1643
  let c1_i32_1649 : BitVec 32 := 1#32
  let v2628 : BitVec 32 := Scalar.subi v2613 c1_i32_1649
  let v2629 : BitVec 32 := Scalar.select v2627 v2628 v2613
  let c80_i32_1650 : BitVec 32 := 80#32
  let v2630 : BitVec 32 := Scalar.muli v2629 c80_i32_1650
  v2630
def k0_mult31 (k0_t1 : Fin k0_t1_loop.trips) : BitVec 32 :=
  let c2_i32 : BitVec 32 := 2#32
  let c1_i32 : BitVec 32 := 1#32
  let arg72 : BitVec 32 := Scf.iv c2_i32 c1_i32 k0_t1
  let c8_i32_1668 : BitVec 32 := 8#32
  let v2656 : BitVec 32 := Scalar.muli arg72 c8_i32_1668
  let c7_i32 : BitVec 32 := 7#32
  let v2657 : BitVec 32 := Scalar.addi v2656 c7_i32
  let c16_i32_1696 : BitVec 32 := 16#32
  let c0_i32_1697 : BitVec 32 := 0#32
  let v2719 : BitVec 1 := Scalar.cmpi .eq c16_i32_1696 c0_i32_1697
  let c1_i32_1698 : BitVec 32 := 1#32
  let v2720 : BitVec 32 := Scalar.select v2719 c1_i32_1698 c16_i32_1696
  let v2721 : BitVec 32 := Scalar.remsi v2657 v2720
  let c0_i32_1700 : BitVec 32 := 0#32
  let v2723 : BitVec 1 := Scalar.cmpi .slt v2721 c0_i32_1700
  let c0_i32_1701 : BitVec 32 := 0#32
  let v2724 : BitVec 1 := Scalar.cmpi .slt v2720 c0_i32_1701
  let v2725 : BitVec 1 := Scalar.xori v2723 v2724
  let c0_i32_1699 : BitVec 32 := 0#32
  let v2722 : BitVec 1 := Scalar.cmpi .ne v2721 c0_i32_1699
  let v2726 : BitVec 1 := Scalar.andi v2725 v2722
  let v2727 : BitVec 32 := Scalar.addi v2721 v2720
  let v2728 : BitVec 32 := Scalar.select v2726 v2727 v2721
  let c512_i32_1702 : BitVec 32 := 512#32
  let v2729 : BitVec 32 := Scalar.muli v2728 c512_i32_1702
  v2729
def k0_mult32 (k0_t1 : Fin k0_t1_loop.trips) : BitVec 32 :=
  let c2_i32 : BitVec 32 := 2#32
  let c1_i32 : BitVec 32 := 1#32
  let arg72 : BitVec 32 := Scf.iv c2_i32 c1_i32 k0_t1
  let c2_i32_1749 : BitVec 32 := 2#32
  let v2807 : BitVec 32 := Scalar.subi arg72 c2_i32_1749
  let c8_i32_1750 : BitVec 32 := 8#32
  let v2808 : BitVec 32 := Scalar.muli v2807 c8_i32_1750
  let c7_i32_1751 : BitVec 32 := 7#32
  let v2809 : BitVec 32 := Scalar.addi v2808 c7_i32_1751
  let c0_i32_1753 : BitVec 32 := 0#32
  let v2811 : BitVec 1 := Scalar.cmpi .sgt v2809 c0_i32_1753
  let v2812 : BitVec 32 := Scalar.extui v2811
  let c0_i32_1754 : BitVec 32 := 0#32
  let v2813 : BitVec 1 := Scalar.cmpi .slt v2809 c0_i32_1754
  let v2814 : BitVec 32 := Scalar.extui v2813
  let v2815 : BitVec 32 := Scalar.subi v2812 v2814
  let c16_i32_1752 : BitVec 32 := 16#32
  let c0_i32_1755 : BitVec 32 := 0#32
  let v2816 : BitVec 1 := Scalar.cmpi .sgt c16_i32_1752 c0_i32_1755
  let v2817 : BitVec 32 := Scalar.extui v2816
  let c0_i32_1756 : BitVec 32 := 0#32
  let v2818 : BitVec 1 := Scalar.cmpi .slt c16_i32_1752 c0_i32_1756
  let v2819 : BitVec 32 := Scalar.extui v2818
  let v2820 : BitVec 32 := Scalar.subi v2817 v2819
  let v2821 : BitVec 1 := Scalar.cmpi .ne v2815 v2820
  let v2822 : BitVec 32 := Scalar.remsi v2809 c16_i32_1752
  let c0_i32_1757 : BitVec 32 := 0#32
  let v2823 : BitVec 1 := Scalar.cmpi .ne v2822 c0_i32_1757
  let v2824 : BitVec 1 := Scalar.andi v2821 v2823
  let v2810 : BitVec 32 := Scalar.divsi v2809 c16_i32_1752
  let c1_i32_1758 : BitVec 32 := 1#32
  let v2825 : BitVec 32 := Scalar.subi v2810 c1_i32_1758
  let v2826 : BitVec 32 := Scalar.select v2824 v2825 v2810
  let c0_i32_1760 : BitVec 32 := 0#32
  let v2828 : BitVec 1 := Scalar.cmpi .sgt v2826 c0_i32_1760
  let v2829 : BitVec 32 := Scalar.extui v2828
  let c0_i32_1761 : BitVec 32 := 0#32
  let v2830 : BitVec 1 := Scalar.cmpi .slt v2826 c0_i32_1761
  let v2831 : BitVec 32 := Scalar.extui v2830
  let v2832 : BitVec 32 := Scalar.subi v2829 v2831
  let c16_i32_1759 : BitVec 32 := 16#32
  let c0_i32_1762 : BitVec 32 := 0#32
  let v2833 : BitVec 1 := Scalar.cmpi .sgt c16_i32_1759 c0_i32_1762
  let v2834 : BitVec 32 := Scalar.extui v2833
  let c0_i32_1763 : BitVec 32 := 0#32
  let v2835 : BitVec 1 := Scalar.cmpi .slt c16_i32_1759 c0_i32_1763
  let v2836 : BitVec 32 := Scalar.extui v2835
  let v2837 : BitVec 32 := Scalar.subi v2834 v2836
  let v2838 : BitVec 1 := Scalar.cmpi .ne v2832 v2837
  let v2839 : BitVec 32 := Scalar.remsi v2826 c16_i32_1759
  let c0_i32_1764 : BitVec 32 := 0#32
  let v2840 : BitVec 1 := Scalar.cmpi .ne v2839 c0_i32_1764
  let v2841 : BitVec 1 := Scalar.andi v2838 v2840
  let v2827 : BitVec 32 := Scalar.divsi v2826 c16_i32_1759
  let c1_i32_1765 : BitVec 32 := 1#32
  let v2842 : BitVec 32 := Scalar.subi v2827 c1_i32_1765
  let v2843 : BitVec 32 := Scalar.select v2841 v2842 v2827
  let c80_i32_1766 : BitVec 32 := 80#32
  let v2844 : BitVec 32 := Scalar.muli v2843 c80_i32_1766
  v2844
def k0_off8 (k0_t1 : Fin k0_t1_loop.trips) : Fin 5 → Nat :=
  let c0_1815 : Index := 0#32
  let c2_i32 : BitVec 32 := 2#32
  let c1_i32 : BitVec 32 := 1#32
  let arg72 : BitVec 32 := Scf.iv c2_i32 c1_i32 k0_t1
  let c2_i32_1749 : BitVec 32 := 2#32
  let v2807 : BitVec 32 := Scalar.subi arg72 c2_i32_1749
  let c8_i32_1750 : BitVec 32 := 8#32
  let v2808 : BitVec 32 := Scalar.muli v2807 c8_i32_1750
  let c7_i32_1751 : BitVec 32 := 7#32
  let v2809 : BitVec 32 := Scalar.addi v2808 c7_i32_1751
  let c0_i32_1789 : BitVec 32 := 0#32
  let v2876 : BitVec 1 := Scalar.cmpi .sgt v2809 c0_i32_1789
  let v2877 : BitVec 32 := Scalar.extui v2876
  let c0_i32_1790 : BitVec 32 := 0#32
  let v2878 : BitVec 1 := Scalar.cmpi .slt v2809 c0_i32_1790
  let v2879 : BitVec 32 := Scalar.extui v2878
  let v2880 : BitVec 32 := Scalar.subi v2877 v2879
  let c16_i32_1788 : BitVec 32 := 16#32
  let c0_i32_1791 : BitVec 32 := 0#32
  let v2881 : BitVec 1 := Scalar.cmpi .sgt c16_i32_1788 c0_i32_1791
  let v2882 : BitVec 32 := Scalar.extui v2881
  let c0_i32_1792 : BitVec 32 := 0#32
  let v2883 : BitVec 1 := Scalar.cmpi .slt c16_i32_1788 c0_i32_1792
  let v2884 : BitVec 32 := Scalar.extui v2883
  let v2885 : BitVec 32 := Scalar.subi v2882 v2884
  let v2886 : BitVec 1 := Scalar.cmpi .ne v2880 v2885
  let v2887 : BitVec 32 := Scalar.remsi v2809 c16_i32_1788
  let c0_i32_1793 : BitVec 32 := 0#32
  let v2888 : BitVec 1 := Scalar.cmpi .ne v2887 c0_i32_1793
  let v2889 : BitVec 1 := Scalar.andi v2886 v2888
  let v2875 : BitVec 32 := Scalar.divsi v2809 c16_i32_1788
  let c1_i32_1794 : BitVec 32 := 1#32
  let v2890 : BitVec 32 := Scalar.subi v2875 c1_i32_1794
  let v2891 : BitVec 32 := Scalar.select v2889 v2890 v2875
  let c0_i32_1796 : BitVec 32 := 0#32
  let v2893 : BitVec 1 := Scalar.cmpi .sgt v2891 c0_i32_1796
  let v2894 : BitVec 32 := Scalar.extui v2893
  let c0_i32_1797 : BitVec 32 := 0#32
  let v2895 : BitVec 1 := Scalar.cmpi .slt v2891 c0_i32_1797
  let v2896 : BitVec 32 := Scalar.extui v2895
  let v2897 : BitVec 32 := Scalar.subi v2894 v2896
  let c16_i32_1795 : BitVec 32 := 16#32
  let c0_i32_1798 : BitVec 32 := 0#32
  let v2898 : BitVec 1 := Scalar.cmpi .sgt c16_i32_1795 c0_i32_1798
  let v2899 : BitVec 32 := Scalar.extui v2898
  let c0_i32_1799 : BitVec 32 := 0#32
  let v2900 : BitVec 1 := Scalar.cmpi .slt c16_i32_1795 c0_i32_1799
  let v2901 : BitVec 32 := Scalar.extui v2900
  let v2902 : BitVec 32 := Scalar.subi v2899 v2901
  let v2903 : BitVec 1 := Scalar.cmpi .ne v2897 v2902
  let v2904 : BitVec 32 := Scalar.remsi v2891 c16_i32_1795
  let c0_i32_1800 : BitVec 32 := 0#32
  let v2905 : BitVec 1 := Scalar.cmpi .ne v2904 c0_i32_1800
  let v2906 : BitVec 1 := Scalar.andi v2903 v2905
  let v2892 : BitVec 32 := Scalar.divsi v2891 c16_i32_1795
  let c1_i32_1801 : BitVec 32 := 1#32
  let v2907 : BitVec 32 := Scalar.subi v2892 c1_i32_1801
  let v2908 : BitVec 32 := Scalar.select v2906 v2907 v2892
  let v2936 : Index := Scalar.indexCast v2908
  let c0_i32_1803 : BitVec 32 := 0#32
  let v2910 : BitVec 1 := Scalar.cmpi .sgt v2809 c0_i32_1803
  let v2911 : BitVec 32 := Scalar.extui v2910
  let c0_i32_1804 : BitVec 32 := 0#32
  let v2912 : BitVec 1 := Scalar.cmpi .slt v2809 c0_i32_1804
  let v2913 : BitVec 32 := Scalar.extui v2912
  let v2914 : BitVec 32 := Scalar.subi v2911 v2913
  let c16_i32_1802 : BitVec 32 := 16#32
  let c0_i32_1805 : BitVec 32 := 0#32
  let v2915 : BitVec 1 := Scalar.cmpi .sgt c16_i32_1802 c0_i32_1805
  let v2916 : BitVec 32 := Scalar.extui v2915
  let c0_i32_1806 : BitVec 32 := 0#32
  let v2917 : BitVec 1 := Scalar.cmpi .slt c16_i32_1802 c0_i32_1806
  let v2918 : BitVec 32 := Scalar.extui v2917
  let v2919 : BitVec 32 := Scalar.subi v2916 v2918
  let v2920 : BitVec 1 := Scalar.cmpi .ne v2914 v2919
  let v2921 : BitVec 32 := Scalar.remsi v2809 c16_i32_1802
  let c0_i32_1807 : BitVec 32 := 0#32
  let v2922 : BitVec 1 := Scalar.cmpi .ne v2921 c0_i32_1807
  let v2923 : BitVec 1 := Scalar.andi v2920 v2922
  let v2909 : BitVec 32 := Scalar.divsi v2809 c16_i32_1802
  let c1_i32_1808 : BitVec 32 := 1#32
  let v2924 : BitVec 32 := Scalar.subi v2909 c1_i32_1808
  let v2925 : BitVec 32 := Scalar.select v2923 v2924 v2909
  let c16_i32_1809 : BitVec 32 := 16#32
  let c0_i32_1810 : BitVec 32 := 0#32
  let v2926 : BitVec 1 := Scalar.cmpi .eq c16_i32_1809 c0_i32_1810
  let c1_i32_1811 : BitVec 32 := 1#32
  let v2927 : BitVec 32 := Scalar.select v2926 c1_i32_1811 c16_i32_1809
  let v2928 : BitVec 32 := Scalar.remsi v2925 v2927
  let c0_i32_1813 : BitVec 32 := 0#32
  let v2930 : BitVec 1 := Scalar.cmpi .slt v2928 c0_i32_1813
  let c0_i32_1814 : BitVec 32 := 0#32
  let v2931 : BitVec 1 := Scalar.cmpi .slt v2927 c0_i32_1814
  let v2932 : BitVec 1 := Scalar.xori v2930 v2931
  let c0_i32_1812 : BitVec 32 := 0#32
  let v2929 : BitVec 1 := Scalar.cmpi .ne v2928 c0_i32_1812
  let v2933 : BitVec 1 := Scalar.andi v2932 v2929
  let v2934 : BitVec 32 := Scalar.addi v2928 v2927
  let v2935 : BitVec 32 := Scalar.select v2933 v2934 v2928
  let v2937 : Index := Scalar.indexCast v2935
  let c0_1816 : Index := 0#32
  let c0_1817 : Index := 0#32
  ![0, v2936.toNat, v2937.toNat, 0, 0]
def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x2x16x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x160x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x16x64x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S8x8192x8x64 : Shape := ⟨4, ![8, 8192, 8, 64]⟩
abbrev S8x8192x8x32 : Shape := ⟨4, ![8, 8192, 8, 32]⟩
abbrev S8x8192x32 : Shape := ⟨3, ![8, 8192, 32]⟩
abbrev S_ : Shape := ⟨0, ![]⟩
abbrev S8x8x8192x8192 : Shape := ⟨4, ![8, 8, 8192, 8192]⟩
abbrev S8x8192x8192x8 : Shape := ⟨4, ![8, 8192, 8192, 8]⟩
abbrev S8x8x8192 : Shape := ⟨3, ![8, 8, 8192]⟩
abbrev S8x8x8192x1 : Shape := ⟨4, ![8, 8, 8192, 1]⟩
abbrev S8x8x64x8192 : Shape := ⟨4, ![8, 8, 64, 8192]⟩
abbrev S8x16x512x8x64 : Shape := ⟨5, ![8, 16, 512, 8, 64]⟩
abbrev S8x8x16x64x512 : Shape := ⟨5, ![8, 8, 16, 64, 512]⟩

abbrev nBuf : Space → Nat
  | .hbm => 34
  | .vmem => 0
  | .smem => 0
  | _ => 0

abbrev bufTy : (tb : Table) → Fin (tcTables nBuf tb) → BufTy
  | .hbm, ⟨0, _⟩ => ⟨S8x8192x8x64, .f32⟩
  | .hbm, ⟨1, _⟩ => ⟨S8x8192x8x32, .f32⟩
  | .hbm, ⟨2, _⟩ => ⟨S8x8192x8x64, .f32⟩
  | .hbm, ⟨3, _⟩ => ⟨S8x8192x32, .f32⟩
  | .hbm, ⟨4, _⟩ => ⟨S8x8192x8x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8x8x8192x8192, .f32⟩
  | .hbm, ⟨10, _⟩ => ⟨S8x8192x8192x8, .f32⟩
  | .hbm, ⟨11, _⟩ => ⟨S8x8x8192x8192, .f32⟩
  | .hbm, ⟨12, _⟩ => ⟨S8x8x8192x8192, .f32⟩
  | .hbm, ⟨13, _⟩ => ⟨S8x8x8192x8192, .f32⟩
  | .hbm, ⟨14, _⟩ => ⟨S8x8x8192x8192, .f32⟩
  | .hbm, ⟨15, _⟩ => ⟨S_, .f32⟩
  | .hbm, ⟨16, _⟩ => ⟨S8x8x8192, .f32⟩
  | .hbm, ⟨17, _⟩ => ⟨S_, .f32⟩
  | .hbm, ⟨18, _⟩ => ⟨S8x8x8192, .f32⟩
  | .hbm, ⟨19, _⟩ => ⟨S8x8x8192, .f32⟩
  | .hbm, ⟨20, _⟩ => ⟨S8x8x8192x1, .f32⟩
  | .hbm, ⟨21, _⟩ => ⟨S8x8x8192x8192, .f32⟩
  | .hbm, ⟨22, _⟩ => ⟨S8x8x8192x8192, .f32⟩
  | .hbm, ⟨23, _⟩ => ⟨S8x8x8192x8192, .f32⟩
  | .hbm, ⟨24, _⟩ => ⟨S_, .f32⟩
  | .hbm, ⟨25, _⟩ => ⟨S8x8x8192, .f32⟩
  | .hbm, ⟨26, _⟩ => ⟨S8x8x8192x1, .f32⟩
  | .hbm, ⟨27, _⟩ => ⟨S8x8x8192x8192, .f32⟩
  | .hbm, ⟨28, _⟩ => ⟨S8x8x8192x8192, .f32⟩
  | .hbm, ⟨29, _⟩ => ⟨S8x8x64x8192, .f32⟩
  | .hbm, ⟨30, _⟩ => ⟨S8x8192x8x64, .f32⟩
  | .hbm, ⟨31, _⟩ => ⟨S8x16x512x8x64, .f32⟩
  | .hbm, ⟨32, _⟩ => ⟨S8x8x16x64x512, .f32⟩
  | .hbm, ⟨33, _⟩ => ⟨S8x8x16x64x512, .bf16⟩
  | _, _ => ⟨S8x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Kernel2.lean ====
abbrev S8x8192x1024 : Shape := ⟨3, ![8, 8192, 1024]⟩
abbrev S8x8192x768 : Shape := ⟨3, ![8, 8192, 768]⟩
abbrev S8x8192x256 : Shape := ⟨3, ![8, 8192, 256]⟩
abbrev S2x2x1024 : Shape := ⟨3, ![2, 2, 1024]⟩
abbrev S2x1024x4096 : Shape := ⟨3, ![2, 1024, 4096]⟩
abbrev S2x4096x1024 : Shape := ⟨3, ![2, 4096, 1024]⟩
abbrev S1x1024x1024 : Shape := ⟨3, ![1, 1024, 1024]⟩
abbrev S1024x1024 : Shape := ⟨2, ![1024, 1024]⟩
abbrev S768x1024 : Shape := ⟨2, ![768, 1024]⟩
abbrev S256x1024 : Shape := ⟨2, ![256, 1024]⟩
abbrev S1x1x1024 : Shape := ⟨3, ![1, 1, 1024]⟩
abbrev S1024 : Shape := ⟨1, ![1024]⟩
abbrev S1x1024 : Shape := ⟨2, ![1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S1x512x1024 : Shape := ⟨3, ![1, 512, 1024]⟩
abbrev S1x512x768 : Shape := ⟨3, ![1, 512, 768]⟩
abbrev S1x512x256 : Shape := ⟨3, ![1, 512, 256]⟩
abbrev S512x768 : Shape := ⟨2, ![512, 768]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 30
  | .vmem => 15
  | .smem => 0
  | _ => 0

abbrev bufTy : (tb : Table) → Fin (tcTables nBuf tb) → BufTy
  | .hbm, ⟨0, _⟩ => ⟨S8x8192x1024, .f32⟩
  | .hbm, ⟨1, _⟩ => ⟨S8x8192x768, .bf16⟩
  | .hbm, ⟨2, _⟩ => ⟨S8x8192x256, .bf16⟩
  | .hbm, ⟨3, _⟩ => ⟨S2x2x1024, .f32⟩
  | .hbm, ⟨4, _⟩ => ⟨S2x2x1024, .f32⟩
  | .hbm, ⟨5, _⟩ => ⟨S2x1024x4096, .f32⟩
  | .hbm, ⟨6, _⟩ => ⟨S2x4096x1024, .f32⟩
  | .hbm, ⟨7, _⟩ => ⟨S1x1024x1024, .f32⟩
  | .hbm, ⟨8, _⟩ => ⟨S1024x1024, .f32⟩
  | .hbm, ⟨9, _⟩ => ⟨S768x1024, .f32⟩
  | .hbm, ⟨10, _⟩ => ⟨S768x1024, .bf16⟩
  | .hbm, ⟨11, _⟩ => ⟨S1024x1024, .f32⟩
  | .hbm, ⟨12, _⟩ => ⟨S256x1024, .f32⟩
  | .hbm, ⟨13, _⟩ => ⟨S256x1024, .bf16⟩
  | .hbm, ⟨14, _⟩ => ⟨S1x1x1024, .f32⟩
  | .hbm, ⟨15, _⟩ => ⟨S1024, .f32⟩
  | .hbm, ⟨16, _⟩ => ⟨S1x1024, .f32⟩
  | .hbm, ⟨17, _⟩ => ⟨S1x1x1024, .f32⟩
  | .hbm, ⟨18, _⟩ => ⟨S1024, .f32⟩
  | .hbm, ⟨19, _⟩ => ⟨S1x1024, .f32⟩
  | .hbm, ⟨20, _⟩ => ⟨S1x1024x4096, .f32⟩
  | .hbm, ⟨21, _⟩ => ⟨S1024x4096, .f32⟩
  | .hbm, ⟨22, _⟩ => ⟨S1024x4096, .bf16⟩
  | .hbm, ⟨23, _⟩ => ⟨S1x4096x1024, .f32⟩
  | .hbm, ⟨24, _⟩ => ⟨S4096x1024, .f32⟩
  | .hbm, ⟨25, _⟩ => ⟨S4096x1024, .bf16⟩
  | .hbm, ⟨26, _⟩ => ⟨S1x1x1024, .f32⟩
  | .hbm, ⟨27, _⟩ => ⟨S1024, .f32⟩
  | .hbm, ⟨28, _⟩ => ⟨S1x1024, .f32⟩
  | .hbm, ⟨29, _⟩ => ⟨S8x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x768, .bf16⟩
  | .local _ .vmem, ⟨3, _⟩ => ⟨S1x512x768, .bf16⟩
  | .local _ .vmem, ⟨4, _⟩ => ⟨S1x512x256, .bf16⟩
  | .local _ .vmem, ⟨5, _⟩ => ⟨S1x512x256, .bf16⟩
  | .local _ .vmem, ⟨6, _⟩ => ⟨S768x1024, .bf16⟩
  | .local _ .vmem, ⟨7, _⟩ => ⟨S256x1024, .bf16⟩
  | .local _ .vmem, ⟨8, _⟩ => ⟨S1x1024, .f32⟩
  | .local _ .vmem, ⟨9, _⟩ => ⟨S1x1024, .f32⟩
  | .local _ .vmem, ⟨10, _⟩ => ⟨S1024x4096, .bf16⟩
  | .local _ .vmem, ⟨11, _⟩ => ⟨S4096x1024, .bf16⟩
  | .local _ .vmem, ⟨12, _⟩ => ⟨S1x1024, .f32⟩
  | .local _ .vmem, ⟨13, _⟩ => ⟨S1x512x1024, .f32⟩
  | .local _ .vmem, ⟨14, _⟩ => ⟨S1x512x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S768x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Kernel2Ideal.lean ====
abbrev S8x8192x1024 : Shape := ⟨3, ![8, 8192, 1024]⟩
abbrev S8x8192x768 : Shape := ⟨3, ![8, 8192, 768]⟩
abbrev S8x8192x256 : Shape := ⟨3, ![8, 8192, 256]⟩
abbrev S2x2x1024 : Shape := ⟨3, ![2, 2, 1024]⟩
abbrev S2x1024x4096 : Shape := ⟨3, ![2, 1024, 4096]⟩
abbrev S2x4096x1024 : Shape := ⟨3, ![2, 4096, 1024]⟩
abbrev S1x1024x1024 : Shape := ⟨3, ![1, 1024, 1024]⟩
abbrev S1024x1024 : Shape := ⟨2, ![1024, 1024]⟩
abbrev S768x1024 : Shape := ⟨2, ![768, 1024]⟩
abbrev S256x1024 : Shape := ⟨2, ![256, 1024]⟩
abbrev S1x1x1024 : Shape := ⟨3, ![1, 1, 1024]⟩
abbrev S1024 : Shape := ⟨1, ![1024]⟩
abbrev S1x1024 : Shape := ⟨2, ![1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S1x512x1024 : Shape := ⟨3, ![1, 512, 1024]⟩
abbrev S1x512x768 : Shape := ⟨3, ![1, 512, 768]⟩
abbrev S1x512x256 : Shape := ⟨3, ![1, 512, 256]⟩
abbrev S512x768 : Shape := ⟨2, ![512, 768]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 30
  | .vmem => 15
  | .smem => 0
  | _ => 0

abbrev bufTy : (tb : Table) → Fin (tcTables nBuf tb) → BufTy
  | .hbm, ⟨0, _⟩ => ⟨S8x8192x1024, .f32⟩
  | .hbm, ⟨1, _⟩ => ⟨S8x8192x768, .bf16⟩
  | .hbm, ⟨2, _⟩ => ⟨S8x8192x256, .bf16⟩
  | .hbm, ⟨3, _⟩ => ⟨S2x2x1024, .f32⟩
  | .hbm, ⟨4, _⟩ => ⟨S2x2x1024, .f32⟩
  | .hbm, ⟨5, _⟩ => ⟨S2x1024x4096, .f32⟩
  | .hbm, ⟨6, _⟩ => ⟨S2x4096x1024, .f32⟩
  | .hbm, ⟨7, _⟩ => ⟨S1x1024x1024, .f32⟩
  | .hbm, ⟨8, _⟩ => ⟨S1024x1024, .f32⟩
  | .hbm, ⟨9, _⟩ => ⟨S768x1024, .f32⟩
  | .hbm, ⟨10, _⟩ => ⟨S768x1024, .bf16⟩
  | .hbm, ⟨11, _⟩ => ⟨S1024x1024, .f32⟩
  | .hbm, ⟨12, _⟩ => ⟨S256x1024, .f32⟩
  | .hbm, ⟨13, _⟩ => ⟨S256x1024, .bf16⟩
  | .hbm, ⟨14, _⟩ => ⟨S1x1x1024, .f32⟩
  | .hbm, ⟨15, _⟩ => ⟨S1024, .f32⟩
  | .hbm, ⟨16, _⟩ => ⟨S1x1024, .f32⟩
  | .hbm, ⟨17, _⟩ => ⟨S1x1x1024, .f32⟩
  | .hbm, ⟨18, _⟩ => ⟨S1024, .f32⟩
  | .hbm, ⟨19, _⟩ => ⟨S1x1024, .f32⟩
  | .hbm, ⟨20, _⟩ => ⟨S1x1024x4096, .f32⟩
  | .hbm, ⟨21, _⟩ => ⟨S1024x4096, .f32⟩
  | .hbm, ⟨22, _⟩ => ⟨S1024x4096, .bf16⟩
  | .hbm, ⟨23, _⟩ => ⟨S1x4096x1024, .f32⟩
  | .hbm, ⟨24, _⟩ => ⟨S4096x1024, .f32⟩
  | .hbm, ⟨25, _⟩ => ⟨S4096x1024, .bf16⟩
  | .hbm, ⟨26, _⟩ => ⟨S1x1x1024, .f32⟩
  | .hbm, ⟨27, _⟩ => ⟨S1024, .f32⟩
  | .hbm, ⟨28, _⟩ => ⟨S1x1024, .f32⟩
  | .hbm, ⟨29, _⟩ => ⟨S8x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x768, .bf16⟩
  | .local _ .vmem, ⟨3, _⟩ => ⟨S1x512x768, .bf16⟩
  | .local _ .vmem, ⟨4, _⟩ => ⟨S1x512x256, .bf16⟩
  | .local _ .vmem, ⟨5, _⟩ => ⟨S1x512x256, .bf16⟩
  | .local _ .vmem, ⟨6, _⟩ => ⟨S768x1024, .bf16⟩
  | .local _ .vmem, ⟨7, _⟩ => ⟨S256x1024, .bf16⟩
  | .local _ .vmem, ⟨8, _⟩ => ⟨S1x1024, .f32⟩
  | .local _ .vmem, ⟨9, _⟩ => ⟨S1x1024, .f32⟩
  | .local _ .vmem, ⟨10, _⟩ => ⟨S1024x4096, .bf16⟩
  | .local _ .vmem, ⟨11, _⟩ => ⟨S4096x1024, .bf16⟩
  | .local _ .vmem, ⟨12, _⟩ => ⟨S1x1024, .f32⟩
  | .local _ .vmem, ⟨13, _⟩ => ⟨S1x512x1024, .f32⟩
  | .local _ .vmem, ⟨14, _⟩ => ⟨S1x512x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S768x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference2Ideal.lean ====
abbrev S8x8192x1024 : Shape := ⟨3, ![8, 8192, 1024]⟩
abbrev S8x8192x768 : Shape := ⟨3, ![8, 8192, 768]⟩
abbrev S8x8192x256 : Shape := ⟨3, ![8, 8192, 256]⟩
abbrev S2x2x1024 : Shape := ⟨3, ![2, 2, 1024]⟩
abbrev S2x1024x4096 : Shape := ⟨3, ![2, 1024, 4096]⟩
abbrev S2x4096x1024 : Shape := ⟨3, ![2, 4096, 1024]⟩
abbrev S1x1024x1024 : Shape := ⟨3, ![1, 1024, 1024]⟩
abbrev S1024x1024 : Shape := ⟨2, ![1024, 1024]⟩
abbrev S1x1x1024 : Shape := ⟨3, ![1, 1, 1024]⟩
abbrev S1024 : Shape := ⟨1, ![1024]⟩
abbrev S_ : Shape := ⟨0, ![]⟩
abbrev S8x8192 : Shape := ⟨2, ![8, 8192]⟩
abbrev S8x8192x1 : Shape := ⟨3, ![8, 8192, 1]⟩
abbrev S1x1024x4096 : Shape := ⟨3, ![1, 1024, 4096]⟩
abbrev S1024x4096 : Shape := ⟨2, ![1024, 4096]⟩
abbrev S8x8192x4096 : Shape := ⟨3, ![8, 8192, 4096]⟩
abbrev S1x4096x1024 : Shape := ⟨3, ![1, 4096, 1024]⟩
abbrev S4096x1024 : Shape := ⟨2, ![4096, 1024]⟩

abbrev nBuf : Space → Nat
  | .hbm => 78
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x8192x768, .bf16⟩
  | .hbm, ⟨2, _⟩ => ⟨S8x8192x256, .bf16⟩
  | .hbm, ⟨3, _⟩ => ⟨S2x2x1024, .f32⟩
  | .hbm, ⟨4, _⟩ => ⟨S2x2x1024, .f32⟩
  | .hbm, ⟨5, _⟩ => ⟨S2x1024x4096, .f32⟩
  | .hbm, ⟨6, _⟩ => ⟨S2x4096x1024, .f32⟩
  | .hbm, ⟨7, _⟩ => ⟨S1x1024x1024, .f32⟩
  | .hbm, ⟨8, _⟩ => ⟨S8x8192x1024, .bf16⟩
  | .hbm, ⟨9, _⟩ => ⟨S8x8192x1024, .f32⟩
  | .hbm, ⟨10, _⟩ => ⟨S1024x1024, .f32⟩
  | .hbm, ⟨11, _⟩ => ⟨S8x8192x1024, .f32⟩
  | .hbm, ⟨12, _⟩ => ⟨S1x1x1024, .f32⟩
  | .hbm, ⟨13, _⟩ => ⟨S1024, .f32⟩
  | .hbm, ⟨14, _⟩ => ⟨S8x8192x1024, .f32⟩
  | .hbm, ⟨15, _⟩ => ⟨S_, .f32⟩
  | .hbm, ⟨16, _⟩ => ⟨S8x8192, .f32⟩
  | .hbm, ⟨17, _⟩ => ⟨S8x8192x1, .f32⟩
  | .hbm, ⟨18, _⟩ => ⟨S_, .f32⟩
  | .hbm, ⟨19, _⟩ => ⟨S8x8192x1, .f32⟩
  | .hbm, ⟨20, _⟩ => ⟨S8x8192x1, .f32⟩
  | .hbm, ⟨21, _⟩ => ⟨S_, .f32⟩
  | .hbm, ⟨22, _⟩ => ⟨S8x8192x1, .f32⟩
  | .hbm, ⟨23, _⟩ => ⟨S8x8192x1, .f32⟩
  | .hbm, ⟨24, _⟩ => ⟨S8x8192x1, .f32⟩
  | .hbm, ⟨25, _⟩ => ⟨S8x8192x1024, .f32⟩
  | .hbm, ⟨26, _⟩ => ⟨S8x8192x1024, .f32⟩
  | .hbm, ⟨27, _⟩ => ⟨S1x1x1024, .f32⟩
  | .hbm, ⟨28, _⟩ => ⟨S8x8192x1024, .f32⟩
  | .hbm, ⟨29, _⟩ => ⟨S8x8192x1024, .f32⟩
  | .hbm, ⟨30, _⟩ => ⟨S8x8192x1024, .f32⟩
  | .hbm, ⟨31, _⟩ => ⟨S1x1x1024, .f32⟩
  | .hbm, ⟨32, _⟩ => ⟨S1024, .f32⟩
  | .hbm, ⟨33, _⟩ => ⟨S8x8192x1024, .f32⟩
  | .hbm, ⟨34, _⟩ => ⟨S_, .f32⟩
  | .hbm, ⟨35, _⟩ => ⟨S8x8192, .f32⟩
  | .hbm, ⟨36, _⟩ => ⟨S8x8192x1, .f32⟩
  | .hbm, ⟨37, _⟩ => ⟨S_, .f32⟩
  | .hbm, ⟨38, _⟩ => ⟨S8x8192x1, .f32⟩
  | .hbm, ⟨39, _⟩ => ⟨S8x8192x1, .f32⟩
  | .hbm, ⟨40, _⟩ => ⟨S_, .f32⟩
  | .hbm, ⟨41, _⟩ => ⟨S8x8192x1, .f32⟩
  | .hbm, ⟨42, _⟩ => ⟨S8x8192x1, .f32⟩
  | .hbm, ⟨43, _⟩ => ⟨S8x8192x1, .f32⟩
  | .hbm, ⟨44, _⟩ => ⟨S8x8192x1024, .f32⟩
  | .hbm, ⟨45, _⟩ => ⟨S8x8192x1024, .f32⟩
  | .hbm, ⟨46, _⟩ => ⟨S1x1x1024, .f32⟩
  | .hbm, ⟨47, _⟩ => ⟨S8x8192x1024, .f32⟩
  | .hbm, ⟨48, _⟩ => ⟨S8x8192x1024, .f32⟩
  | .hbm, ⟨49, _⟩ => ⟨S1x1024x4096, .f32⟩
  | .hbm, ⟨50, _⟩ => ⟨S1024x4096, .f32⟩
  | .hbm, ⟨51, _⟩ => ⟨S8x8192x4096, .f32⟩
  | .hbm, ⟨52, _⟩ => ⟨S_, .f32⟩
  | .hbm, ⟨53, _⟩ => ⟨S8x8192x4096, .f32⟩
  | .hbm, ⟨54, _⟩ => ⟨S8x8192x4096, .f32⟩
  | .hbm, ⟨55, _⟩ => ⟨S8x8192x4096, .f32⟩
  | .hbm, ⟨56, _⟩ => ⟨S1x4096x1024, .f32⟩
  | .hbm, ⟨57, _⟩ => ⟨S4096x1024, .f32⟩
  | .hbm, ⟨58, _⟩ => ⟨S8x8192x1024, .f32⟩
  | .hbm, ⟨59, _⟩ => ⟨S1x1x1024, .f32⟩
  | .hbm, ⟨60, _⟩ => ⟨S1024, .f32⟩
  | .hbm, ⟨61, _⟩ => ⟨S8x8192x1024, .f32⟩
  | .hbm, ⟨62, _⟩ => ⟨S_, .f32⟩
  | .hbm, ⟨63, _⟩ => ⟨S8x8192, .f32⟩
  | .hbm, ⟨64, _⟩ => ⟨S8x8192x1, .f32⟩
  | .hbm, ⟨65, _⟩ => ⟨S_, .f32⟩
  | .hbm, ⟨66, _⟩ => ⟨S8x8192x1, .f32⟩
  | .hbm, ⟨67, _⟩ => ⟨S8x8192x1, .f32⟩
  | .hbm, ⟨68, _⟩ => ⟨S_, .f32⟩
  | .hbm, ⟨69, _⟩ => ⟨S8x8192x1, .f32⟩
  | .hbm, ⟨70, _⟩ => ⟨S8x8192x1, .f32⟩
  | .hbm, ⟨71, _⟩ => ⟨S8x8192x1, .f32⟩
  | .hbm, ⟨72, _⟩ => ⟨S8x8192x1024, .f32⟩
  | .hbm, ⟨73, _⟩ => ⟨S8x8192x1024, .f32⟩
  | .hbm, ⟨74, _⟩ => ⟨S1x1x1024, .f32⟩
  | .hbm, ⟨75, _⟩ => ⟨S8x8192x1024, .f32⟩
  | .hbm, ⟨76, _⟩ => ⟨S8x8192x1024, .f32⟩
  | .hbm, ⟨77, _⟩ => ⟨S8x8192x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_call0_cst : Ref sig .tc := ⟨.hbm, 52, rfl⟩
abbrev main_call0_v0 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_5 : Ref sig .tc := ⟨.hbm, 62, rfl⟩
abbrev main_v46 : Ref sig .tc := ⟨.hbm, 63, rfl⟩
abbrev main_v47 : Ref sig .tc := ⟨.hbm, 64, rfl⟩
abbrev main_cst_6 : Ref sig .tc := ⟨.hbm, 65, rfl⟩
abbrev main_v48 : Ref sig .tc := ⟨.hbm, 66, rfl⟩
abbrev main_v49 : Ref sig .tc := ⟨.hbm, 67, rfl⟩
abbrev main_cst_7 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩

abbrev nD : Nat := 1
abbrev τ : Topo := Topo.v7x

variable {F : FTy → Type} [FloatOps F]
-- ==== Kernel3.lean ====
abbrev S8x8192x1024 : Shape := ⟨3, ![8, 8192, 1024]⟩
abbrev S8x8192x512 : Shape := ⟨3, ![8, 8192, 512]⟩
abbrev S2x2x1024 : Shape := ⟨3, ![2, 2, 1024]⟩
abbrev S2x1024x4096 : Shape := ⟨3, ![2, 1024, 4096]⟩
abbrev S2x4096x1024 : Shape := ⟨3, ![2, 4096, 1024]⟩
abbrev S1x1024x1024 : Shape := ⟨3, ![1, 1024, 1024]⟩
abbrev S8x16x512x8x64 : Shape := ⟨5, ![8, 16, 512, 8, 64]⟩
abbrev S8x8x16x64x512 : Shape := ⟨5, ![8, 8, 16, 64, 512]⟩
abbrev S1024x1024 : Shape := ⟨2, ![1024, 1024]⟩
abbrev S512x1024 : Shape := ⟨2, ![512, 1024]⟩
abbrev S1x1x1024 : Shape := ⟨3, ![1, 1, 1024]⟩
abbrev S1024 : Shape := ⟨1, ![1024]⟩
abbrev S1x1024 : Shape := ⟨2, ![1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S1x512x1024 : Shape := ⟨3, ![1, 512, 1024]⟩
abbrev S1x512x512 : Shape := ⟨3, ![1, 512, 512]⟩
abbrev S1x8x1x64x512 : Shape := ⟨5, ![1, 8, 1, 64, 512]⟩
abbrev S512x512 : Shape := ⟨2, ![512, 512]⟩
abbrev S8x64x512 : Shape := ⟨3, ![8, 64, 512]⟩
abbrev S512 : Shape := ⟨1, ![512]⟩
abbrev S512x1 : Shape := ⟨2, ![512, 1]⟩

abbrev nBuf : Space → Nat
  | .hbm => 32
  | .vmem => 15
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .bf16⟩
  | .hbm, ⟨2, _⟩ => ⟨S8x8192x512, .bf16⟩
  | .hbm, ⟨3, _⟩ => ⟨S2x2x1024, .f32⟩
  | .hbm, ⟨4, _⟩ => ⟨S2x2x1024, .f32⟩
  | .hbm, ⟨5, _⟩ => ⟨S2x1024x4096, .f32⟩
  | .hbm, ⟨6, _⟩ => ⟨S2x4096x1024, .f32⟩
  | .hbm, ⟨7, _⟩ => ⟨S1x1024x1024, .f32⟩
  | .hbm, ⟨8, _⟩ => ⟨S8x16x512x8x64, .bf16⟩
  | .hbm, ⟨9, _⟩ => ⟨S8x8x16x64x512, .bf16⟩
  | .hbm, ⟨10, _⟩ => ⟨S1024x1024, .f32⟩
  | .hbm, ⟨11, _⟩ => ⟨S512x1024, .f32⟩
  | .hbm, ⟨12, _⟩ => ⟨S512x1024, .bf16⟩
  | .hbm, ⟨13, _⟩ => ⟨S1024x1024, .f32⟩
  | .hbm, ⟨14, _⟩ => ⟨S512x1024, .f32⟩
  | .hbm, ⟨15, _⟩ => ⟨S512x1024, .bf16⟩
  | .hbm, ⟨16, _⟩ => ⟨S1x1x1024, .f32⟩
  | .hbm, ⟨17, _⟩ => ⟨S1024, .f32⟩
  | .hbm, ⟨18, _⟩ => ⟨S1x1024, .f32⟩
  | .hbm, ⟨19, _⟩ => ⟨S1x1x1024, .f32⟩
  | .hbm, ⟨20, _⟩ => ⟨S1024, .f32⟩
  | .hbm, ⟨21, _⟩ => ⟨S1x1024, .f32⟩
  | .hbm, ⟨22, _⟩ => ⟨S1x1024x4096, .f32⟩
  | .hbm, ⟨23, _⟩ => ⟨S1024x4096, .f32⟩
  | .hbm, ⟨24, _⟩ => ⟨S1024x4096, .bf16⟩
  | .hbm, ⟨25, _⟩ => ⟨S1x4096x1024, .f32⟩
  | .hbm, ⟨26, _⟩ => ⟨S4096x1024, .f32⟩
  | .hbm, ⟨27, _⟩ => ⟨S4096x1024, .bf16⟩
  | .hbm, ⟨28, _⟩ => ⟨S1x1x1024, .f32⟩
  | .hbm, ⟨29, _⟩ => ⟨S1024, .f32⟩
  | .hbm, ⟨30, _⟩ => ⟨S1x1024, .f32⟩
  | .hbm, ⟨31, _⟩ => ⟨S8x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x8x1x64x512, .bf16⟩
  | .local _ .vmem, ⟨5, _⟩ => ⟨S1x8x1x64x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S1024x4096, .bf16⟩
  | .local _ .vmem, ⟨11, _⟩ => ⟨S4096x1024, .bf16⟩
  | .local _ .vmem, ⟨12, _⟩ => ⟨S1x1024, .f32⟩
  | .local _ .vmem, ⟨13, _⟩ => ⟨S1x512x1024, .f32⟩
  | .local _ .vmem, ⟨14, _⟩ => ⟨S1x512x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1x64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference3Ideal.lean ====
abbrev S8x8192x1024 : Shape := ⟨3, ![8, 8192, 1024]⟩
abbrev S8x8192x512 : Shape := ⟨3, ![8, 8192, 512]⟩
abbrev S2x2x1024 : Shape := ⟨3, ![2, 2, 1024]⟩
abbrev S2x1024x4096 : Shape := ⟨3, ![2, 1024, 4096]⟩
abbrev S2x4096x1024 : Shape := ⟨3, ![2, 4096, 1024]⟩
abbrev S1x1024x1024 : Shape := ⟨3, ![1, 1024, 1024]⟩
abbrev S1024x1024 : Shape := ⟨2, ![1024, 1024]⟩
abbrev S1x1x1024 : Shape := ⟨3, ![1, 1, 1024]⟩
abbrev S1024 : Shape := ⟨1, ![1024]⟩
abbrev S_ : Shape := ⟨0, ![]⟩
abbrev S8x8192 : Shape := ⟨2, ![8, 8192]⟩
abbrev S8x8192x1 : Shape := ⟨3, ![8, 8192, 1]⟩
abbrev S1x1024x4096 : Shape := ⟨3, ![1, 1024, 4096]⟩
abbrev S1024x4096 : Shape := ⟨2, ![1024, 4096]⟩
abbrev S8x8192x4096 : Shape := ⟨3, ![8, 8192, 4096]⟩
abbrev S1x4096x1024 : Shape := ⟨3, ![1, 4096, 1024]⟩
abbrev S4096x1024 : Shape := ⟨2, ![4096, 1024]⟩

abbrev nBuf : Space → Nat
  | .hbm => 78
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .bf16⟩
  | .hbm, ⟨2, _⟩ => ⟨S8x8192x512, .bf16⟩
  | .hbm, ⟨3, _⟩ => ⟨S2x2x1024, .f32⟩
  | .hbm, ⟨4, _⟩ => ⟨S2x2x1024, .f32⟩
  | .hbm, ⟨5, _⟩ => ⟨S2x1024x4096, .f32⟩
  | .hbm, ⟨6, _⟩ => ⟨S2x4096x1024, .f32⟩
  | .hbm, ⟨7, _⟩ => ⟨S1x1024x1024, .f32⟩
  | .hbm, ⟨8, _⟩ => ⟨S8x8192x1024, .bf16⟩
  | .hbm, ⟨9, _⟩ => ⟨S8x8192x1024, .f32⟩
  | .hbm, ⟨10, _⟩ => ⟨S1024x1024, .f32⟩
  | .hbm, ⟨11, _⟩ => ⟨S8x8192x1024, .f32⟩
  | .hbm, ⟨12, _⟩ => ⟨S1x1x1024, .f32⟩
  | .hbm, ⟨13, _⟩ => ⟨S1024, .f32⟩
  | .hbm, ⟨14, _⟩ => ⟨S8x8192x1024, .f32⟩
  | .hbm, ⟨15, _⟩ => ⟨S_, .f32⟩
  | .hbm, ⟨16, _⟩ => ⟨S8x8192, .f32⟩
  | .hbm, ⟨17, _⟩ => ⟨S8x8192x1, .f32⟩
  | .hbm, ⟨18, _⟩ => ⟨S_, .f32⟩
  | .hbm, ⟨19, _⟩ => ⟨S8x8192x1, .f32⟩
  | .hbm, ⟨20, _⟩ => ⟨S8x8192x1, .f32⟩
  | .hbm, ⟨21, _⟩ => ⟨S_, .f32⟩
  | .hbm, ⟨22, _⟩ => ⟨S8x8192x1, .f32⟩
  | .hbm, ⟨23, _⟩ => ⟨S8x8192x1, .f32⟩
  | .hbm, ⟨24, _⟩ => ⟨S8x8192x1, .f32⟩
  | .hbm, ⟨25, _⟩ => ⟨S8x8192x1024, .f32⟩
  | .hbm, ⟨26, _⟩ => ⟨S8x8192x1024, .f32⟩
  | .hbm, ⟨27, _⟩ => ⟨S1x1x1024, .f32⟩
  | .hbm, ⟨28, _⟩ => ⟨S8x8192x1024, .f32⟩
  | .hbm, ⟨29, _⟩ => ⟨S8x8192x1024, .f32⟩
  | .hbm, ⟨30, _⟩ => ⟨S8x8192x1024, .f32⟩
  | .hbm, ⟨31, _⟩ => ⟨S1x1x1024, .f32⟩
  | .hbm, ⟨32, _⟩ => ⟨S1024, .f32⟩
  | .hbm, ⟨33, _⟩ => ⟨S8x8192x1024, .f32⟩
  | .hbm, ⟨34, _⟩ => ⟨S_, .f32⟩
  | .hbm, ⟨35, _⟩ => ⟨S8x8192, .f32⟩
  | .hbm, ⟨36, _⟩ => ⟨S8x8192x1, .f32⟩
  | .hbm, ⟨37, _⟩ => ⟨S_, .f32⟩
  | .hbm, ⟨38, _⟩ => ⟨S8x8192x1, .f32⟩
  | .hbm, ⟨39, _⟩ => ⟨S8x8192x1, .f32⟩
  | .hbm, ⟨40, _⟩ => ⟨S_, .f32⟩
  | .hbm, ⟨41, _⟩ => ⟨S8x8192x1, .f32⟩
  | .hbm, ⟨42, _⟩ => ⟨S8x8192x1, .f32⟩
  | .hbm, ⟨43, _⟩ => ⟨S8x8192x1, .f32⟩
  | .hbm, ⟨44, _⟩ => ⟨S8x8192x1024, .f32⟩
  | .hbm, ⟨45, _⟩ => ⟨S8x8192x1024, .f32⟩
  | .hbm, ⟨46, _⟩ => ⟨S1x1x1024, .f32⟩
  | .hbm, ⟨47, _⟩ => ⟨S8x8192x1024, .f32⟩
  | .hbm, ⟨48, _⟩ => ⟨S8x8192x1024, .f32⟩
  | .hbm, ⟨49, _⟩ => ⟨S1x1024x4096, .f32⟩
  | .hbm, ⟨50, _⟩ => ⟨S1024x4096, .f32⟩
  | .hbm, ⟨51, _⟩ => ⟨S8x8192x4096, .f32⟩
  | .hbm, ⟨52, _⟩ => ⟨S_, .f32⟩
  | .hbm, ⟨53, _⟩ => ⟨S8x8192x4096, .f32⟩
  | .hbm, ⟨54, _⟩ => ⟨S8x8192x4096, .f32⟩
  | .hbm, ⟨55, _⟩ => ⟨S8x8192x4096, .f32⟩
  | .hbm, ⟨56, _⟩ => ⟨S1x4096x1024, .f32⟩
  | .hbm, ⟨57, _⟩ => ⟨S4096x1024, .f32⟩
  | .hbm, ⟨58, _⟩ => ⟨S8x8192x1024, .f32⟩
  | .hbm, ⟨59, _⟩ => ⟨S1x1x1024, .f32⟩
  | .hbm, ⟨60, _⟩ => ⟨S1024, .f32⟩
  | .hbm, ⟨61, _⟩ => ⟨S8x8192x1024, .f32⟩
  | .hbm, ⟨62, _⟩ => ⟨S_, .f32⟩
  | .hbm, ⟨63, _⟩ => ⟨S8x8192, .f32⟩
  | .hbm, ⟨64, _⟩ => ⟨S8x8192x1, .f32⟩
  | .hbm, ⟨65, _⟩ => ⟨S_, .f32⟩
  | .hbm, ⟨66, _⟩ => ⟨S8x8192x1, .f32⟩
  | .hbm, ⟨67, _⟩ => ⟨S8x8192x1, .f32⟩
  | .hbm, ⟨68, _⟩ => ⟨S_, .f32⟩
  | .hbm, ⟨69, _⟩ => ⟨S8x8192x1, .f32⟩
  | .hbm, ⟨70, _⟩ => ⟨S8x8192x1, .f32⟩
  | .hbm, ⟨71, _⟩ => ⟨S8x8192x1, .f32⟩
  | .hbm, ⟨72, _⟩ => ⟨S8x8192x1024, .f32⟩
  | .hbm, ⟨73, _⟩ => ⟨S8x8192x1024, .f32⟩
  | .hbm, ⟨74, _⟩ => ⟨S1x1x1024, .f32⟩
  | .hbm, ⟨75, _⟩ => ⟨S8x8192x1024, .f32⟩
  | .hbm, ⟨76, _⟩ => ⟨S8x8192x1024, .f32⟩
  | .hbm, ⟨77, _⟩ => ⟨S8x8192x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_call0_cst : Ref sig .tc := ⟨.hbm, 52, rfl⟩
abbrev main_call0_v0 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_5 : Ref sig .tc := ⟨.hbm, 62, rfl⟩
abbrev main_v46 : Ref sig .tc := ⟨.hbm, 63, rfl⟩
abbrev main_v47 : Ref sig .tc := ⟨.hbm, 64, rfl⟩
abbrev main_cst_6 : Ref sig .tc := ⟨.hbm, 65, rfl⟩
abbrev main_v48 : Ref sig .tc := ⟨.hbm, 66, rfl⟩
abbrev main_v49 : Ref sig .tc := ⟨.hbm, 67, rfl⟩
abbrev main_cst_7 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩

abbrev nD : Nat := 1
abbrev τ : Topo := Topo.v7x

variable {F : FTy → Type} [FloatOps F]
-- ==== Kernel4.lean ====
abbrev S8x2048x1024 : Shape := ⟨3, ![8, 2048, 1024]⟩
abbrev S8x2048x768 : Shape := ⟨3, ![8, 2048, 768]⟩
abbrev S8x2048x256 : Shape := ⟨3, ![8, 2048, 256]⟩
abbrev S2x2x1024 : Shape := ⟨3, ![2, 2, 1024]⟩
abbrev S2x1024x4096 : Shape := ⟨3, ![2, 1024, 4096]⟩
abbrev S2x4096x1024 : Shape := ⟨3, ![2, 4096, 1024]⟩
abbrev S1x1024x1024 : Shape := ⟨3, ![1, 1024, 1024]⟩
abbrev S1024x1024 : Shape := ⟨2, ![1024, 1024]⟩
abbrev S768x1024 : Shape := ⟨2, ![768, 1024]⟩
abbrev S256x1024 : Shape := ⟨2, ![256, 1024]⟩
abbrev S1x1x1024 : Shape := ⟨3, ![1, 1, 1024]⟩
abbrev S1024 : Shape := ⟨1, ![1024]⟩
abbrev S1x1024 : Shape := ⟨2, ![1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S1x512x1024 : Shape := ⟨3, ![1, 512, 1024]⟩
abbrev S1x512x768 : Shape := ⟨3, ![1, 512, 768]⟩
abbrev S1x512x256 : Shape := ⟨3, ![1, 512, 256]⟩
abbrev S512x768 : Shape := ⟨2, ![512, 768]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 30
  | .vmem => 15
  | .smem => 0
  | _ => 0

abbrev bufTy : (tb : Table) → Fin (tcTables nBuf tb) → BufTy
  | .hbm, ⟨0, _⟩ => ⟨S8x2048x1024, .f32⟩
  | .hbm, ⟨1, _⟩ => ⟨S8x2048x768, .bf16⟩
  | .hbm, ⟨2, _⟩ => ⟨S8x2048x256, .bf16⟩
  | .hbm, ⟨3, _⟩ => ⟨S2x2x1024, .f32⟩
  | .hbm, ⟨4, _⟩ => ⟨S2x2x1024, .f32⟩
  | .hbm, ⟨5, _⟩ => ⟨S2x1024x4096, .f32⟩
  | .hbm, ⟨6, _⟩ => ⟨S2x4096x1024, .f32⟩
  | .hbm, ⟨7, _⟩ => ⟨S1x1024x1024, .f32⟩
  | .hbm, ⟨8, _⟩ => ⟨S1024x1024, .f32⟩
  | .hbm, ⟨9, _⟩ => ⟨S768x1024, .f32⟩
  | .hbm, ⟨10, _⟩ => ⟨S768x1024, .bf16⟩
  | .hbm, ⟨11, _⟩ => ⟨S1024x1024, .f32⟩
  | .hbm, ⟨12, _⟩ => ⟨S256x1024, .f32⟩
  | .hbm, ⟨13, _⟩ => ⟨S256x1024, .bf16⟩
  | .hbm, ⟨14, _⟩ => ⟨S1x1x1024, .f32⟩
  | .hbm, ⟨15, _⟩ => ⟨S1024, .f32⟩
  | .hbm, ⟨16, _⟩ => ⟨S1x1024, .f32⟩
  | .hbm, ⟨17, _⟩ => ⟨S1x1x1024, .f32⟩
  | .hbm, ⟨18, _⟩ => ⟨S1024, .f32⟩
  | .hbm, ⟨19, _⟩ => ⟨S1x1024, .f32⟩
  | .hbm, ⟨20, _⟩ => ⟨S1x1024x4096, .f32⟩
  | .hbm, ⟨21, _⟩ => ⟨S1024x4096, .f32⟩
  | .hbm, ⟨22, _⟩ => ⟨S1024x4096, .bf16⟩
  | .hbm, ⟨23, _⟩ => ⟨S1x4096x1024, .f32⟩
  | .hbm, ⟨24, _⟩ => ⟨S4096x1024, .f32⟩
  | .hbm, ⟨25, _⟩ => ⟨S4096x1024, .bf16⟩
  | .hbm, ⟨26, _⟩ => ⟨S1x1x1024, .f32⟩
  | .hbm, ⟨27, _⟩ => ⟨S1024, .f32⟩
  | .hbm, ⟨28, _⟩ => ⟨S1x1024, .f32⟩
  | .hbm, ⟨29, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x768, .bf16⟩
  | .local _ .vmem, ⟨3, _⟩ => ⟨S1x512x768, .bf16⟩
  | .local _ .vmem, ⟨4, _⟩ => ⟨S1x512x256, .bf16⟩
  | .local _ .vmem, ⟨5, _⟩ => ⟨S1x512x256, .bf16⟩
  | .local _ .vmem, ⟨6, _⟩ => ⟨S768x1024, .bf16⟩
  | .local _ .vmem, ⟨7, _⟩ => ⟨S256x1024, .bf16⟩
  | .local _ .vmem, ⟨8, _⟩ => ⟨S1x1024, .f32⟩
  | .local _ .vmem, ⟨9, _⟩ => ⟨S1x1024, .f32⟩
  | .local _ .vmem, ⟨10, _⟩ => ⟨S1024x4096, .bf16⟩
  | .local _ .vmem, ⟨11, _⟩ => ⟨S4096x1024, .bf16⟩
  | .local _ .vmem, ⟨12, _⟩ => ⟨S1x1024, .f32⟩
  | .local _ .vmem, ⟨13, _⟩ => ⟨S1x512x1024, .f32⟩
  | .local _ .vmem, ⟨14, _⟩ => ⟨S1x512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S768x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference4Ideal.lean ====
abbrev S8x2048x1024 : Shape := ⟨3, ![8, 2048, 1024]⟩
abbrev S8x2048x768 : Shape := ⟨3, ![8, 2048, 768]⟩
abbrev S8x2048x256 : Shape := ⟨3, ![8, 2048, 256]⟩
abbrev S2x2x1024 : Shape := ⟨3, ![2, 2, 1024]⟩
abbrev S2x1024x4096 : Shape := ⟨3, ![2, 1024, 4096]⟩
abbrev S2x4096x1024 : Shape := ⟨3, ![2, 4096, 1024]⟩
abbrev S1x1024x1024 : Shape := ⟨3, ![1, 1024, 1024]⟩
abbrev S1024x1024 : Shape := ⟨2, ![1024, 1024]⟩
abbrev S1x1x1024 : Shape := ⟨3, ![1, 1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1024x4096 : Shape := ⟨3, ![1, 1024, 4096]⟩
abbrev S1024x4096 : Shape := ⟨2, ![1024, 4096]⟩
abbrev S8x2048x4096 : Shape := ⟨3, ![8, 2048, 4096]⟩
abbrev S1x4096x1024 : Shape := ⟨3, ![1, 4096, 1024]⟩
abbrev S4096x1024 : Shape := ⟨2, ![4096, 1024]⟩

abbrev nBuf : Space → Nat
  | .hbm => 78
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x768, .bf16⟩
  | .hbm, ⟨2, _⟩ => ⟨S8x2048x256, .bf16⟩
  | .hbm, ⟨3, _⟩ => ⟨S2x2x1024, .f32⟩
  | .hbm, ⟨4, _⟩ => ⟨S2x2x1024, .f32⟩
  | .hbm, ⟨5, _⟩ => ⟨S2x1024x4096, .f32⟩
  | .hbm, ⟨6, _⟩ => ⟨S2x4096x1024, .f32⟩
  | .hbm, ⟨7, _⟩ => ⟨S1x1024x1024, .f32⟩
  | .hbm, ⟨8, _⟩ => ⟨S8x2048x1024, .bf16⟩
  | .hbm, ⟨9, _⟩ => ⟨S8x2048x1024, .f32⟩
  | .hbm, ⟨10, _⟩ => ⟨S1024x1024, .f32⟩
  | .hbm, ⟨11, _⟩ => ⟨S8x2048x1024, .f32⟩
  | .hbm, ⟨12, _⟩ => ⟨S1x1x1024, .f32⟩
  | .hbm, ⟨13, _⟩ => ⟨S1024, .f32⟩
  | .hbm, ⟨14, _⟩ => ⟨S8x2048x1024, .f32⟩
  | .hbm, ⟨15, _⟩ => ⟨S_, .f32⟩
  | .hbm, ⟨16, _⟩ => ⟨S8x2048, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S_, .f32⟩
  | .hbm, ⟨22, _⟩ => ⟨S8x2048x1, .f32⟩
  | .hbm, ⟨23, _⟩ => ⟨S8x2048x1, .f32⟩
  | .hbm, ⟨24, _⟩ => ⟨S8x2048x1, .f32⟩
  | .hbm, ⟨25, _⟩ => ⟨S8x2048x1024, .f32⟩
  | .hbm, ⟨26, _⟩ => ⟨S8x2048x1024, .f32⟩
  | .hbm, ⟨27, _⟩ => ⟨S1x1x1024, .f32⟩
  | .hbm, ⟨28, _⟩ => ⟨S8x2048x1024, .f32⟩
  | .hbm, ⟨29, _⟩ => ⟨S8x2048x1024, .f32⟩
  | .hbm, ⟨30, _⟩ => ⟨S8x2048x1024, .f32⟩
  | .hbm, ⟨31, _⟩ => ⟨S1x1x1024, .f32⟩
  | .hbm, ⟨32, _⟩ => ⟨S1024, .f32⟩
  | .hbm, ⟨33, _⟩ => ⟨S8x2048x1024, .f32⟩
  | .hbm, ⟨34, _⟩ => ⟨S_, .f32⟩
  | .hbm, ⟨35, _⟩ => ⟨S8x2048, .f32⟩
  | .hbm, ⟨36, _⟩ => ⟨S8x2048x1, .f32⟩
  | .hbm, ⟨37, _⟩ => ⟨S_, .f32⟩
  | .hbm, ⟨38, _⟩ => ⟨S8x2048x1, .f32⟩
  | .hbm, ⟨39, _⟩ => ⟨S8x2048x1, .f32⟩
  | .hbm, ⟨40, _⟩ => ⟨S_, .f32⟩
  | .hbm, ⟨41, _⟩ => ⟨S8x2048x1, .f32⟩
  | .hbm, ⟨42, _⟩ => ⟨S8x2048x1, .f32⟩
  | .hbm, ⟨43, _⟩ => ⟨S8x2048x1, .f32⟩
  | .hbm, ⟨44, _⟩ => ⟨S8x2048x1024, .f32⟩
  | .hbm, ⟨45, _⟩ => ⟨S8x2048x1024, .f32⟩
  | .hbm, ⟨46, _⟩ => ⟨S1x1x1024, .f32⟩
  | .hbm, ⟨47, _⟩ => ⟨S8x2048x1024, .f32⟩
  | .hbm, ⟨48, _⟩ => ⟨S8x2048x1024, .f32⟩
  | .hbm, ⟨49, _⟩ => ⟨S1x1024x4096, .f32⟩
  | .hbm, ⟨50, _⟩ => ⟨S1024x4096, .f32⟩
  | .hbm, ⟨51, _⟩ => ⟨S8x2048x4096, .f32⟩
  | .hbm, ⟨52, _⟩ => ⟨S_, .f32⟩
  | .hbm, ⟨53, _⟩ => ⟨S8x2048x4096, .f32⟩
  | .hbm, ⟨54, _⟩ => ⟨S8x2048x4096, .f32⟩
  | .hbm, ⟨55, _⟩ => ⟨S8x2048x4096, .f32⟩
  | .hbm, ⟨56, _⟩ => ⟨S1x4096x1024, .f32⟩
  | .hbm, ⟨57, _⟩ => ⟨S4096x1024, .f32⟩
  | .hbm, ⟨58, _⟩ => ⟨S8x2048x1024, .f32⟩
  | .hbm, ⟨59, _⟩ => ⟨S1x1x1024, .f32⟩
  | .hbm, ⟨60, _⟩ => ⟨S1024, .f32⟩
  | .hbm, ⟨61, _⟩ => ⟨S8x2048x1024, .f32⟩
  | .hbm, ⟨62, _⟩ => ⟨S_, .f32⟩
  | .hbm, ⟨63, _⟩ => ⟨S8x2048, .f32⟩
  | .hbm, ⟨64, _⟩ => ⟨S8x2048x1, .f32⟩
  | .hbm, ⟨65, _⟩ => ⟨S_, .f32⟩
  | .hbm, ⟨66, _⟩ => ⟨S8x2048x1, .f32⟩
  | .hbm, ⟨67, _⟩ => ⟨S8x2048x1, .f32⟩
  | .hbm, ⟨68, _⟩ => ⟨S_, .f32⟩
  | .hbm, ⟨69, _⟩ => ⟨S8x2048x1, .f32⟩
  | .hbm, ⟨70, _⟩ => ⟨S8x2048x1, .f32⟩
  | .hbm, ⟨71, _⟩ => ⟨S8x2048x1, .f32⟩
  | .hbm, ⟨72, _⟩ => ⟨S8x2048x1024, .f32⟩
  | .hbm, ⟨73, _⟩ => ⟨S8x2048x1024, .f32⟩
  | .hbm, ⟨74, _⟩ => ⟨S1x1x1024, .f32⟩
  | .hbm, ⟨75, _⟩ => ⟨S8x2048x1024, .f32⟩
  | .hbm, ⟨76, _⟩ => ⟨S8x2048x1024, .f32⟩
  | .hbm, ⟨77, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_call0_cst : Ref sig .tc := ⟨.hbm, 52, rfl⟩
abbrev main_call0_v0 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_5 : Ref sig .tc := ⟨.hbm, 62, rfl⟩
abbrev main_v46 : Ref sig .tc := ⟨.hbm, 63, rfl⟩
abbrev main_v47 : Ref sig .tc := ⟨.hbm, 64, rfl⟩
abbrev main_cst_6 : Ref sig .tc := ⟨.hbm, 65, rfl⟩
abbrev main_v48 : Ref sig .tc := ⟨.hbm, 66, rfl⟩
abbrev main_v49 : Ref sig .tc := ⟨.hbm, 67, rfl⟩
abbrev main_cst_7 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩

abbrev nD : Nat := 1
abbrev τ : Topo := Topo.v7x

variable {F : FTy → Type} [FloatOps F]
-- ==== Proof.Mem.lean ====
module

public import proofs.«01_k».proof.Proof.Gen.KernelIdeal.Frame

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The kernel's buffers as one family -/

/-- The buffers the attention body reads and writes: its four blocks, sixteen slots of each of the four kinds, the
    running maximum and the accumulator. -/
inductive J where
  | q | k | v | o | m | acc
  | s (x : Fin 16) | c (x : Fin 16) | p (x : Fin 16) | a (x : Fin 16)
  deriving DecidableEq

/-- The buffers the kernel allocates for itself, in its order. -/
def J.scratch : List J :=
  (List.finRange 16).map .s ++ ((List.finRange 16).map .c ++ ((List.finRange 16).map .p ++ ((List.finRange 16).map .a ++ [.m, .acc])))

instance : Fintype J := ⟨([J.q, J.k, J.v, J.o] ++ J.scratch).toFinset, by intro j; cases j <;> simp [J.scratch]⟩

/-- The shape of each buffer. -/
@[reducible] def sh : J → Shape
  | .q => S1x2x16x128x512 | .k => S1x2x8192x128 | .v => S1x16x160x512 | .o => S1x2x16x64x512
  | .m => S1x512 | .acc => S80x512
  | .s _ => S512x512 | .c _ => S1x512 | .p _ => S512x512 | .a _ => S1x512

/-- The element type of each buffer. -/
@[reducible] def el : J → EltTy
  | .q => .bf16 | .k => .bf16 | .v => .bf16 | .o => .bf16
  | .m => .f32 | .acc => .f32
  | .s _ => .f32 | .c _ => .f32 | .p _ => .bf16 | .a _ => .f32

/-- A memory reference for each buffer. -/
abbrev Mems := (j : J) → Memref sig .tc .vmem (sh j) (el j)

variable {F : FTy → Type} [FloatOps F]

/-- What every buffer reads. -/
abbrev St (F : FTy → Type) := (j : J) → (sh j).Idx → Elt F (el j)

local notation "𝕄" => MT nD τ sig Unit (Elt F) ℕ (UR sig nD τ) ℕ

/-- Every buffer owned, reading the state. -/
def Own (c : Dev nD) (B : Mems) (σ : St F) : sProp 𝕄 :=
  bigSep Finset.univ fun j => owns (c : Thread nD τ) (B j) fullShare (σ j)

/-- The state with one buffer's contents replaced. -/
def St.set (σ : St F) (j : J) (w : (sh j).Idx → Elt F (el j)) : St F := Function.update σ j w

@[simp] theorem St.set_same (σ : St F) (j : J) (w : (sh j).Idx → Elt F (el j)) : σ.set j w j = w := Function.update_self ..

theorem St.set_ne (σ : St F) {j j' : J} (w : (sh j).Idx → Elt F (el j)) (h : j' ≠ j) : σ.set j w j' = σ j' := Function.update_of_ne h ..

theorem own_take (c : Dev nD) (B : Mems) (σ : St F) (j : J) :
    (Own c B σ : sProp 𝕄) = iprop(owns (c : Thread nD τ) (B j) fullShare (σ j)
      ∗ bigSep (Finset.univ.erase j) fun i => owns (c : Thread nD τ) (B i) fullShare (σ i)) :=
  bigSep_erase (Finset.mem_univ j)

theorem own_put (c : Dev nD) (B : Mems) (σ : St F) (j : J) (w : (sh j).Idx → Elt F (el j)) :
    iprop(owns (c : Thread nD τ) (B j) fullShare w
      ∗ bigSep (Finset.univ.erase j) fun i => owns (c : Thread nD τ) (B i) fullShare (σ i)) ⊢ (Own c B (σ.set j w) : sProp 𝕄) := by
  rw [own_take c B _ j, St.set_same]
  refine sep_mono_right (Entails.of_eq (bigSep_congr fun i hi => ?_))
  rw [St.set_ne _ _ (Finset.ne_of_mem_erase hi)]

theorem lift_bind {α β : Type} (e : TpuEff nD τ sig (Elt F) Λ₀ .tc β) (k : β → Prog (TpuEff nD τ sig (Elt F) Λ₀ .tc) α) :
    (Prog.lift e >>= k) = .op e k := rfl

section Rules

variable {α : Type} (c : Dev nD) (B : Mems) (σ : St F)

/-- A load of a buffer reads the state there. -/
theorem own_load {Q : α → sProp 𝕄} (j : J) {r : Rect (sh j)} {hl : (B j).view.LoadsAt r.toLoadRect}
    {k : (r.shape.Idx → Elt F (el j)) → Prog (TpuEff nD τ sig (Elt F) Λ₀ .tc) α}
    (h : Own c B σ ⊢ wp frame (wpE (defs₀ (F := F)) Variants.none c none) Set.univ (k fun x => σ j (r.idx x)) Q) :
    Own c B σ ⊢ wp frame (wpE (defs₀ (F := F)) Variants.none c none) Set.univ (Prog.lift (.load (B j) r.toLoadRect hl) >>= k) Q := by
  rw [own_take c B σ j] at h ⊢
  unfold owns at h ⊢
  rw [lift_bind]
  iintro ⟨H, HR⟩
  icases H with ⟨%f, %hf, H⟩
  iapply (wp_load (defs := defs₀ (F := F)) Variants.none (c : Thread nD τ) none Set.univ (View.setOn_subset_set _ _)) $$ H
  iintro H
  rw [show (B j).view.readAt (Elt F) r.toLoadRect f = fun x => σ j (r.idx x) by rw [View.readAt_eq_ld, hf]]
  iapply h
  isplitl [H]
  · iexists f
    isplitr
    · ipureintro; exact hf
    iexact H
  iexact HR

/-- A store to a buffer replaces the state on the stored rectangle. -/
theorem own_store {Q : α → sProp 𝕄} (j : J) {r : Rect (sh j)} {w : r.shape.Idx → Elt F (el j)}
    {hx : ((B j).access r).Stores Finset.univ} {hm : Finset.univ = Finset.univ ∨ ∀ a, r.stride a = 1}
    {k : PUnit → Prog (TpuEff nD τ sig (Elt F) Λ₀ .tc) α}
    (h : Own c B (σ.set j (r.overlay (σ j) w)) ⊢ wp frame (wpE (defs₀ (F := F)) Variants.none c none) Set.univ (k ⟨⟩) Q) :
    Own c B σ ⊢ wp frame (wpE (defs₀ (F := F)) Variants.none c none) Set.univ (Prog.lift (.store (B j) r w Finset.univ hx hm) >>= k) Q := by
  rw [own_take c B σ j]
  conv_lhs => arg 1; unfold owns
  rw [lift_bind]
  iintro ⟨H, HR⟩
  icases H with ⟨%f, %hf, H⟩
  iapply (wp_store (defs := defs₀ (F := F)) Variants.none (c : Thread nD τ) none Set.univ (show ((B j).access r).setOn Finset.univ ⊆ (B j).view.set from View.set_slice_subset _ _)) $$ H
  iintro H
  iapply h
  iapply (own_put c B σ j)
  isplitl [H]
  · unfold owns
    iexists _
    isplitr
    rotate_left
    · iexact H
    ipureintro
    funext y
    by_cases hy : y ∈ r.set
    · obtain ⟨i, rfl⟩ := r.exists_idx_of_mem hy
      exact (View.read_slice_write_emb r f w (Finset.mem_univ i)).trans (Rect.overlay_emb r _ w i).symm
    · rw [Rect.overlay_of_not_mem _ _ _ hy, ← hf]
      exact View.read_slice_write_of_not_mem r f w _ (by rwa [Rect.map_emb_univ])
  iexact HR

/-- A program that ends gives its postcondition from the state. -/
theorem own_pure {Q : α → sProp 𝕄} {a : α} (h : Own c B σ ⊢ Q a) :
    Own c B σ ⊢ wp frame (wpE (defs₀ (F := F)) Variants.none c none) Set.univ (pure a : Prog (TpuEff nD τ sig (Elt F) Λ₀ .tc) α) Q :=
  h.trans (le_wp_ret _ _ _ a Q)

end Rules

end Cert.Attn

end
-- ==== Proof.Steps.lean ====
module

public import proofs.«01_k».proof.Proof.Mem

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Programs of the attention body. -/
abbrev P (F : FTy → Type) (α : Type) := Prog (TpuEff nD τ sig (Elt F) Λ₀ .tc) α

/-! ## The values of one step -/

/-- The scores of one chunk of keys against one tile of queries. -/
def scoresV (q : Vec F S1x1x1x128x512 .bf16) (k : Vec F S1x1x512x128 .bf16) : FVec F S512x512 .f32 :=
  matmul dot_S512x128_S128x512_S512x512_1_0_0_1_n_n none (shapeCast S512x128 k shapeCasts_S1x1x512x128_S512x128 : FVec F S512x128 .bf16)
    (shapeCast S128x512 q shapeCasts_S1x1x1x128x512_S128x512 : FVec F S128x512 .bf16) (constant S512x512 .f32 0x00000000#32)

/-- The maximum of each column of scores. -/
def colmaxV (s : FVec F S512x512 .f32) : FVec F S1x512 .f32 :=
  shapeCast S1x512 (multiReduction .maximumf [0] S512 s 0xFF800000#32 reduces_S512x512_S512 (.inl rfl) rfl) shapeCasts_S512_S1x512

/-- The maximum so far: minus infinity at the first chunk of a tile. -/
def oldmaxV (b : BitVec 1) (m : FVec F S1x512 .f32) : FVec F S1x512 .f32 :=
  Scalar.select b (broadcast S1x512 (Scalar.ofBits .f32 0xFF800000#32)) m

/-- The weights of a strip of scores under a maximum. -/
def stripV (s : Vec F S128x512 .f32) (mn : FVec F S1x512 .f32) : FVec F S128x512 .bf16 :=
  truncf .bf16 (exp2 (subf s (broadcastTo S128x512 mn broadcasts_S1x512_S128x512))) bitsLt_bf16_f32

/-- The accumulator after one chunk. -/
def accV (v : Vec F S1x1x80x512 .bf16) (a : Vec F S1x512 .f32) (acc : Vec F S80x512 .f32) (p : Vec F S512x512 .bf16) : FVec F S80x512 .f32 :=
  addf (mulf (broadcastTo S80x512 a broadcasts_S1x512_S80x512) acc)
    (matmul dot_S80x512_S512x512_S80x512_1_0_0_1_n_n none (shapeCast S80x512 v shapeCasts_S1x1x80x512_S80x512 : FVec F S80x512 .bf16) (p : FVec F S512x512 .bf16) (constant S80x512 .f32 0x00000000#32))

/-- The output tile of an accumulator's value rows and its row of sums. -/
def outV (rows : Vec F S64x512 .f32) (den : Vec F S1x512 .f32) : FVec F S64x512 .bf16 :=
  truncf .bf16 (divf rows (broadcastTo S64x512 den broadcasts_S1x512_S64x512)) bitsLt_bf16_f32

/-! ## The programs of one step -/

section Programs

variable (B : Mems) (W : ∀ j, (B j).IsWhole)

/-- The accumulator and the running maximum set to zero. -/
def initP : P F PUnit := do
  let _ ← Prog.lift (.load (B .acc) (Rect.unit (s := S80x512) ![0, 0] S80x512.size inb_S80x512_S80x512_0_0).toLoadRect (View.loadsAt_vmem h_S80x512))
  Prog.lift (.store (B .acc) (Rect.unit (s := S80x512) ![0, 0] S80x512.size inb_S80x512_S80x512_0_0) (shapeCast S80x512 (broadcast S80x512 (Scalar.ofBits (F := F) .f32 0x00000000#32)) shapeCasts_S80x512_S80x512) Finset.univ (View.stores_vmem_bits_univ h_S80x512 rfl) (.inl rfl))
  let _ ← Prog.lift (.load (B .m) (Rect.unit (s := S1x512) ![0, 0] S1x512.size inb_S1x512_S1x512_0_0).toLoadRect (View.loadsAt_vmem h_S1x512))
  Prog.lift (.store (B .m) (Rect.unit (s := S1x512) ![0, 0] S1x512.size inb_S1x512_S1x512_0_0) (shapeCast S1x512 (broadcast S1x512 (Scalar.ofBits (F := F) .f32 0x00000000#32)) shapeCasts_S1x512_S1x512) Finset.univ (View.stores_vmem_bits_univ h_S1x512 rfl) (.inl rfl))

/-- The scores of one step. -/
def scoresP (x : Fin 16) (o1 : Fin 5 → ℕ) (h1 : ∀ a, o1 a + S1x1x1x128x512.size a ≤ S1x2x16x128x512.size a)
    (o2 : Fin 4 → ℕ) (h2 : ∀ a, o2 a + S1x1x512x128.size a ≤ S1x2x8192x128.size a) : P F PUnit := do
  let q : Vec F S1x1x1x128x512 .bf16 ← Prog.lift (.load (B .q) (Rect.unit (s := S1x2x16x128x512) o1 S1x1x1x128x512.size h1).toLoadRect (View.loadsAt_vmem h_S1x1x1x128x512))
  let k : Vec F S1x1x512x128 .bf16 ← Prog.lift (.load (B .k) (Rect.unit (s := S1x2x8192x128) o2 S1x1x512x128.size h2).toLoadRect (View.loadsAt_vmem h_S1x1x512x128))
  let _ ← Prog.lift (.load (B (.s x)) (Rect.unit (s := S512x512) ![0, 0] S512x512.size inb_S512x512_S512x512_0_0).toLoadRect (View.loadsAt_vmem h_S512x512))
  Prog.lift (.store (B (.s x)) (Rect.unit (s := S512x512) ![0, 0] S512x512.size inb_S512x512_S512x512_0_0) (shapeCast S512x512 (scoresV q k) shapeCasts_S512x512_S512x512) Finset.univ (View.stores_vmem_bits_univ h_S512x512 rfl) (.inl rfl))
  let _ ← Prog.lift (.load (B (.c x)) (Rect.unit (s := S1x512) ![0, 0] S1x512.size inb_S1x512_S1x512_0_0).toLoadRect (View.loadsAt_vmem h_S1x512))
  Prog.lift (.store (B (.c x)) (Rect.unit (s := S1x512) ![0, 0] S1x512.size inb_S1x512_S1x512_0_0) (shapeCast S1x512 (colmaxV (scoresV q k)) shapeCasts_S1x512_S1x512) Finset.univ (View.stores_vmem_bits_univ h_S1x512 rfl) (.inl rfl))

/-- The weights of one strip of one step. -/
def stripP (x : Fin 16) (mn : FVec F S1x512 .f32) (o : Fin 2 → ℕ) (h : ∀ a, o a + S128x512.size a ≤ S512x512.size a)
    (hp : (Rect.unit (s := S512x512) o S128x512.size h).PackedRows (EltTy.packing .bf16)) : P F PUnit := do
  let s : Vec F S128x512 .f32 ← Prog.lift (.load (B (.s x)) (Rect.unit (s := S512x512) o S128x512.size h).toLoadRect (View.loadsAt_vmem h_S128x512))
  let _ ← Prog.lift (.load (B (.p x)) (Rect.unit (s := S512x512) o S128x512.size h).toLoadRect (View.loadsAt_vmem h_S128x512))
  Prog.lift (.store (B (.p x)) (Rect.unit (s := S512x512) o S128x512.size h) (shapeCast S128x512 (stripV s mn) shapeCasts_S128x512_S128x512) Finset.univ (View.stores_vmem h_S128x512 ((W (.p x)).storeExact_slice rfl _ hp) (fun _ => rfl)) (.inl rfl))

/-- The weights of one step. -/
def softmaxP (x : Fin 16) (b : BitVec 1) : P F PUnit := do
  let m : Vec F S1x512 .f32 ← Prog.lift (.load (B .m) (Rect.unit (s := S1x512) ![0, 0] S1x512.size inb_S1x512_S1x512_0_0).toLoadRect (View.loadsAt_vmem h_S1x512))
  let c : Vec F S1x512 .f32 ← Prog.lift (.load (B (.c x)) (Rect.unit (s := S1x512) ![0, 0] S1x512.size inb_S1x512_S1x512_0_0).toLoadRect (View.loadsAt_vmem h_S1x512))
  let _ ← Prog.lift (.load (B .m) (Rect.unit (s := S1x512) ![0, 0] S1x512.size inb_S1x512_S1x512_0_0).toLoadRect (View.loadsAt_vmem h_S1x512))
  Prog.lift (.store (B .m) (Rect.unit (s := S1x512) ![0, 0] S1x512.size inb_S1x512_S1x512_0_0) (shapeCast S1x512 (maximumf (oldmaxV b m) c) shapeCasts_S1x512_S1x512) Finset.univ (View.stores_vmem_bits_univ h_S1x512 rfl) (.inl rfl))
  let _ ← Prog.lift (.load (B (.a x)) (Rect.unit (s := S1x512) ![0, 0] S1x512.size inb_S1x512_S1x512_0_0).toLoadRect (View.loadsAt_vmem h_S1x512))
  Prog.lift (.store (B (.a x)) (Rect.unit (s := S1x512) ![0, 0] S1x512.size inb_S1x512_S1x512_0_0) (shapeCast S1x512 (exp2 (subf (oldmaxV b m) (maximumf (oldmaxV b m) c))) shapeCasts_S1x512_S1x512) Finset.univ (View.stores_vmem_bits_univ h_S1x512 rfl) (.inl rfl))
  stripP B W x (maximumf (oldmaxV b m) c) ![0, 0] inb_S512x512_S128x512_0_0 packedbf16_S512x512_S128x512_0_0
  stripP B W x (maximumf (oldmaxV b m) c) ![128, 0] inb_S512x512_S128x512_128_0 packedbf16_S512x512_S128x512_128_0
  stripP B W x (maximumf (oldmaxV b m) c) ![256, 0] inb_S512x512_S128x512_256_0 packedbf16_S512x512_S128x512_256_0
  stripP B W x (maximumf (oldmaxV b m) c) ![384, 0] inb_S512x512_S128x512_384_0 packedbf16_S512x512_S128x512_384_0

/-- The weighted values of one step. -/
def valuesP (x : Fin 16) (o3 : Fin 4 → ℕ) (h3 : ∀ a, o3 a + S1x1x80x512.size a ≤ S1x16x160x512.size a) : P F PUnit := do
  let v : Vec F S1x1x80x512 .bf16 ← Prog.lift (.load (B .v) (Rect.unit (s := S1x16x160x512) o3 S1x1x80x512.size h3).toLoadRect (View.loadsAt_vmem h_S1x1x80x512))
  let a : Vec F S1x512 .f32 ← Prog.lift (.load (B (.a x)) (Rect.unit (s := S1x512) ![0, 0] S1x512.size inb_S1x512_S1x512_0_0).toLoadRect (View.loadsAt_vmem h_S1x512))
  let acc : Vec F S80x512 .f32 ← Prog.lift (.load (B .acc) (Rect.unit (s := S80x512) ![0, 0] S80x512.size inb_S80x512_S80x512_0_0).toLoadRect (View.loadsAt_vmem h_S80x512))
  let p : Vec F S512x512 .bf16 ← Prog.lift (.load (B (.p x)) (Rect.unit (s := S512x512) ![0, 0] S512x512.size inb_S512x512_S512x512_0_0).toLoadRect (View.loadsAt_vmem h_S512x512))
  let _ ← Prog.lift (.load (B .acc) (Rect.unit (s := S80x512) ![0, 0] S80x512.size inb_S80x512_S80x512_0_0).toLoadRect (View.loadsAt_vmem h_S80x512))
  Prog.lift (.store (B .acc) (Rect.unit (s := S80x512) ![0, 0] S80x512.size inb_S80x512_S80x512_0_0) (shapeCast S80x512 (accV v a acc p) shapeCasts_S80x512_S80x512) Finset.univ (View.stores_vmem_bits_univ h_S80x512 rfl) (.inl rfl))

/-- The output tile written. -/
def outP (o4 : Fin 5 → ℕ) (h4 : ∀ a, o4 a + S1x1x1x64x512.size a ≤ S1x2x16x64x512.size a)
    (hp : (Rect.unit (s := S1x2x16x64x512) o4 S1x1x1x64x512.size h4).PackedRows (EltTy.packing .bf16)) : P F PUnit := do
  let rows : Vec F S64x512 .f32 ← Prog.lift (.load (B .acc) (Rect.unit (s := S80x512) ![0, 0] S64x512.size inb_S80x512_S64x512_0_0).toLoadRect (View.loadsAt_vmem h_S64x512))
  let den : Vec F S1x512 .f32 ← Prog.lift (.load (B .acc) (Rect.unit (s := S80x512) ![64, 0] S1x512.size inb_S80x512_S1x512_64_0).toLoadRect (View.loadsAt_vmem h_S1x512))
  let _ ← Prog.lift (.load (B .o) (Rect.unit (s := S1x2x16x64x512) o4 S1x1x1x64x512.size h4).toLoadRect (View.loadsAt_vmem h_S1x1x1x64x512))
  Prog.lift (.store (B .o) (Rect.unit (s := S1x2x16x64x512) o4 S1x1x1x64x512.size h4) (shapeCast S1x1x1x64x512 (outV rows den) shapeCasts_S64x512_S1x1x1x64x512) Finset.univ (View.stores_vmem h_S1x1x1x64x512 ((W .o).storeExact_slice rfl _ hp) (fun _ => rfl)) (.inl rfl))

end Programs

end Cert.Attn

end
-- ==== Proof.Prog.lean ====
module

public import proofs.«01_k».proof.Proof.Steps

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The attention body as its steps -/

/-- Eight programs in order. -/
def seq8 (f : Fin 8 → P F PUnit) : P F PUnit := do
  f 0
  f 1
  f 2
  f 3
  f 4
  f 5
  f 6
  f 7

/-- The slot of step `g` of an even block. -/
def lo (g : Fin 8) : Fin 16 := ⟨g.val, by omega⟩
/-- The slot of step `g` of an odd block. -/
def hi (g : Fin 8) : Fin 16 := ⟨g.val + 8, by omega⟩

/-- Whether a step is the first chunk of its tile, as the kernel computes it of the block number. -/
def firstB (i g : BitVec 32) : BitVec 1 :=
  let v1252 : BitVec 32 := Scalar.addi (Scalar.muli (Scalar.subi i 1#32) 8#32) g
  let v1254 : BitVec 32 := Scalar.select (Scalar.cmpi .eq (16#32 : BitVec 32) 0#32) (1#32 : BitVec 32) 16#32
  let v1255 : BitVec 32 := Scalar.remsi v1252 v1254
  let v1260 : BitVec 1 := Scalar.andi (Scalar.xori (Scalar.cmpi .slt v1255 0#32) (Scalar.cmpi .slt v1254 0#32)) (Scalar.cmpi .ne v1255 0#32)
  let v1262 : BitVec 32 := Scalar.select v1260 (Scalar.addi v1255 v1254) v1255
  Scalar.cmpi .eq v1262 0#32

section

variable (B : Mems) (W : ∀ j, (B j).IsWhole)

theorem inb1 (h t : ℕ) (hh : h < 2) (ht : t < 16) : ∀ a, (![0, h, t, 0, 0] : Fin 5 → ℕ) a + S1x1x1x128x512.size a ≤ S1x2x16x128x512.size a := by
  intro a; fin_cases a <;> simp <;> omega
theorem inb2 (h t : ℕ) (hh : h < 2) (ht : t < 16) : ∀ a, (![0, h, 512 * t, 0] : Fin 4 → ℕ) a + S1x1x512x128.size a ≤ S1x2x8192x128.size a := by
  intro a; fin_cases a <;> simp <;> omega
theorem inb3 (h t : ℕ) (hh : h < 2) (ht : t < 16) : ∀ a, (![0, t, 80 * h, 0] : Fin 4 → ℕ) a + S1x1x80x512.size a ≤ S1x16x160x512.size a := by
  intro a; fin_cases a <;> simp <;> omega

/-- The blocks before the loop. -/
def proP : P F PUnit := do
  initP B
  seq8 fun g => scoresP B (lo g) ![0, 0, 0, 0, 0] (inb1 0 0 (by omega) (by omega)) ![0, 0, 512 * g.val, 0] (inb2 0 g.val (by omega) (by omega))
  seq8 fun g => do
    scoresP B (hi g) ![0, 0, 0, 0, 0] (inb1 0 0 (by omega) (by omega)) ![0, 0, 512 * (g.val + 8), 0] (inb2 0 (g.val + 8) (by omega) (by omega))
    softmaxP B W (lo g) (if g.val = 0 then 1#1 else 0#1)

/-- An even block of the loop. -/
def evenP (k : Fin k0_t1_loop.trips) (h : k0_cond1 k = 1#1) : P F PUnit := do
  seq8 fun g => do
    scoresP B (lo g) (k0_off1 k (BitVec.ofNat 32 g.val)) (k0_off1_inb k h g) (k0_off2 k (BitVec.ofNat 32 g.val)) (k0_off2_inb k h g)
    softmaxP B W (hi g) (firstB (Scf.iv 2#32 1#32 k) (BitVec.ofNat 32 g.val))
    valuesP B (lo g) (k0_off3 k (BitVec.ofNat 32 g.val)) (k0_off3_inb k h g)
  outP B W (k0_off4 k) (k0_off4_inb k h) (k0_off4_packedbf16 k h)

/-- An odd block of the loop. -/
def oddP (k : Fin k0_t1_loop.trips) (h : ¬ k0_cond1 k = 1#1) : P F PUnit := do
  seq8 fun g => do
    scoresP B (hi g) (k0_off5 k (BitVec.ofNat 32 g.val)) (k0_off5_inb k h g) (k0_off6 k (BitVec.ofNat 32 g.val)) (k0_off6_inb k h g)
    softmaxP B W (lo g) (firstB (Scf.iv 2#32 1#32 k) (BitVec.ofNat 32 g.val))
    valuesP B (hi g) (k0_off7 k (BitVec.ofNat 32 g.val)) (k0_off7_inb k h g)
  outP B W (k0_off8 k) (k0_off8_inb k h) (k0_off8_packedbf16 k h)

/-- One trip of the loop. -/
def tripP (k : Fin k0_t1_loop.trips) : P F Unit := do
  if h : k0_cond1 k = 1#1 then evenP B W k h else oddP B W k h
  pure ⟨⟩

/-- The blocks after the loop. -/
def epiP : P F PUnit := do
  seq8 fun g => do
    softmaxP B W (hi g) 0#1
    valuesP B (lo g) ![0, g.val, 80 * 1, 0] (inb3 1 g.val (by omega) (by omega))
  outP B W ![0, 1, 15, 0, 0] inb_S1x2x16x64x512_S1x1x1x64x512_0_1_15_0_0 packedbf16_S1x2x16x64x512_S1x1x1x64x512_0_1_15_0_0
  seq8 fun g => valuesP B (hi g) ![0, g.val + 8, 80 * 1, 0] (inb3 1 (g.val + 8) (by omega) (by omega))
  outP B W ![0, 1, 15, 0, 0] inb_S1x2x16x64x512_S1x1x1x64x512_0_1_15_0_0 packedbf16_S1x2x16x64x512_S1x1x1x64x512_0_1_15_0_0

/-- The attention body. -/
def bodyP : P F PUnit := do
  proP B W
  let _ ← Scf.Loop.for k0_t1_loop k0_t1_ok ⟨⟩ fun k _ => tripP B W k
  epiP B W

end

theorem all16 {p : Fin 16 → Prop} (h0 : p 0) (h1 : p 1) (h2 : p 2) (h3 : p 3) (h4 : p 4) (h5 : p 5) (h6 : p 6) (h7 : p 7) (h8 : p 8) (h9 : p 9) (h10 : p 10) (h11 : p 11) (h12 : p 12) (h13 : p 13) (h14 : p 14) (h15 : p 15) : ∀ x, p x := by
  intro x; fin_cases x <;> assumption

/-- The family of the kernel's buffers. -/
def mk (arg2 : Memref sig .tc .vmem S1x2x16x128x512 .bf16) (arg3 : Memref sig .tc .vmem S1x2x8192x128 .bf16) (arg4 : Memref sig .tc .vmem S1x16x160x512 .bf16) (arg5 : Memref sig .tc .vmem S1x2x16x64x512 .bf16) (arg6 : Memref sig .tc .vmem S512x512 .f32) (arg7 : Memref sig .tc .vmem S512x512 .f32) (arg8 : Memref sig .tc .vmem S512x512 .f32) (arg9 : Memref sig .tc .vmem S512x512 .f32) (arg10 : Memref sig .tc .vmem S512x512 .f32) (arg11 : Memref sig .tc .vmem S512x512 .f32) (arg12 : Memref sig .tc .vmem S512x512 .f32) (arg13 : Memref sig .tc .vmem S512x512 .f32) (arg14 : Memref sig .tc .vmem S512x512 .f32) (arg15 : Memref sig .tc .vmem S512x512 .f32) (arg16 : Memref sig .tc .vmem S512x512 .f32) (arg17 : Memref sig .tc .vmem S512x512 .f32) (arg18 : Memref sig .tc .vmem S512x512 .f32) (arg19 : Memref sig .tc .vmem S512x512 .f32) (arg20 : Memref sig .tc .vmem S512x512 .f32) (arg21 : Memref sig .tc .vmem S512x512 .f32) (arg22 : Memref sig .tc .vmem S1x512 .f32) (arg23 : Memref sig .tc .vmem S1x512 .f32) (arg24 : Memref sig .tc .vmem S1x512 .f32) (arg25 : Memref sig .tc .vmem S1x512 .f32) (arg26 : Memref sig .tc .vmem S1x512 .f32) (arg27 : Memref sig .tc .vmem S1x512 .f32) (arg28 : Memref sig .tc .vmem S1x512 .f32) (arg29 : Memref sig .tc .vmem S1x512 .f32) (arg30 : Memref sig .tc .vmem S1x512 .f32) (arg31 : Memref sig .tc .vmem S1x512 .f32) (arg32 : Memref sig .tc .vmem S1x512 .f32) (arg33 : Memref sig .tc .vmem S1x512 .f32) (arg34 : Memref sig .tc .vmem S1x512 .f32) (arg35 : Memref sig .tc .vmem S1x512 .f32) (arg36 : Memref sig .tc .vmem S1x512 .f32) (arg37 : Memref sig .tc .vmem S1x512 .f32) (arg38 : Memref sig .tc .vmem S512x512 .bf16) (arg39 : Memref sig .tc .vmem S512x512 .bf16) (arg40 : Memref sig .tc .vmem S512x512 .bf16) (arg41 : Memref sig .tc .vmem S512x512 .bf16) (arg42 : Memref sig .tc .vmem S512x512 .bf16) (arg43 : Memref sig .tc .vmem S512x512 .bf16) (arg44 : Memref sig .tc .vmem S512x512 .bf16) (arg45 : Memref sig .tc .vmem S512x512 .bf16) (arg46 : Memref sig .tc .vmem S512x512 .bf16) (arg47 : Memref sig .tc .vmem S512x512 .bf16) (arg48 : Memref sig .tc .vmem S512x512 .bf16) (arg49 : Memref sig .tc .vmem S512x512 .bf16) (arg50 : Memref sig .tc .vmem S512x512 .bf16) (arg51 : Memref sig .tc .vmem S512x512 .bf16) (arg52 : Memref sig .tc .vmem S512x512 .bf16) (arg53 : Memref sig .tc .vmem S512x512 .bf16) (arg54 : Memref sig .tc .vmem S1x512 .f32) (arg55 : Memref sig .tc .vmem S1x512 .f32) (arg56 : Memref sig .tc .vmem S1x512 .f32) (arg57 : Memref sig .tc .vmem S1x512 .f32) (arg58 : Memref sig .tc .vmem S1x512 .f32) (arg59 : Memref sig .tc .vmem S1x512 .f32) (arg60 : Memref sig .tc .vmem S1x512 .f32) (arg61 : Memref sig .tc .vmem S1x512 .f32) (arg62 : Memref sig .tc .vmem S1x512 .f32) (arg63 : Memref sig .tc .vmem S1x512 .f32) (arg64 : Memref sig .tc .vmem S1x512 .f32) (arg65 : Memref sig .tc .vmem S1x512 .f32) (arg66 : Memref sig .tc .vmem S1x512 .f32) (arg67 : Memref sig .tc .vmem S1x512 .f32) (arg68 : Memref sig .tc .vmem S1x512 .f32) (arg69 : Memref sig .tc .vmem S1x512 .f32) (arg70 : Memref sig .tc .vmem S1x512 .f32) (arg71 : Memref sig .tc .vmem S80x512 .f32) : Mems
  | .q => arg2 | .k => arg3 | .v => arg4 | .o => arg5 | .m => arg70 | .acc => arg71
  | .s x => (![arg6, arg7, arg8, arg9, arg10, arg11, arg12, arg13, arg14, arg15, arg16, arg17, arg18, arg19, arg20, arg21] x)
  | .c x => (![arg22, arg23, arg24, arg25, arg26, arg27, arg28, arg29, arg30, arg31, arg32, arg33, arg34, arg35, arg36, arg37] x)
  | .p x => (![arg38, arg39, arg40, arg41, arg42, arg43, arg44, arg45, arg46, arg47, arg48, arg49, arg50, arg51, arg52, arg53] x)
  | .a x => (![arg54, arg55, arg56, arg57, arg58, arg59, arg60, arg61, arg62, arg63, arg64, arg65, arg66, arg67, arg68, arg69] x)

theorem mk_whole (arg2 : Memref sig .tc .vmem S1x2x16x128x512 .bf16) (harg2 : arg2.IsWhole) (arg3 : Memref sig .tc .vmem S1x2x8192x128 .bf16) (harg3 : arg3.IsWhole) (arg4 : Memref sig .tc .vmem S1x16x160x512 .bf16) (harg4 : arg4.IsWhole) (arg5 : Memref sig .tc .vmem S1x2x16x64x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (arg19 : Memref sig .tc .vmem S512x512 .f32) (harg19 : arg19.IsWhole) (arg20 : Memref sig .tc .vmem S512x512 .f32) (harg20 : arg20.IsWhole) (arg21 : Memref sig .tc .vmem S512x512 .f32) (harg21 : arg21.IsWhole) (arg22 : Memref sig .tc .vmem S1x512 .f32) (harg22 : arg22.IsWhole) (arg23 : Memref sig .tc .vmem S1x512 .f32) (harg23 : arg23.IsWhole) (arg24 : Memref sig .tc .vmem S1x512 .f32) (harg24 : arg24.IsWhole) (arg25 : Memref sig .tc .vmem S1x512 .f32) (harg25 : arg25.IsWhole) (arg26 : Memref sig .tc .vmem S1x512 .f32) (harg26 : arg26.IsWhole) (arg27 : Memref sig .tc .vmem S1x512 .f32) (harg27 : arg27.IsWhole) (arg28 : Memref sig .tc .vmem S1x512 .f32) (harg28 : arg28.IsWhole) (arg29 : Memref sig .tc .vmem S1x512 .f32) (harg29 : arg29.IsWhole) (arg30 : Memref sig .tc .vmem S1x512 .f32) (harg30 : arg30.IsWhole) (arg31 : Memref sig .tc .vmem S1x512 .f32) (harg31 : arg31.IsWhole) (arg32 : Memref sig .tc .vmem S1x512 .f32) (harg32 : arg32.IsWhole) (arg33 : Memref sig .tc .vmem S1x512 .f32) (harg33 : arg33.IsWhole) (arg34 : Memref sig .tc .vmem S1x512 .f32) (harg34 : arg34.IsWhole) (arg35 : Memref sig .tc .vmem S1x512 .f32) (harg35 : arg35.IsWhole) (arg36 : Memref sig .tc .vmem S1x512 .f32) (harg36 : arg36.IsWhole) (arg37 : Memref sig .tc .vmem S1x512 .f32) (harg37 : arg37.IsWhole) (arg38 : Memref sig .tc .vmem S512x512 .bf16) (harg38 : arg38.IsWhole) (arg39 : Memref sig .tc .vmem S512x512 .bf16) (harg39 : arg39.IsWhole) (arg40 : Memref sig .tc .vmem S512x512 .bf16) (harg40 : arg40.IsWhole) (arg41 : Memref sig .tc .vmem S512x512 .bf16) (harg41 : arg41.IsWhole) (arg42 : Memref sig .tc .vmem S512x512 .bf16) (harg42 : arg42.IsWhole) (arg43 : Memref sig .tc .vmem S512x512 .bf16) (harg43 : arg43.IsWhole) (arg44 : Memref sig .tc .vmem S512x512 .bf16) (harg44 : arg44.IsWhole) (arg45 : Memref sig .tc .vmem S512x512 .bf16) (harg45 : arg45.IsWhole) (arg46 : Memref sig .tc .vmem S512x512 .bf16) (harg46 : arg46.IsWhole) (arg47 : Memref sig .tc .vmem S512x512 .bf16) (harg47 : arg47.IsWhole) (arg48 : Memref sig .tc .vmem S512x512 .bf16) (harg48 : arg48.IsWhole) (arg49 : Memref sig .tc .vmem S512x512 .bf16) (harg49 : arg49.IsWhole) (arg50 : Memref sig .tc .vmem S512x512 .bf16) (harg50 : arg50.IsWhole) (arg51 : Memref sig .tc .vmem S512x512 .bf16) (harg51 : arg51.IsWhole) (arg52 : Memref sig .tc .vmem S512x512 .bf16) (harg52 : arg52.IsWhole) (arg53 : Memref sig .tc .vmem S512x512 .bf16) (harg53 : arg53.IsWhole) (arg54 : Memref sig .tc .vmem S1x512 .f32) (harg54 : arg54.IsWhole) (arg55 : Memref sig .tc .vmem S1x512 .f32) (harg55 : arg55.IsWhole) (arg56 : Memref sig .tc .vmem S1x512 .f32) (harg56 : arg56.IsWhole) (arg57 : Memref sig .tc .vmem S1x512 .f32) (harg57 : arg57.IsWhole) (arg58 : Memref sig .tc .vmem S1x512 .f32) (harg58 : arg58.IsWhole) (arg59 : Memref sig .tc .vmem S1x512 .f32) (harg59 : arg59.IsWhole) (arg60 : Memref sig .tc .vmem S1x512 .f32) (harg60 : arg60.IsWhole) (arg61 : Memref sig .tc .vmem S1x512 .f32) (harg61 : arg61.IsWhole) (arg62 : Memref sig .tc .vmem S1x512 .f32) (harg62 : arg62.IsWhole) (arg63 : Memref sig .tc .vmem S1x512 .f32) (harg63 : arg63.IsWhole) (arg64 : Memref sig .tc .vmem S1x512 .f32) (harg64 : arg64.IsWhole) (arg65 : Memref sig .tc .vmem S1x512 .f32) (harg65 : arg65.IsWhole) (arg66 : Memref sig .tc .vmem S1x512 .f32) (harg66 : arg66.IsWhole) (arg67 : Memref sig .tc .vmem S1x512 .f32) (harg67 : arg67.IsWhole) (arg68 : Memref sig .tc .vmem S1x512 .f32) (harg68 : arg68.IsWhole) (arg69 : Memref sig .tc .vmem S1x512 .f32) (harg69 : arg69.IsWhole) (arg70 : Memref sig .tc .vmem S1x512 .f32) (harg70 : arg70.IsWhole) (arg71 : Memref sig .tc .vmem S80x512 .f32) (harg71 : arg71.IsWhole) : ∀ j, (mk arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 arg41 arg42 arg43 arg44 arg45 arg46 arg47 arg48 arg49 arg50 arg51 arg52 arg53 arg54 arg55 arg56 arg57 arg58 arg59 arg60 arg61 arg62 arg63 arg64 arg65 arg66 arg67 arg68 arg69 arg70 arg71 j).IsWhole
  | .q => harg2 | .k => harg3 | .v => harg4 | .o => harg5 | .m => harg70 | .acc => harg71
  | .s x => all16 (p := fun x => (mk arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 arg41 arg42 arg43 arg44 arg45 arg46 arg47 arg48 arg49 arg50 arg51 arg52 arg53 arg54 arg55 arg56 arg57 arg58 arg59 arg60 arg61 arg62 arg63 arg64 arg65 arg66 arg67 arg68 arg69 arg70 arg71 (.s x)).IsWhole) harg6 harg7 harg8 harg9 harg10 harg11 harg12 harg13 harg14 harg15 harg16 harg17 harg18 harg19 harg20 harg21 x
  | .c x => all16 (p := fun x => (mk arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 arg41 arg42 arg43 arg44 arg45 arg46 arg47 arg48 arg49 arg50 arg51 arg52 arg53 arg54 arg55 arg56 arg57 arg58 arg59 arg60 arg61 arg62 arg63 arg64 arg65 arg66 arg67 arg68 arg69 arg70 arg71 (.c x)).IsWhole) harg22 harg23 harg24 harg25 harg26 harg27 harg28 harg29 harg30 harg31 harg32 harg33 harg34 harg35 harg36 harg37 x
  | .p x => all16 (p := fun x => (mk arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 arg41 arg42 arg43 arg44 arg45 arg46 arg47 arg48 arg49 arg50 arg51 arg52 arg53 arg54 arg55 arg56 arg57 arg58 arg59 arg60 arg61 arg62 arg63 arg64 arg65 arg66 arg67 arg68 arg69 arg70 arg71 (.p x)).IsWhole) harg38 harg39 harg40 harg41 harg42 harg43 harg44 harg45 harg46 harg47 harg48 harg49 harg50 harg51 harg52 harg53 x
  | .a x => all16 (p := fun x => (mk arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 arg41 arg42 arg43 arg44 arg45 arg46 arg47 arg48 arg49 arg50 arg51 arg52 arg53 arg54 arg55 arg56 arg57 arg58 arg59 arg60 arg61 arg62 arg63 arg64 arg65 arg66 arg67 arg68 arg69 arg70 arg71 (.a x)).IsWhole) harg54 harg55 harg56 harg57 harg58 harg59 harg60 harg61 harg62 harg63 harg64 harg65 harg66 harg67 harg68 harg69 x

end Cert.Attn

end
-- ==== Proof.Values.lean ====
module

public import proofs.«01_k».proof.Proof.Prog

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Whole and partial rectangles -/

theorem ld_whole {s : Shape} {α : Type} {off : Fin s.rank → ℕ} (h0 : ∀ a, off a = 0) (inb : ∀ a, off a + s.size a ≤ s.size a) (X : s.Idx → α) :
    (fun i => X ((Rect.unit off s.size inb).idx i)) = X := by
  funext i
  congr 1
  funext a
  apply Fin.ext
  show off a + 1 * (i a).val = (i a).val
  rw [h0]; omega

theorem overlay_whole {s : Shape} {α : Type} {off : Fin s.rank → ℕ} (h0 : ∀ a, off a = 0) (inb : ∀ a, off a + s.size a ≤ s.size a) (X w : s.Idx → α) :
    (Rect.unit off s.size inb).overlay X w = w := by
  funext i
  have hi : (Rect.unit off s.size inb).emb i = i := by
    funext a
    apply Fin.ext
    show off a + 1 * (i a).val = (i a).val
    rw [h0]; omega
  have := Rect.overlay_emb (Rect.unit off s.size inb) X w i
  rwa [hi] at this

theorem overlay_mem {s : Shape} {α : Type} {off size : Fin s.rank → ℕ} (inb : ∀ a, off a + size a ≤ s.size a) (X : s.Idx → α)
    (w : (Rect.unit off size inb).shape.Idx → α) (i : s.Idx) (y : (Rect.unit off size inb).shape.Idx) (h : ∀ a, (i a).val = off a + (y a).val) :
    (Rect.unit off size inb).overlay X w i = w y := by
  have hi : (Rect.unit off size inb).emb y = i := by
    funext a
    apply Fin.ext
    show off a + 1 * (y a).val = (i a).val
    rw [h]; omega
  rw [← hi]; exact Rect.overlay_emb _ X w y

theorem overlay_not_mem {s : Shape} {α : Type} {off size : Fin s.rank → ℕ} (inb : ∀ a, off a + size a ≤ s.size a) (X : s.Idx → α)
    (w : (Rect.unit off size inb).shape.Idx → α) (i : s.Idx) (a : Fin s.rank) (h : (i a).val < off a ∨ off a + size a ≤ (i a).val) :
    (Rect.unit off size inb).overlay X w i = X i := by
  apply Rect.overlay_of_not_mem
  rw [Rect.mem_set_unit]
  intro hall
  have := hall a
  omega

theorem z2 : ∀ a : Fin 2, (![0, 0] : Fin 2 → ℕ) a = 0 := by decide

/-! ## What the steps compute -/

section Values

variable (q : Vec F S1x2x16x128x512 .bf16) (k : Vec F S1x2x8192x128 .bf16) (v : Vec F S1x16x160x512 .bf16)

/-- The block offsets of step `x`. -/
def o1 (x : ℕ) : Fin 5 → ℕ := ![0, x / 256 % 2, x / 16 % 16, 0, 0]
def o2 (x : ℕ) : Fin 4 → ℕ := ![0, x / 256 % 2, 512 * (x % 16), 0]
def o3 (x : ℕ) : Fin 4 → ℕ := ![0, x % 16, 80 * (x / 256 % 2), 0]

theorem o1_inb (x : ℕ) : ∀ a, o1 x a + S1x1x1x128x512.size a ≤ S1x2x16x128x512.size a := inb1 _ _ (Nat.mod_lt _ (by omega)) (Nat.mod_lt _ (by omega))
theorem o2_inb (x : ℕ) : ∀ a, o2 x a + S1x1x512x128.size a ≤ S1x2x8192x128.size a := inb2 _ _ (Nat.mod_lt _ (by omega)) (Nat.mod_lt _ (by omega))
theorem o3_inb (x : ℕ) : ∀ a, o3 x a + S1x1x80x512.size a ≤ S1x16x160x512.size a := inb3 _ _ (Nat.mod_lt _ (by omega)) (Nat.mod_lt _ (by omega))

/-- The queries, the keys and the values of step `x`. -/
def qx (x : ℕ) : Vec F S1x1x1x128x512 .bf16 := fun i => q ((Rect.unit (s := S1x2x16x128x512) (o1 x) S1x1x1x128x512.size (o1_inb x)).idx i)
def kx (x : ℕ) : Vec F S1x1x512x128 .bf16 := fun i => k ((Rect.unit (s := S1x2x8192x128) (o2 x) S1x1x512x128.size (o2_inb x)).idx i)
def vx (x : ℕ) : Vec F S1x1x80x512 .bf16 := fun i => v ((Rect.unit (s := S1x16x160x512) (o3 x) S1x1x80x512.size (o3_inb x)).idx i)

/-- The scores of step `x` and their column maxima. -/
def Sx (x : ℕ) : FVec F S512x512 .f32 := scoresV (qx q x) (kx k x)
def Cx (x : ℕ) : FVec F S1x512 .f32 := colmaxV (Sx q k x)

/-- Whether step `x` is the first of its tile. -/
def bx (x : ℕ) : BitVec 1 := if x % 16 = 0 then 1#1 else 0#1

/-- The running maximum before step `x`. -/
def Mx : ℕ → FVec F S1x512 .f32
  | 0 => broadcast S1x512 (Scalar.ofBits .f32 0x00000000#32)
  | x + 1 => maximumf (oldmaxV (bx x) (Mx x)) (Cx q k x)

/-- The rescaling of step `x`. -/
def Ax (x : ℕ) : FVec F S1x512 .f32 := exp2 (subf (oldmaxV (bx x) (Mx q k x)) (Mx q k (x + 1)))

theorem strip_inb (r : ℕ) (hr : r < 4) : ∀ a, (![128 * r, 0] : Fin 2 → ℕ) a + S128x512.size a ≤ S512x512.size a := by
  intro a; fin_cases a <;> simp <;> omega

/-- One strip of the scores. -/
def stripS (s : FVec F S512x512 .f32) (r : ℕ) (hr : r < 4) : Vec F S128x512 .f32 :=
  fun i => s ((Rect.unit (s := S512x512) ![128 * r, 0] S128x512.size (strip_inb r hr)).idx i)

/-- The place of an index in its strip. -/
def inStrip (i : S512x512.Idx) : S128x512.Idx := fun a => match a with
  | ⟨0, _⟩ => ⟨(i 0).val % 128, Nat.mod_lt _ (by omega)⟩
  | ⟨1, _⟩ => i 1

/-- The weights of scores under a maximum, strip by strip. -/
def PV (s : FVec F S512x512 .f32) (mn : FVec F S1x512 .f32) : FVec F S512x512 .bf16 :=
  fun i => stripV (stripS s ((i 0).val / 128) (Nat.div_lt_of_lt_mul (i 0).isLt)) mn (inStrip i)

/-- The weights of step `x`. -/
def Px (x : ℕ) : FVec F S512x512 .bf16 := PV (Sx q k x) (Mx q k (x + 1))

/-- The accumulator before step `x`. -/
def Accx : ℕ → FVec F S80x512 .f32
  | 0 => broadcast S80x512 (Scalar.ofBits .f32 0x00000000#32)
  | x + 1 => accV (vx v x) (Ax q k x) (Accx x) (Px q k x)

/-- The output tile an accumulator gives. -/
def outAcc (acc : FVec F S80x512 .f32) : FVec F S64x512 .bf16 :=
  outV (fun i => acc ((Rect.unit (s := S80x512) ![0, 0] S64x512.size inb_S80x512_S64x512_0_0).idx i))
    (fun i => acc ((Rect.unit (s := S80x512) ![64, 0] S1x512.size inb_S80x512_S1x512_64_0).idx i))

/-- Output tile `T`. -/
def Ox (T : ℕ) : FVec F S64x512 .bf16 := outAcc (Accx q k v (16 * (T + 1)))

theorem strips_cover (s : FVec F S512x512 .f32) (mn : FVec F S1x512 .f32) (X : FVec F S512x512 .bf16) :
    (Rect.unit (s := S512x512) ![384, 0] S128x512.size inb_S512x512_S128x512_384_0).overlay
      ((Rect.unit (s := S512x512) ![256, 0] S128x512.size inb_S512x512_S128x512_256_0).overlay
        ((Rect.unit (s := S512x512) ![128, 0] S128x512.size inb_S512x512_S128x512_128_0).overlay
          ((Rect.unit (s := S512x512) ![0, 0] S128x512.size inb_S512x512_S128x512_0_0).overlay X
            (stripV (fun i => s ((Rect.unit (s := S512x512) ![0, 0] S128x512.size inb_S512x512_S128x512_0_0).idx i)) mn))
          (stripV (fun i => s ((Rect.unit (s := S512x512) ![128, 0] S128x512.size inb_S512x512_S128x512_128_0).idx i)) mn))
        (stripV (fun i => s ((Rect.unit (s := S512x512) ![256, 0] S128x512.size inb_S512x512_S128x512_256_0).idx i)) mn))
      (stripV (fun i => s ((Rect.unit (s := S512x512) ![384, 0] S128x512.size inb_S512x512_S128x512_384_0).idx i)) mn)
    = PV s mn := by
  funext i
  have hi : (i 0).val < 512 := (i 0).isLt
  have key : ∀ (r : ℕ) (hr : r < 4), (i 0).val / 128 = r → PV s mn i = stripV (stripS s r hr) mn (inStrip i) := by
    intro r hr e; subst e; rfl
  have hmem : ∀ (r : ℕ), (i 0).val / 128 = r → ∀ a : Fin 2, (i a).val = (![128 * r, 0] : Fin 2 → ℕ) a + (inStrip i a).val := by
    intro r e a
    match a with
    | ⟨0, _⟩ => show (i 0).val = 128 * r + (i 0).val % 128; omega
    | ⟨1, _⟩ => show (i 1).val = 0 + (i 1).val; omega
  rcases (show (i 0).val / 128 = 0 ∨ (i 0).val / 128 = 1 ∨ (i 0).val / 128 = 2 ∨ (i 0).val / 128 = 3 by omega) with e | e | e | e
  · rw [key 0 (by omega) e]
    rw [overlay_not_mem _ _ _ i (0 : Fin 2) (Or.inl (show (i 0).val < 384 by omega)), overlay_not_mem _ _ _ i (0 : Fin 2) (Or.inl (show (i 0).val < 256 by omega)),
      overlay_not_mem _ _ _ i (0 : Fin 2) (Or.inl (show (i 0).val < 128 by omega))]
    exact overlay_mem _ _ _ i (inStrip i) (hmem 0 e)
  · rw [key 1 (by omega) e]
    rw [overlay_not_mem _ _ _ i (0 : Fin 2) (Or.inl (show (i 0).val < 384 by omega)), overlay_not_mem _ _ _ i (0 : Fin 2) (Or.inl (show (i 0).val < 256 by omega))]
    exact overlay_mem _ _ _ i (inStrip i) (hmem 1 e)
  · rw [key 2 (by omega) e]
    rw [overlay_not_mem _ _ _ i (0 : Fin 2) (Or.inl (show (i 0).val < 384 by omega))]
    exact overlay_mem _ _ _ i (inStrip i) (hmem 2 e)
  · rw [key 3 (by omega) e]
    exact overlay_mem _ _ _ i (inStrip i) (hmem 3 e)

end Values

/-! ## The invariant -/

/-- The index of the output block at tile `T` and a place of the tile. -/
def oIdx (T : ℕ) (i : S64x512.Idx) : S1x2x16x64x512.Idx := fun a => match a with
  | ⟨0, _⟩ => ⟨0, Nat.one_pos⟩
  | ⟨1, _⟩ => ⟨T / 16 % 2, Nat.mod_lt _ (by decide)⟩
  | ⟨2, _⟩ => ⟨T % 16, Nat.mod_lt _ (by decide)⟩
  | ⟨3, _⟩ => i 0
  | ⟨4, _⟩ => i 1

/-- After the scores of the steps below `ns`, the weights of those below `nm`, the values of those below `nv` and the
    output tiles completed below step `no`. -/
structure Inv (q : Vec F S1x2x16x128x512 .bf16) (k : Vec F S1x2x8192x128 .bf16) (v : Vec F S1x16x160x512 .bf16) (ns nm nv no : ℕ) (σ : St F) : Prop where
  hq : σ .q = q
  hk : σ .k = k
  hv : σ .v = v
  hs : ∀ x, nm ≤ x → x < ns → ∀ j : Fin 16, j.val = x % 16 → σ (.s j) = Sx q k x ∧ σ (.c j) = Cx q k x
  hp : ∀ x, nv ≤ x → x < nm → ∀ j : Fin 16, j.val = x % 16 → σ (.p j) = Px q k x ∧ σ (.a j) = Ax q k x
  hm : σ .m = Mx q k nm
  hacc : σ .acc = Accx q k v nv
  ho : ∀ T, T < 32 → 16 * (T + 1) ≤ no → ∀ i, σ .o (oIdx T i) = Ox q k v T i

end Cert.Attn

end
-- ==== Proof.Goes.lean ====
module

public import proofs.«01_k».proof.Proof.Values
public import Idealize.ShloMosaic.Lib.Pipeline.Value

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## Programs that carry one fact to another -/

/-- A program that takes states of `Φ` to states of `Φ'`. -/
def Goes (c : Dev nD) (B : Mems) (Φ Φ' : St F → Prop) (p : P F PUnit) : Prop :=
  ∀ (Q : PUnit → sProp 𝕄) (σ : St F), Φ σ → (∀ σ', Φ' σ' → Own c B σ' ⊢ Q ⟨⟩) →
    Own c B σ ⊢ wp frame (wpE (defs₀ (F := F)) Variants.none c none) Set.univ p Q

section Rules

variable {c : Dev nD} {B : Mems}

theorem Goes.seq {Φ Φ₁ Φ₂ : St F → Prop} {p : P F PUnit} {r : PUnit → P F PUnit} (hp : Goes c B Φ Φ₁ p) (hr : Goes c B Φ₁ Φ₂ (r ⟨⟩)) :
    Goes c B Φ Φ₂ (p >>= r) := by
  intro Q σ h hQ
  rw [wp_bind]
  exact hp _ σ h fun σ' h' => hr Q σ' h' hQ

theorem Goes.eqv {Φ Φ' Ψ Ψ' : St F → Prop} {p : P F PUnit} (hp : Goes c B Φ Φ' p) (h : ∀ σ, Ψ σ → Φ σ) (h' : ∀ σ, Φ' σ → Ψ' σ) :
    Goes c B Ψ Ψ' p := fun Q σ hσ hQ => hp Q σ (h σ hσ) fun σ' hσ' => hQ σ' (h' σ' hσ')

theorem Goes.seq8 {Φ : ℕ → St F → Prop} {f : Fin 8 → P F PUnit} (hf : ∀ g : Fin 8, Goes c B (Φ g.val) (Φ (g.val + 1)) (f g)) :
    Goes c B (Φ 0) (Φ 8) (seq8 f) :=
  (hf 0).seq ((hf 1).seq ((hf 2).seq ((hf 3).seq ((hf 4).seq ((hf 5).seq ((hf 6).seq (hf 7)))))))

theorem own_last (σ : St F) {Q : PUnit → sProp 𝕄} (j : J) {r : Rect (sh j)} {w : r.shape.Idx → Elt F (el j)}
    {hx : ((B j).access r).Stores Finset.univ} {hm : Finset.univ = Finset.univ ∨ ∀ a, r.stride a = 1}
    (h : Own c B (σ.set j (r.overlay (σ j) w)) ⊢ Q ⟨⟩) :
    Own c B σ ⊢ wp frame (wpE (defs₀ (F := F)) Variants.none c none) Set.univ (Prog.lift (.store (B j) r w Finset.univ hx hm)) Q :=
  own_store (k := fun a => pure a) c B σ j (own_pure c B _ h)

end Rules

section Steps

variable {c : Dev nD} {B : Mems} {W : ∀ j, (B j).IsWhole}
variable {q : Vec F S1x2x16x128x512 .bf16} {k : Vec F S1x2x8192x128 .bf16} {v : Vec F S1x16x160x512 .bf16}

theorem inv_init {σ : St F} (hq : σ .q = q) (hk : σ .k = k) (hv : σ .v = v)
    (hm : σ .m = broadcast S1x512 (Scalar.ofBits .f32 0x00000000#32)) (ha : σ .acc = broadcast S80x512 (Scalar.ofBits .f32 0x00000000#32)) :
    Inv q k v 0 0 0 0 σ :=
  ⟨hq, hk, hv, fun x _ h => absurd h (Nat.not_lt_zero x), fun x _ h => absurd h (Nat.not_lt_zero x), hm, ha, fun T _ h => absurd h (by omega)⟩

theorem initP_goes : Goes c B (fun σ => σ .q = q ∧ σ .k = k ∧ σ .v = v) (Inv (F := F) q k v 0 0 0 0) (initP B) := by
  intro Q σ ⟨hq, hk, hv⟩ hQ
  unfold initP
  refine own_load c B _ .acc ?_
  refine own_store c B _ .acc ?_
  refine own_load c B _ .m ?_
  refine own_last _ .m ?_
  apply hQ
  refine inv_init ?_ ?_ ?_ ?_ ?_
  · exact hq
  · exact hk
  · exact hv
  · rw [St.set_same, overlay_whole z2, shapeCast_self]
  · rw [St.set_ne _ _ (by decide), St.set_same, overlay_whole z2, shapeCast_self]

theorem scoresP_goes {ns nm nv no : ℕ} (x : Fin 16) (p1 : Fin 5 → ℕ) (h1 p2 h2) (hx : x.val = ns % 16) (e1 : p1 = o1 ns) (e2 : p2 = o2 ns) (hn : ns < nm + 16) :
    Goes c B (Inv (F := F) q k v ns nm nv no) (Inv q k v (ns + 1) nm nv no) (scoresP B x p1 h1 p2 h2) := by
  subst e1 e2
  intro Q σ I hQ
  unfold scoresP
  refine own_load c B _ .q ?_
  refine own_load c B _ .k ?_
  refine own_load c B _ (.s x) ?_
  refine own_store c B _ (.s x) ?_
  refine own_load c B _ (.c x) ?_
  refine own_last _ (.c x) ?_
  apply hQ
  have hS : scoresV (fun i => σ .q ((Rect.unit (s := S1x2x16x128x512) (o1 ns) S1x1x1x128x512.size h1).idx i)) (fun i => σ .k ((Rect.unit (s := S1x2x8192x128) (o2 ns) S1x1x512x128.size h2).idx i)) = Sx q k ns := by
    rw [I.hq, I.hk]; rfl
  refine ⟨I.hq, I.hk, I.hv, ?_, ?_, I.hm, I.hacc, I.ho⟩
  · intro y hy1 hy2 j hj
    by_cases hy : y = ns
    · subst hy
      obtain rfl : j = x := Fin.ext (hj.trans hx.symm)
      constructor
      · rw [St.set_ne _ _ (by simp), St.set_same, overlay_whole z2, shapeCast_self]; exact hS
      · rw [St.set_same, overlay_whole z2, shapeCast_self]; exact congrArg colmaxV hS
    · have hjx : j ≠ x := by rintro rfl; omega
      have := I.hs y hy1 (by omega) j hj
      rw [St.set_ne _ _ (by simp), St.set_ne _ _ (by simpa using hjx), St.set_ne _ _ (by simpa using hjx), St.set_ne _ _ (by simp)]
      exact this
  · intro y hy1 hy2 j hj
    exact I.hp y hy1 hy2 j hj

theorem stripP_own (σ : St F) {Q : PUnit → sProp 𝕄} (x : Fin 16) (mn : FVec F S1x512 .f32) (o : Fin 2 → ℕ) (h hp)
    (hh : Own c B (σ.set (.p x) ((Rect.unit (s := S512x512) o S128x512.size h).overlay (σ (.p x))
      (stripV (fun i => σ (.s x) ((Rect.unit (s := S512x512) o S128x512.size h).idx i)) mn))) ⊢ Q ⟨⟩) :
    Own c B σ ⊢ wp frame (wpE (defs₀ (F := F)) Variants.none c none) Set.univ (stripP B W x mn o h hp) Q := by
  unfold stripP
  refine own_load c B _ (.s x) ?_
  refine own_load c B _ (.p x) ?_
  refine own_last _ (.p x) ?_
  rw [shapeCast_self]
  exact hh

theorem softmaxP_goes {ns nm nv no : ℕ} (x : Fin 16) (b : BitVec 1) (hx : x.val = nm % 16) (hb : b = bx nm) (hn : nm < ns) (hn' : nm < nv + 16) :
    Goes c B (Inv (F := F) q k v ns nm nv no) (Inv q k v ns (nm + 1) nv no) (softmaxP B W x b) := by
  subst hb
  intro Q σ I hQ
  obtain ⟨hs, hc⟩ := I.hs nm le_rfl hn x hx
  unfold softmaxP
  refine own_load c B _ .m ?_
  refine own_load c B _ (.c x) ?_
  refine own_load c B _ .m ?_
  refine own_store c B _ .m ?_
  refine own_load c B _ (.a x) ?_
  refine own_store c B _ (.a x) ?_
  have e1 : (fun i => σ .m ((Rect.unit (s := S1x512) ![0, 0] S1x512.size inb_S1x512_S1x512_0_0).idx i)) = Mx q k nm := by
    rw [ld_whole z2]; exact I.hm
  have e2 : (fun i => σ (.c x) ((Rect.unit (s := S1x512) ![0, 0] S1x512.size inb_S1x512_S1x512_0_0).idx i)) = Cx q k nm := by
    rw [ld_whole z2]; exact hc
  rw [shapeCast_self, shapeCast_self, overlay_whole z2, overlay_whole z2]
  rw [e1, e2]
  rw [wp_bind]
  refine stripP_own _ x _ _ _ _ ?_
  rw [wp_bind]
  refine stripP_own _ x _ _ _ _ ?_
  rw [wp_bind]
  refine stripP_own _ x _ _ _ _ ?_
  refine stripP_own _ x _ _ _ _ ?_
  apply hQ
  refine ⟨I.hq, I.hk, I.hv, ?_, ?_, ?_, I.hacc, I.ho⟩
  · intro y hy1 hy2 j hj
    exact I.hs y (by omega) hy2 j hj
  · intro y hy1 hy2 j hj
    by_cases hy : y = nm
    · subst hy
      obtain rfl : j = x := Fin.ext (hj.trans hx.symm)
      constructor
      · simp only [St.set_same]
        have hss : ∀ (σ' : St F) w, σ'.set (.p j) w (.s j) = σ' (.s j) := fun σ' w => St.set_ne _ _ (by simp)
        simp only [hss]
        have hss' : ∀ (σ' : St F) w, σ'.set (.a j) w (.s j) = σ' (.s j) := fun σ' w => St.set_ne _ _ (by simp)
        have hss'' : ∀ (σ' : St F) w, σ'.set .m w (.s j) = σ' (.s j) := fun σ' w => St.set_ne _ _ (by simp)
        simp only [hss', hss'', hs]
        exact strips_cover (Sx q k y) _ _
      · simp only [St.set_same, St.set_ne, ne_eq, reduceCtorEq, not_false_eq_true]
        rfl
    · have hjx : j ≠ x := by rintro rfl; omega
      have := I.hp y hy1 (by omega) j hj
      have hpp : ∀ (σ' : St F) w, σ'.set (.p x) w (.p j) = σ' (.p j) := fun σ' w => St.set_ne _ _ (by simpa using hjx)
      have hpa : ∀ (σ' : St F) w, σ'.set (.p x) w (.a j) = σ' (.a j) := fun σ' w => St.set_ne _ _ (by simp)
      have hap : ∀ (σ' : St F) w, σ'.set (.a x) w (.p j) = σ' (.p j) := fun σ' w => St.set_ne _ _ (by simp)
      have haa : ∀ (σ' : St F) w, σ'.set (.a x) w (.a j) = σ' (.a j) := fun σ' w => St.set_ne _ _ (by simpa using hjx)
      simp only [hpp, hpa, hap, haa]
      exact this
  · rw [St.set_ne _ _ (by simp), St.set_ne _ _ (by simp), St.set_ne _ _ (by simp), St.set_ne _ _ (by simp), St.set_ne _ _ (by simp), St.set_same]
    rfl

theorem valuesP_goes {ns nm nv no : ℕ} (x : Fin 16) (p3 : Fin 4 → ℕ) (h3) (hx : x.val = nv % 16) (e3 : p3 = o3 nv) (hn : nv < nm) :
    Goes c B (Inv (F := F) q k v ns nm nv no) (Inv q k v ns nm (nv + 1) no) (valuesP B x p3 h3) := by
  subst e3
  intro Q σ I hQ
  obtain ⟨hp, ha⟩ := I.hp nv le_rfl hn x hx
  unfold valuesP
  refine own_load c B _ .v ?_
  refine own_load c B _ (.a x) ?_
  refine own_load c B _ .acc ?_
  refine own_load c B _ (.p x) ?_
  refine own_load c B _ .acc ?_
  refine own_last _ .acc ?_
  apply hQ
  refine ⟨I.hq, I.hk, I.hv, I.hs, ?_, I.hm, ?_, I.ho⟩
  · intro y hy1 hy2 j hj
    exact I.hp y (by omega) hy2 j hj
  · rw [St.set_same, overlay_whole z2, shapeCast_self, I.hv]
    rw [show (fun i => σ (.a x) ((Rect.unit (s := S1x512) ![0, 0] S1x512.size inb_S1x512_S1x512_0_0).idx i)) = Ax q k nv from (ld_whole z2 _ _).trans ha,
      show (fun i => σ .acc ((Rect.unit (s := S80x512) ![0, 0] S80x512.size inb_S80x512_S80x512_0_0).idx i)) = Accx q k v nv from (ld_whole z2 _ _).trans I.hacc,
      show (fun i => σ (.p x) ((Rect.unit (s := S512x512) ![0, 0] S512x512.size inb_S512x512_S512x512_0_0).idx i)) = Px q k nv from (ld_whole z2 _ _).trans hp]
    rfl

end Steps

end Cert.Attn

end
-- ==== Proof.Body.lean ====
module

public import proofs.«01_k».proof.Proof.Goes
public import Idealize.ShloMosaic.Lib.Pipeline.Value

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

section Out

variable {c : Dev nD} {B : Mems} {W : ∀ j, (B j).IsWhole}
variable {q : Vec F S1x2x16x128x512 .bf16} {k : Vec F S1x2x8192x128 .bf16} {v : Vec F S1x16x160x512 .bf16}

/-- The place of a tile's element in its one-tile block. -/
def tIdx (i : S64x512.Idx) : S1x1x1x64x512.Idx := fun a => match a with
  | ⟨0, _⟩ => ⟨0, Nat.one_pos⟩
  | ⟨1, _⟩ => ⟨0, Nat.one_pos⟩
  | ⟨2, _⟩ => ⟨0, Nat.one_pos⟩
  | ⟨3, _⟩ => i 0
  | ⟨4, _⟩ => i 1

theorem tile_cast (w : FVec F S64x512 .bf16) (i : S64x512.Idx) : shapeCast S1x1x1x64x512 w shapeCasts_S64x512_S1x1x1x64x512 (tIdx i) = w i := by
  apply shapeCast_apply
  rw [Shape.rowMajor_val_two, Shape.rowMajor_val_five]
  show (i 0).val * 512 + (i 1).val = ((((0 * 1 + 0) * 1 + 0) * 64 + (i 0).val) * 512 + (i 1).val)
  omega

/-- The block offset of output tile `T`. -/
def o4 (T : ℕ) : Fin 5 → ℕ := ![0, T / 16 % 2, T % 16, 0, 0]

theorem outP_goes {ns nm nv : ℕ} (p4 : Fin 5 → ℕ) (h4 hp) (e4 : p4 = o4 (nv / 16)) (hn : nv % 8 = 0) (hn' : nv < 512) :
    Goes c B (Inv (F := F) q k v ns nm (nv + 8) nv) (Inv q k v ns nm (nv + 8) (nv + 8)) (outP B W p4 h4 hp) := by
  subst e4
  intro Q σ I hQ
  unfold outP
  refine own_load c B _ .acc ?_
  refine own_load c B _ .acc ?_
  refine own_load c B _ .o ?_
  refine own_last _ .o ?_
  apply hQ
  refine ⟨I.hq, I.hk, I.hv, I.hs, I.hp, I.hm, I.hacc, ?_⟩
  intro T hT hT' i
  rw [St.set_same]
  by_cases hlt : 16 * (T + 1) ≤ nv
  · refine Eq.trans ?_ (I.ho T hT hlt i)
    by_cases hh : T / 16 % 2 = nv / 16 / 16 % 2
    · refine overlay_not_mem _ _ _ (oIdx T i) (2 : Fin 5) ?_
      show T % 16 < nv / 16 % 16 ∨ nv / 16 % 16 + 1 ≤ T % 16
      omega
    · refine overlay_not_mem _ _ _ (oIdx T i) (1 : Fin 5) ?_
      show T / 16 % 2 < nv / 16 / 16 % 2 ∨ nv / 16 / 16 % 2 + 1 ≤ T / 16 % 2
      omega
  · have e : nv + 8 = 16 * (T + 1) := by omega
    have e' : nv / 16 = T := by omega
    refine (overlay_mem _ _ _ (oIdx T i) (tIdx i) ?_).trans ?_
    rotate_left
    · rw [tile_cast]
      show outAcc (σ .acc) i = _
      rw [I.hacc, e]; rfl
    · intro a
      match a with
      | ⟨0, _⟩ => rfl
      | ⟨1, _⟩ => show T / 16 % 2 = nv / 16 / 16 % 2 + 0; omega
      | ⟨2, _⟩ => show T % 16 = nv / 16 % 16 + 0; omega
      | ⟨3, _⟩ => show (i 0).val = 0 + (i 0).val; omega
      | ⟨4, _⟩ => show (i 1).val = 0 + (i 1).val; omega

end Out

/-! ## The offsets over the loop -/

theorem off1_eq : ∀ (k : Fin k0_t1_loop.trips) (g : Fin 8), k0_cond1 k = 1#1 → k0_off1 k (BitVec.ofNat 32 g.val) = o1 (8 * (k.val + 2) + g.val) := by decide +kernel
theorem off2_eq : ∀ (k : Fin k0_t1_loop.trips) (g : Fin 8), k0_cond1 k = 1#1 → k0_off2 k (BitVec.ofNat 32 g.val) = o2 (8 * (k.val + 2) + g.val) := by decide +kernel
theorem off3_eq : ∀ (k : Fin k0_t1_loop.trips) (g : Fin 8), k0_cond1 k = 1#1 → k0_off3 k (BitVec.ofNat 32 g.val) = o3 (8 * k.val + g.val) := by decide +kernel
theorem off4_eq : ∀ (k : Fin k0_t1_loop.trips), k0_cond1 k = 1#1 → k0_off4 k = o4 (8 * k.val / 16) := by decide +kernel
theorem off5_eq : ∀ (k : Fin k0_t1_loop.trips) (g : Fin 8), ¬ k0_cond1 k = 1#1 → k0_off5 k (BitVec.ofNat 32 g.val) = o1 (8 * (k.val + 2) + g.val) := by decide +kernel
theorem off6_eq : ∀ (k : Fin k0_t1_loop.trips) (g : Fin 8), ¬ k0_cond1 k = 1#1 → k0_off6 k (BitVec.ofNat 32 g.val) = o2 (8 * (k.val + 2) + g.val) := by decide +kernel
theorem off7_eq : ∀ (k : Fin k0_t1_loop.trips) (g : Fin 8), ¬ k0_cond1 k = 1#1 → k0_off7 k (BitVec.ofNat 32 g.val) = o3 (8 * k.val + g.val) := by decide +kernel
theorem off8_eq : ∀ (k : Fin k0_t1_loop.trips), ¬ k0_cond1 k = 1#1 → k0_off8 k = o4 (8 * k.val / 16) := by decide +kernel
theorem first_eq : ∀ (k : Fin k0_t1_loop.trips) (g : Fin 8), firstB (Scf.iv 2#32 1#32 k) (BitVec.ofNat 32 g.val) = bx (8 * (k.val + 1) + g.val) := by decide +kernel
theorem cond_even : ∀ k : Fin k0_t1_loop.trips, k0_cond1 k = 1#1 ↔ k.val % 2 = 0 := by decide +kernel
theorem trips_eq : k0_t1_loop.trips = 62 := by decide +kernel

/-! ## The blocks -/

section Blocks

variable {c : Dev nD} {B : Mems} {W : ∀ j, (B j).IsWhole}
variable {q : Vec F S1x2x16x128x512 .bf16} {k : Vec F S1x2x8192x128 .bf16} {v : Vec F S1x16x160x512 .bf16}

theorem proP_goes : Goes c B (fun σ => σ .q = q ∧ σ .k = k ∧ σ .v = v) (Inv (F := F) q k v 16 8 0 0) (proP B W) := by
  unfold proP
  refine initP_goes.seq (Goes.seq (Φ₁ := Inv q k v 8 0 0 0) ?_ ?_)
  · refine Goes.seq8 (Φ := fun g => Inv q k v g 0 0 0) fun g => ?_
    refine scoresP_goes _ _ _ _ _ ?_ ?_ ?_ ?_
    · show g.val = g.val % 16; omega
    · revert g; decide
    · revert g; decide
    · omega
  · refine Goes.seq8 (Φ := fun g => Inv q k v (8 + g) g 0 0) fun g => ?_
    refine Goes.seq (Φ₁ := Inv q k v (8 + g.val + 1) g 0 0) ?_ ?_
    · refine scoresP_goes _ _ _ _ _ ?_ ?_ ?_ ?_
      · show g.val + 8 = (8 + g.val) % 16; omega
      · revert g; decide
      · revert g; decide
      · omega
    · refine softmaxP_goes _ _ ?_ ?_ ?_ ?_
      · show g.val = g.val % 16; omega
      · revert g; decide
      · omega
      · omega

/-- A block of the loop, its slots and offsets in their closed forms. -/
theorem block_goes {n : ℕ} (hn : n < 62) (x y : Fin 8 → Fin 16) (p1 : Fin 8 → Fin 5 → ℕ) (h1 : ∀ g a, p1 g a + S1x1x1x128x512.size a ≤ S1x2x16x128x512.size a)
    (p2 : Fin 8 → Fin 4 → ℕ) (h2 : ∀ g a, p2 g a + S1x1x512x128.size a ≤ S1x2x8192x128.size a) (b : Fin 8 → BitVec 1)
    (p3 : Fin 8 → Fin 4 → ℕ) (h3 : ∀ g a, p3 g a + S1x1x80x512.size a ≤ S1x16x160x512.size a)
    (p4 : Fin 5 → ℕ) (h4 hp)
    (hx : ∀ g : Fin 8, (x g).val = (8 * n + g.val) % 16) (hy : ∀ g : Fin 8, (y g).val = (8 * (n + 1) + g.val) % 16)
    (e1 : ∀ g : Fin 8, p1 g = o1 (8 * (n + 2) + g.val)) (e2 : ∀ g : Fin 8, p2 g = o2 (8 * (n + 2) + g.val)) (eb : ∀ g : Fin 8, b g = bx (8 * (n + 1) + g.val))
    (e3 : ∀ g : Fin 8, p3 g = o3 (8 * n + g.val)) (e4 : p4 = o4 (8 * n / 16)) :
    Goes c B (Inv (F := F) q k v (8 * (n + 2)) (8 * (n + 1)) (8 * n) (8 * n)) (Inv q k v (8 * (n + 1 + 2)) (8 * (n + 1 + 1)) (8 * (n + 1)) (8 * (n + 1)))
      (do
        seq8 fun g => do
          scoresP B (x g) (p1 g) (h1 g) (p2 g) (h2 g)
          softmaxP B W (y g) (b g)
          valuesP B (x g) (p3 g) (h3 g)
        outP B W p4 h4 hp) := by
  refine Goes.seq (Φ₁ := Inv q k v (8 * (n + 2) + 8) (8 * (n + 1) + 8) (8 * n + 8) (8 * n)) ?_ (outP_goes p4 h4 hp e4 (by omega) (by omega))
  refine Goes.seq8 (Φ := fun g => Inv q k v (8 * (n + 2) + g) (8 * (n + 1) + g) (8 * n + g) (8 * n)) fun g => ?_
  have hg := g.isLt
  refine Goes.seq (Φ₁ := Inv q k v (8 * (n + 2) + g.val + 1) (8 * (n + 1) + g.val) (8 * n + g.val) (8 * n)) ?_ (Goes.seq (Φ₁ := Inv q k v (8 * (n + 2) + g.val + 1) (8 * (n + 1) + g.val + 1) (8 * n + g.val) (8 * n)) ?_ ?_)
  · exact scoresP_goes _ _ _ _ _ (by rw [hx]; omega) (e1 g) (e2 g) (by omega)
  · exact softmaxP_goes _ _ (by rw [hy]) (eb g) (by omega) (by omega)
  · exact valuesP_goes _ _ _ (by rw [hx]) (e3 g) (by omega)

theorem slots_even (n : ℕ) (h : n % 2 = 0) : (∀ g : Fin 8, (lo g).val = (8 * n + g.val) % 16) ∧ ∀ g : Fin 8, (hi g).val = (8 * (n + 1) + g.val) % 16 :=
  ⟨fun g => by show g.val = _; omega, fun g => by show g.val + 8 = _; omega⟩
theorem slots_odd (n : ℕ) (h : ¬ n % 2 = 0) : (∀ g : Fin 8, (hi g).val = (8 * n + g.val) % 16) ∧ ∀ g : Fin 8, (lo g).val = (8 * (n + 1) + g.val) % 16 :=
  ⟨fun g => by show g.val + 8 = _; omega, fun g => by show g.val = _; omega⟩

theorem evenP_goes (t : Fin k0_t1_loop.trips) (ht : t.val < 62) (h : k0_cond1 t = 1#1) (hev : t.val % 2 = 0) :
    Goes c B (Inv (F := F) q k v (8 * (t.val + 2)) (8 * (t.val + 1)) (8 * t.val) (8 * t.val))
      (Inv q k v (8 * (t.val + 1 + 2)) (8 * (t.val + 1 + 1)) (8 * (t.val + 1)) (8 * (t.val + 1))) (evenP B W t h) := by
  have hs := slots_even t.val hev
  unfold evenP
  exact block_goes ht lo hi (fun g => k0_off1 t (BitVec.ofNat 32 g.val)) (fun g => k0_off1_inb t h g) (fun g => k0_off2 t (BitVec.ofNat 32 g.val)) (fun g => k0_off2_inb t h g)
    (fun g => firstB (Scf.iv 2#32 1#32 t) (BitVec.ofNat 32 g.val)) (fun g => k0_off3 t (BitVec.ofNat 32 g.val)) (fun g => k0_off3_inb t h g)
    (k0_off4 t) (k0_off4_inb t h) (k0_off4_packedbf16 t h) hs.1 hs.2 (fun g => off1_eq t g h) (fun g => off2_eq t g h) (fun g => first_eq t g) (fun g => off3_eq t g h) (off4_eq t h)

theorem oddP_goes (t : Fin k0_t1_loop.trips) (ht : t.val < 62) (h : ¬ k0_cond1 t = 1#1) (hev : ¬ t.val % 2 = 0) :
    Goes c B (Inv (F := F) q k v (8 * (t.val + 2)) (8 * (t.val + 1)) (8 * t.val) (8 * t.val))
      (Inv q k v (8 * (t.val + 1 + 2)) (8 * (t.val + 1 + 1)) (8 * (t.val + 1)) (8 * (t.val + 1))) (oddP B W t h) := by
  have hs := slots_odd t.val hev
  unfold oddP
  exact block_goes ht hi lo (fun g => k0_off5 t (BitVec.ofNat 32 g.val)) (fun g => k0_off5_inb t h g) (fun g => k0_off6 t (BitVec.ofNat 32 g.val)) (fun g => k0_off6_inb t h g)
    (fun g => firstB (Scf.iv 2#32 1#32 t) (BitVec.ofNat 32 g.val)) (fun g => k0_off7 t (BitVec.ofNat 32 g.val)) (fun g => k0_off7_inb t h g)
    (k0_off8 t) (k0_off8_inb t h) (k0_off8_packedbf16 t h) hs.1 hs.2 (fun g => off5_eq t g h) (fun g => off6_eq t g h) (fun g => first_eq t g) (fun g => off7_eq t g h) (off8_eq t h)

theorem tripP_goes (t : Fin k0_t1_loop.trips) :
    Goes c B (Inv (F := F) q k v (8 * (t.val + 2)) (8 * (t.val + 1)) (8 * t.val) (8 * t.val))
      (Inv q k v (8 * (t.val + 1 + 2)) (8 * (t.val + 1 + 1)) (8 * (t.val + 1)) (8 * (t.val + 1))) (tripP B W t) := by
  have hc := cond_even t
  have ht : t.val < 62 := lt_of_lt_of_eq t.isLt trips_eq
  intro Q σ I hQ
  by_cases h : k0_cond1 t = 1#1
  · rw [show tripP (F := F) B W t = (evenP B W t h >>= fun _ => pure ⟨⟩) by unfold tripP; rw [dif_pos h]]
    exact (evenP_goes t ht h (hc.1 h)).seq (fun Q σ h hQ => own_pure c B σ (hQ σ h)) Q σ I hQ
  · rw [show tripP (F := F) B W t = (oddP B W t h >>= fun _ => pure ⟨⟩) by unfold tripP; rw [dif_neg h]]
    exact (oddP_goes t ht h (fun e => h (hc.2 e))).seq (fun Q σ h hQ => own_pure c B σ (hQ σ h)) Q σ I hQ

theorem epiP_goes : Goes c B (Inv (F := F) q k v 512 504 496 496) (Inv q k v 512 512 512 512) (epiP B W) := by
  unfold epiP
  refine Goes.seq (Φ₁ := Inv q k v 512 512 504 496) ?_ (Goes.seq (Φ₁ := Inv q k v 512 512 504 504) (outP_goes (nv := 496) _ _ _ (by decide) (by decide) (by decide))
    (Goes.seq (Φ₁ := Inv q k v 512 512 512 504) ?_ (outP_goes (nv := 504) _ _ _ (by decide) (by decide) (by decide))))
  · refine Goes.seq8 (Φ := fun g => Inv q k v 512 (504 + g) (496 + g) 496) fun g => ?_
    refine Goes.seq (Φ₁ := Inv q k v 512 (504 + g.val + 1) (496 + g.val) 496) ?_ ?_
    · exact softmaxP_goes _ _ (by show g.val + 8 = _; omega) (by revert g; decide) (by omega) (by omega)
    · exact valuesP_goes _ _ _ (by show g.val = _; omega) (by revert g; decide) (by omega)
  · refine Goes.seq8 (Φ := fun g => Inv q k v 512 512 (504 + g) 504) fun g => ?_
    exact valuesP_goes _ _ _ (by show g.val + 8 = _; omega) (by revert g; decide) (by omega)

theorem bodyP_goes : Goes c B (fun σ => σ .q = q ∧ σ .k = k ∧ σ .v = v) (Inv (F := F) q k v 512 512 512 512) (bodyP B W) := by
  unfold bodyP
  refine Goes.seq proP_goes ?_
  refine Goes.seq (Φ₁ := Inv q k v 512 504 496 496) ?_ epiP_goes
  intro Q σ I hQ
  refine BIBase.Entails.trans ?_ (Scf.wp_for _ _ _ _ _ _ _ _ _
    (I := fun n _ => iprop(∃ σ', ⌜Inv (F := F) q k v (8 * (n + 2)) (8 * (n + 1)) (8 * n) (8 * n) σ'⌝ ∗ Own c B σ')) ?_)
  · iintro H
    isplitl [H]
    · iexists σ
      isplitr
      · ipureintro; exact I
      iexact H
    · iintro %acc H
      icases H with ⟨%σ', %I', H⟩
      iapply (hQ σ' (by
        have e : 8 * (Scf.trips k0_t1_loop.lb k0_t1_loop.ub k0_t1_loop.st + 2) = 512 := by
          have := trips_eq
          show 8 * (k0_t1_loop.trips + 2) = 512
          omega
        have I'' : Inv (F := F) q k v (8 * (k0_t1_loop.trips + 2)) (8 * (k0_t1_loop.trips + 1)) (8 * k0_t1_loop.trips) (8 * k0_t1_loop.trips) σ' := I'
        rw [trips_eq] at I''
        exact I''))
      iexact H
  · intro t acc
    iintro H
    icases H with ⟨%σ', %I', H⟩
    iapply (tripP_goes t _ σ' I' fun σ'' I'' => by
      iintro H
      iexists σ''
      isplitr
      · ipureintro; exact I''
      iexact H)
    iexact H

end Blocks

end Cert.Attn

end
-- ==== Proof.EqTrip.lean ====
module

public import proofs.«01_k».proof.Proof.Prog

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

section

variable (B : Mems) (W : ∀ j, (B j).IsWhole)

/-- The first new maximum after the loop. -/
def headP : P F (Σ' (_ : FVec F S1x512 .f32), FVec F S1x512 .f32) := do
  let m : Vec F S1x512 .f32 ← Prog.lift (.load (B .m) (Rect.unit (s := S1x512) ![0, 0] S1x512.size inb_S1x512_S1x512_0_0).toLoadRect (View.loadsAt_vmem h_S1x512))
  let c : Vec F S1x512 .f32 ← Prog.lift (.load (B (.c (hi 0))) (Rect.unit (s := S1x512) ![0, 0] S1x512.size inb_S1x512_S1x512_0_0).toLoadRect (View.loadsAt_vmem h_S1x512))
  let _ ← Prog.lift (.load (B .m) (Rect.unit (s := S1x512) ![0, 0] S1x512.size inb_S1x512_S1x512_0_0).toLoadRect (View.loadsAt_vmem h_S1x512))
  Prog.lift (.store (B .m) (Rect.unit (s := S1x512) ![0, 0] S1x512.size inb_S1x512_S1x512_0_0) (shapeCast S1x512 (maximumf (oldmaxV 0#1 m) c) shapeCasts_S1x512_S1x512) Finset.univ (View.stores_vmem_bits_univ h_S1x512 rfl) (.inl rfl))
  pure ⟨maximumf (oldmaxV 0#1 m) c, exp2 (subf (oldmaxV 0#1 m) (maximumf (oldmaxV 0#1 m) c))⟩

/-- The blocks after the loop from there to the last output tile. -/
def midP (r : Σ' (_ : FVec F S1x512 .f32), FVec F S1x512 .f32) : P F (FVec F S64x512 .bf16) := do
  let _ ← Prog.lift (.load (B (.a (hi 0))) (Rect.unit (s := S1x512) ![0, 0] S1x512.size inb_S1x512_S1x512_0_0).toLoadRect (View.loadsAt_vmem h_S1x512))
  Prog.lift (.store (B (.a (hi 0))) (Rect.unit (s := S1x512) ![0, 0] S1x512.size inb_S1x512_S1x512_0_0) (shapeCast S1x512 r.2 shapeCasts_S1x512_S1x512) Finset.univ (View.stores_vmem_bits_univ h_S1x512 rfl) (.inl rfl))
  stripP B W (hi 0) r.1 ![0, 0] inb_S512x512_S128x512_0_0 packedbf16_S512x512_S128x512_0_0
  stripP B W (hi 0) r.1 ![128, 0] inb_S512x512_S128x512_128_0 packedbf16_S512x512_S128x512_128_0
  stripP B W (hi 0) r.1 ![256, 0] inb_S512x512_S128x512_256_0 packedbf16_S512x512_S128x512_256_0
  stripP B W (hi 0) r.1 ![384, 0] inb_S512x512_S128x512_384_0 packedbf16_S512x512_S128x512_384_0
  valuesP B (lo 0) ![0, 0, 80 * 1, 0] (inb3 1 0 (by omega) (by omega))
  softmaxP B W (hi 1) 0#1
  valuesP B (lo 1) ![0, 1, 80 * 1, 0] (inb3 1 1 (by omega) (by omega))
  softmaxP B W (hi 2) 0#1
  valuesP B (lo 2) ![0, 2, 80 * 1, 0] (inb3 1 2 (by omega) (by omega))
  softmaxP B W (hi 3) 0#1
  valuesP B (lo 3) ![0, 3, 80 * 1, 0] (inb3 1 3 (by omega) (by omega))
  softmaxP B W (hi 4) 0#1
  valuesP B (lo 4) ![0, 4, 80 * 1, 0] (inb3 1 4 (by omega) (by omega))
  softmaxP B W (hi 5) 0#1
  valuesP B (lo 5) ![0, 5, 80 * 1, 0] (inb3 1 5 (by omega) (by omega))
  softmaxP B W (hi 6) 0#1
  valuesP B (lo 6) ![0, 6, 80 * 1, 0] (inb3 1 6 (by omega) (by omega))
  softmaxP B W (hi 7) 0#1
  valuesP B (lo 7) ![0, 7, 80 * 1, 0] (inb3 1 7 (by omega) (by omega))

  outP B W ![0, 1, 15, 0, 0] inb_S1x2x16x64x512_S1x1x1x64x512_0_1_15_0_0 packedbf16_S1x2x16x64x512_S1x1x1x64x512_0_1_15_0_0
  seq8 fun g => valuesP B (hi g) ![0, g.val + 8, 80 * 1, 0] (inb3 1 (g.val + 8) (by omega) (by omega))
  let rows : Vec F S64x512 .f32 ← Prog.lift (.load (B .acc) (Rect.unit (s := S80x512) ![0, 0] S64x512.size inb_S80x512_S64x512_0_0).toLoadRect (View.loadsAt_vmem h_S64x512))
  let den : Vec F S1x512 .f32 ← Prog.lift (.load (B .acc) (Rect.unit (s := S80x512) ![64, 0] S1x512.size inb_S80x512_S1x512_64_0).toLoadRect (View.loadsAt_vmem h_S1x512))
  pure (outV rows den)

/-- The last output tile written. -/
def lastP (y : FVec F S64x512 .bf16) : P F PUnit := do
  let _ ← Prog.lift (.load (B .o) (Rect.unit (s := S1x2x16x64x512) ![0, 1, 15, 0, 0] S1x1x1x64x512.size inb_S1x2x16x64x512_S1x1x1x64x512_0_1_15_0_0).toLoadRect (View.loadsAt_vmem h_S1x1x1x64x512))
  Prog.lift (.store (B .o) (Rect.unit (s := S1x2x16x64x512) ![0, 1, 15, 0, 0] S1x1x1x64x512.size inb_S1x2x16x64x512_S1x1x1x64x512_0_1_15_0_0) (shapeCast S1x1x1x64x512 y shapeCasts_S64x512_S1x1x1x64x512) Finset.univ (View.stores_vmem h_S1x1x1x64x512 ((W .o).storeExact_slice rfl _ packedbf16_S1x2x16x64x512_S1x1x1x64x512_0_1_15_0_0) (fun _ => rfl)) (.inl rfl))

/-- The attention body, grouped as it is printed. -/
def bodyRaw : P F PUnit :=
  (proP B W >>= fun _ => ((Scf.Loop.for k0_t1_loop k0_t1_ok () fun k _ => tripP B W k) >>= fun _ => headP B) >>= midP B W) >>= lastP B W

theorem epi_eq : (headP B >>= midP B W) >>= lastP (F := F) B W = epiP B W := by
  chain_rfl

theorem bodyRaw_eq : bodyRaw (F := F) B W = bodyP B W := by
  unfold bodyRaw bodyP
  rw [← epi_eq]
  simp only [bind_assoc]

end

/-- The printed kernel is its steps. -/
theorem body_raw (i : grid0.Coords) (arg2 : Memref sig .tc .vmem S1x2x16x128x512 .bf16) (harg2 : arg2.IsWhole) (arg3 : Memref sig .tc .vmem S1x2x8192x128 .bf16) (harg3 : arg3.IsWhole) (arg4 : Memref sig .tc .vmem S1x16x160x512 .bf16) (harg4 : arg4.IsWhole) (arg5 : Memref sig .tc .vmem S1x2x16x64x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (arg19 : Memref sig .tc .vmem S512x512 .f32) (harg19 : arg19.IsWhole) (arg20 : Memref sig .tc .vmem S512x512 .f32) (harg20 : arg20.IsWhole) (arg21 : Memref sig .tc .vmem S512x512 .f32) (harg21 : arg21.IsWhole) (arg22 : Memref sig .tc .vmem S1x512 .f32) (harg22 : arg22.IsWhole) (arg23 : Memref sig .tc .vmem S1x512 .f32) (harg23 : arg23.IsWhole) (arg24 : Memref sig .tc .vmem S1x512 .f32) (harg24 : arg24.IsWhole) (arg25 : Memref sig .tc .vmem S1x512 .f32) (harg25 : arg25.IsWhole) (arg26 : Memref sig .tc .vmem S1x512 .f32) (harg26 : arg26.IsWhole) (arg27 : Memref sig .tc .vmem S1x512 .f32) (harg27 : arg27.IsWhole) (arg28 : Memref sig .tc .vmem S1x512 .f32) (harg28 : arg28.IsWhole) (arg29 : Memref sig .tc .vmem S1x512 .f32) (harg29 : arg29.IsWhole) (arg30 : Memref sig .tc .vmem S1x512 .f32) (harg30 : arg30.IsWhole) (arg31 : Memref sig .tc .vmem S1x512 .f32) (harg31 : arg31.IsWhole) (arg32 : Memref sig .tc .vmem S1x512 .f32) (harg32 : arg32.IsWhole) (arg33 : Memref sig .tc .vmem S1x512 .f32) (harg33 : arg33.IsWhole) (arg34 : Memref sig .tc .vmem S1x512 .f32) (harg34 : arg34.IsWhole) (arg35 : Memref sig .tc .vmem S1x512 .f32) (harg35 : arg35.IsWhole) (arg36 : Memref sig .tc .vmem S1x512 .f32) (harg36 : arg36.IsWhole) (arg37 : Memref sig .tc .vmem S1x512 .f32) (harg37 : arg37.IsWhole) (arg38 : Memref sig .tc .vmem S512x512 .bf16) (harg38 : arg38.IsWhole) (arg39 : Memref sig .tc .vmem S512x512 .bf16) (harg39 : arg39.IsWhole) (arg40 : Memref sig .tc .vmem S512x512 .bf16) (harg40 : arg40.IsWhole) (arg41 : Memref sig .tc .vmem S512x512 .bf16) (harg41 : arg41.IsWhole) (arg42 : Memref sig .tc .vmem S512x512 .bf16) (harg42 : arg42.IsWhole) (arg43 : Memref sig .tc .vmem S512x512 .bf16) (harg43 : arg43.IsWhole) (arg44 : Memref sig .tc .vmem S512x512 .bf16) (harg44 : arg44.IsWhole) (arg45 : Memref sig .tc .vmem S512x512 .bf16) (harg45 : arg45.IsWhole) (arg46 : Memref sig .tc .vmem S512x512 .bf16) (harg46 : arg46.IsWhole) (arg47 : Memref sig .tc .vmem S512x512 .bf16) (harg47 : arg47.IsWhole) (arg48 : Memref sig .tc .vmem S512x512 .bf16) (harg48 : arg48.IsWhole) (arg49 : Memref sig .tc .vmem S512x512 .bf16) (harg49 : arg49.IsWhole) (arg50 : Memref sig .tc .vmem S512x512 .bf16) (harg50 : arg50.IsWhole) (arg51 : Memref sig .tc .vmem S512x512 .bf16) (harg51 : arg51.IsWhole) (arg52 : Memref sig .tc .vmem S512x512 .bf16) (harg52 : arg52.IsWhole) (arg53 : Memref sig .tc .vmem S512x512 .bf16) (harg53 : arg53.IsWhole) (arg54 : Memref sig .tc .vmem S1x512 .f32) (harg54 : arg54.IsWhole) (arg55 : Memref sig .tc .vmem S1x512 .f32) (harg55 : arg55.IsWhole) (arg56 : Memref sig .tc .vmem S1x512 .f32) (harg56 : arg56.IsWhole) (arg57 : Memref sig .tc .vmem S1x512 .f32) (harg57 : arg57.IsWhole) (arg58 : Memref sig .tc .vmem S1x512 .f32) (harg58 : arg58.IsWhole) (arg59 : Memref sig .tc .vmem S1x512 .f32) (harg59 : arg59.IsWhole) (arg60 : Memref sig .tc .vmem S1x512 .f32) (harg60 : arg60.IsWhole) (arg61 : Memref sig .tc .vmem S1x512 .f32) (harg61 : arg61.IsWhole) (arg62 : Memref sig .tc .vmem S1x512 .f32) (harg62 : arg62.IsWhole) (arg63 : Memref sig .tc .vmem S1x512 .f32) (harg63 : arg63.IsWhole) (arg64 : Memref sig .tc .vmem S1x512 .f32) (harg64 : arg64.IsWhole) (arg65 : Memref sig .tc .vmem S1x512 .f32) (harg65 : arg65.IsWhole) (arg66 : Memref sig .tc .vmem S1x512 .f32) (harg66 : arg66.IsWhole) (arg67 : Memref sig .tc .vmem S1x512 .f32) (harg67 : arg67.IsWhole) (arg68 : Memref sig .tc .vmem S1x512 .f32) (harg68 : arg68.IsWhole) (arg69 : Memref sig .tc .vmem S1x512 .f32) (harg69 : arg69.IsWhole) (arg70 : Memref sig .tc .vmem S1x512 .f32) (harg70 : arg70.IsWhole) (arg71 : Memref sig .tc .vmem S80x512 .f32) (harg71 : arg71.IsWhole) :
    cc0_mla_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 arg68 harg68 arg69 harg69 arg70 harg70 arg71 harg71 = bodyRaw (F := F) (mk arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 arg41 arg42 arg43 arg44 arg45 arg46 arg47 arg48 arg49 arg50 arg51 arg52 arg53 arg54 arg55 arg56 arg57 arg58 arg59 arg60 arg61 arg62 arg63 arg64 arg65 arg66 arg67 arg68 arg69 arg70 arg71) (mk_whole arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 arg68 harg68 arg69 harg69 arg70 harg70 arg71 harg71) := by
  chain_rfl

theorem body_eq (i : grid0.Coords) (arg2 : Memref sig .tc .vmem S1x2x16x128x512 .bf16) (harg2 : arg2.IsWhole) (arg3 : Memref sig .tc .vmem S1x2x8192x128 .bf16) (harg3 : arg3.IsWhole) (arg4 : Memref sig .tc .vmem S1x16x160x512 .bf16) (harg4 : arg4.IsWhole) (arg5 : Memref sig .tc .vmem S1x2x16x64x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (arg19 : Memref sig .tc .vmem S512x512 .f32) (harg19 : arg19.IsWhole) (arg20 : Memref sig .tc .vmem S512x512 .f32) (harg20 : arg20.IsWhole) (arg21 : Memref sig .tc .vmem S512x512 .f32) (harg21 : arg21.IsWhole) (arg22 : Memref sig .tc .vmem S1x512 .f32) (harg22 : arg22.IsWhole) (arg23 : Memref sig .tc .vmem S1x512 .f32) (harg23 : arg23.IsWhole) (arg24 : Memref sig .tc .vmem S1x512 .f32) (harg24 : arg24.IsWhole) (arg25 : Memref sig .tc .vmem S1x512 .f32) (harg25 : arg25.IsWhole) (arg26 : Memref sig .tc .vmem S1x512 .f32) (harg26 : arg26.IsWhole) (arg27 : Memref sig .tc .vmem S1x512 .f32) (harg27 : arg27.IsWhole) (arg28 : Memref sig .tc .vmem S1x512 .f32) (harg28 : arg28.IsWhole) (arg29 : Memref sig .tc .vmem S1x512 .f32) (harg29 : arg29.IsWhole) (arg30 : Memref sig .tc .vmem S1x512 .f32) (harg30 : arg30.IsWhole) (arg31 : Memref sig .tc .vmem S1x512 .f32) (harg31 : arg31.IsWhole) (arg32 : Memref sig .tc .vmem S1x512 .f32) (harg32 : arg32.IsWhole) (arg33 : Memref sig .tc .vmem S1x512 .f32) (harg33 : arg33.IsWhole) (arg34 : Memref sig .tc .vmem S1x512 .f32) (harg34 : arg34.IsWhole) (arg35 : Memref sig .tc .vmem S1x512 .f32) (harg35 : arg35.IsWhole) (arg36 : Memref sig .tc .vmem S1x512 .f32) (harg36 : arg36.IsWhole) (arg37 : Memref sig .tc .vmem S1x512 .f32) (harg37 : arg37.IsWhole) (arg38 : Memref sig .tc .vmem S512x512 .bf16) (harg38 : arg38.IsWhole) (arg39 : Memref sig .tc .vmem S512x512 .bf16) (harg39 : arg39.IsWhole) (arg40 : Memref sig .tc .vmem S512x512 .bf16) (harg40 : arg40.IsWhole) (arg41 : Memref sig .tc .vmem S512x512 .bf16) (harg41 : arg41.IsWhole) (arg42 : Memref sig .tc .vmem S512x512 .bf16) (harg42 : arg42.IsWhole) (arg43 : Memref sig .tc .vmem S512x512 .bf16) (harg43 : arg43.IsWhole) (arg44 : Memref sig .tc .vmem S512x512 .bf16) (harg44 : arg44.IsWhole) (arg45 : Memref sig .tc .vmem S512x512 .bf16) (harg45 : arg45.IsWhole) (arg46 : Memref sig .tc .vmem S512x512 .bf16) (harg46 : arg46.IsWhole) (arg47 : Memref sig .tc .vmem S512x512 .bf16) (harg47 : arg47.IsWhole) (arg48 : Memref sig .tc .vmem S512x512 .bf16) (harg48 : arg48.IsWhole) (arg49 : Memref sig .tc .vmem S512x512 .bf16) (harg49 : arg49.IsWhole) (arg50 : Memref sig .tc .vmem S512x512 .bf16) (harg50 : arg50.IsWhole) (arg51 : Memref sig .tc .vmem S512x512 .bf16) (harg51 : arg51.IsWhole) (arg52 : Memref sig .tc .vmem S512x512 .bf16) (harg52 : arg52.IsWhole) (arg53 : Memref sig .tc .vmem S512x512 .bf16) (harg53 : arg53.IsWhole) (arg54 : Memref sig .tc .vmem S1x512 .f32) (harg54 : arg54.IsWhole) (arg55 : Memref sig .tc .vmem S1x512 .f32) (harg55 : arg55.IsWhole) (arg56 : Memref sig .tc .vmem S1x512 .f32) (harg56 : arg56.IsWhole) (arg57 : Memref sig .tc .vmem S1x512 .f32) (harg57 : arg57.IsWhole) (arg58 : Memref sig .tc .vmem S1x512 .f32) (harg58 : arg58.IsWhole) (arg59 : Memref sig .tc .vmem S1x512 .f32) (harg59 : arg59.IsWhole) (arg60 : Memref sig .tc .vmem S1x512 .f32) (harg60 : arg60.IsWhole) (arg61 : Memref sig .tc .vmem S1x512 .f32) (harg61 : arg61.IsWhole) (arg62 : Memref sig .tc .vmem S1x512 .f32) (harg62 : arg62.IsWhole) (arg63 : Memref sig .tc .vmem S1x512 .f32) (harg63 : arg63.IsWhole) (arg64 : Memref sig .tc .vmem S1x512 .f32) (harg64 : arg64.IsWhole) (arg65 : Memref sig .tc .vmem S1x512 .f32) (harg65 : arg65.IsWhole) (arg66 : Memref sig .tc .vmem S1x512 .f32) (harg66 : arg66.IsWhole) (arg67 : Memref sig .tc .vmem S1x512 .f32) (harg67 : arg67.IsWhole) (arg68 : Memref sig .tc .vmem S1x512 .f32) (harg68 : arg68.IsWhole) (arg69 : Memref sig .tc .vmem S1x512 .f32) (harg69 : arg69.IsWhole) (arg70 : Memref sig .tc .vmem S1x512 .f32) (harg70 : arg70.IsWhole) (arg71 : Memref sig .tc .vmem S80x512 .f32) (harg71 : arg71.IsWhole) :
    cc0_mla_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 arg68 harg68 arg69 harg69 arg70 harg70 arg71 harg71 = bodyP (F := F) (mk arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 arg41 arg42 arg43 arg44 arg45 arg46 arg47 arg48 arg49 arg50 arg51 arg52 arg53 arg54 arg55 arg56 arg57 arg58 arg59 arg60 arg61 arg62 arg63 arg64 arg65 arg66 arg67 arg68 arg69 arg70 arg71) (mk_whole arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 arg68 harg68 arg69 harg69 arg70 harg70 arg71 harg71) :=
  (body_raw i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 arg68 harg68 arg69 harg69 arg70 harg70 arg71 harg71).trans (bodyRaw_eq _ _)

end Cert.Attn

end
-- ==== Proof.Bufs.lean ====
module

public import proofs.«01_k».proof.Proof.Body
public import proofs.«01_k».proof.Proof.EqTrip
public import Idealize.ShloMosaic.Lib.Pipeline.Kit

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The buffers of a grid point -/

/-- The kernel's own buffers, in order. -/
def srefs : List (Ref sig .tc) := [cc0_scratch0, cc0_scratch1, cc0_scratch2, cc0_scratch3, cc0_scratch4, cc0_scratch5, cc0_scratch6, cc0_scratch7, cc0_scratch8, cc0_scratch9, cc0_scratch10, cc0_scratch11, cc0_scratch12, cc0_scratch13, cc0_scratch14, cc0_scratch15, cc0_scratch16, cc0_scratch17, cc0_scratch18, cc0_scratch19, cc0_scratch20, cc0_scratch21, cc0_scratch22, cc0_scratch23, cc0_scratch24, cc0_scratch25, cc0_scratch26, cc0_scratch27, cc0_scratch28, cc0_scratch29, cc0_scratch30, cc0_scratch31, cc0_scratch32, cc0_scratch33, cc0_scratch34, cc0_scratch35, cc0_scratch36, cc0_scratch37, cc0_scratch38, cc0_scratch39, cc0_scratch40, cc0_scratch41, cc0_scratch42, cc0_scratch43, cc0_scratch44, cc0_scratch45, cc0_scratch46, cc0_scratch47, cc0_scratch48, cc0_scratch49, cc0_scratch50, cc0_scratch51, cc0_scratch52, cc0_scratch53, cc0_scratch54, cc0_scratch55, cc0_scratch56, cc0_scratch57, cc0_scratch58, cc0_scratch59, cc0_scratch60, cc0_scratch61, cc0_scratch62, cc0_scratch63, cc0_scratch64, cc0_scratch65]

/-- The state's own buffers, in the same order. -/
def jscr : List J := [.s 0, .s 1, .s 2, .s 3, .s 4, .s 5, .s 6, .s 7, .s 8, .s 9, .s 10, .s 11, .s 12, .s 13, .s 14, .s 15, .c 0, .c 1, .c 2, .c 3, .c 4, .c 5, .c 6, .c 7, .c 8, .c 9, .c 10, .c 11, .c 12, .c 13, .c 14, .c 15, .p 0, .p 1, .p 2, .p 3, .p 4, .p 5, .p 6, .p 7, .p 8, .p 9, .p 10, .p 11, .p 12, .p 13, .p 14, .p 15, .a 0, .a 1, .a 2, .a 3, .a 4, .a 5, .a 6, .a 7, .a 8, .a 9, .a 10, .a 11, .a 12, .a 13, .a 14, .a 15, .m, .acc]

theorem srefs_nodup : srefs.Nodup := by decide +kernel
theorem jscr_nodup : jscr.Nodup := by decide +kernel
theorem scoped_srefs : (Finset.univ.filter fun b : Ref sig .tc => b.isScoped) \ Finset.univ.image (Pipeline.stageRef spec0) = srefs.toFinset := by decide +kernel
theorem univ_J : (Finset.univ : Finset J) = (J.q :: J.k :: J.v :: J.o :: jscr).toFinset := by decide +kernel
theorem all_nodup : (J.q :: J.k :: J.v :: J.o :: jscr).Nodup := by decide +kernel

/-- The buffers of grid point `t`. -/
def Bt (t : Fin cfg0.N) : Mems := mk (st0_0 t) (st0_1 t) (st0_2 t) (st0_3 t) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) (Memref.whole cc0_scratch10) (Memref.whole cc0_scratch11) (Memref.whole cc0_scratch12) (Memref.whole cc0_scratch13) (Memref.whole cc0_scratch14) (Memref.whole cc0_scratch15) (Memref.whole cc0_scratch16) (Memref.whole cc0_scratch17) (Memref.whole cc0_scratch18) (Memref.whole cc0_scratch19) (Memref.whole cc0_scratch20) (Memref.whole cc0_scratch21) (Memref.whole cc0_scratch22) (Memref.whole cc0_scratch23) (Memref.whole cc0_scratch24) (Memref.whole cc0_scratch25) (Memref.whole cc0_scratch26) (Memref.whole cc0_scratch27) (Memref.whole cc0_scratch28) (Memref.whole cc0_scratch29) (Memref.whole cc0_scratch30) (Memref.whole cc0_scratch31) (Memref.whole cc0_scratch32) (Memref.whole cc0_scratch33) (Memref.whole cc0_scratch34) (Memref.whole cc0_scratch35) (Memref.whole cc0_scratch36) (Memref.whole cc0_scratch37) (Memref.whole cc0_scratch38) (Memref.whole cc0_scratch39) (Memref.whole cc0_scratch40) (Memref.whole cc0_scratch41) (Memref.whole cc0_scratch42) (Memref.whole cc0_scratch43) (Memref.whole cc0_scratch44) (Memref.whole cc0_scratch45) (Memref.whole cc0_scratch46) (Memref.whole cc0_scratch47) (Memref.whole cc0_scratch48) (Memref.whole cc0_scratch49) (Memref.whole cc0_scratch50) (Memref.whole cc0_scratch51) (Memref.whole cc0_scratch52) (Memref.whole cc0_scratch53) (Memref.whole cc0_scratch54) (Memref.whole cc0_scratch55) (Memref.whole cc0_scratch56) (Memref.whole cc0_scratch57) (Memref.whole cc0_scratch58) (Memref.whole cc0_scratch59) (Memref.whole cc0_scratch60) (Memref.whole cc0_scratch61) (Memref.whole cc0_scratch62) (Memref.whole cc0_scratch63) (Memref.whole cc0_scratch64) (Memref.whole cc0_scratch65)

theorem Bt_whole (t : Fin cfg0.N) : ∀ j, (Bt t j).IsWhole :=
  mk_whole (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) (Memref.whole cc0_scratch25) (Memref.isWhole_whole _) (Memref.whole cc0_scratch26) (Memref.isWhole_whole _) (Memref.whole cc0_scratch27) (Memref.isWhole_whole _) (Memref.whole cc0_scratch28) (Memref.isWhole_whole _) (Memref.whole cc0_scratch29) (Memref.isWhole_whole _) (Memref.whole cc0_scratch30) (Memref.isWhole_whole _) (Memref.whole cc0_scratch31) (Memref.isWhole_whole _) (Memref.whole cc0_scratch32) (Memref.isWhole_whole _) (Memref.whole cc0_scratch33) (Memref.isWhole_whole _) (Memref.whole cc0_scratch34) (Memref.isWhole_whole _) (Memref.whole cc0_scratch35) (Memref.isWhole_whole _) (Memref.whole cc0_scratch36) (Memref.isWhole_whole _) (Memref.whole cc0_scratch37) (Memref.isWhole_whole _) (Memref.whole cc0_scratch38) (Memref.isWhole_whole _) (Memref.whole cc0_scratch39) (Memref.isWhole_whole _) (Memref.whole cc0_scratch40) (Memref.isWhole_whole _) (Memref.whole cc0_scratch41) (Memref.isWhole_whole _) (Memref.whole cc0_scratch42) (Memref.isWhole_whole _) (Memref.whole cc0_scratch43) (Memref.isWhole_whole _) (Memref.whole cc0_scratch44) (Memref.isWhole_whole _) (Memref.whole cc0_scratch45) (Memref.isWhole_whole _) (Memref.whole cc0_scratch46) (Memref.isWhole_whole _) (Memref.whole cc0_scratch47) (Memref.isWhole_whole _) (Memref.whole cc0_scratch48) (Memref.isWhole_whole _) (Memref.whole cc0_scratch49) (Memref.isWhole_whole _) (Memref.whole cc0_scratch50) (Memref.isWhole_whole _) (Memref.whole cc0_scratch51) (Memref.isWhole_whole _) (Memref.whole cc0_scratch52) (Memref.isWhole_whole _) (Memref.whole cc0_scratch53) (Memref.isWhole_whole _) (Memref.whole cc0_scratch54) (Memref.isWhole_whole _) (Memref.whole cc0_scratch55) (Memref.isWhole_whole _) (Memref.whole cc0_scratch56) (Memref.isWhole_whole _) (Memref.whole cc0_scratch57) (Memref.isWhole_whole _) (Memref.whole cc0_scratch58) (Memref.isWhole_whole _) (Memref.whole cc0_scratch59) (Memref.isWhole_whole _) (Memref.whole cc0_scratch60) (Memref.isWhole_whole _) (Memref.whole cc0_scratch61) (Memref.isWhole_whole _) (Memref.whole cc0_scratch62) (Memref.isWhole_whole _) (Memref.whole cc0_scratch63) (Memref.isWhole_whole _) (Memref.whole cc0_scratch64) (Memref.isWhole_whole _) (Memref.whole cc0_scratch65) (Memref.isWhole_whole _)

theorem bodyAt_eq (t : Fin cfg0.N) : bodyAt0 (F := F) t = bodyP (Bt t) (Bt_whole t) :=
  body_eq (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) (Memref.whole cc0_scratch25) (Memref.isWhole_whole _) (Memref.whole cc0_scratch26) (Memref.isWhole_whole _) (Memref.whole cc0_scratch27) (Memref.isWhole_whole _) (Memref.whole cc0_scratch28) (Memref.isWhole_whole _) (Memref.whole cc0_scratch29) (Memref.isWhole_whole _) (Memref.whole cc0_scratch30) (Memref.isWhole_whole _) (Memref.whole cc0_scratch31) (Memref.isWhole_whole _) (Memref.whole cc0_scratch32) (Memref.isWhole_whole _) (Memref.whole cc0_scratch33) (Memref.isWhole_whole _) (Memref.whole cc0_scratch34) (Memref.isWhole_whole _) (Memref.whole cc0_scratch35) (Memref.isWhole_whole _) (Memref.whole cc0_scratch36) (Memref.isWhole_whole _) (Memref.whole cc0_scratch37) (Memref.isWhole_whole _) (Memref.whole cc0_scratch38) (Memref.isWhole_whole _) (Memref.whole cc0_scratch39) (Memref.isWhole_whole _) (Memref.whole cc0_scratch40) (Memref.isWhole_whole _) (Memref.whole cc0_scratch41) (Memref.isWhole_whole _) (Memref.whole cc0_scratch42) (Memref.isWhole_whole _) (Memref.whole cc0_scratch43) (Memref.isWhole_whole _) (Memref.whole cc0_scratch44) (Memref.isWhole_whole _) (Memref.whole cc0_scratch45) (Memref.isWhole_whole _) (Memref.whole cc0_scratch46) (Memref.isWhole_whole _) (Memref.whole cc0_scratch47) (Memref.isWhole_whole _) (Memref.whole cc0_scratch48) (Memref.isWhole_whole _) (Memref.whole cc0_scratch49) (Memref.isWhole_whole _) (Memref.whole cc0_scratch50) (Memref.isWhole_whole _) (Memref.whole cc0_scratch51) (Memref.isWhole_whole _) (Memref.whole cc0_scratch52) (Memref.isWhole_whole _) (Memref.whole cc0_scratch53) (Memref.isWhole_whole _) (Memref.whole cc0_scratch54) (Memref.isWhole_whole _) (Memref.whole cc0_scratch55) (Memref.isWhole_whole _) (Memref.whole cc0_scratch56) (Memref.isWhole_whole _) (Memref.whole cc0_scratch57) (Memref.isWhole_whole _) (Memref.whole cc0_scratch58) (Memref.isWhole_whole _) (Memref.whole cc0_scratch59) (Memref.isWhole_whole _) (Memref.whole cc0_scratch60) (Memref.isWhole_whole _) (Memref.whole cc0_scratch61) (Memref.isWhole_whole _) (Memref.whole cc0_scratch62) (Memref.isWhole_whole _) (Memref.whole cc0_scratch63) (Memref.isWhole_whole _) (Memref.whole cc0_scratch64) (Memref.isWhole_whole _) (Memref.whole cc0_scratch65) (Memref.isWhole_whole _)

theorem bigSepL_zip {M : Type} [URA M] {I K : Type} {Φ : I → sProp M} {Ψ : K → sProp M} {l : List I} {l' : List K}
    (h : List.Forall₂ (fun b j => Φ b = Ψ j) l l') : bigSepL l Φ = bigSepL l' Ψ := by
  induction h with
  | nil => rfl
  | cons e _ ih => rw [bigSepL_cons, bigSepL_cons, e, ih]

theorem owns_ex (c : Dev nD) (b : Ref sig .tc) : (iprop(∃ f : Buf (Elt F) ((c : Thread nD τ).loc b), ((c : Thread nD τ).loc b) ↦{fullShare} f) : sProp 𝕄)
    = iprop(∃ X : b.ty.Contents (Elt F), owns (c : Thread nD τ) (Memref.whole b) fullShare X) := by
  simp only [owns_whole]

/-- The kernel's own buffers at some contents are the state's. -/
theorem rest_eq (c : Dev nD) (t : Fin cfg0.N) :
    (Pipeline.scopedRest (Ix := Unit) (Name := ℕ) (U := UR sig nD τ) (Lvl := ℕ) (Val := Elt F) spec0 c : sProp 𝕄)
      = bigSepL jscr fun j => iprop(∃ X : (sh j).Idx → Elt F (el j), owns (c : Thread nD τ) (Bt t j) fullShare X) := by
  rw [Pipeline.scopedRest_eq_of_list spec0 c srefs scoped_srefs srefs_nodup]
  exact bigSepL_zip (.cons (owns_ex c cc0_scratch0) (.cons (owns_ex c cc0_scratch1) (.cons (owns_ex c cc0_scratch2) (.cons (owns_ex c cc0_scratch3) (.cons (owns_ex c cc0_scratch4) (.cons (owns_ex c cc0_scratch5) (.cons (owns_ex c cc0_scratch6) (.cons (owns_ex c cc0_scratch7) (.cons (owns_ex c cc0_scratch8) (.cons (owns_ex c cc0_scratch9) (.cons (owns_ex c cc0_scratch10) (.cons (owns_ex c cc0_scratch11) (.cons (owns_ex c cc0_scratch12) (.cons (owns_ex c cc0_scratch13) (.cons (owns_ex c cc0_scratch14) (.cons (owns_ex c cc0_scratch15) (.cons (owns_ex c cc0_scratch16) (.cons (owns_ex c cc0_scratch17) (.cons (owns_ex c cc0_scratch18) (.cons (owns_ex c cc0_scratch19) (.cons (owns_ex c cc0_scratch20) (.cons (owns_ex c cc0_scratch21) (.cons (owns_ex c cc0_scratch22) (.cons (owns_ex c cc0_scratch23) (.cons (owns_ex c cc0_scratch24) (.cons (owns_ex c cc0_scratch25) (.cons (owns_ex c cc0_scratch26) (.cons (owns_ex c cc0_scratch27) (.cons (owns_ex c cc0_scratch28) (.cons (owns_ex c cc0_scratch29) (.cons (owns_ex c cc0_scratch30) (.cons (owns_ex c cc0_scratch31) (.cons (owns_ex c cc0_scratch32) (.cons (owns_ex c cc0_scratch33) (.cons (owns_ex c cc0_scratch34) (.cons (owns_ex c cc0_scratch35) (.cons (owns_ex c cc0_scratch36) (.cons (owns_ex c cc0_scratch37) (.cons (owns_ex c cc0_scratch38) (.cons (owns_ex c cc0_scratch39) (.cons (owns_ex c cc0_scratch40) (.cons (owns_ex c cc0_scratch41) (.cons (owns_ex c cc0_scratch42) (.cons (owns_ex c cc0_scratch43) (.cons (owns_ex c cc0_scratch44) (.cons (owns_ex c cc0_scratch45) (.cons (owns_ex c cc0_scratch46) (.cons (owns_ex c cc0_scratch47) (.cons (owns_ex c cc0_scratch48) (.cons (owns_ex c cc0_scratch49) (.cons (owns_ex c cc0_scratch50) (.cons (owns_ex c cc0_scratch51) (.cons (owns_ex c cc0_scratch52) (.cons (owns_ex c cc0_scratch53) (.cons (owns_ex c cc0_scratch54) (.cons (owns_ex c cc0_scratch55) (.cons (owns_ex c cc0_scratch56) (.cons (owns_ex c cc0_scratch57) (.cons (owns_ex c cc0_scratch58) (.cons (owns_ex c cc0_scratch59) (.cons (owns_ex c cc0_scratch60) (.cons (owns_ex c cc0_scratch61) (.cons (owns_ex c cc0_scratch62) (.cons (owns_ex c cc0_scratch63) (.cons (owns_ex c cc0_scratch64) (.cons (owns_ex c cc0_scratch65) .nil))))))))))))))))))))))))))))))))))))))))))))))))))))))))))))))))))

theorem bigSepL_step {M : Type} [URA M] {I : Type} (i : I) (l : List I) (Φ : I → sProp M) : bigSepL (i :: l) Φ = iprop(Φ i ∗ bigSepL l Φ) :=
  bigSepL_cons i l Φ

theorem ex_intro (c : Dev nD) (B : Mems) (l : List J) (hl : l.Nodup) (σ₀ : St F) :
    (bigSepL l fun j => iprop(∃ X : (sh j).Idx → Elt F (el j), owns (c : Thread nD τ) (B j) fullShare X) : sProp 𝕄)
      ⊢ iprop(∃ σ : St F, ⌜∀ j, j ∉ l → σ j = σ₀ j⌝ ∗ bigSepL l fun j => owns (c : Thread nD τ) (B j) fullShare (σ j)) := by
  induction l with
  | nil =>
    iintro H
    iexists σ₀
    isplitr
    · ipureintro; exact fun j _ => rfl
    iexact H
  | cons a l ih =>
    rw [List.nodup_cons] at hl
    rw [bigSepL_step]
    iintro ⟨⟨%X, HX⟩, H⟩
    ihave H' := (ih hl.2) $$ H
    icases H' with ⟨%σ, %hσ, H⟩
    iexists (σ.set a X)
    isplitr
    · ipureintro
      intro j hj
      rw [List.mem_cons, not_or] at hj
      rw [St.set_ne _ _ hj.1]
      exact hσ j hj.2
    rw [bigSepL_step, St.set_same]
    isplitl [HX]
    · iexact HX
    rw [show (bigSepL l fun j => owns (c : Thread nD τ) (B j) fullShare (σ.set a X j) : sProp 𝕄) = bigSepL l fun j => owns (c : Thread nD τ) (B j) fullShare (σ j) from ?_]
    · iexact H
    rw [← bigSep_eq_bigSepL l hl.2, ← bigSep_eq_bigSepL l hl.2]
    refine bigSep_congr fun j hj => ?_
    rw [St.set_ne _ _ (by rintro rfl; exact hl.1 (List.mem_toFinset.mp hj))]

theorem ex_forget (c : Dev nD) (B : Mems) (l : List J) (σ : St F) :
    (bigSepL l fun j => owns (c : Thread nD τ) (B j) fullShare (σ j) : sProp 𝕄)
      ⊢ bigSepL l fun j => iprop(∃ X : (sh j).Idx → Elt F (el j), owns (c : Thread nD τ) (B j) fullShare X) := by
  induction l with
  | nil => exact .rfl
  | cons a l ih =>
    rw [bigSepL_step, bigSepL_step]
    iintro ⟨HX, H⟩
    isplitl [HX]
    · iexists _; iexact HX
    iapply ih
    iexact H

theorem Own_eq (c : Dev nD) (B : Mems) (σ : St F) : (Own c B σ : sProp 𝕄) = iprop(owns (c : Thread nD τ) (B .q) fullShare (σ .q) ∗ owns (c : Thread nD τ) (B .k) fullShare (σ .k)
    ∗ owns (c : Thread nD τ) (B .v) fullShare (σ .v) ∗ owns (c : Thread nD τ) (B .o) fullShare (σ .o) ∗ bigSepL jscr fun j => owns (c : Thread nD τ) (B j) fullShare (σ j)) := by
  unfold Own
  rw [bigSep_univ_eq_bigSepL _ univ_J all_nodup]
  rw [bigSepL_step, bigSepL_step, bigSepL_step, bigSepL_step]

/-- The output block of inputs `q`, `k`, `v`: every tile its own. -/
def outBlock (q : Vec F S1x2x16x128x512 .bf16) (k : Vec F S1x2x8192x128 .bf16) (v : Vec F S1x16x160x512 .bf16) : Vec F S1x2x16x64x512 .bf16 :=
  fun i => Ox q k v (16 * (i 1).val + (i 2).val) (fun a => match a with | ⟨0, _⟩ => i 3 | ⟨1, _⟩ => i 4)

theorem outBlock_of_inv {q : Vec F S1x2x16x128x512 .bf16} {k : Vec F S1x2x8192x128 .bf16} {v : Vec F S1x16x160x512 .bf16} {σ : St F} (I : Inv q k v 512 512 512 512 σ) :
    σ .o = outBlock q k v := by
  funext i
  have h0 : (i 0).val < 1 := (i 0).isLt
  have h1 : (i 1).val < 2 := (i 1).isLt
  have h2 : (i 2).val < 16 := (i 2).isLt
  have := I.ho (16 * (i 1).val + (i 2).val) (by omega) (by omega) (fun a => match a with | ⟨0, _⟩ => i 3 | ⟨1, _⟩ => i 4)
  have e : oIdx (16 * (i 1).val + (i 2).val) (fun a => match a with | ⟨0, _⟩ => i 3 | ⟨1, _⟩ => i 4) = i := by
    funext a
    apply Fin.ext
    match a with
    | ⟨0, _⟩ => show 0 = (i 0).val; omega
    | ⟨1, _⟩ => show (16 * (i 1).val + (i 2).val) / 16 % 2 = (i 1).val; omega
    | ⟨2, _⟩ => show (16 * (i 1).val + (i 2).val) % 16 = (i 2).val; omega
    | ⟨3, _⟩ => rfl
    | ⟨4, _⟩ => rfl
  rw [e] at this
  exact this

end Cert.Attn

end
-- ==== Proof.Run.lean ====
module

public import proofs.«01_k».proof.Proof.Bufs
public import Idealize.ShloMosaic.Lib.Pipeline.Kit

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

open Idealize.ShloMosaic.Pipeline (Dat BodyObligation)

variable (m : (ℓ : Loc nD τ sig) → Buf (Elt F) ℓ) (ρ : Dev nD → PrngReg)

/-- The proof data: the inputs stay, the output is the block of the inputs. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (F := F) (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outBlock (F := F) (iblk m c 0 t) (iblk m c 1 t) (iblk m c 2 t) := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The state that finds the three inputs and an output. -/
def σin (q : Vec F S1x2x16x128x512 .bf16) (k : Vec F S1x2x8192x128 .bf16) (v : Vec F S1x16x160x512 .bf16) (o : Vec F S1x2x16x64x512 .bf16) (σ : St F) : St F
  | .q => q | .k => k | .v => v | .o => o | j => σ j

theorem own_in (c : Dev nD) (t : Fin cfg0.N) (q : Vec F S1x2x16x128x512 .bf16) (k : Vec F S1x2x8192x128 .bf16) (v : Vec F S1x16x160x512 .bf16) (o : Vec F S1x2x16x64x512 .bf16) :
    iprop(Pipeline.scopedRest (Ix := Unit) (Name := ℕ) (U := UR sig nD τ) (Lvl := ℕ) (Val := Elt F) spec0 c
      ∗ owns (c : Thread nD τ) (st0_0 t) fullShare q ∗ owns (c : Thread nD τ) (st0_1 t) fullShare k
      ∗ owns (c : Thread nD τ) (st0_2 t) fullShare v ∗ owns (c : Thread nD τ) (st0_3 t) fullShare o)
    ⊢ (iprop(∃ σ : St F, ⌜σ .q = q ∧ σ .k = k ∧ σ .v = v⌝ ∗ Own c (Bt t) σ) : sProp 𝕄) := by
  rw [rest_eq c t]
  iintro ⟨HS, Hq, Hk, Hv, Ho⟩
  ihave H' := (ex_intro c (Bt t) jscr jscr_nodup (σin q k v o fun j _ => default)) $$ HS
  icases H' with ⟨%σ, %hσ, H⟩
  have e0 : σ .q = q := hσ .q (by decide +kernel)
  have e1 : σ .k = k := hσ .k (by decide +kernel)
  have e2 : σ .v = v := hσ .v (by decide +kernel)
  have e3 : σ .o = o := hσ .o (by decide +kernel)
  iexists σ
  isplitr
  · ipureintro; exact ⟨e0, e1, e2⟩
  rw [Own_eq, e0, e1, e2, e3]
  isplitl [Hq]; · iexact Hq
  isplitl [Hk]; · iexact Hk
  isplitl [Hv]; · iexact Hv
  isplitl [Ho]; · iexact Ho
  iexact H

theorem own_out (c : Dev nD) (t : Fin cfg0.N) (σ : St F) (q : Vec F S1x2x16x128x512 .bf16) (k : Vec F S1x2x8192x128 .bf16) (v : Vec F S1x16x160x512 .bf16)
    (I : Inv q k v 512 512 512 512 σ) :
    (Own c (Bt t) σ : sProp 𝕄) ⊢ iprop(Pipeline.scopedRest (Ix := Unit) (Name := ℕ) (U := UR sig nD τ) (Lvl := ℕ) (Val := Elt F) spec0 c
      ∗ owns (c : Thread nD τ) (st0_0 t) fullShare q ∗ owns (c : Thread nD τ) (st0_1 t) fullShare k
      ∗ owns (c : Thread nD τ) (st0_2 t) fullShare v ∗ owns (c : Thread nD τ) (st0_3 t) fullShare (outBlock q k v)) := by
  rw [rest_eq c t, Own_eq, I.hq, I.hk, I.hv, outBlock_of_inv I]
  iintro ⟨Hq, Hk, Hv, Ho, H⟩
  isplitl [H]
  · iapply (ex_forget c (Bt t) jscr σ)
    iexact H
  isplitl [Hq]; · iexact Hq
  isplitl [Hk]; · iexact Hk
  isplitl [Hv]; · iexact Hv
  iexact Ho

theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [bodyAt_eq]
  simp only [before0_0, before0_1, before0_2]
  rw [after0_0, after0_1, after0_2, after0_3]
  rw [show (dats m 0 c).Φ t.succ = (dats m 0 c).Φ t.castSucc from rfl]
  rw [show (dats m 0 c).Φ t.castSucc = Pipeline.ΦA spec0 c from rfl]
  unfold Pipeline.ΦA
  unfold Dat.owesAt Pipeline.owesWithin
  rw [show (dats m 0 c).owed t.castSucc = 0 from rfl, show (dats m 0 c).owed t.succ = 0 from rfl]
  iintro ⟨⟨HS, Hg⟩, HW, ⟨%d0, Hq⟩, ⟨%d1, Hk⟩, ⟨%d2, Hv⟩, ⟨%d3, Ho⟩⟩
  ihave H := (own_in c t (iblk m c 0 t) (iblk m c 1 t) (iblk m c 2 t) ((dats m 0 c).before 3 t d3)) $$ [HS Hq Hk Hv Ho]
  · isplitl [HS]; · iexact HS
    isplitl [Hq]; · iexact Hq
    isplitl [Hk]; · iexact Hk
    isplitl [Hv]; · iexact Hv
    iexact Ho
  icases H with ⟨%σ, %hσ, H⟩
  iapply (wp_wand_r frame (wpE (defs₀ (F := F)) Variants.none c none) Set.univ)
  isplitl [H]
  · iapply (bodyP_goes (F := F) (c := c) (B := Bt t) (W := Bt_whole t) (fun _ => iprop(∃ σ', ⌜Inv (F := F) (iblk m c 0 t) (iblk m c 1 t) (iblk m c 2 t) 512 512 512 512 σ'⌝ ∗ Own c (Bt t) σ')) σ hσ (by
      intro σ' I'
      iintro H
      iexists σ'
      isplitr
      · ipureintro; exact I'
      iexact H))
    iexact H
  · iintro %u H
    icases H with ⟨%σ', %I', H⟩
    ihave H' := (own_out c t σ' _ _ _ I') $$ H
    icases H' with ⟨HS, Hq, Hk, Hv, Ho⟩
    isplitl [HS Hg]
    · isplitl [HS]; · iexact HS
      iexact Hg
    isplitl [HW]; · iexact HW
    isplitl [Hq]; · iexact Hq
    isplitl [Hk]; · iexact Hk
    isplitl [Hv]; · iexact Hv
    iexact Ho

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
theorem run_main : θ_run defs (onTc (τ := τ) (main (F := F))) (s₀ m ρ)
    (fun r => Pipeline.FramePost cfgs (dats m) 0 (V m) r ∧ r.2.sem = fun _ => 0) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)
    (Q' := fun r => Pipeline.FramePost cfgs (dats m) 0 (V m) r ∧ r.2.sem = fun _ => 0) (hQ' := fun _ h => h)

/-- The run leaves the arguments as they were, and the result window's array as the blocks make it. -/
theorem run_full : θ_run defs (onTc (τ := τ) (main (F := F))) ⟨m, fun _ => 0, ρ⟩ (fun r => (∀ c : Dev nD,
      r.2.mem ((c.tc : Thread nD τ).loc main_v24) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c =>
    ⟨(h.1 c).1 3,
     ((h.1 c).2 main_arg0 (Pipeline.mem_restRefs_of main_arg0 (by decide) (by decide))).trans (V_main_arg0 m c),
     ((h.1 c).2 main_arg1 (Pipeline.mem_restRefs_of main_arg1 (by decide) (by decide))).trans (V_main_arg1 m c),
     ((h.1 c).2 main_arg2 (Pipeline.mem_restRefs_of main_arg2 (by decide) (by decide))).trans (V_main_arg2 m c),
     ((h.1 c).2 main_arg3 (Pipeline.mem_restRefs_of main_arg3 (by decide) (by decide))).trans (V_main_arg3 m c),
     ((h.1 c).2 main_arg4 (Pipeline.mem_restRefs_of main_arg4 (by decide) (by decide))).trans (V_main_arg4 m c)⟩, h.2⟩)
    (run_main m ρ)

/-- The frame: the arguments as they were, every semaphore at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c => (h.1 c).2, h.2⟩) (run_full m ρ)

end Cert.Attn

end
-- ==== Proof.Blocks.lean ====
module

public import proofs.«01_k».proof.Proof.Run
public import Idealize.ShloMosaic.Lib.Pipeline.Value
public import Idealize.ShloMosaic.Lib.Pointwise.Index

@[expose] public section

set_option maxRecDepth 16384

noncomputable section

namespace Cert.Attn

open Cert.KernelIdeal Cert.KernelIdeal.Gen
open Idealize.ShloMosaic Idealize.ShloMosaic.TcCoe Idealize.SL.Sem
open Idealize.ShloMosaic.Pipeline (Window)

variable {F : FTy → Type} [FloatOps F]
variable (m : (ℓ : Loc nD τ sig) → Buf (Elt F) ℓ)

/-! ## The blocks of the windows -/

theorem index0_0 : ∀ t : Fin cfg0.N, win0_0.index t = ![t.val / 4, t.val % 4, 0, 0, 0] := by decide +kernel
theorem index0_1 : ∀ t : Fin cfg0.N, win0_1.index t = ![t.val / 4, t.val % 4, 0, 0] := by decide +kernel
theorem index0_2 : ∀ t : Fin cfg0.N, win0_2.index t = ![t.val / 4, 0, t.val % 4, 0] := by decide +kernel
theorem index0_3 : ∀ t : Fin cfg0.N, win0_3.index t = ![t.val / 4, t.val % 4, 0, 0, 0] := by decide +kernel

theorem pt_lt (t : Fin cfg0.N) : t.val < 32 := lt_of_lt_of_eq t.isLt N_0

/-- The batch of a point. -/
def ptB (t : Fin cfg0.N) : Fin 8 := ⟨t.val / 4, by have := pt_lt t; omega⟩
/-- A head of a point. -/
def ptH (t : Fin cfg0.N) (e : Fin 2) : Fin 8 := ⟨2 * (t.val % 4) + e.val, by omega⟩

theorem iblk0_apply (c : Dev nD) (t : Fin cfg0.N) (e : Fin 2) (T : Fin 16) (d : Fin 128) (j : Fin 512) :
    iblk m c 0 t (ix5 (0 : Fin 1) e T d j) = V m c main_v10 (ix5 (ptB t) (ptH t e) T d j) := by
  show V m c main_v10 ((win0_0.rect t).emb (ix5 (0 : Fin 1) e T d j)) = _
  refine congrArg (V m c main_v10) (funext fun a => Fin.ext ?_)
  refine (Window.rect_emb_val win0_0 t _ a).trans ?_
  rw [index0_0]
  match a with
  | ⟨0, _⟩ => show t.val / 4 * 1 + 0 = t.val / 4; omega
  | ⟨1, _⟩ => show t.val % 4 * 2 + e.val = 2 * (t.val % 4) + e.val; omega
  | ⟨2, _⟩ => show 0 * 16 + T.val = T.val; omega
  | ⟨3, _⟩ => show 0 * 128 + d.val = d.val; omega
  | ⟨4, _⟩ => show 0 * 512 + j.val = j.val; omega

theorem iblk1_apply (c : Dev nD) (t : Fin cfg0.N) (e : Fin 2) (n : Fin 8192) (d : Fin 128) :
    iblk m c 1 t (ix4 (0 : Fin 1) e n d) = V m c main_v16 (ix4 (ptB t) (ptH t e) n d) := by
  show V m c main_v16 ((win0_1.rect t).emb (ix4 (0 : Fin 1) e n d)) = _
  refine congrArg (V m c main_v16) (funext fun a => Fin.ext ?_)
  refine (Window.rect_emb_val win0_1 t _ a).trans ?_
  rw [index0_1]
  match a with
  | ⟨0, _⟩ => show t.val / 4 * 1 + 0 = t.val / 4; omega
  | ⟨1, _⟩ => show t.val % 4 * 2 + e.val = 2 * (t.val % 4) + e.val; omega
  | ⟨2, _⟩ => show 0 * 8192 + n.val = n.val; omega
  | ⟨3, _⟩ => show 0 * 128 + d.val = d.val; omega

theorem iblk2_apply (c : Dev nD) (t : Fin cfg0.N) (n : Fin 16) (u : Fin 160) (r : Fin 512) :
    iblk m c 2 t (ix4 (0 : Fin 1) n u r) = V m c main_v23 (ix4 (ptB t) n (⟨160 * (t.val % 4) + u.val, by omega⟩ : Fin 640) r) := by
  show V m c main_v23 ((win0_2.rect t).emb (ix4 (0 : Fin 1) n u r)) = _
  refine congrArg (V m c main_v23) (funext fun a => Fin.ext ?_)
  refine (Window.rect_emb_val win0_2 t _ a).trans ?_
  rw [index0_2]
  match a with
  | ⟨0, _⟩ => show t.val / 4 * 1 + 0 = t.val / 4; omega
  | ⟨1, _⟩ => show 0 * 16 + n.val = n.val; omega
  | ⟨2, _⟩ => show t.val % 4 * 160 + u.val = 160 * (t.val % 4) + u.val; omega
  | ⟨3, _⟩ => show 0 * 512 + r.val = r.val; omega

theorem emb3 (t : Fin cfg0.N) (e : Fin 2) (T : Fin 16) (d : Fin 64) (j : Fin 512) :
    (win0_3.rect t).emb (ix5 (0 : Fin 1) e T d j) = (ix5 (ptB t) (ptH t e) T d j : S8x8x16x64x512.Idx) := by
  refine funext fun a => Fin.ext ?_
  refine (Window.rect_emb_val win0_3 t _ a).trans ?_
  rw [index0_3]
  match a with
  | ⟨0, _⟩ => show t.val / 4 * 1 + 0 = t.val / 4; omega
  | ⟨1, _⟩ => show t.val % 4 * 2 + e.val = 2 * (t.val % 4) + e.val; omega
  | ⟨2, _⟩ => show 0 * 16 + T.val = T.val; omega
  | ⟨3, _⟩ => show 0 * 64 + d.val = d.val; omega
  | ⟨4, _⟩ => show 0 * 512 + j.val = j.val; omega

/-- The result array is `G`, if every element of every tile is. -/
theorem result_eq (c : Dev nD) (G : Buf (Elt F) ((c : Thread nD τ).loc main_v24))
    (hG : ∀ (t : Fin cfg0.N) (e : Fin 2) (T : Fin 16) (d : Fin 64) (j : Fin 512),
      Ox (F := F) (iblk m c 0 t) (iblk m c 1 t) (iblk m c 2 t) (16 * e.val + T.val) (ix2 d j) = G (ix5 (ptB t) (ptH t e) T d j)) :
    (dats m 0 c).arrAt 3 cfg0.N = G := by
  refine (dats m 0 c).arrAt_eq_of_cover 3 G (fun t _ => ?_) (fun i => ?_)
  · show (cfg0.win 3).cut (grid0.coords t) ((dats m 0 c).after 3 t) = _
    rw [after0_3]
    funext y
    obtain ⟨y0, e, T, d, j, rfl⟩ : ∃ (y0 : Fin 1) (e : Fin 2) (T : Fin 16) (d : Fin 64) (j : Fin 512), y = ix5 y0 e T d j :=
      ⟨y 0, y 1, y 2, y 3, y 4, eq_ix5 y⟩
    obtain rfl : y0 = 0 := Subsingleton.elim _ _
    show outBlock (F := F) (iblk m c 0 t) (iblk m c 1 t) (iblk m c 2 t) (ix5 (0 : Fin 1) e T d j) = G ((win0_3.rect t).emb (ix5 (0 : Fin 1) e T d j))
    rw [emb3, ← hG t e T d j]
    unfold outBlock
    exact congrArg _ (funext fun a => match a with | ⟨0, _⟩ => rfl | ⟨1, _⟩ => rfl)
  · have hb : (i 0).val < 8 := (i 0).isLt
    have hh : (i 1).val < 8 := (i 1).isLt
    let t : Fin cfg0.N := ⟨4 * (i 0).val + (i 1).val / 2, by rw [show cfg0.N = 32 from N_0]; omega⟩
    refine ⟨t, flush0_3 t, ?_⟩
    have h := ((cfg0.win 3).blk t).view.emb_mem_set (ix5 (0 : Fin 1) (⟨(i 1).val % 2, by omega⟩ : Fin 2) (i 2) (i 3) (i 4))
    have e : ((cfg0.win 3).blk t).view.emb (ix5 (0 : Fin 1) (⟨(i 1).val % 2, by omega⟩ : Fin 2) (i 2) (i 3) (i 4)) = i := by
      refine (emb3 t _ _ _ _).trans (funext fun a => Fin.ext ?_)
      match a with
      | ⟨0, _⟩ => show (4 * (i 0).val + (i 1).val / 2) / 4 = (i 0).val; omega
      | ⟨1, _⟩ => show 2 * ((4 * (i 0).val + (i 1).val / 2) % 4) + (i 1).val % 2 = (i 1).val; omega
      | ⟨2, _⟩ => rfl
      | ⟨3, _⟩ => rfl
      | ⟨4, _⟩ => rfl
    rwa [e] at h

end Cert.Attn

end
-- ==== Proof.Soft.lean ====
module

public import Idealize.ShloMosaic.PureOps
public import Idealize.ShloMosaic.PureOps.Ideal.Laws

@[expose] public section

noncomputable section

namespace Cert.Attn

open Idealize.ShloMosaic

/-! ## Exponentials under a moving maximum -/

theorem exp2_nonneg (x : EReal) : 0 ≤ Ideal.exp2 x := by
  induction x using EReal.rec with
  | bot => simp
  | top => simp
  | coe r =>
    rw [Ideal.exp2_coe]
    exact_mod_cast Real.rpow_nonneg (by norm_num) r

theorem exp2_sub_ne_top {a b : EReal} (h : a ≤ b) : Ideal.exp2 (a - b) ≠ ⊤ := by
  induction a using EReal.rec with
  | bot => simp
  | top =>
    obtain rfl : b = ⊤ := top_le_iff.mp h
    simp
  | coe r =>
    induction b using EReal.rec with
    | bot => simp at h
    | top => simp
    | coe t =>
      rw [← EReal.coe_sub, Ideal.exp2_coe]
      exact EReal.coe_ne_top _

/-- Rescaling a weight taken under one maximum gives the weight under a later one. -/
theorem exp2_rescale {s a b : EReal} (h₁ : s ≤ a) (h₂ : a ≤ b) :
    Ideal.exp2 (a - b) * Ideal.exp2 (s - a) = Ideal.exp2 (s - b) := by
  induction b using EReal.rec with
  | bot =>
    obtain rfl := le_bot_iff.mp h₂
    obtain rfl := le_bot_iff.mp h₁
    simp
  | top => simp
  | coe t =>
    induction a using EReal.rec with
    | top => simp at h₂
    | bot =>
      obtain rfl := le_bot_iff.mp h₁
      simp
    | coe r =>
      induction s using EReal.rec with
      | top => simp at h₁
      | bot => simp
      | coe q =>
        rw [← EReal.coe_sub, ← EReal.coe_sub, ← EReal.coe_sub, Ideal.exp2_coe, Ideal.exp2_coe, Ideal.exp2_coe, ← EReal.coe_mul]
        congr 1
        have := Real.rpow_add (x := 2) (by norm_num) (r - t) (q - r)
        rw [show r - t + (q - r) = q - t by ring] at this
        exact this.symm

theorem mul_sum_of_finite {ι : Type*} (S : Finset ι) (f : ι → EReal) {a : EReal} (h₀ : 0 ≤ a) (h₁ : a ≠ ⊤) :
    a * ∑ i ∈ S, f i = ∑ i ∈ S, a * f i := by
  classical
  induction S using Finset.induction_on with
  | empty => simp
  | insert i S hi ih => rw [Finset.sum_insert hi, Finset.sum_insert hi, EReal.left_distrib_of_nonneg_of_ne_top h₀ h₁, ih]

/-! ## A softmax taken chunk by chunk -/

section Online

variable {K : Type} [Fintype K] (s v : ℕ → K → EReal) (C M acc : ℕ → EReal)

/-- The maximum before chunk `n`: minus infinity before the first. -/
def oldM (n : ℕ) : EReal := if n = 0 then ⊥ else M n

theorem online_max (hC : ∀ n r, s n r ≤ C n) (hM : ∀ n, M (n + 1) = max (oldM M n) (C n)) :
    ∀ n, ∀ k < n, ∀ r, s k r ≤ oldM M n
  | 0, k, hk, _ => by omega
  | n + 1, k, hk, r => by
    rw [oldM, if_neg (by omega), hM]
    rcases Nat.lt_succ_iff_lt_or_eq.mp hk with h | rfl
    · exact (online_max hC hM n k h r).trans (le_max_left _ _)
    · exact (hC k r).trans (le_max_right _ _)

theorem online_attained (hC : ∀ n, ∃ r, s n r = C n) (hM : ∀ n, M (n + 1) = max (oldM M n) (C n)) :
    ∀ n, oldM M n = ⊥ ∨ ∃ k, k < n ∧ ∃ r, s k r = oldM M n
  | 0 => .inl (by simp [oldM])
  | n + 1 => by
    rw [oldM, if_neg (by omega), hM]
    rcases max_choice (oldM M n) (C n) with h | h
    · rw [h]
      rcases online_attained hC hM n with h' | ⟨k, hk, r, hr⟩
      · exact .inl h'
      · exact .inr ⟨k, by omega, r, hr⟩
    · rw [h]
      obtain ⟨r, hr⟩ := hC n
      exact .inr ⟨n, by omega, r, hr⟩

theorem online_acc (hC : ∀ n r, s n r ≤ C n) (hM : ∀ n, M (n + 1) = max (oldM M n) (C n))
    (hacc : ∀ n, acc (n + 1) = Ideal.exp2 (oldM M n - M (n + 1)) * acc n + ∑ r, v n r * Ideal.exp2 (s n r - M (n + 1))) :
    ∀ n, acc (n + 1) = ∑ k ∈ Finset.range (n + 1), ∑ r, v k r * Ideal.exp2 (s k r - M (n + 1))
  | 0 => by rw [hacc]; simp [oldM]
  | n + 1 => by
    rw [hacc, Finset.sum_range_succ _ (n + 1), online_acc hC hM hacc n]
    congr 1
    have hle : oldM M (n + 1) ≤ M (n + 2) := by rw [hM (n + 1)]; exact le_max_left _ _
    rw [mul_sum_of_finite _ _ (exp2_nonneg _) (exp2_sub_ne_top hle)]
    refine Finset.sum_congr rfl fun k hk => ?_
    rw [mul_sum_of_finite _ _ (exp2_nonneg _) (exp2_sub_ne_top hle)]
    refine Finset.sum_congr rfl fun r _ => ?_
    have h := online_max s C M hC hM (n + 1) k (Finset.mem_range.mp hk) r
    have e : oldM M (n + 1) = M (n + 1) := by simp [oldM]
    rw [mul_left_comm, ← e, exp2_rescale h hle]

end Online

/-! ## Sums over the keys -/

/-- A sum over chunks of rows is a sum over all rows. -/
theorem sum_chunks {A : Type*} [AddCommMonoid A] (f : ℕ → A) :
    ∑ k ∈ Finset.range 16, ∑ r : Fin 512, f (512 * k + r.val) = ∑ i : Fin 8192, f i.val := by
  have h : ∀ n, ∑ k ∈ Finset.range n, ∑ r : Fin 512, f (512 * k + r.val) = ∑ i ∈ Finset.range (512 * n), f i := by
    intro n
    induction n with
    | zero => simp
    | succ n ih =>
      rw [Finset.sum_range_succ, ih, Nat.mul_succ, Finset.sum_range_add, Fin.sum_univ_eq_sum_range (fun r => f (512 * n + r))]
  rw [h 16, Fin.sum_univ_eq_sum_range f]

theorem coe_sum {ι : Type*} (S : Finset ι) (f : ι → ℝ) : ((∑ i ∈ S, f i : ℝ) : EReal) = ∑ i ∈ S, (f i : EReal) := by
  classical
  induction S using Finset.induction_on with
  | empty => simp
  | insert i S hi ih => rw [Finset.sum_insert hi, Finset.sum_insert hi, EReal.coe_add, ih]

/-! ## The two ways of taking a softmax agree on finite scores -/

/-- Weights in base two under scores scaled by `c`, against exponentials of scores scaled by `d = c · log 2`: dividing the
    weighted sum by the sum of the weights is the sum of the values under the divided weights. -/
theorem softmax_eq {N : ℕ} (σ : Fin N → ℝ) (w : Fin N → EReal) (c d : ℝ) (hc : 0 < c) (hd : d = c * Real.log 2) (M m : EReal)
    (hM : ∀ k, ((c * σ k : ℝ) : EReal) ≤ M) (hM' : ∃ k, ((c * σ k : ℝ) : EReal) = M)
    (hm : ∀ k, ((d * σ k : ℝ) : EReal) ≤ m) (hm' : ∃ k, ((d * σ k : ℝ) : EReal) = m) :
    Ideal.div (∑ k, w k * Ideal.exp2 (((c * σ k : ℝ) : EReal) - M)) (∑ k, 1 * Ideal.exp2 (((c * σ k : ℝ) : EReal) - M))
      = ∑ k, w k * Ideal.div (Ideal.exp (((d * σ k : ℝ) : EReal) - m)) (∑ k, Ideal.exp (((d * σ k : ℝ) : EReal) - m)) := by
  obtain ⟨k₁, rfl⟩ := hM'
  obtain ⟨k₂, rfl⟩ := hm'
  have hlog : 0 < Real.log 2 := Real.log_pos (by norm_num)
  have hd0 : 0 < d := hd ▸ mul_pos hc hlog
  have e : σ k₁ = σ k₂ := by
    have h₁ := hM k₂
    have h₂ := hm k₁
    rw [EReal.coe_le_coe_iff] at h₁ h₂
    exact le_antisymm (le_of_mul_le_mul_left h₂ hd0) (le_of_mul_le_mul_left h₁ hc)
  have hw : ∀ k, Ideal.exp2 (((c * σ k : ℝ) : EReal) - ((c * σ k₁ : ℝ) : EReal)) = ((Real.exp (d * σ k - d * σ k₂) : ℝ) : EReal) := by
    intro k
    rw [← EReal.coe_sub, Ideal.exp2_coe]
    congr 1
    show (2 : ℝ) ^ (c * σ k - c * σ k₁) = _
    rw [Real.rpow_def_of_pos (by norm_num), hd, e]
    congr 1; ring
  have hw' : ∀ k, Ideal.exp (((d * σ k : ℝ) : EReal) - ((d * σ k₂ : ℝ) : EReal)) = ((Real.exp (d * σ k - d * σ k₂) : ℝ) : EReal) := by
    intro k
    rw [← EReal.coe_sub, Ideal.exp_coe]
  simp only [hw, hw', one_mul]
  rw [← coe_sum]
  have hZ : 0 < ∑ k, Real.exp (d * σ k - d * σ k₂) := Finset.sum_pos (fun _ _ => Real.exp_pos _) ⟨k₁, Finset.mem_univ _⟩
  rw [Ideal.div_coe hZ.ne', mul_comm, mul_sum_of_finite _ _ (by exact_mod_cast (one_div_pos.mpr hZ).le) (EReal.coe_ne_top _)]
  refine Finset.sum_congr rfl fun k _ => ?_
  rw [Ideal.div_coe hZ.ne', mul_comm, mul_assoc]

/-! ## A maximum taken as a fold -/

theorem le_fold_max {ι : Type*} (S : Finset ι) (b : EReal) (f : ι → EReal) (i : ι) (hi : i ∈ S) : f i ≤ S.fold max b f := by
  rw [Finset.le_fold_max]; exact .inr ⟨i, hi, le_rfl⟩

theorem fold_max_mem {ι : Type*} (S : Finset ι) (hS : S.Nonempty) (f : ι → EReal) : ∃ i ∈ S, f i = S.fold max ⊥ f := by
  classical
  obtain ⟨i, hi, h⟩ := S.exists_max_image f hS
  refine ⟨i, hi, le_antisymm (le_fold_max S ⊥ f i hi) ?_⟩
  rw [Finset.fold_max_le]
  exact ⟨bot_le, h⟩

theorem foldl_max {ι : Type*} (f : ι → EReal) : ∀ (l : List ι) (b : EReal),
    (∀ i ∈ l, f i ≤ l.foldl (fun r n => max r (f n)) b) ∧ b ≤ l.foldl (fun r n => max r (f n)) b
      ∧ (l.foldl (fun r n => max r (f n)) b = b ∨ ∃ i ∈ l, f i = l.foldl (fun r n => max r (f n)) b)
  | [], b => by simp
  | a :: l, b => by
    obtain ⟨h₁, h₂, h₃⟩ := foldl_max f l (max b (f a))
    rw [List.foldl_cons]
    refine ⟨fun i hi => ?_, (le_max_left _ _).trans h₂, ?_⟩
    · rcases List.mem_cons.mp hi with rfl | hi
      · exact (le_max_right _ _).trans h₂
      · exact h₁ i hi
    · rcases h₃ with h | ⟨i, hi, h⟩
      · rcases max_choice b (f a) with h' | h'
        · exact .inl (h.trans h')
        · exact .inr ⟨a, by simp, by rw [h, h']⟩
      · exact .inr ⟨i, by simp [hi], h⟩

end Cert.Attn

end
-- ==== Proof.RefVal.lean ====
module

public import proofs.«01_k».proof.Proof.Gen.ReferenceIdeal.Read
public import Idealize.ShloMosaic.Lib.IdealHost
public import proofs.«01_k».proof.Proof.Soft

@[expose] public section

noncomputable section

namespace Cert.Attn.Ref

open Cert.ReferenceIdeal Cert.ReferenceIdeal.Gen Cert.ReferenceIdeal.Read Idealize.ShloMosaic Idealize.ShloMosaic.TcCoe Idealize.SL.Sem

/-! ## The reference's result read at an index -/

theorem ofBits_96 : Ideal.ofBits .f32 0x42C00000#32 = ((96 : ℝ) : EReal) := by
  simp [Ideal.ofBits, Ideal.ieee, -EReal.coe_mul]; norm_num

theorem ofBits_2 : Ideal.ofBits .f32 0x40000000#32 = ((2 : ℝ) : EReal) := by
  simp [Ideal.ofBits, Ideal.ieee, -EReal.coe_mul]; norm_num

theorem ofBits_0 : Ideal.ofBits .f32 0x00000000#32 = 0 := by
  simp [Ideal.ofBits, Ideal.ieee]

theorem ofBits_bot : Ideal.ofBits .f32 0xFF800000#32 = ⊥ := by
  simp [Ideal.ofBits, Ideal.ieee]

theorem ofBits_top : Ideal.ofBits .f32 0x7F800000#32 = ⊤ := by
  simp [Ideal.ofBits, Ideal.ieee]

/-- One over the square root of 96. -/
def dS : ℝ := 1 / Real.sqrt 96

theorem dS_eq (i : S_.Idx) : val_main_v1 (F := Ideal) i = ((dS : ℝ) : EReal) := by
  rw [val_main_v1_apply, val_main_v0_apply]
  show Ideal.div (Ideal.ofBits .f32 0x3F800000#32) (Ideal.sqrt (Ideal.ofBits .f32 0x42C00000#32)) = _
  have h : Real.sqrt 96 ≠ 0 := by positivity
  rw [ofBits_96, Ideal.sqrt_coe, if_neg (by norm_num), Ideal.ofBits_one_f32, Ideal.div_coe h, one_mul, dS]

section
variable (x0 : (⟨S8x8192x8x64, .f32⟩ : BufTy).Contents (Elt Ideal)) (x1 : (⟨S8x8192x8x32, .f32⟩ : BufTy).Contents (Elt Ideal))
  (x2 : (⟨S8x8192x8x64, .f32⟩ : BufTy).Contents (Elt Ideal)) (x3 : (⟨S8x8192x32, .f32⟩ : BufTy).Contents (Elt Ideal))
  (x4 : (⟨S8x8192x8x64, .f32⟩ : BufTy).Contents (Elt Ideal))

theorem score (i : S8x8x8192x8192.Idx) : val_main_v7 (F := Ideal) x0 x1 x2 x3 i
    = ((∑ k : Fin 64, x0 (lidx_main_v2 i k) * x2 (ridx_main_v2 i k))
        + ∑ k : Fin 32, x3 (lidx_main_v3 (idx_main_v4 i) k) * x1 (ridx_main_v3 (idx_main_v4 i) k)) * ((dS : ℝ) : EReal) := by
  rw [val_main_v7_apply, val_main_v5_apply, val_main_v4_apply, val_main_v2_apply, val_main_v3_apply, val_main_v6_apply, dS_eq]
  rfl

theorem reduces_rows : S8x8x8192x8192.Reduces [3] S8x8x8192 := by decide

theorem lift_rows (j : S8x8x8192.Idx) (k : Fin 8192) : reduces_rows.lift j k = idx_main_v15 j k := by
  funext a; fin_cases a <;> rfl

theorem reduce_rows (x : S8x8x8192x8192.Idx → EReal) (init : S_.Idx → EReal) (hi : init (Shape.Idx.first h_S_) = ⊥) (j : S8x8x8192.Idx) :
    Host.reduce (α := EReal) max x init reducesTo_S8x8x8192x8192_S8x8x8192_d3 h_S_ j
      = (Finset.univ : Finset (Fin 8192)).fold max ⊥ (fun k => x (idx_main_v15 j k)) := by
  have h := Host.reduce_eq_fold_single (α := EReal) max x init reducesTo_S8x8x8192x8192_S8x8x8192_d3 reduces_rows h_S_ j
  have hf : x ∘ reduces_rows.lift j = fun k : Fin 8192 => x (idx_main_v15 j k) := by
    funext k
    exact congrArg x (lift_rows j k)
  rw [hi, hf] at h
  exact h

theorem max_eq (j : S8x8x8192.Idx) : val_main_v10 (F := Ideal) x0 x1 x2 x3 j
    = (Finset.univ : Finset (Fin 8192)).fold max ⊥ (fun k => val_main_v7 (F := Ideal) x0 x1 x2 x3 (idx_main_v15 j k)) := by
  have h9 : val_main_v9 (F := Ideal) j = ⊥ := by rw [val_main_v9_apply]; exact ofBits_bot
  have hc : val_main_cst_1 (F := Ideal) (Shape.Idx.first h_S_) = ⊥ := ofBits_bot
  rw [val_main_v10_apply, h9]
  refine (max_eq_right bot_le).trans ?_
  generalize hx : val_main_v7 (F := Ideal) x0 x1 x2 x3 = x
  have h8 : val_main_v8 (F := Ideal) x0 x1 x2 x3
      = Host.reduce (α := EReal) max x (val_main_cst_1 (F := Ideal)) reducesTo_S8x8x8192x8192_S8x8x8192_d3 h_S_ := by
    rw [← hx]; rfl
  rw [h8]
  exact reduce_rows x _ hc j

/-- The row of scores of a result element. -/
def rowIx (i : S8x8x16x64x512.Idx) : S8x8x8192.Idx := fun a => match a with
  | ⟨0, _⟩ => ⟨(i 0).val, (i 0).isLt⟩
  | ⟨1, _⟩ => ⟨(i 1).val, (i 1).isLt⟩
  | ⟨2, _⟩ => ⟨512 * (i 2).val + (i 4).val, by
      have h2 : (i 2).val < 16 := (i 2).isLt
      have h4 : (i 4).val < 512 := (i 4).isLt
      show _ < 8192
      omega⟩

/-- The value of a key that a result element sums. -/
def valIx (i : S8x8x16x64x512.Idx) (k : Fin 8192) : S8x8192x8x64.Idx := fun a => match a with
  | ⟨0, _⟩ => ⟨(i 0).val, (i 0).isLt⟩
  | ⟨1, _⟩ => ⟨k.val, k.isLt⟩
  | ⟨2, _⟩ => ⟨(i 1).val, (i 1).isLt⟩
  | ⟨3, _⟩ => ⟨(i 3).val, (i 3).isLt⟩

theorem idx_out (i : S8x8x16x64x512.Idx) (k : Fin 8192) :
    lidx_main_v19 (idx_main_v20 (idx_main_v21 (idx_main_v22 i))) k = valIx i k
      ∧ ridx_main_v19 (idx_main_v20 (idx_main_v21 (idx_main_v22 i))) k = idx_main_v15 (rowIx i) k := by
  have h0 : (i 0).val < 8 := (i 0).isLt
  have h1 : (i 1).val < 8 := (i 1).isLt
  have h2 : (i 2).val < 16 := (i 2).isLt
  have h3 : (i 3).val < 64 := (i 3).isLt
  have h4 : (i 4).val < 512 := (i 4).isLt
  constructor
  · funext a
    fin_cases a <;> refine Fin.ext ?_
    · show ((((((i 0).val * 16 + (i 2).val) * 512 + (i 4).val) * 8 + (i 1).val) * 64 + (i 3).val) / 4194304) = (i 0).val
      omega
    · rfl
    · show ((((((i 0).val * 16 + (i 2).val) * 512 + (i 4).val) * 8 + (i 1).val) * 64 + (i 3).val) / 64 % 8) = (i 1).val
      omega
    · show ((((((i 0).val * 16 + (i 2).val) * 512 + (i 4).val) * 8 + (i 1).val) * 64 + (i 3).val) % 64) = (i 3).val
      omega
  · funext a
    fin_cases a <;> refine Fin.ext ?_
    · show ((((((i 0).val * 16 + (i 2).val) * 512 + (i 4).val) * 8 + (i 1).val) * 64 + (i 3).val) / 4194304) = (i 0).val
      omega
    · show ((((((i 0).val * 16 + (i 2).val) * 512 + (i 4).val) * 8 + (i 1).val) * 64 + (i 3).val) / 64 % 8) = (i 1).val
      omega
    · show ((((((i 0).val * 16 + (i 2).val) * 512 + (i 4).val) * 8 + (i 1).val) * 64 + (i 3).val) / 512 % 8192) = 512 * (i 2).val + (i 4).val
      omega
    · rfl

theorem weight (j : S8x8x8192.Idx) (k : Fin 8192) : val_main_v14 (F := Ideal) x0 x1 x2 x3 (idx_main_v15 j k)
    = Ideal.exp (val_main_v7 (F := Ideal) x0 x1 x2 x3 (idx_main_v15 j k) - val_main_v10 (F := Ideal) x0 x1 x2 x3 j) := by
  rw [val_main_v14_apply, val_main_v13_apply, val_main_v12_apply, val_main_v11_apply]
  have e : idx_main_v11 (idx_main_v12 (idx_main_v15 j k)) = j := by funext a; fin_cases a <;> rfl
  rw [e]; rfl

theorem out (i : S8x8x16x64x512.Idx) : val_main_v23 (F := Ideal) x0 x1 x2 x3 x4 i
    = ∑ k : Fin 8192, x4 (valIx i k)
        * Ideal.div (Ideal.exp (val_main_v7 (F := Ideal) x0 x1 x2 x3 (idx_main_v15 (rowIx i) k) - val_main_v10 (F := Ideal) x0 x1 x2 x3 (rowIx i)))
            (∑ k : Fin 8192, Ideal.exp (val_main_v7 (F := Ideal) x0 x1 x2 x3 (idx_main_v15 (rowIx i) k) - val_main_v10 (F := Ideal) x0 x1 x2 x3 (rowIx i))) := by
  rw [val_main_v23_apply]
  show val_main_v22 (F := Ideal) x0 x1 x2 x3 x4 i = _
  rw [val_main_v22_apply, val_main_v21_apply, val_main_v20_apply, val_main_v19_apply]
  refine Finset.sum_congr rfl fun k _ => ?_
  rw [(idx_out i k).1, (idx_out i k).2, val_main_v18_apply, val_main_v17_apply, val_main_v16_apply, val_main_v15_apply, weight]
  have e : idx_main_v16 (idx_main_v17 (idx_main_v15 (rowIx i) k)) = rowIx i := by funext a; fin_cases a <;> rfl
  rw [e]
  have hc : val_main_cst_3 (F := Ideal) (Shape.Idx.first h_S_) = 0 := ofBits_0
  rw [hc]
  refine congrArg (x4 (valIx i k) * ·) ?_
  refine congrArg (Ideal.div _) ?_
  refine (zero_add _).trans (Finset.sum_congr rfl fun q _ => weight x0 x1 x2 x3 (rowIx i) q)

end

end Cert.Attn.Ref

end
-- ==== Proof.Host.lean ====
module

public import proofs.«01_k».proof.Proof.Gen.KernelIdeal.Frame
public import proofs.«01_k».proof.Proof.RefVal
public import Idealize.ShloMosaic.Lib.StableHlo.Run
public import Idealize.ShloMosaic.Lib.Pipeline.Value
public import Idealize.ShloMosaic.Lib.Pointwise.Index

@[expose] public section

set_option maxRecDepth 16384

noncomputable section

namespace Cert.Attn

open Cert.KernelIdeal Cert.KernelIdeal.Gen
open Idealize.ShloMosaic Idealize.ShloMosaic.TcCoe Idealize.SL.Sem Idealize.ShloMosaic.StableHlo

/-! ## The arrays the host prepares -/

section Arrays

variable {F : FTy → Type} [FloatOps F]

abbrev A64 (F : FTy → Type) := (⟨S8x8192x8x64, .f32⟩ : BufTy).Contents (Elt F)
abbrev A32 (F : FTy → Type) := (⟨S8x8192x8x32, .f32⟩ : BufTy).Contents (Elt F)
abbrev A128 (F : FTy → Type) := (⟨S8x8192x8x128, .f32⟩ : BufTy).Contents (Elt F)
abbrev A80 (F : FTy → Type) := (⟨S8x8192x8x80, .f32⟩ : BufTy).Contents (Elt F)
abbrev A0 (F : FTy → Type) := (⟨S_, .f32⟩ : BufTy).Contents (Elt F)
abbrev AR (F : FTy → Type) := (⟨S8x8192x32, .f32⟩ : BufTy).Contents (Elt F)

/-- The scale of the scores. -/
def hScale : A0 F := Host.divf (constant S_ .f32 0x3F800000#32 : A0 F) (mulf (Host.sqrt (constant S_ .f32 0x42C00000#32 : A0 F)) (Host.log (constant S_ .f32 0x40000000#32 : A0 F)))

/-- Two parts and zeros, side by side. -/
def hCat (x : A64 F) (y : A32 F) : A128 F :=
  concatenate S8x8192x8x128 3 [⟨S8x8192x8x64, x⟩, ⟨S8x8192x8x32, y⟩, ⟨S8x8192x8x32, (broadcastInDim S8x8192x8x32 ![] bcast_S_S8x8192x8x32 (constant S_ .f32 0x00000000#32 : A0 F) : A32 F)⟩]
    concatenates_S8x8192x8x64_S8x8192x8x32_S8x8192x8x32_S8x8192x8x128_d3

/-- The values, a one and zeros, side by side. -/
def hCatV (x : A64 F) : A80 F :=
  concatenate S8x8192x8x80 3 [⟨S8x8192x8x64, x⟩, ⟨S8x8192x8x1, (broadcastInDim S8x8192x8x1 ![] bcast_S_S8x8192x8x1 (constant S_ .f32 0x3F800000#32 : A0 F) : (⟨S8x8192x8x1, .f32⟩ : BufTy).Contents (Elt F))⟩,
      ⟨S8x8192x8x15, (broadcastInDim S8x8192x8x15 ![] bcast_S_S8x8192x8x15 (constant S_ .f32 0x00000000#32 : A0 F) : (⟨S8x8192x8x15, .f32⟩ : BufTy).Contents (Elt F))⟩]
    concatenates_S8x8192x8x64_S8x8192x8x1_S8x8192x8x15_S8x8192x8x80_d3

/-- The queries as the kernel takes them. -/
def hQ (x : A64 F) (y : A32 F) : (⟨S8x8x16x128x512, .bf16⟩ : BufTy).Contents (Elt F) :=
  truncf .bf16 (transpose S8x8x16x128x512 [0, 3, 1, 4, 2]
    (shapeCast S8x16x512x8x128 (mulf (hCat x y) (broadcastInDim S8x8192x8x128 ![] bcast_S_S8x8192x8x128 (hScale : A0 F) : A128 F) : A128 F)
      shapeCasts_S8x8192x8x128_S8x16x512x8x128 : (⟨S8x16x512x8x128, .f32⟩ : BufTy).Contents (Elt F))
    transposes_S8x16x512x8x128_S8x8x16x128x512_0_3_1_4_2 : FVec F S8x8x16x128x512 .f32) bitsLt_bf16_f32

/-- The shared rotary keys, once for each head. -/
def hRope (z : AR F) : A32 F :=
  broadcastInDim S8x8192x8x32 ![0, 1, 2, 3] bcast_S8x8192x1x32_S8x8192x8x32_0_1_2_3
    (broadcastInDim S8x8192x1x32 ![0, 1, 3] bcast_S8x8192x32_S8x8192x1x32_0_1_3 z : (⟨S8x8192x1x32, .f32⟩ : BufTy).Contents (Elt F))

/-- The keys as the kernel takes them. -/
def hK (x : A64 F) (z : AR F) : (⟨S8x8x8192x128, .bf16⟩ : BufTy).Contents (Elt F) :=
  truncf .bf16 (transpose S8x8x8192x128 [0, 2, 1, 3] (hCat x (hRope z)) transposes_S8x8192x8x128_S8x8x8192x128_0_2_1_3 : FVec F S8x8x8192x128 .f32) bitsLt_bf16_f32

/-- The values as the kernel takes them. -/
def hV (x : A64 F) : (⟨S8x16x640x512, .bf16⟩ : BufTy).Contents (Elt F) :=
  truncf .bf16 (shapeCast S8x16x640x512 (transpose S8x16x8x80x512 [0, 1, 3, 4, 2]
    (shapeCast S8x16x512x8x80 (hCatV x) shapeCasts_S8x8192x8x80_S8x16x512x8x80 : (⟨S8x16x512x8x80, .f32⟩ : BufTy).Contents (Elt F))
    transposes_S8x16x512x8x80_S8x16x8x80x512_0_1_3_4_2 : (⟨S8x16x8x80x512, .f32⟩ : BufTy).Contents (Elt F)) shapeCasts_S8x16x8x80x512_S8x16x640x512 : FVec F S8x16x640x512 .f32) bitsLt_bf16_f32

variable (m : (ℓ : Loc nD τ sig) → Buf (Elt F) ℓ)

theorem V_q (c : Dev nD) : V m c main_v10 = hQ (m ((c : Thread nD τ).loc main_arg0)) (m ((c : Thread nD τ).loc main_arg1)) := by
  show StableHlo.after hostOps0 (fun b => m (c, b)) (Proc.devRef .tc main_v10) = _
  unfold hostOps0
  after_results <;> rfl

theorem V_k (c : Dev nD) : V m c main_v16 = hK (m ((c : Thread nD τ).loc main_arg2)) (m ((c : Thread nD τ).loc main_arg3)) := by
  show StableHlo.after hostOps0 (fun b => m (c, b)) (Proc.devRef .tc main_v16) = _
  unfold hostOps0
  after_results <;> rfl

theorem V_v (c : Dev nD) : V m c main_v23 = hV (m ((c : Thread nD τ).loc main_arg4)) := by
  show StableHlo.after hostOps0 (fun b => m (c, b)) (Proc.devRef .tc main_v23) = _
  unfold hostOps0
  after_results <;> rfl

end Arrays

end Cert.Attn

end
-- ==== Proof.KVal.lean ====
module

public import proofs.«01_k».proof.Proof.Values
public import proofs.«01_k».proof.Proof.RefVal
public import Idealize.ShloMosaic.Lib.Pipeline.Value
public import Idealize.ShloMosaic.Lib.Pointwise.Index

@[expose] public section

set_option maxRecDepth 16384

noncomputable section

namespace Cert.Attn

open Cert.KernelIdeal Cert.KernelIdeal.Gen
open Idealize.ShloMosaic Idealize.ShloMosaic.TcCoe Idealize.SL.Sem

/-! ## The values of one step, read at an index over the reals -/

theorem scores_apply (q : Vec Ideal S1x1x1x128x512 .bf16) (k : Vec Ideal S1x1x512x128 .bf16) (r j : Fin 512) :
    scoresV (F := Ideal) q k (ix2 r j)
      = ∑ d : Fin 128, (k (ix4 (0 : Fin 1) (0 : Fin 1) r d) : EReal) * q (ix5 (0 : Fin 1) (0 : Fin 1) (0 : Fin 1) d j) := by
  unfold scoresV
  refine (Ideal.matmul_constant_zero_apply (φ₁ := .bf16) (φ₂ := .bf16) _ none _ _ _).trans ?_
  rw [← Equiv.sum_comp (ValueIdx.contrEquiv1 dot_S512x128_S128x512_S512x512_1_0_0_1_n_n 128 rfl rfl).symm]
  refine Finset.sum_congr rfl fun d _ => ?_
  have hk := ValueIdx.contrEquiv1_symm_val dot_S512x128_S128x512_S512x512_1_0_0_1_n_n 128 rfl rfl d
  generalize (ValueIdx.contrEquiv1 dot_S512x128_S128x512_S512x512_1_0_0_1_n_n 128 rfl rfl).symm d = e at hk ⊢
  have l0 : (dot_S512x128_S128x512_S512x512_1_0_0_1_n_n.lhsIdx (ix2 r j) e 0).val = r.val := by
    unfold DotDims.lhsIdx
    rw [dif_neg (by decide), dif_pos (by decide)]; rfl
  have l1 : (dot_S512x128_S128x512_S512x512_1_0_0_1_n_n.lhsIdx (ix2 r j) e 1).val = d.val :=
    (dot_S512x128_S128x512_S512x512_1_0_0_1_n_n.lhsIdx_val_of_single rfl _ _).trans hk
  have r0 : (dot_S512x128_S128x512_S512x512_1_0_0_1_n_n.rhsIdx (ix2 r j) e 0).val = d.val :=
    (dot_S512x128_S128x512_S512x512_1_0_0_1_n_n.rhsIdx_val_of_single rfl _ _).trans hk
  have r1 : (dot_S512x128_S128x512_S512x512_1_0_0_1_n_n.rhsIdx (ix2 r j) e 1).val = j.val := by
    unfold DotDims.rhsIdx
    rw [dif_neg (by decide), dif_pos (by decide)]; rfl
  congr 1
  · refine shapeCast_apply _ _ _ _ ?_
    rw [Shape.rowMajor_val_four, Shape.rowMajor_val_two, l0, l1]
    show ((0 * 1 + 0) * 512 + r.val) * 128 + d.val = r.val * 128 + d.val
    omega
  · refine shapeCast_apply _ _ _ _ ?_
    rw [Shape.rowMajor_val_five, Shape.rowMajor_val_two, r0, r1]
    show (((0 * 1 + 0) * 1 + 0) * 128 + d.val) * 512 + j.val = d.val * 512 + j.val
    omega

theorem colmax_apply (s : FVec Ideal S512x512 .f32) (j : Fin 512) :
    colmaxV (F := Ideal) s (ix2 (0 : Fin 1) j) = (Finset.univ : Finset (Fin 512)).fold max ⊥ (fun r => (s (ix2 r j) : EReal)) := by
  unfold colmaxV
  refine (shapeCast_apply _ _ (ix2 (0 : Fin 1) j) (ix1 j) ?_).trans ?_
  · rw [Shape.rowMajor_val_one, Shape.rowMajor_val_two]
    show j.val = 0 * 512 + j.val
    omega
  · refine (Ideal.multiReduction_maximumf_single s _ _ _ _ (ix1 j)).trans ?_
    have hb : (FloatOps.ofBits .f32 0xFF800000#32 : Ideal .f32) = (⊥ : EReal) := Ref.ofBits_bot
    rw [hb]
    congr 1
    funext r
    refine congrArg s ?_
    funext a; fin_cases a <;> rfl

theorem oldmax_apply (b : BitVec 1) (m : FVec Ideal S1x512 .f32) (i : S1x512.Idx) :
    oldmaxV (F := Ideal) b m i = if b = 1#1 then (⊥ : EReal) else m i := by
  unfold oldmaxV Scalar.select
  by_cases h : b = 1#1
  · rw [if_pos h]
    refine (congrFun (if_pos h) i).trans Ref.ofBits_bot
  · rw [if_neg h]
    exact congrFun (if_neg h) i

theorem PV_apply (s : FVec Ideal S512x512 .f32) (mn : FVec Ideal S1x512 .f32) (r j : Fin 512) :
    PV (F := Ideal) s mn (ix2 r j) = Ideal.exp2 ((s (ix2 r j) : EReal) - mn (ix2 (0 : Fin 1) j)) := by
  have hb : broadcastTo S128x512 mn broadcasts_S1x512_S128x512 (inStrip (ix2 r j)) = mn (ix2 (0 : Fin 1) j) := by
    refine broadcastTo_apply _ _ _ _ ?_
    intro a; fin_cases a <;> rfl
  have hs : stripS s (r.val / 128) (Nat.div_lt_of_lt_mul r.isLt) (inStrip (ix2 r j)) = s (ix2 r j) := by
    unfold stripS
    refine congrArg s ?_
    funext a
    apply Fin.ext
    fin_cases a
    · show 128 * (r.val / 128) + 1 * (r.val % 128) = r.val
      omega
    · show 0 + 1 * j.val = j.val
      omega
  show Ideal.exp2 ((stripS s (r.val / 128) (Nat.div_lt_of_lt_mul r.isLt) (inStrip (ix2 r j)) : EReal) - broadcastTo S128x512 mn broadcasts_S1x512_S128x512 (inStrip (ix2 r j))) = _
  rw [hb, hs]

theorem acc_apply (v : Vec Ideal S1x1x80x512 .bf16) (a : Vec Ideal S1x512 .f32) (acc : Vec Ideal S80x512 .f32) (p : Vec Ideal S512x512 .bf16)
    (u : Fin 80) (j : Fin 512) :
    accV (F := Ideal) v a acc p (ix2 u j)
      = (a (ix2 (0 : Fin 1) j) : EReal) * acc (ix2 u j) + ∑ r : Fin 512, (v (ix4 (0 : Fin 1) (0 : Fin 1) u r) : EReal) * p (ix2 r j) := by
  have hb : broadcastTo S80x512 a broadcasts_S1x512_S80x512 (ix2 u j) = a (ix2 (0 : Fin 1) j) := by
    refine broadcastTo_apply _ _ _ _ ?_
    intro a; fin_cases a <;> rfl
  unfold accV
  show (broadcastTo S80x512 a broadcasts_S1x512_S80x512 (ix2 u j) : EReal) * acc (ix2 u j)
    + (matmul dot_S80x512_S512x512_S80x512_1_0_0_1_n_n none (shapeCast S80x512 v shapeCasts_S1x1x80x512_S80x512 : FVec Ideal S80x512 .bf16)
      (p : FVec Ideal S512x512 .bf16) (constant S80x512 .f32 0x00000000#32) (ix2 u j) : EReal) = _
  rw [hb]
  refine congrArg ((a (ix2 (0 : Fin 1) j) : EReal) * acc (ix2 u j) + ·) ?_
  refine (Ideal.matmul_constant_zero_apply (φ₁ := .bf16) (φ₂ := .bf16) _ none _ _ _).trans ?_
  rw [← Equiv.sum_comp (ValueIdx.contrEquiv1 dot_S80x512_S512x512_S80x512_1_0_0_1_n_n 512 rfl rfl).symm]
  refine Finset.sum_congr rfl fun d _ => ?_
  have hk := ValueIdx.contrEquiv1_symm_val dot_S80x512_S512x512_S80x512_1_0_0_1_n_n 512 rfl rfl d
  generalize (ValueIdx.contrEquiv1 dot_S80x512_S512x512_S80x512_1_0_0_1_n_n 512 rfl rfl).symm d = e at hk ⊢
  have l0 : (dot_S80x512_S512x512_S80x512_1_0_0_1_n_n.lhsIdx (ix2 u j) e 0).val = u.val := by
    unfold DotDims.lhsIdx
    rw [dif_neg (by decide), dif_pos (by decide)]; rfl
  have l1 : (dot_S80x512_S512x512_S80x512_1_0_0_1_n_n.lhsIdx (ix2 u j) e 1).val = d.val :=
    (dot_S80x512_S512x512_S80x512_1_0_0_1_n_n.lhsIdx_val_of_single rfl _ _).trans hk
  have r0 : (dot_S80x512_S512x512_S80x512_1_0_0_1_n_n.rhsIdx (ix2 u j) e 0).val = d.val :=
    (dot_S80x512_S512x512_S80x512_1_0_0_1_n_n.rhsIdx_val_of_single rfl _ _).trans hk
  have r1 : (dot_S80x512_S512x512_S80x512_1_0_0_1_n_n.rhsIdx (ix2 u j) e 1).val = j.val := by
    unfold DotDims.rhsIdx
    rw [dif_neg (by decide), dif_pos (by decide)]; rfl
  congr 1
  · refine shapeCast_apply _ _ _ _ ?_
    rw [Shape.rowMajor_val_four, Shape.rowMajor_val_two, l0, l1]
    show ((0 * 1 + 0) * 80 + u.val) * 512 + d.val = u.val * 512 + d.val
    omega
  · refine congrArg p ?_
    funext a
    apply Fin.ext
    fin_cases a
    · exact r0
    · exact r1

theorem outAcc_apply (acc : FVec Ideal S80x512 .f32) (d : Fin 64) (j : Fin 512) :
    outAcc (F := Ideal) acc (ix2 d j)
      = Ideal.div (acc (ix2 (⟨d.val, by omega⟩ : Fin 80) j)) (acc (ix2 (64 : Fin 80) j)) := by
  have hb : ∀ den : Vec Ideal S1x512 .f32, broadcastTo S64x512 den broadcasts_S1x512_S64x512 (ix2 d j) = den (ix2 (0 : Fin 1) j) := by
    intro den
    refine broadcastTo_apply _ _ _ _ ?_
    intro a; fin_cases a <;> rfl
  unfold outAcc outV
  show Ideal.div (acc _) (broadcastTo S64x512 _ broadcasts_S1x512_S64x512 (ix2 d j)) = _
  rw [hb]
  congr 1
  · refine congrArg acc ?_
    funext a
    apply Fin.ext
    fin_cases a
    · show 0 + 1 * d.val = d.val; omega
    · show 0 + 1 * j.val = j.val; omega
  · refine congrArg acc ?_
    funext a
    apply Fin.ext
    fin_cases a
    · rfl
    · show 0 + 1 * j.val = j.val; omega

/-! ## One tile of queries -/

theorem sum_chunks' (f : Fin 8192 → EReal) :
    ∑ n ∈ Finset.range 16, ∑ r : Fin 512, (if h : n < 16 then f ⟨512 * n + r.val, by omega⟩ else 0) = ∑ i, f i := by
  have h := sum_chunks (fun i => if h : i < 8192 then f ⟨i, h⟩ else 0)
  refine Eq.trans ?_ (h.trans ?_)
  · refine Finset.sum_congr rfl fun n hn => Finset.sum_congr rfl fun r _ => ?_
    have hn' : n < 16 := Finset.mem_range.mp hn
    rw [dif_pos hn']
    show _ = dite _ _ _
    rw [dif_pos (show 512 * n + r.val < 8192 by omega)]
  · exact Finset.sum_congr rfl fun i _ => dif_pos i.isLt

/-- The running maximum over the column maxima `C`. -/
def runM (C : ℕ → EReal) : ℕ → EReal
  | 0 => 0
  | n + 1 => max (if n = 0 then ⊥ else runM C n) (C n)

/-- The running sum of the weighted values. -/
def runA (s v : ℕ → Fin 512 → EReal) (C : ℕ → EReal) (a0 : EReal) : ℕ → EReal
  | 0 => a0
  | n + 1 => Ideal.exp2 (oldM (runM C) n - runM C (n + 1)) * runA s v C a0 n + ∑ r, v n r * Ideal.exp2 (s n r - runM C (n + 1))

theorem runM_succ (C : ℕ → EReal) (n : ℕ) : runM C (n + 1) = max (oldM (runM C) n) (C n) := rfl

theorem runA_succ (s v : ℕ → Fin 512 → EReal) (C : ℕ → EReal) (a0 : EReal) (n : ℕ) : runA s v C a0 (n + 1)
    = Ideal.exp2 (oldM (runM C) n - runM C (n + 1)) * runA s v C a0 n + ∑ r, v n r * Ideal.exp2 (s n r - runM C (n + 1)) := rfl

theorem runA_eq (s v : ℕ → Fin 512 → EReal) (C : ℕ → EReal) (a0 : EReal) (hC : ∀ n r, s n r ≤ C n) (N : ℕ) (hN : N ≠ 0) :
    runA s v C a0 N = ∑ n ∈ Finset.range N, ∑ r, v n r * Ideal.exp2 (s n r - runM C N) := by
  obtain ⟨n, rfl⟩ := Nat.exists_eq_succ_of_ne_zero hN
  exact online_acc s v C (runM C) (runA s v C a0) hC (runM_succ C) (runA_succ s v C a0) n

theorem runA_all (s v : ℕ → Fin 512 → EReal) (C : ℕ → EReal) (a0 : EReal) (hC : ∀ n r, s n r ≤ C n) (S V : Fin 8192 → EReal)
    (hS : ∀ (n : ℕ) (hn : n < 16) (r : Fin 512), s n r = S ⟨512 * n + r.val, by omega⟩)
    (hV : ∀ (n : ℕ) (hn : n < 16) (r : Fin 512), v n r = V ⟨512 * n + r.val, by omega⟩) :
    runA s v C a0 16 = ∑ i, V i * Ideal.exp2 (S i - runM C 16) := by
  refine (runA_eq s v C a0 hC 16 (by omega)).trans ?_
  generalize runM C 16 = M
  refine Eq.trans ?_ (sum_chunks' (fun i => V i * Ideal.exp2 (S i - M)))
  refine Finset.sum_congr rfl fun n hn => Finset.sum_congr rfl fun r _ => ?_
  have hn' : n < 16 := Finset.mem_range.mp hn
  rw [dif_pos hn', hS n hn' r, hV n hn' r]

section Tile

variable (q : Vec Ideal S1x2x16x128x512 .bf16) (k : Vec Ideal S1x2x8192x128 .bf16) (v : Vec Ideal S1x16x160x512 .bf16)

/-- The column maxima of the chunks of tile `X`. -/
def tC (X : ℕ) (j : Fin 512) (n : ℕ) : EReal := Cx q k (16 * X + n) (ix2 (0 : Fin 1) j)
/-- The scores of the chunks of tile `X`. -/
def tS (X : ℕ) (j : Fin 512) (n : ℕ) (r : Fin 512) : EReal := Sx q k (16 * X + n) (ix2 r j)
/-- The values of the chunks of tile `X`. -/
def tV (X : ℕ) (u : Fin 80) (n : ℕ) (r : Fin 512) : EReal := vx v (16 * X + n) (ix4 (0 : Fin 1) (0 : Fin 1) u r)

theorem tS_le (X : ℕ) (j : Fin 512) (n : ℕ) (r : Fin 512) : tS q k X j n r ≤ tC q k X j n := by
  unfold tS tC Cx
  rw [colmax_apply]
  exact le_fold_max Finset.univ ⊥ (fun r => (Sx q k (16 * X + n) (ix2 r j) : EReal)) r (Finset.mem_univ r)

theorem tS_attained (X : ℕ) (j : Fin 512) (n : ℕ) : ∃ r, tS q k X j n r = tC q k X j n := by
  unfold tS tC Cx
  rw [colmax_apply]
  obtain ⟨r, -, h⟩ := fold_max_mem Finset.univ ⟨(0 : Fin 512), Finset.mem_univ _⟩ (fun r => (Sx q k (16 * X + n) (ix2 r j) : EReal))
  exact ⟨r, h⟩

theorem old_tile (X : ℕ) (j : Fin 512) (n : ℕ) (hn : n < 16) (h : n ≠ 0 → Mx q k (16 * X + n) (ix2 (0 : Fin 1) j) = runM (tC q k X j) n) :
    oldmaxV (F := Ideal) (bx (16 * X + n)) (Mx q k (16 * X + n)) (ix2 (0 : Fin 1) j) = oldM (runM (tC q k X j)) n := by
  rw [oldmax_apply]
  unfold bx oldM
  by_cases h0 : n = 0
  · subst h0
    rw [if_pos (show (16 * X + 0) % 16 = 0 by omega), if_pos rfl, if_pos rfl]
  · rw [if_neg (show ¬ (16 * X + n) % 16 = 0 by omega), if_neg (by decide), if_neg h0, h h0]

theorem Mx_tile (X : ℕ) (j : Fin 512) : ∀ n, n < 16 → Mx q k (16 * X + n + 1) (ix2 (0 : Fin 1) j) = runM (tC q k X j) (n + 1) := by
  intro n
  induction n with
  | zero =>
    intro hn
    show max (oldmaxV (F := Ideal) (bx (16 * X + 0)) (Mx q k (16 * X + 0)) (ix2 (0 : Fin 1) j) : EReal) (tC q k X j 0) = _
    rw [old_tile q k X j 0 hn (fun h => absurd rfl h)]
    rfl
  | succ n ih =>
    intro hn
    show max (oldmaxV (F := Ideal) (bx (16 * X + (n + 1))) (Mx q k (16 * X + (n + 1))) (ix2 (0 : Fin 1) j) : EReal) (tC q k X j (n + 1)) = _
    rw [old_tile q k X j (n + 1) hn (fun _ => ih (by omega))]
    rfl

theorem old_tile' (X : ℕ) (j : Fin 512) (n : ℕ) (hn : n < 16) :
    oldmaxV (F := Ideal) (bx (16 * X + n)) (Mx q k (16 * X + n)) (ix2 (0 : Fin 1) j) = oldM (runM (tC q k X j)) n := by
  refine old_tile q k X j n hn (fun h => ?_)
  obtain ⟨n, rfl⟩ := Nat.exists_eq_succ_of_ne_zero h
  exact Mx_tile q k X j n (by omega)

theorem Accx_tile (X : ℕ) (u : Fin 80) (j : Fin 512) : ∀ n, n ≤ 16 →
    Accx q k v (16 * X + n) (ix2 u j) = runA (tS q k X j) (tV v X u) (tC q k X j) (Accx q k v (16 * X) (ix2 u j)) n := by
  intro n
  induction n with
  | zero => intro _; rfl
  | succ n ih =>
    intro hn
    show accV (vx v (16 * X + n)) (Ax q k (16 * X + n)) (Accx q k v (16 * X + n)) (Px q k (16 * X + n)) (ix2 u j) = _
    rw [acc_apply, ih (by omega)]
    have hA : (Ax q k (16 * X + n) (ix2 (0 : Fin 1) j) : EReal) = Ideal.exp2 (oldM (runM (tC q k X j)) n - runM (tC q k X j) (n + 1)) := by
      unfold Ax
      show Ideal.exp2 ((oldmaxV (F := Ideal) (bx (16 * X + n)) (Mx q k (16 * X + n)) (ix2 (0 : Fin 1) j) : EReal) - Mx q k (16 * X + n + 1) (ix2 (0 : Fin 1) j)) = _
      rw [old_tile' q k X j n (by omega), Mx_tile q k X j n (by omega)]
    rw [hA, runA_succ]
    refine congrArg (Ideal.exp2 (oldM (runM (tC q k X j)) n - runM (tC q k X j) (n + 1))
      * runA (tS q k X j) (tV v X u) (tC q k X j) (Accx q k v (16 * X) (ix2 u j)) n + ·) ?_
    refine Finset.sum_congr rfl fun r _ => ?_
    unfold Px
    rw [PV_apply, Mx_tile q k X j n (by omega)]
    rfl

/-- An element of an output tile: the quotient of two sums over all the keys, under a maximum of the scores. -/
theorem Ox_tile (X : ℕ) (d : Fin 64) (j : Fin 512) (S : Fin 8192 → EReal) (V W : Fin 8192 → EReal)
    (hS : ∀ (n : ℕ) (hn : n < 16) (r : Fin 512), tS q k X j n r = S ⟨512 * n + r.val, by omega⟩)
    (hV : ∀ (n : ℕ) (hn : n < 16) (r : Fin 512), tV v X ⟨d.val, by omega⟩ n r = V ⟨512 * n + r.val, by omega⟩)
    (hW : ∀ (n : ℕ) (hn : n < 16) (r : Fin 512), tV v X 64 n r = W ⟨512 * n + r.val, by omega⟩)
    (hb : ∀ i, S i ≠ ⊥) :
    ∃ M : EReal, (∀ i, S i ≤ M) ∧ (∃ i, S i = M) ∧
      Ox q k v X (ix2 d j) = Ideal.div (∑ i, V i * Ideal.exp2 (S i - M)) (∑ i, W i * Ideal.exp2 (S i - M)) := by
  have hle := online_max (tS q k X j) (tC q k X j) (runM (tC q k X j)) (tS_le q k X j) (runM_succ _) 16
  have hat := online_attained (tS q k X j) (tC q k X j) (runM (tC q k X j)) (tS_attained q k X j) (runM_succ _) 16
  have hall : ∀ i : Fin 8192, S i ≤ runM (tC q k X j) 16 := by
    intro i
    have h := hle (i.val / 512) (by omega) ⟨i.val % 512, Nat.mod_lt _ (by omega)⟩
    rw [hS _ (by omega)] at h
    rw [oldM, if_neg (by omega)] at h
    convert h using 2
    apply Fin.ext
    show i.val = 512 * (i.val / 512) + i.val % 512
    omega
  have hacc : ∀ (u : Fin 80) (V : Fin 8192 → EReal) (_ : ∀ (n : ℕ) (hn : n < 16) (r : Fin 512), tV v X u n r = V ⟨512 * n + r.val, by omega⟩),
      Accx q k v (16 * (X + 1)) (ix2 u j) = ∑ i, V i * Ideal.exp2 (S i - runM (tC q k X j) 16) := by
    intro u V hV
    rw [show 16 * (X + 1) = 16 * X + 16 by omega, Accx_tile q k v X u j 16 le_rfl]
    exact runA_all _ _ _ _ (tS_le q k X j) S V hS hV
  refine ⟨runM (tC q k X j) 16, hall, ?_, ?_⟩
  · rcases hat with h | ⟨n, hn, r, h⟩
    · rw [oldM, if_neg (by omega)] at h
      exact absurd (le_bot_iff.mp (h ▸ hall 0)) (hb 0)
    · rw [hS n hn r, oldM, if_neg (by omega)] at h
      exact ⟨_, h⟩
  · unfold Ox
    rw [outAcc_apply, hacc _ V hV, hacc _ W hW]

end Tile

end Cert.Attn

end
-- ==== Proof.HostVal.lean ====
module

public import proofs.«01_k».proof.Proof.Host
public import proofs.«01_k».proof.Proof.KVal

@[expose] public section

set_option maxRecDepth 16384

noncomputable section

namespace Cert.Attn

open Cert.KernelIdeal Cert.KernelIdeal.Gen
open Idealize.ShloMosaic Idealize.ShloMosaic.TcCoe Idealize.SL.Sem

/-! ## The prepared arrays over the reals, read at an index -/

/-- The scale of the scores: one over the root of 96 and the logarithm of two. -/
def cS : ℝ := 1 / (Real.sqrt 96 * Real.log 2)

theorem log_two_pos : 0 < Real.log 2 := Real.log_pos (by norm_num)

theorem cS_pos : 0 < cS := by
  have := log_two_pos
  unfold cS; positivity

theorem dS_eq_cS : Ref.dS = cS * Real.log 2 := by
  have h := log_two_pos
  unfold Ref.dS cS
  field_simp

theorem hScale_apply (i : S_.Idx) : hScale (F := Ideal) i = ((cS : ℝ) : EReal) := by
  show Ideal.div (Ideal.ofBits .f32 0x3F800000#32) (Ideal.sqrt (Ideal.ofBits .f32 0x42C00000#32) * Ideal.log (Ideal.ofBits .f32 0x40000000#32)) = _
  have h : Real.sqrt 96 * Real.log 2 ≠ 0 := mul_ne_zero (by positivity) log_two_pos.ne'
  rw [Ref.ofBits_96, Ref.ofBits_2, Ideal.sqrt_coe, if_neg (by norm_num), Ideal.log_coe, if_neg (by norm_num), ← EReal.coe_mul, Ideal.ofBits_one_f32, Ideal.div_coe h, one_mul, cS]

theorem truncf_read {s : Shape} (x : FVec Ideal s .f32) (h : (FTy.bf16).bits < (FTy.f32).bits) (i : s.Idx) :
    truncf .bf16 x h i = (x i : EReal) := rfl

section Cat

variable (x : A64 Ideal) (y : A32 Ideal) (z : AR Ideal) (b : Fin 8) (n : Fin 8192) (h : Fin 8)

theorem hCat_first (d : Fin 64) : hCat (F := Ideal) x y (ix4 b n h (⟨d.val, by omega⟩ : Fin 128)) = x (ix4 b n h d) := by
  unfold hCat
  refine concatenate_apply_piece (t := S8x8192x8x128) 3 _ _ _ 0 (by simp) S8x8192x8x64 x rfl rfl 0 rfl (ix4 b n h d) ?_ ?_
  · intro a ha
    match a with
    | ⟨0, _⟩ => rfl
    | ⟨1, _⟩ => rfl
    | ⟨2, _⟩ => rfl
    | ⟨3, _⟩ => exact absurd rfl ha
  · show 0 + d.val = d.val
    omega

theorem hCat_second (d : Fin 32) : hCat (F := Ideal) x y (ix4 b n h (⟨64 + d.val, by omega⟩ : Fin 128)) = y (ix4 b n h d) := by
  unfold hCat
  refine concatenate_apply_piece (t := S8x8192x8x128) 3 _ _ _ 1 (by simp) S8x8192x8x32 y rfl rfl 64 rfl (ix4 b n h d) ?_ ?_
  · intro a ha
    match a with
    | ⟨0, _⟩ => rfl
    | ⟨1, _⟩ => rfl
    | ⟨2, _⟩ => rfl
    | ⟨3, _⟩ => exact absurd rfl ha
  · rfl

theorem hCat_third (d : Fin 32) : hCat (F := Ideal) x y (ix4 b n h (⟨96 + d.val, by omega⟩ : Fin 128)) = (0 : EReal) := by
  unfold hCat
  refine (concatenate_apply_piece (t := S8x8192x8x128) 3 _ _ _ 2 (by simp) S8x8192x8x32 _ rfl rfl 96 rfl (ix4 b n h d) ?_ ?_).trans Ref.ofBits_0
  · intro a ha
    match a with
    | ⟨0, _⟩ => rfl
    | ⟨1, _⟩ => rfl
    | ⟨2, _⟩ => rfl
    | ⟨3, _⟩ => exact absurd rfl ha
  · rfl

theorem hCatV_first (d : Fin 64) : hCatV (F := Ideal) x (ix4 b n h (⟨d.val, by omega⟩ : Fin 80)) = x (ix4 b n h d) := by
  unfold hCatV
  refine concatenate_apply_piece (t := S8x8192x8x80) 3 _ _ _ 0 (by simp) S8x8192x8x64 x rfl rfl 0 rfl (ix4 b n h d) ?_ ?_
  · intro a ha
    match a with
    | ⟨0, _⟩ => rfl
    | ⟨1, _⟩ => rfl
    | ⟨2, _⟩ => rfl
    | ⟨3, _⟩ => exact absurd rfl ha
  · show 0 + d.val = d.val
    omega

theorem hCatV_second : hCatV (F := Ideal) x (ix4 b n h (64 : Fin 80)) = (1 : EReal) := by
  unfold hCatV
  refine (concatenate_apply_piece (t := S8x8192x8x80) 3 _ _ _ 1 (by simp) S8x8192x8x1 _ rfl rfl 64 rfl (ix4 b n h (0 : Fin 1)) ?_ ?_).trans Ideal.ofBits_one_f32
  · intro a ha
    match a with
    | ⟨0, _⟩ => rfl
    | ⟨1, _⟩ => rfl
    | ⟨2, _⟩ => rfl
    | ⟨3, _⟩ => exact absurd rfl ha
  · rfl

theorem hRope_apply (d : Fin 32) : hRope (F := Ideal) z (ix4 b n h d) = z (ix3 b n d) := by
  unfold hRope
  refine (broadcastInDim_apply _ _ _ _ (ix4 b n (0 : Fin 1) d) ?_).trans (broadcastInDim_apply _ _ _ _ (ix3 b n d) ?_)
  · intro a; fin_cases a <;> rfl
  · intro a; fin_cases a <;> rfl

theorem hK_apply (d : Fin 128) : hK (F := Ideal) x z (ix4 b h n d) = hCat (F := Ideal) x (hRope z) (ix4 b n h d) := by
  unfold hK
  refine (truncf_read _ _ _).trans ?_
  refine transpose_apply _ _ _ _ (ix4 b n h d) ?_
  intro a; fin_cases a <;> rfl

theorem hQ_apply (T : Fin 16) (d : Fin 128) (j : Fin 512) : hQ (F := Ideal) x y (ix5 b h T d j)
    = (hCat (F := Ideal) x y (ix4 b (⟨512 * T.val + j.val, by omega⟩ : Fin 8192) h d) : EReal) * ((cS : ℝ) : EReal) := by
  unfold hQ
  refine (truncf_read _ _ _).trans ?_
  refine (transpose_apply _ _ _ _ (ix5 b T j h d) ?_).trans ?_
  · intro a; fin_cases a <;> rfl
  refine (shapeCast_apply _ _ _ (ix4 b (⟨512 * T.val + j.val, by omega⟩ : Fin 8192) h d) ?_).trans ?_
  · rw [Shape.rowMajor_val_four, Shape.rowMajor_val_five]
    show ((b.val * 8192 + (512 * T.val + j.val)) * 8 + h.val) * 128 + d.val = (((b.val * 16 + T.val) * 512 + j.val) * 8 + h.val) * 128 + d.val
    omega
  · refine congrArg ((hCat (F := Ideal) x y (ix4 b (⟨512 * T.val + j.val, by omega⟩ : Fin 8192) h d) : EReal) * ·) ?_
    exact (ValueIdx.broadcastInDim_scalar_apply _ _ _).trans (hScale_apply _)

theorem hV_apply (κ : Fin 16) (u : Fin 80) (r : Fin 512) (U : Fin 640) (hU : U.val = 80 * h.val + u.val) : hV (F := Ideal) x (ix4 b κ U r)
    = hCatV (F := Ideal) x (ix4 b (⟨512 * κ.val + r.val, by omega⟩ : Fin 8192) h u) := by
  unfold hV
  refine (truncf_read _ _ _).trans ?_
  refine (shapeCast_apply _ _ _ (ix5 b κ h u r) ?_).trans ?_
  · rw [Shape.rowMajor_val_four, Shape.rowMajor_val_five]
    show (((b.val * 16 + κ.val) * 8 + h.val) * 80 + u.val) * 512 + r.val = ((b.val * 16 + κ.val) * 640 + U.val) * 512 + r.val
    rw [hU]; omega
  refine (transpose_apply _ _ _ _ (ix5 b κ r h u) ?_).trans ?_
  · intro a; fin_cases a <;> rfl
  refine shapeCast_apply _ _ _ _ ?_
  rw [Shape.rowMajor_val_four, Shape.rowMajor_val_five]
  show ((b.val * 8192 + (512 * κ.val + r.val)) * 8 + h.val) * 80 + u.val = (((b.val * 16 + κ.val) * 512 + r.val) * 8 + h.val) * 80 + u.val
  omega

end Cat

theorem sum_128 (f : Fin 128 → EReal) : ∑ d, f d
    = (∑ d : Fin 64, f ⟨d.val, by omega⟩) + ((∑ d : Fin 32, f ⟨64 + d.val, by omega⟩) + ∑ d : Fin 32, f ⟨96 + d.val, by omega⟩) := by
  rw [show (∑ d, f d) = ∑ d : Fin (64 + 64), f d from rfl, Fin.sum_univ_add]
  refine congrArg₂ (· + ·) rfl ?_
  rw [show (∑ i : Fin 64, f (Fin.natAdd 64 i)) = ∑ i : Fin (32 + 32), f (Fin.natAdd 64 i) from rfl, Fin.sum_univ_add]
  refine congrArg₂ (· + ·) rfl (Finset.sum_congr rfl fun d _ => congrArg f (Fin.ext ?_))
  show 64 + (32 + d.val) = 96 + d.val
  omega

theorem sum_scaled {N : ℕ} (f g : Fin N → ℝ) (c : ℝ) :
    ∑ k, ((f k : ℝ) : EReal) * (((g k : ℝ) : EReal) * ((c : ℝ) : EReal)) = ((c * ∑ k, g k * f k : ℝ) : EReal) := by
  rw [Finset.mul_sum, coe_sum]
  refine Finset.sum_congr rfl fun k _ => ?_
  rw [← EReal.coe_mul, ← EReal.coe_mul]
  congr 1; ring

/-- The score of a query and a key, before its scale. -/
def sig0 (r0 : S8x8192x8x64.Idx → ℝ) (r1 : S8x8192x8x32.Idx → ℝ) (r2 : S8x8192x8x64.Idx → ℝ) (r3 : S8x8192x32.Idx → ℝ)
    (b : Fin 8) (h : Fin 8) (p n : Fin 8192) : ℝ :=
  (∑ d : Fin 64, r0 (ix4 b p h d) * r2 (ix4 b n h d)) + ∑ d : Fin 32, r1 (ix4 b p h d) * r3 (ix3 b n d)

theorem score_real (r0 : S8x8192x8x64.Idx → ℝ) (r1 : S8x8192x8x32.Idx → ℝ) (r2 : S8x8192x8x64.Idx → ℝ) (r3 : S8x8192x32.Idx → ℝ)
    (b : Fin 8) (h : Fin 8) (T : Fin 16) (j : Fin 512) (n : Fin 8192) :
    ∑ d : Fin 128, (hK (F := Ideal) (fun i => ((r2 i : ℝ) : EReal)) (fun i => ((r3 i : ℝ) : EReal)) (ix4 b h n d) : EReal)
        * hQ (F := Ideal) (fun i => ((r0 i : ℝ) : EReal)) (fun i => ((r1 i : ℝ) : EReal)) (ix5 b h T d j)
      = ((cS * sig0 r0 r1 r2 r3 b h ⟨512 * T.val + j.val, by omega⟩ n : ℝ) : EReal) := by
  rw [sum_128]
  simp only [hK_apply, hQ_apply, hCat_first, hCat_second, hCat_third, hRope_apply]
  rw [sum_scaled, sum_scaled]
  simp only [zero_mul, Finset.sum_const_zero, add_zero]
  rw [← EReal.coe_add, ← mul_add]
  rfl

end Cert.Attn

end
-- ==== Proof.Equal.lean ====
module

public import proofs.«01_k».proof.Proof.Blocks
public import proofs.«01_k».proof.Proof.HostVal

@[expose] public section

set_option maxRecDepth 16384

noncomputable section

namespace Cert.Attn

open Cert.KernelIdeal Cert.KernelIdeal.Gen
open Idealize.ShloMosaic Idealize.ShloMosaic.TcCoe Idealize.SL.Sem

/-! ## The result array is the reference's -/

section Tiles

variable (q : Vec Ideal S1x2x16x128x512 .bf16) (k : Vec Ideal S1x2x8192x128 .bf16) (v : Vec Ideal S1x16x160x512 .bf16)

theorem tS_eq (e : Fin 2) (T : Fin 16) (j : Fin 512) (n : ℕ) (hn : n < 16) (r : Fin 512) :
    tS q k (16 * e.val + T.val) j n r
      = ∑ d : Fin 128, (k (ix4 (0 : Fin 1) e (⟨512 * n + r.val, by omega⟩ : Fin 8192) d) : EReal) * q (ix5 (0 : Fin 1) e T d j) := by
  unfold tS Sx
  rw [scores_apply]
  refine Finset.sum_congr rfl fun d _ => congrArg₂ (fun a b : EReal => a * b) ?_ ?_
  · unfold kx
    refine congrArg k (funext fun a => Fin.ext ?_)
    match a with
    | ⟨0, _⟩ => rfl
    | ⟨1, _⟩ => show (16 * (16 * e.val + T.val) + n) / 256 % 2 + 1 * 0 = e.val; omega
    | ⟨2, _⟩ => show 512 * ((16 * (16 * e.val + T.val) + n) % 16) + 1 * r.val = 512 * n + r.val; omega
    | ⟨3, _⟩ => show 0 + 1 * d.val = d.val; omega
  · unfold qx
    refine congrArg q (funext fun a => Fin.ext ?_)
    match a with
    | ⟨0, _⟩ => rfl
    | ⟨1, _⟩ => show (16 * (16 * e.val + T.val) + n) / 256 % 2 + 1 * 0 = e.val; omega
    | ⟨2, _⟩ => show (16 * (16 * e.val + T.val) + n) / 16 % 16 + 1 * 0 = T.val; omega
    | ⟨3, _⟩ => show 0 + 1 * d.val = d.val; omega
    | ⟨4, _⟩ => show 0 + 1 * j.val = j.val; omega

theorem tV_eq (e : Fin 2) (T : Fin 16) (u : Fin 80) (n : ℕ) (hn : n < 16) (r : Fin 512) :
    tV v (16 * e.val + T.val) u n r = v (ix4 (0 : Fin 1) (⟨n, hn⟩ : Fin 16) (⟨80 * e.val + u.val, by omega⟩ : Fin 160) r) := by
  unfold tV vx
  refine congrArg v (funext fun a => Fin.ext ?_)
  match a with
  | ⟨0, _⟩ => rfl
  | ⟨1, _⟩ => show (16 * (16 * e.val + T.val) + n) % 16 + 1 * 0 = n; omega
  | ⟨2, _⟩ => show 80 * ((16 * (16 * e.val + T.val) + n) / 256 % 2) + 1 * u.val = 80 * e.val + u.val; omega
  | ⟨3, _⟩ => show 0 + 1 * r.val = r.val; omega

end Tiles

/-- The score of the reference, as a real. -/
theorem ref_score (r0 : S8x8192x8x64.Idx → ℝ) (r1 : S8x8192x8x32.Idx → ℝ) (r2 : S8x8192x8x64.Idx → ℝ) (r3 : S8x8192x32.Idx → ℝ)
    (b h : Fin 8) (p n : Fin 8192) :
    Cert.ReferenceIdeal.Read.val_main_v7 (F := Ideal) (fun i => ((r0 i : ℝ) : EReal)) (fun i => ((r1 i : ℝ) : EReal)) (fun i => ((r2 i : ℝ) : EReal))
        (fun i => ((r3 i : ℝ) : EReal)) (ix4 b h p n)
      = ((Ref.dS * sig0 r0 r1 r2 r3 b h p n : ℝ) : EReal) := by
  rw [Ref.score]
  have h1 : ∀ d : Fin 64, Cert.ReferenceIdeal.Read.lidx_main_v2 (ix4 b h p n) d = ix4 b p h d := by
    intro d; funext a; fin_cases a <;> rfl
  have h2 : ∀ d : Fin 64, Cert.ReferenceIdeal.Read.ridx_main_v2 (ix4 b h p n) d = ix4 b n h d := by
    intro d; funext a; fin_cases a <;> rfl
  have h3 : ∀ d : Fin 32, Cert.ReferenceIdeal.Read.lidx_main_v3 (Cert.ReferenceIdeal.Read.idx_main_v4 (ix4 b h p n)) d = ix3 b n d := by
    intro d; funext a; fin_cases a <;> rfl
  have h4 : ∀ d : Fin 32, Cert.ReferenceIdeal.Read.ridx_main_v3 (Cert.ReferenceIdeal.Read.idx_main_v4 (ix4 b h p n)) d = ix4 b p h d := by
    intro d; funext a; fin_cases a <;> rfl
  simp only [h1, h2, h3, h4]
  simp only [← EReal.coe_mul, ← coe_sum, ← EReal.coe_add]
  congr 1
  unfold sig0
  rw [mul_comm Ref.dS]
  congr 2
  exact Finset.sum_congr rfl fun d _ => mul_comm _ _

variable (m : (ℓ : Loc nD τ sig) → Buf (Elt Ideal) ℓ)

/-- The result array of the kernel is the reference's function of the arguments, at finite queries and keys. -/
theorem kernel_value (c : Dev nD) (r0 : S8x8192x8x64.Idx → ℝ) (r1 : S8x8192x8x32.Idx → ℝ) (r2 : S8x8192x8x64.Idx → ℝ) (r3 : S8x8192x32.Idx → ℝ)
    (x4 : A64 Ideal)
    (h0 : m ((c : Thread nD τ).loc main_arg0) = fun i => ((r0 i : ℝ) : EReal)) (h1 : m ((c : Thread nD τ).loc main_arg1) = fun i => ((r1 i : ℝ) : EReal))
    (h2 : m ((c : Thread nD τ).loc main_arg2) = fun i => ((r2 i : ℝ) : EReal)) (h3 : m ((c : Thread nD τ).loc main_arg3) = fun i => ((r3 i : ℝ) : EReal))
    (h4 : m ((c : Thread nD τ).loc main_arg4) = x4) :
    (dats m 0 c).arrAt 3 cfg0.N
      = Cert.ReferenceIdeal.Read.val_main_v23 (F := Ideal) (fun i => ((r0 i : ℝ) : EReal)) (fun i => ((r1 i : ℝ) : EReal)) (fun i => ((r2 i : ℝ) : EReal))
        (fun i => ((r3 i : ℝ) : EReal)) x4 := by
  refine result_eq m c _ (fun t e T d j => ?_)
  have hp : 512 * T.val + j.val < 8192 := by omega
  set p : Fin 8192 := ⟨512 * T.val + j.val, hp⟩ with hpdef
  set b := ptB t with hb
  set h := ptH t e with hh
  have hS : ∀ (n : ℕ) (hn : n < 16) (r : Fin 512), tS (iblk m c 0 t) (iblk m c 1 t) (16 * e.val + T.val) j n r
      = (fun n : Fin 8192 => ((cS * sig0 r0 r1 r2 r3 b h p n : ℝ) : EReal)) ⟨512 * n + r.val, by omega⟩ := by
    intro n hn r
    rw [tS_eq _ _ e T j n hn r]
    refine Eq.trans ?_ (score_real r0 r1 r2 r3 b h T j ⟨512 * n + r.val, by omega⟩)
    refine Finset.sum_congr rfl fun d _ => ?_
    rw [iblk0_apply, iblk1_apply, V_q, V_k, h0, h1, h2, h3]
  have hVV : ∀ (u : Fin 80) (n : ℕ) (hn : n < 16) (r : Fin 512), tV (iblk m c 2 t) (16 * e.val + T.val) u n r
      = hCatV (F := Ideal) x4 (ix4 b (⟨512 * n + r.val, by omega⟩ : Fin 8192) h u) := by
    intro u n hn r
    rw [tV_eq _ e T u n hn r, iblk2_apply, V_v, h4]
    refine hV_apply x4 b h ⟨n, hn⟩ u r _ ?_
    show 160 * (t.val % 4) + (80 * e.val + u.val) = 80 * (2 * (t.val % 4) + e.val) + u.val
    omega
  obtain ⟨M, hM, hM', hO⟩ := Ox_tile (iblk m c 0 t) (iblk m c 1 t) (iblk m c 2 t) (16 * e.val + T.val) d j
    (fun n : Fin 8192 => ((cS * sig0 r0 r1 r2 r3 b h p n : ℝ) : EReal)) (fun n => x4 (ix4 b n h d)) (fun _ => 1)
    hS (fun n hn r => (hVV _ n hn r).trans (hCatV_first x4 b _ h d)) (fun n hn r => (hVV _ n hn r).trans (hCatV_second x4 b _ h))
    (fun i => EReal.coe_ne_bot _)
  rw [hO, Ref.out, Ref.max_eq]
  have e1 : ∀ n : Fin 8192, Cert.ReferenceIdeal.Read.idx_main_v15 (Ref.rowIx (ix5 b h T d j)) n = ix4 b h p n := by
    intro n; funext a; fin_cases a <;> rfl
  have e2 : ∀ n : Fin 8192, Ref.valIx (ix5 b h T d j) n = ix4 b n h d := by
    intro n; funext a; fin_cases a <;> rfl
  simp only [e1, e2, ref_score]
  refine softmax_eq (fun n => sig0 r0 r1 r2 r3 b h p n) (fun n => x4 (ix4 b n h d)) cS Ref.dS cS_pos dS_eq_cS M _ hM hM' ?_ ?_
  · intro n
    exact le_fold_max Finset.univ ⊥ (fun n : Fin 8192 => ((Ref.dS * sig0 r0 r1 r2 r3 b h p n : ℝ) : EReal)) n (Finset.mem_univ n)
  · obtain ⟨n, -, hn⟩ := fold_max_mem Finset.univ ⟨(0 : Fin 8192), Finset.mem_univ _⟩ (fun n : Fin 8192 => ((Ref.dS * sig0 r0 r1 r2 r3 b h p n : ℝ) : EReal))
    exact ⟨n, hn⟩

end Cert.Attn

end
-- ==== Proof.FfRow.lean ====
module

public import Idealize.ShloMosaic.Lib.ValueIdx
public import Idealize.ShloMosaic.PureOps.Ideal.Laws

@[expose] public section

noncomputable section

namespace Cert.Mlp

open Idealize.ShloMosaic

/-! ## The mathematics of one token, over the extended reals -/

/-- The root-mean-square norm of a row of 1024 numbers, times a gain. -/
def rms (v g : Fin 1024 → EReal) (j : Fin 1024) : EReal :=
  v j * Ideal.rsqrt (Ideal.div (∑ k : Fin 1024, v k * v k) (Ideal.ofBits .f32 0x44800000#32) + Ideal.ofBits .f32 0x358637BD#32) * g j

/-- A row times a matrix. -/
def rowMul {K N : ℕ} (v : Fin K → EReal) (w : Fin K → Fin N → EReal) (j : Fin N) : EReal := ∑ k : Fin K, v k * w k j

/-- The squared rectifier. -/
def act (x : EReal) : EReal := max x 0 * max x 0

/-- The feed-forward part of one token: a product, the squared rectifier, a product. -/
def ff {K : ℕ} (h : Fin 1024 → EReal) (w1 : Fin 1024 → Fin K → EReal) (w2 : Fin K → Fin 1024 → EReal) : Fin 1024 → EReal :=
  rowMul (fun k => act (rowMul h w1 k)) w2

/-- The residual stream of one token after the mixers: the token plus the normed projection. -/
def mid (x mx gm : Fin 1024 → EReal) (j : Fin 1024) : EReal := x j + rms mx gm j

/-- One token of the result, from the residual stream after the mixers. -/
def tail (r g1 g2 : Fin 1024 → EReal) (w1 : Fin 1024 → Fin 4096 → EReal) (w2 : Fin 4096 → Fin 1024 → EReal) (j : Fin 1024) : EReal :=
  r j + rms (ff (rms r g1) w1 w2) g2 j

/-- One token of the result: the two mixers' outputs are projected by the two parts of one matrix. -/
def token {A B : ℕ} (x : Fin 1024 → EReal) (a : Fin A → EReal) (b : Fin B → EReal) (wa : Fin A → Fin 1024 → EReal) (wb : Fin B → Fin 1024 → EReal)
    (gm g1 g2 : Fin 1024 → EReal) (w1 : Fin 1024 → Fin 4096 → EReal) (w2 : Fin 4096 → Fin 1024 → EReal) : Fin 1024 → EReal :=
  tail (mid x (fun j => rowMul a wa j + rowMul b wb j) gm) g1 g2 w1 w2

/-- A sum over 4096 positions is the sum of the sums over its four quarters. -/
theorem sum_quarters (f : Fin 4096 → EReal) :
    ∑ k : Fin 4096, f k = ∑ k : Fin 1024, f ⟨k.val, by omega⟩ + ∑ k : Fin 1024, f ⟨1024 + k.val, by omega⟩
      + ∑ k : Fin 1024, f ⟨2048 + k.val, by omega⟩ + ∑ k : Fin 1024, f ⟨3072 + k.val, by omega⟩ := by
  have h1 : ∑ k : Fin 4096, f k = ∑ k : Fin 3072, f ⟨k.val, by omega⟩ + ∑ k : Fin 1024, f ⟨3072 + k.val, by omega⟩ :=
    Fin.sum_univ_add (a := 3072) (b := 1024) f
  have h2 : ∑ k : Fin 3072, f ⟨k.val, by omega⟩ = ∑ k : Fin 2048, f ⟨k.val, by omega⟩ + ∑ k : Fin 1024, f ⟨2048 + k.val, by omega⟩ :=
    Fin.sum_univ_add (a := 2048) (b := 1024) (fun k => f ⟨k.val, by omega⟩)
  have h3 : ∑ k : Fin 2048, f ⟨k.val, by omega⟩ = ∑ k : Fin 1024, f ⟨k.val, by omega⟩ + ∑ k : Fin 1024, f ⟨1024 + k.val, by omega⟩ :=
    Fin.sum_univ_add (a := 1024) (b := 1024) (fun k => f ⟨k.val, by omega⟩)
  rw [h1, h2, h3]

/-- The feed-forward part in four quarters of its inner width. -/
theorem ff_quarters (h : Fin 1024 → EReal) (w1 : Fin 1024 → Fin 4096 → EReal) (w2 : Fin 4096 → Fin 1024 → EReal) (j : Fin 1024) :
    0 + ff h (fun d k => w1 d (⟨k.val, by omega⟩ : Fin 4096)) (fun (k : Fin 1024) => w2 (⟨k.val, by omega⟩ : Fin 4096)) j
      + ff h (fun d k => w1 d (⟨1024 + k.val, by omega⟩ : Fin 4096)) (fun (k : Fin 1024) => w2 (⟨1024 + k.val, by omega⟩ : Fin 4096)) j
      + ff h (fun d k => w1 d (⟨2048 + k.val, by omega⟩ : Fin 4096)) (fun (k : Fin 1024) => w2 (⟨2048 + k.val, by omega⟩ : Fin 4096)) j
      + ff h (fun d k => w1 d (⟨3072 + k.val, by omega⟩ : Fin 4096)) (fun (k : Fin 1024) => w2 (⟨3072 + k.val, by omega⟩ : Fin 4096)) j
      = ff h w1 w2 j := by
  rw [zero_add]
  exact (sum_quarters fun k => act (rowMul h w1 k) * w2 k j).symm

/-- A row joined of two pieces times a matrix is the sum of the pieces times their parts of the matrix. -/
theorem rowMul_parts {A B N M : ℕ} (h : A + B = N) (v : Fin N → EReal) (w : Fin N → Fin M → EReal) (j : Fin M) :
    rowMul v w j = rowMul (fun k : Fin A => v ⟨k.val, by omega⟩) (fun k => w ⟨k.val, by omega⟩) j
      + rowMul (fun k : Fin B => v ⟨A + k.val, by omega⟩) (fun k => w ⟨A + k.val, by omega⟩) j := by
  subst h
  exact Fin.sum_univ_add (a := A) (b := B) fun k => v k * w k j

/-- Tokens of equal arrays are equal. -/
theorem token_congr {A B : ℕ} {x x' : Fin 1024 → EReal} {a a' : Fin A → EReal} {b b' : Fin B → EReal} {wa wa' : Fin A → Fin 1024 → EReal} {wb wb' : Fin B → Fin 1024 → EReal}
    {gm gm' g1 g1' g2 g2' : Fin 1024 → EReal} {w1 w1' : Fin 1024 → Fin 4096 → EReal} {w2 w2' : Fin 4096 → Fin 1024 → EReal} (j : Fin 1024)
    (hx : ∀ k, x k = x' k) (ha : ∀ k, a k = a' k) (hb : ∀ k, b k = b' k) (hwa : ∀ k j, wa k j = wa' k j) (hwb : ∀ k j, wb k j = wb' k j)
    (hgm : ∀ k, gm k = gm' k) (hg1 : ∀ k, g1 k = g1' k) (hg2 : ∀ k, g2 k = g2' k) (hw1 : ∀ k j, w1 k j = w1' k j) (hw2 : ∀ k j, w2 k j = w2' k j) :
    token x a b wa wb gm g1 g2 w1 w2 j = token x' a' b' wa' wb' gm' g1' g2' w1' w2' j := by
  obtain rfl := funext hx
  obtain rfl := funext ha
  obtain rfl := funext hb
  obtain rfl := funext fun k => funext (hwa k)
  obtain rfl := funext fun k => funext (hwb k)
  obtain rfl := funext hgm
  obtain rfl := funext hg1
  obtain rfl := funext hg2
  obtain rfl := funext fun k => funext (hw1 k)
  obtain rfl := funext fun k => funext (hw2 k)
  rfl

end Cert.Mlp

end
-- ==== Proof.FfBlock.lean ====
module

public import proofs.«01_k».proof.Proof.Gen.Kernel2Ideal.Value
public import proofs.«01_k».proof.Proof.FfRow
public import Idealize.ShloMosaic.Lib.MatmulPlain
public import Idealize.ShloMosaic.Lib.Pipeline.ValueKit.Tiles
public import Idealize.ShloMosaic.Lib.ValueLayout
public import Idealize.ShloMosaic.Lib.Pipeline.Value

@[expose] public section

set_option maxRecDepth 16384

noncomputable section

namespace Cert.Mlp

open Cert.Kernel2Ideal Cert.Kernel2Ideal.Gen
open Idealize.ShloMosaic Idealize.ShloMosaic.TcCoe Idealize.SL.Sem Idealize.ShloMosaic.ValueIdx

section Text

variable {F : FTy → Type} [FloatOps F]

/-! ## The body's text in parts -/

/-- The root-mean-square norm of each of a block's 512 rows. -/
def rmsV (v : FVec F S512x1024 .f32) (g : FVec F S1x1024 .f32) : FVec F S512x1024 .f32 :=
  mulf (mulf v (broadcastTo S512x1024
    (rsqrt (addf (divf (shapeCast S512x1 (multiReduction .add [1] S512 (mulf v v) 0x00000000#32 reduces_S512x1024_S512 (.inl rfl) rfl) shapeCasts_S512_S512x1)
      (broadcast S512x1 (Scalar.ofBits .f32 0x44800000#32))) (broadcast S512x1 (Scalar.ofBits .f32 0x358637BD#32))))
    broadcasts_S512x1_S512x1024)) (broadcastTo S512x1024 g broadcasts_S1x1024_S512x1024)

/-- The product of a block of 512 rows with a square matrix. -/
def mmV (v : FVec F S512x1024 .bf16) (w : Vec F S1024x1024 .bf16) : FVec F S512x1024 .f32 :=
  matmul dot_S512x1024_S1024x1024_S512x1024_1_0_0_1_n_n none v (shapeCast S1024x1024 w shapeCasts_S1024x1024_S1024x1024 : FVec F S1024x1024 .bf16)
    (constant S512x1024 .f32 0x00000000#32)

/-- The squared rectifier of a block. -/
def actV (v : FVec F S512x1024 .f32) : FVec F S512x1024 .bf16 :=
  truncf .bf16 (mulf (maximumf v (broadcast S512x1024 (Scalar.ofBits .f32 0x00000000#32)))
    (maximumf v (broadcast S512x1024 (Scalar.ofBits .f32 0x00000000#32)))) bitsLt_bf16_f32

/-- One quarter of the feed-forward part of a block. -/
def quarterV (h : FVec F S512x1024 .bf16) (w1 w2 : Vec F S1024x1024 .bf16) : FVec F S512x1024 .f32 := mmV (actV (mmV h w1)) w2

/-- The two projections of a block. -/
def mixV (a : Vec F S1x512x768 .bf16) (wa : Vec F S768x1024 .bf16) (b : Vec F S1x512x256 .bf16) (wb : Vec F S256x1024 .bf16) : FVec F S512x1024 .f32 :=
  addf (matmul dot_S512x768_S768x1024_S512x1024_1_0_0_1_n_n none (shapeCast S512x768 a shapeCasts_S1x512x768_S512x768 : FVec F S512x768 .bf16)
      (shapeCast S768x1024 wa shapeCasts_S768x1024_S768x1024 : FVec F S768x1024 .bf16) (constant S512x1024 .f32 0x00000000#32))
    (matmul dot_S512x256_S256x1024_S512x1024_1_0_0_1_n_n none (shapeCast S512x256 b shapeCasts_S1x512x256_S512x256 : FVec F S512x256 .bf16)
      (shapeCast S256x1024 wb shapeCasts_S256x1024_S256x1024 : FVec F S256x1024 .bf16) (constant S512x1024 .f32 0x00000000#32))

/-- A block after the mixers. -/
def midV (x : Vec F S1x512x1024 .f32) (mx : FVec F S512x1024 .f32) (gm : Vec F S1x1024 .f32) : FVec F S512x1024 .f32 :=
  addf (shapeCast S512x1024 x shapeCasts_S1x512x1024_S512x1024) (rmsV mx (shapeCast S1x1024 gm shapeCasts_S1x1024_S1x1024))

/-- The feed-forward part of a block, quarter by quarter from zero. -/
def ffV (h : FVec F S512x1024 .bf16) (w1 : Vec F S1024x4096 .bf16) (w2 : Vec F S4096x1024 .bf16) : FVec F S512x1024 .f32 :=
  addf (addf (addf (addf (broadcast S512x1024 (Scalar.ofBits .f32 0x00000000#32)) (quarterV h (View.ld w1 r0_6) (View.ld w2 r0_7)))
    (quarterV h (View.ld w1 r0_8) (View.ld w2 r0_9))) (quarterV h (View.ld w1 r0_10) (View.ld w2 r0_11))) (quarterV h (View.ld w1 r0_12) (View.ld w2 r0_13))

/-- A block of the result, from the block after the mixers. -/
def tailV (r : FVec F S512x1024 .f32) (g1 g2 : Vec F S1x1024 .f32) (w1 : Vec F S1024x4096 .bf16) (w2 : Vec F S4096x1024 .bf16) : FVec F S1x512x1024 .f32 :=
  shapeCast S1x512x1024 (addf r (rmsV (ffV (truncf .bf16 (rmsV r (shapeCast S1x1024 g1 shapeCasts_S1x1024_S1x1024)) bitsLt_bf16_f32) w1 w2)
    (shapeCast S1x1024 g2 shapeCasts_S1x1024_S1x1024))) shapeCasts_S512x1024_S1x512x1024

/-- What a point leaves in the output's block. -/
theorem out_eq (x0 : Vec F S1x512x1024 .f32) (x1 : Vec F S1x512x768 .bf16) (x2 : Vec F S1x512x256 .bf16) (x3 : Vec F S768x1024 .bf16) (x4 : Vec F S256x1024 .bf16)
    (x5 x6 : Vec F S1x1024 .f32) (x7 : Vec F S1024x4096 .bf16) (x8 : Vec F S4096x1024 .bf16) (x9 : Vec F S1x1024 .f32) :
    out0_10 x0 x1 x2 x3 x4 x5 x6 x7 x8 x9 = tailV (midV x0 (mixV x1 x3 x2 x4) x5) x6 x9 x7 x8 := by
  have h2 : ∀ {n : Nat}, (![0, 0] : Fin 2 → Nat) = fun _ => 0 := fun {_} => by funext a; fin_cases a <;> rfl
  have h3 : (![0, 0, 0] : Fin 3 → Nat) = fun _ => 0 := by funext a; fin_cases a <;> rfl
  have e0 : View.ld x0 r0_4 = x0 := View.ld_unit_zero h3 _ _
  have e1 : View.ld x1 r0_0 = x1 := View.ld_unit_zero h3 _ _
  have e2 : View.ld x2 r0_2 = x2 := View.ld_unit_zero h3 _ _
  have e3 : View.ld x3 r0_1 = x3 := View.ld_unit_zero (h2 (n := 0)) _ _
  have e4 : View.ld x4 r0_3 = x4 := View.ld_unit_zero (h2 (n := 0)) _ _
  have e5 : View.ld x5 r0_5 = x5 := View.ld_unit_zero (h2 (n := 0)) _ _
  have e6 : View.ld x6 r0_5 = x6 := View.ld_unit_zero (h2 (n := 0)) _ _
  have e9 : View.ld x9 r0_5 = x9 := View.ld_unit_zero (h2 (n := 0)) _ _
  unfold out0_10
  refine (View.canon_unit_zero h3 _ _).trans ?_
  unfold k0_pay12 k0_pay11 k0_pay10 k0_pay9
  rw [e0, e1, e2, e3, e4, e5, e6, e9]
  rfl

end Text

/-! ## The parts read at an index over the reals -/

theorem rmsV_apply (v : FVec Ideal S512x1024 .f32) (g : FVec Ideal S1x1024 .f32) (r : Fin 512) (j : Fin 1024) :
    rmsV (F := Ideal) v g (ix2 r j) = rms (fun k => v (ix2 r k)) (fun k => g (ix2 (0 : Fin 1) k)) j := by
  have hs : ∀ u : FVec Ideal S512x1 .f32, broadcastTo S512x1024 u broadcasts_S512x1_S512x1024 (ix2 r j) = u (ix2 r (0 : Fin 1)) := by
    intro u
    refine broadcastTo_apply _ _ _ _ ?_
    intro a; fin_cases a <;> rfl
  have hg : broadcastTo S512x1024 g broadcasts_S1x1024_S512x1024 (ix2 r j) = g (ix2 (0 : Fin 1) j) := by
    refine broadcastTo_apply _ _ _ _ ?_
    intro a; fin_cases a <;> rfl
  have hm : shapeCast S512x1 (multiReduction (F := Ideal) .add [1] S512 (mulf v v) 0x00000000#32 reduces_S512x1024_S512 (.inl rfl) rfl) shapeCasts_S512_S512x1 (ix2 r (0 : Fin 1))
      = ∑ k : Fin 1024, (v (ix2 r k) : EReal) * v (ix2 r k) := by
    refine (shapeCast_apply _ _ (ix2 r (0 : Fin 1)) (ix1 r) ?_).trans ?_
    · rw [Shape.rowMajor_val_one, Shape.rowMajor_val_two]
      show r.val = r.val * 1 + 0
      omega
    · refine (Ideal.multiReduction_add_single (mulf v v) _ _ _ _ (ix1 r)).trans ?_
      refine Finset.sum_congr rfl fun k _ => ?_
      have e : (reduces_S512x1024_S512 : S512x1024.Reduces [1] S512).lift (ix1 r) k = ix2 r k := by
        funext a; fin_cases a <;> rfl
      rw [e]; rfl
  unfold rmsV rms
  show (v (ix2 r j) : EReal) * broadcastTo S512x1024 _ broadcasts_S512x1_S512x1024 (ix2 r j) * broadcastTo S512x1024 g broadcasts_S1x1024_S512x1024 (ix2 r j) = _
  rw [hs, hg]
  show (v (ix2 r j) : EReal) * Ideal.rsqrt (Ideal.div (shapeCast S512x1 (multiReduction (F := Ideal) .add [1] S512 (mulf v v) 0x00000000#32 reduces_S512x1024_S512 (.inl rfl) rfl) shapeCasts_S512_S512x1 (ix2 r (0 : Fin 1))) _ + _) * g (ix2 (0 : Fin 1) j) = _
  rw [hm]
  rfl

theorem cast_self {s : Shape} {α : Type} (x : s.Idx → α) (h : s.ShapeCasts s) : shapeCast s x h = x :=
  funext fun j => shapeCast_apply x h j j rfl

theorem mmV_apply (v : FVec Ideal S512x1024 .bf16) (w : Vec Ideal S1024x1024 .bf16) (r : Fin 512) (j : Fin 1024) :
    mmV (F := Ideal) v w (ix2 r j) = rowMul (fun k => v (ix2 r k)) (fun k j => w (ix2 k j)) j := by
  unfold mmV
  rw [cast_self]
  exact (Ideal.matmul_plain_apply (M := 512) (K := 1024) (N := 1024) (φ₁ := .bf16) (φ₂ := .bf16) none v w (constant S512x1024 .f32 0x00000000#32) r j).trans
    ((congrArg (· + _) Ideal.ofBits_zero_f32).trans (zero_add _))

theorem actV_apply (v : FVec Ideal S512x1024 .f32) (i : S512x1024.Idx) : actV (F := Ideal) v i = act (v i) := by
  show max (v i : EReal) (Ideal.ofBits .f32 0x00000000#32) * max (v i : EReal) (Ideal.ofBits .f32 0x00000000#32) = _
  rw [Ideal.ofBits_zero_f32]; rfl

theorem quarterV_apply (h : FVec Ideal S512x1024 .bf16) (w1 w2 : Vec Ideal S1024x1024 .bf16) (r : Fin 512) (j : Fin 1024) :
    quarterV (F := Ideal) h w1 w2 (ix2 r j) = ff (fun k => h (ix2 r k)) (fun d k => w1 (ix2 d k)) (fun k j => w2 (ix2 k j)) j := by
  unfold quarterV ff
  rw [mmV_apply]
  refine congrArg (fun f => rowMul f (fun k j => w2 (ix2 k j)) j) (funext fun k => ?_)
  rw [actV_apply, mmV_apply]

theorem mixV_apply (a : Vec Ideal S1x512x768 .bf16) (wa : Vec Ideal S768x1024 .bf16) (b : Vec Ideal S1x512x256 .bf16) (wb : Vec Ideal S256x1024 .bf16)
    (r : Fin 512) (j : Fin 1024) :
    mixV (F := Ideal) a wa b wb (ix2 r j) = rowMul (fun k => a (ix3 (0 : Fin 1) r k)) (fun k j => wa (ix2 k j)) j
      + rowMul (fun k => b (ix3 (0 : Fin 1) r k)) (fun k j => wb (ix2 k j)) j := by
  unfold mixV
  rw [cast_self, cast_self]
  refine congr (congrArg (fun p q : EReal => p + q) ?_) ?_
  · refine (Ideal.matmul_plain_apply (M := 512) (K := 768) (N := 1024) (φ₁ := .bf16) (φ₂ := .bf16) none _ wa (constant S512x1024 .f32 0x00000000#32) r j).trans
      (((congrArg (· + _) Ideal.ofBits_zero_f32).trans (zero_add _)).trans ?_)
    refine Finset.sum_congr rfl fun k _ => congrArg (· * (wa (ix2 k j) : EReal)) ?_
    exact shapeCast_1ab_ab_apply a _ r k
  · refine (Ideal.matmul_plain_apply (M := 512) (K := 256) (N := 1024) (φ₁ := .bf16) (φ₂ := .bf16) none _ wb (constant S512x1024 .f32 0x00000000#32) r j).trans
      (((congrArg (· + _) Ideal.ofBits_zero_f32).trans (zero_add _)).trans ?_)
    refine Finset.sum_congr rfl fun k _ => congrArg (· * (wb (ix2 k j) : EReal)) ?_
    exact shapeCast_1ab_ab_apply b _ r k

theorem midV_apply (x : Vec Ideal S1x512x1024 .f32) (mx : FVec Ideal S512x1024 .f32) (gm : Vec Ideal S1x1024 .f32) (r : Fin 512) (j : Fin 1024) :
    midV (F := Ideal) x mx gm (ix2 r j) = mid (fun k => x (ix3 (0 : Fin 1) r k)) (fun k => mx (ix2 r k)) (fun k => gm (ix2 (0 : Fin 1) k)) j := by
  unfold midV mid
  rw [cast_self]
  refine congr (congrArg (fun p q : EReal => p + q) ?_) (rmsV_apply mx gm r j)
  exact shapeCast_1ab_ab_apply x _ r j

theorem ffV_apply (h : FVec Ideal S512x1024 .bf16) (w1 : Vec Ideal S1024x4096 .bf16) (w2 : Vec Ideal S4096x1024 .bf16) (r : Fin 512) (j : Fin 1024) :
    ffV (F := Ideal) h w1 w2 (ix2 r j) = ff (fun k => h (ix2 r k)) (fun d k => w1 (ix2 d k)) (fun k j => w2 (ix2 k j)) j := by
  refine Eq.trans ?_ (ff_quarters _ _ _ j)
  unfold ffV
  show Ideal.ofBits .f32 0x00000000#32 + quarterV (F := Ideal) h _ _ (ix2 r j) + quarterV (F := Ideal) h _ _ (ix2 r j) + quarterV (F := Ideal) h _ _ (ix2 r j) + quarterV (F := Ideal) h _ _ (ix2 r j) = _
  rw [Ideal.ofBits_zero_f32, quarterV_apply, quarterV_apply, quarterV_apply, quarterV_apply]
  have c1 : ∀ (o : Nat) (ho : o + 1024 ≤ 4096) (inb : ∀ a, (![0, o] : Fin 2 → Nat) a + S1024x1024.size a ≤ S1024x4096.size a) (d k : Fin 1024),
      View.ld w1 (Rect.unit (s := S1024x4096) ![0, o] S1024x1024.size inb) (ix2 d k) = w1 (ix2 d (⟨o + k.val, by omega⟩ : Fin 4096)) := by
    intro o ho inb d k
    refine View.ld_unit_apply_of w1 _ _ _ _ _ ?_
    intro a
    match a with
    | ⟨0, _⟩ => exact (Nat.zero_add _).symm
    | ⟨1, _⟩ => rfl
  have c2 : ∀ (o : Nat) (ho : o + 1024 ≤ 4096) (inb : ∀ a, (![o, 0] : Fin 2 → Nat) a + S1024x1024.size a ≤ S4096x1024.size a) (k j : Fin 1024),
      View.ld w2 (Rect.unit (s := S4096x1024) ![o, 0] S1024x1024.size inb) (ix2 k j) = w2 (ix2 (⟨o + k.val, by omega⟩ : Fin 4096) j) := by
    intro o ho inb k j
    refine View.ld_unit_apply_of w2 _ _ _ _ _ ?_
    intro a
    match a with
    | ⟨0, _⟩ => rfl
    | ⟨1, _⟩ => exact (Nat.zero_add _).symm
  have q : ∀ (o : Nat) (ho : o + 1024 ≤ 4096) (i1 : ∀ a, (![0, o] : Fin 2 → Nat) a + S1024x1024.size a ≤ S1024x4096.size a)
      (i2 : ∀ a, (![o, 0] : Fin 2 → Nat) a + S1024x1024.size a ≤ S4096x1024.size a),
      ff (fun k => h (ix2 r k)) (fun d k => View.ld w1 (Rect.unit (s := S1024x4096) ![0, o] S1024x1024.size i1) (ix2 d k))
        (fun k j => View.ld w2 (Rect.unit (s := S4096x1024) ![o, 0] S1024x1024.size i2) (ix2 k j)) j
      = ff (fun k => h (ix2 r k)) (fun d (k : Fin 1024) => w1 (ix2 d (⟨o + k.val, by omega⟩ : Fin 4096))) (fun (k : Fin 1024) j => w2 (ix2 (⟨o + k.val, by omega⟩ : Fin 4096) j)) j := by
    intro o ho i1 i2
    rw [show (fun d k => View.ld w1 (Rect.unit (s := S1024x4096) ![0, o] S1024x1024.size i1) (ix2 d k)) = _ from funext fun d => funext fun k => c1 o ho i1 d k,
      show (fun k j => View.ld w2 (Rect.unit (s := S4096x1024) ![o, 0] S1024x1024.size i2) (ix2 k j)) = _ from funext fun k => funext fun j => c2 o ho i2 k j]
  have q0 := q 0 (by omega) inb_S1024x4096_S1024x1024_0_0 inb_S4096x1024_S1024x1024_0_0
  have z : ∀ k : Fin 1024, (⟨0 + k.val, by omega⟩ : Fin 4096) = ⟨k.val, by omega⟩ := fun k => Fin.ext (Nat.zero_add _)
  simp only [z] at q0
  refine congr (congrArg (fun p q : EReal => p + q) (congr (congrArg (fun p q : EReal => p + q) (congr (congrArg (fun p q : EReal => p + q) (congrArg (fun q : EReal => 0 + q) q0)) ?_)) ?_)) ?_
  · exact q 1024 (by omega) _ _
  · exact q 2048 (by omega) _ _
  · exact q 3072 (by omega) _ _

theorem tailV_apply (x : FVec Ideal S512x1024 .f32) (g1 g2 : Vec Ideal S1x1024 .f32) (w1 : Vec Ideal S1024x4096 .bf16) (w2 : Vec Ideal S4096x1024 .bf16)
    (r : Fin 512) (j : Fin 1024) :
    tailV (F := Ideal) x g1 g2 w1 w2 (ix3 (0 : Fin 1) r j) = tail (fun k => x (ix2 r k)) (fun k => g1 (ix2 (0 : Fin 1) k)) (fun k => g2 (ix2 (0 : Fin 1) k))
      (fun d k => w1 (ix2 d k)) (fun k j => w2 (ix2 k j)) j := by
  unfold tailV tail
  rw [cast_self, cast_self]
  refine (shapeCast_ab_1ab_apply _ _ (0 : Fin 1) r j).trans ?_
  refine congrArg (fun q : EReal => x (ix2 r j) + q) ((rmsV_apply _ g2 r j).trans ?_)
  refine congrArg (fun v => rms v _ j) (funext fun k => ?_)
  refine (ffV_apply _ w1 w2 r k).trans ?_
  exact congrArg (fun v => ff v _ _ k) (funext fun d => rmsV_apply x g1 r d)

/-- What a point leaves in the output's block, token by token. -/
theorem out_apply (x0 : Vec Ideal S1x512x1024 .f32) (x1 : Vec Ideal S1x512x768 .bf16) (x2 : Vec Ideal S1x512x256 .bf16) (x3 : Vec Ideal S768x1024 .bf16) (x4 : Vec Ideal S256x1024 .bf16)
    (x5 x6 : Vec Ideal S1x1024 .f32) (x7 : Vec Ideal S1024x4096 .bf16) (x8 : Vec Ideal S4096x1024 .bf16) (x9 : Vec Ideal S1x1024 .f32) (r : Fin 512) (j : Fin 1024) :
    out0_10 (F := Ideal) x0 x1 x2 x3 x4 x5 x6 x7 x8 x9 (ix3 (0 : Fin 1) r j)
      = token (fun k => x0 (ix3 (0 : Fin 1) r k)) (fun k => x1 (ix3 (0 : Fin 1) r k)) (fun k => x2 (ix3 (0 : Fin 1) r k)) (fun k j => x3 (ix2 k j)) (fun k j => x4 (ix2 k j))
        (fun k => x5 (ix2 (0 : Fin 1) k)) (fun k => x6 (ix2 (0 : Fin 1) k)) (fun k => x9 (ix2 (0 : Fin 1) k)) (fun d k => x7 (ix2 d k)) (fun k j => x8 (ix2 k j)) j := by
  rw [out_eq, tailV_apply]
  unfold token
  refine congrArg (fun v => tail v _ _ _ _ j) (funext fun k => ?_)
  rw [midV_apply]
  refine congrArg (fun v => mid _ v _ k) (funext fun l => ?_)
  exact mixV_apply x1 x3 x2 x4 r l

end Cert.Mlp

end
-- ==== Proof.FfHost.lean ====
module

public import proofs.«01_k».proof.Proof.FfRow
public import Idealize.ShloMosaic.Lib.IdealHost
public import Idealize.ShloMosaic.Lib.Pointwise.Index
public import Idealize.ShloMosaic.Lib.ValueIdx
public import Idealize.ShloMosaic.Lib.Pipeline.Value

@[expose] public section

set_option maxRecDepth 16384

noncomputable section

namespace Cert.Mlp.Ref

open Idealize.ShloMosaic Idealize.ShloMosaic.TcCoe Idealize.SL.Sem

/-! ## The reference's text, at any sequence length -/

/-- The arrays of eight sequences of rows, of rows of one matrix, and of one row. -/
abbrev A3 (L N : ℕ) := (⟨⟨3, ![8, L, N]⟩, .f32⟩ : BufTy).Contents (Elt Ideal)
abbrev H3 (L N : ℕ) := (⟨⟨3, ![8, L, N]⟩, .bf16⟩ : BufTy).Contents (Elt Ideal)
abbrev A2 (K N : ℕ) := (⟨⟨2, ![K, N]⟩, .f32⟩ : BufTy).Contents (Elt Ideal)
abbrev A1 (N : ℕ) := (⟨⟨1, ![N]⟩, .f32⟩ : BufTy).Contents (Elt Ideal)
abbrev A0 := (⟨⟨0, ![]⟩, .f32⟩ : BufTy).Contents (Elt Ideal)

/-- The side conditions of the reference's operations at sequences of `L` tokens. -/
structure Sides (L : ℕ) : Prop where
  ne_one : L ≠ 1
  sums : (⟨3, ![8, L, 1024]⟩ : Shape).ReducesTo [2] ⟨2, ![8, L]⟩
  sums_one : (⟨3, ![8, L, 1024]⟩ : Shape).Reduces [2] ⟨2, ![8, L]⟩
  one_pos : 0 < (⟨0, ![]⟩ : Shape).numel
  column : (⟨2, ![8, L]⟩ : Shape).BroadcastsInDim ⟨3, ![8, L, 1]⟩ (![0, 1] : Fin 2 → Fin 3)
  number : (⟨0, ![]⟩ : Shape).BroadcastsInDim ⟨3, ![8, L, 1]⟩ (![] : Fin 0 → Fin 3)
  along : (⟨3, ![8, L, 1]⟩ : Shape).BroadcastsInDim ⟨3, ![8, L, 1024]⟩ (![0, 1, 2] : Fin 3 → Fin 3)
  gain : (⟨1, ![1024]⟩ : Shape).BroadcastsInDim ⟨3, ![1, 1, 1024]⟩ (![2] : Fin 1 → Fin 3)
  gains : (⟨3, ![1, 1, 1024]⟩ : Shape).BroadcastsInDim ⟨3, ![8, L, 1024]⟩ (![0, 1, 2] : Fin 3 → Fin 3)
  zeros : (⟨0, ![]⟩ : Shape).BroadcastsInDim ⟨3, ![8, L, 4096]⟩ (![] : Fin 0 → Fin 3)

variable {L : ℕ} (s : Sides L)

/-- The norm of the rows of an array. -/
def rmsH (v : A3 L 1024) (g : A1 1024) : A3 L 1024 :=
  mulf (F := Ideal) (φ := .f32) (mulf (F := Ideal) (φ := .f32) v (broadcastInDim ⟨3, ![8, L, 1024]⟩ ![0, 1, 2] s.along
      (Host.rsqrt (F := Ideal) (φ := .f32) (addf (F := Ideal) (φ := .f32) (Host.divf (F := Ideal) (φ := .f32)
        (broadcastInDim ⟨3, ![8, L, 1]⟩ ![0, 1] s.column
          (Host.reduceAdd (F := Ideal) (mulf (F := Ideal) (φ := .f32) v v : A3 L 1024) (constant (F := Ideal) ⟨0, ![]⟩ .f32 0x00000000#32) s.sums s.one_pos : A2 8 L) : A3 L 1)
        (broadcastInDim ⟨3, ![8, L, 1]⟩ ![] s.number (constant (F := Ideal) ⟨0, ![]⟩ .f32 0x44800000#32) : A3 L 1) : A3 L 1)
        (broadcastInDim ⟨3, ![8, L, 1]⟩ ![] s.number (constant (F := Ideal) ⟨0, ![]⟩ .f32 0x358637BD#32) : A3 L 1) : A3 L 1)
        : A3 L 1) : A3 L 1024) : A3 L 1024)
    (broadcastInDim ⟨3, ![8, L, 1024]⟩ ![0, 1, 2] s.gains
      (broadcastInDim ⟨3, ![1, 1, 1024]⟩ ![2] s.gain g : (⟨⟨3, ![1, 1, 1024]⟩, .f32⟩ : BufTy).Contents (Elt Ideal)) : A3 L 1024)

theorem rmsH_apply (v : A3 L 1024) (g : A1 1024) (b : Fin 8) (t : Fin L) (j : Fin 1024) :
    rmsH s v g (ix3 b t j) = rms (fun k => v (ix3 b t k)) (fun k => g (ix1 k)) j := by
  have hs : ∀ u : A3 L 1, broadcastInDim ⟨3, ![8, L, 1024]⟩ ![0, 1, 2] s.along u (ix3 b t j) = u (ix3 b t (0 : Fin 1)) := by
    intro u
    refine broadcastInDim_apply _ _ _ _ _ ?_
    intro a
    match a with
    | ⟨0, _⟩ => rfl
    | ⟨1, _⟩ => exact (if_neg s.ne_one).symm
    | ⟨2, _⟩ => rfl
  have hg : ∀ u : (⟨⟨3, ![1, 1, 1024]⟩, .f32⟩ : BufTy).Contents (Elt Ideal),
      broadcastInDim ⟨3, ![8, L, 1024]⟩ ![0, 1, 2] s.gains u (ix3 b t j) = u (ix3 (0 : Fin 1) (0 : Fin 1) j) := by
    intro u
    refine broadcastInDim_apply _ _ _ _ _ ?_
    intro a; fin_cases a <;> rfl
  have hg1 : (broadcastInDim ⟨3, ![1, 1, 1024]⟩ ![2] s.gain g : (⟨⟨3, ![1, 1, 1024]⟩, .f32⟩ : BufTy).Contents (Elt Ideal)) (ix3 (0 : Fin 1) (0 : Fin 1) j) = g (ix1 j) := by
    refine broadcastInDim_apply _ _ _ _ _ ?_
    intro a; fin_cases a; rfl
  have hc : ∀ u : A0, broadcastInDim ⟨3, ![8, L, 1]⟩ ![] s.number u (ix3 b t (0 : Fin 1)) = u ix0 :=
    fun u => broadcastInDim_apply _ _ _ _ _ (fun a => a.elim0)
  have hr : broadcastInDim ⟨3, ![8, L, 1]⟩ ![0, 1] s.column
      (Host.reduceAdd (F := Ideal) (mulf (F := Ideal) (φ := .f32) v v : A3 L 1024) (constant (F := Ideal) ⟨0, ![]⟩ .f32 0x00000000#32) s.sums s.one_pos : A2 8 L)
      (ix3 b t (0 : Fin 1)) = ∑ k : Fin 1024, (v (ix3 b t k) : EReal) * v (ix3 b t k) := by
    refine (broadcastInDim_apply _ _ _ _ (ix2 b t) ?_).trans ?_
    · intro a
      match a with
      | ⟨0, _⟩ => rfl
      | ⟨1, _⟩ => exact (if_neg s.ne_one).symm
    · simp only [Host.reduceAdd, Ideal.hostReduceAdd_def]
      rw [Ideal.hostReduceAdd_single s.sums s.sums_one]
      refine ((congrArg (· + _) Ideal.ofBits_zero_f32).trans (zero_add _)).trans (Finset.sum_congr rfl fun k _ => ?_)
      refine congrArg (mulf (F := Ideal) (φ := .f32) v v : A3 L 1024) ?_
      funext a
      fin_cases a <;> rfl
  unfold rmsH rms
  refine congr (congrArg (fun p q : EReal => p * q) (congrArg (fun q : EReal => (v (ix3 b t j) : EReal) * q) ((hs _).trans ?_))) ((hg _).trans hg1)
  refine congrArg Ideal.rsqrt ?_
  refine congr (congrArg (fun p q : EReal => p + q) (congr (congrArg Ideal.div hr) ?_)) ?_
  · exact hc _
  · exact hc _

/-! ## Products of the rows of an array with a matrix -/

/-- The dimension numbers of such a product. -/
def rowsDot (L K N : ℕ) : DotDims ⟨3, ![8, L, K]⟩ ⟨2, ![K, N]⟩ ⟨3, ![8, L, N]⟩ where
  lhsContracting := [2]
  rhsContracting := [0]
  lhsNonContracting := [0, 1]
  rhsNonContracting := [1]
  lhsBatch := []
  rhsBatch := []
  wf := ⟨rfl, by simp, rfl, by simp, by simp, by simp,
    (by decide : (([] ++ [0, 1] ++ [2] : List (Fin 3))).Perm (List.finRange 3)),
    (by decide : (([] ++ [1] ++ [0] : List (Fin 2))).Perm (List.finRange 2)),
    rfl, by show 0 < 3; decide, fun a => by fin_cases a <;> rfl⟩

theorem rowsDot_apply {K N : ℕ} (v : FVec Ideal ⟨3, ![8, L, K]⟩ .f32) (w : FVec Ideal ⟨2, ![K, N]⟩ .f32) (b : Fin 8) (t : Fin L) (j : Fin N) :
    Host.dotGeneral (F := Ideal) (rowsDot L K N) none v w (ix3 b t j) = rowMul (fun k => v (ix3 b t k)) (fun k j => w (ix2 k j)) j := by
  let D := rowsDot L K N
  have hr : D.contr.rank = 1 := rfl
  have hc : D.contr.size ⟨0, by rw [hr]; omega⟩ = K := rfl
  refine (Ideal.dotGeneral_apply D none _ v w (ix3 b t j)).trans ?_
  rw [← Equiv.sum_comp (ValueIdx.contrEquiv1 D K hr hc).symm]
  refine Finset.sum_congr rfl fun k _ => ?_
  have hk := ValueIdx.contrEquiv1_symm_val D K hr hc k
  have el : D.lhsIdx (ix3 b t j) ((ValueIdx.contrEquiv1 D K hr hc).symm k) = ix3 b t k := by
    funext a; apply Fin.ext
    match a with
    | ⟨0, _⟩ => rfl
    | ⟨1, _⟩ => rfl
    | ⟨2, _⟩ => exact hk
  have er : D.rhsIdx (ix3 b t j) ((ValueIdx.contrEquiv1 D K hr hc).symm k) = ix2 k j := by
    funext a; apply Fin.ext
    match a with
    | ⟨0, _⟩ => exact hk
    | ⟨1, _⟩ => rfl
  rw [el, er]

/-! ## The layer's end, from the projection of the mixers' outputs -/

/-- The rectified inner row of the feed-forward part, as the reference's text has it. -/
def upH (h : A3 L 1024) (w1 : A2 1024 4096) : A3 L 4096 :=
  maximumf (F := Ideal) (φ := .f32) (Host.dotGeneral (F := Ideal) (φ₁ := .f32) (φ₂ := .f32) (rowsDot L 1024 4096) none h w1) (broadcastInDim ⟨3, ![8, L, 4096]⟩ ![] s.zeros (constant (F := Ideal) ⟨0, ![]⟩ .f32 0x00000000#32) : A3 L 4096)

/-- The feed-forward part, as the reference's text has it. -/
def ffH (h : A3 L 1024) (w1 : A2 1024 4096) (w2 : A2 4096 1024) : A3 L 1024 :=
  Host.dotGeneral (F := Ideal) (φ₁ := .f32) (φ₂ := .f32) (rowsDot L 4096 1024) none (mulf (F := Ideal) (φ := .f32) (upH s h w1) (upH s h w1)) w2

/-- The residual stream after the mixers, as the reference's text has it. -/
def midH (x mx : A3 L 1024) (gm : A1 1024) : A3 L 1024 := addf (F := Ideal) (φ := .f32) x (rmsH s mx gm)

/-- The result from the residual stream after the mixers, as the reference's text has it. -/
def tailH (r : A3 L 1024) (g1 g2 : A1 1024) (w1 : A2 1024 4096)
    (w2 : A2 4096 1024) : A3 L 1024 :=
  addf (F := Ideal) (φ := .f32) r (rmsH s (ffH s (rmsH s r g1) w1 w2) g2)

theorem ffH_apply (h : A3 L 1024) (w1 : A2 1024 4096) (w2 : A2 4096 1024)
    (b : Fin 8) (t : Fin L) (j : Fin 1024) :
    ffH s h w1 w2 (ix3 b t j) = ff (fun d => h (ix3 b t d)) (fun d k => w1 (ix2 d k)) (fun k j => w2 (ix2 k j)) j := by
  have e : ∀ k : Fin 4096, upH s h w1 (ix3 b t k) = max (rowMul (fun d => h (ix3 b t d)) (fun d k => w1 (ix2 d k)) k) (0 : EReal) := fun k =>
    congr (congrArg (fun p q : EReal => max p q) (rowsDot_apply (K := 1024) (N := 4096) h w1 b t k))
      ((broadcastInDim_apply _ _ _ _ ix0 (fun a => a.elim0)).trans Ideal.ofBits_zero_f32)
  refine (rowsDot_apply (K := 4096) (N := 1024) _ w2 b t j).trans ?_
  refine congrArg (fun v => rowMul v (fun k j => w2 (ix2 k j)) j) (funext fun k => ?_)
  exact congr (congrArg (fun p q : EReal => p * q) (e k)) (e k)

theorem midH_apply (x mx : A3 L 1024) (gm : A1 1024) (b : Fin 8) (t : Fin L) (j : Fin 1024) :
    midH s x mx gm (ix3 b t j) = mid (fun k => x (ix3 b t k)) (fun k => mx (ix3 b t k)) (fun k => gm (ix1 k)) j :=
  congrArg (fun q : EReal => (x (ix3 b t j) : EReal) + q) (rmsH_apply s mx gm b t j)

theorem tailH_apply (r : A3 L 1024) (g1 g2 : A1 1024) (w1 : A2 1024 4096)
    (w2 : A2 4096 1024) (b : Fin 8) (t : Fin L) (j : Fin 1024) :
    tailH s r g1 g2 w1 w2 (ix3 b t j) = tail (fun k => r (ix3 b t k)) (fun k => g1 (ix1 k)) (fun k => g2 (ix1 k)) (fun d k => w1 (ix2 d k)) (fun k j => w2 (ix2 k j)) j := by
  refine congrArg (fun q : EReal => (r (ix3 b t j) : EReal) + q) ((rmsH_apply s _ _ b t j).trans ?_)
  refine congrArg (fun v => rms v _ j) (funext fun l => (ffH_apply s _ _ _ b t l).trans ?_)
  exact congrArg (fun v => ff v _ _ l) (funext fun d => rmsH_apply s r g1 b t d)

section Joined

variable {A B : ℕ} (h : A + B = 1024) (p : H3 L A) (q : H3 L B)
  (hc : Shape.Concatenates [⟨3, ![8, L, A]⟩, ⟨3, ![8, L, B]⟩] ⟨3, ![8, L, 1024]⟩ 2) (hb : FTy.bf16.bits < FTy.f32.bits)

/-- The two mixers' outputs side by side. -/
def joinH : A3 L 1024 :=
  extf (F := Ideal) .f32 (concatenate (α := Elt Ideal .bf16) ⟨3, ![8, L, 1024]⟩ 2 [⟨⟨3, ![8, L, A]⟩, p⟩, ⟨⟨3, ![8, L, B]⟩, q⟩] hc : H3 L 1024) hb

theorem joinH_left (b : Fin 8) (t : Fin L) (k : Fin A) : joinH p q hc hb (ix3 b t (⟨k.val, by omega⟩ : Fin 1024)) = (p (ix3 b t k) : EReal) := by
  refine concatenate_apply_piece (t := ⟨3, ![8, L, 1024]⟩) 2 [⟨⟨3, ![8, L, A]⟩, p⟩, ⟨⟨3, ![8, L, B]⟩, q⟩] hc _ 0 (by simp) ⟨3, ![8, L, A]⟩ p rfl rfl 0 rfl (ix3 b t k) ?_ ?_
  · intro a ha
    match a with
    | ⟨0, _⟩ => rfl
    | ⟨1, _⟩ => rfl
    | ⟨2, _⟩ => exact absurd rfl ha
  · show 0 + k.val = k.val
    omega

theorem joinH_right (b : Fin 8) (t : Fin L) (k : Fin B) : joinH p q hc hb (ix3 b t (⟨A + k.val, by omega⟩ : Fin 1024)) = (q (ix3 b t k) : EReal) := by
  refine concatenate_apply_piece (t := ⟨3, ![8, L, 1024]⟩) 2 [⟨⟨3, ![8, L, A]⟩, p⟩, ⟨⟨3, ![8, L, B]⟩, q⟩] hc _ 1 (by simp) ⟨3, ![8, L, B]⟩ q rfl rfl A ?_ (ix3 b t k) ?_ ?_
  · exact Nat.add_zero A
  · intro a ha
    match a with
    | ⟨0, _⟩ => rfl
    | ⟨1, _⟩ => rfl
    | ⟨2, _⟩ => exact absurd rfl ha
  · rfl

/-- A token of the result, from the mixers' outputs. -/
theorem token_of_joined (x : A3 L 1024) (w : A2 1024 1024) (gm g1 g2 : A1 1024)
    (w1 : A2 1024 4096) (w2 : A2 4096 1024) (b : Fin 8) (t : Fin L) (j : Fin 1024) :
    tailH s (midH s x (Host.dotGeneral (F := Ideal) (φ₁ := .f32) (φ₂ := .f32) (rowsDot L 1024 1024) none (joinH p q hc hb) w) gm) g1 g2 w1 w2 (ix3 b t j)
      = token (fun k => x (ix3 b t k)) (fun k => p (ix3 b t k)) (fun k => q (ix3 b t k))
          (fun k j => w (ix2 (⟨k.val, by omega⟩ : Fin 1024) j)) (fun k j => w (ix2 (⟨A + k.val, by omega⟩ : Fin 1024) j))
          (fun k => gm (ix1 k)) (fun k => g1 (ix1 k)) (fun k => g2 (ix1 k)) (fun d k => w1 (ix2 d k)) (fun k j => w2 (ix2 k j)) j := by
  refine (tailH_apply s _ _ _ _ _ b t j).trans ?_
  unfold token
  refine congrArg (fun v => tail v _ _ _ _ j) (funext fun k => (midH_apply s _ _ _ b t k).trans ?_)
  refine congrArg (fun v => mid _ v _ k) (funext fun l => (rowsDot_apply (K := 1024) (N := 1024) _ w b t l).trans ?_)
  refine (rowMul_parts h (fun k => joinH p q hc hb (ix3 b t k)) (fun k j => w (ix2 k j)) l).trans ?_
  exact congr (congrArg (fun p q : EReal => p + q) (congrArg (fun v => rowMul v _ l) (funext (joinH_left h p q hc hb b t)))) (congrArg (fun v => rowMul v _ l) (funext (joinH_right h p q hc hb b t)))

end Joined

end Cert.Mlp.Ref

end
-- ==== Proof.FfRef.lean ====
module

public import proofs.«01_k».proof.Proof.Gen.Reference2Ideal.Read
public import proofs.«01_k».proof.Proof.FfHost

@[expose] public section

set_option maxRecDepth 16384

noncomputable section

namespace Cert.Mlp.Ref

open Cert.Reference2Ideal Cert.Reference2Ideal.Gen Cert.Reference2Ideal.Read
open Idealize.ShloMosaic Idealize.ShloMosaic.TcCoe Idealize.SL.Sem

/-! ## The last layer's reference, token by token -/

/-- The side conditions at the sample batch's length. -/
theorem sides : Sides 8192 :=
  ⟨by decide, reducesTo_S8x8192x1024_S8x8192_d2, by decide, h_S_, bcast_S8x8192_S8x8192x1_0_1, bcast_S_S8x8192x1, bcast_S8x8192x1_S8x8192x1024_0_1_2,
    bcast_S1024_S1x1x1024_2, bcast_S1x1x1024_S8x8192x1024_0_1_2, bcast_S_S8x8192x4096⟩

variable (x0 : (⟨S8x8192x1024, .f32⟩ : BufTy).Contents (Elt Ideal)) (x1 : (⟨S8x8192x768, .bf16⟩ : BufTy).Contents (Elt Ideal)) (x2 : (⟨S8x8192x256, .bf16⟩ : BufTy).Contents (Elt Ideal))
  (x3 x4 : (⟨S2x2x1024, .f32⟩ : BufTy).Contents (Elt Ideal)) (x5 : (⟨S2x1024x4096, .f32⟩ : BufTy).Contents (Elt Ideal))
  (x6 : (⟨S2x4096x1024, .f32⟩ : BufTy).Contents (Elt Ideal)) (x7 : (⟨S1x1024x1024, .f32⟩ : BufTy).Contents (Elt Ideal))

/-- What the reference computes for one token. -/
theorem value (b : Fin 8) (t : Fin 8192) (j : Fin 1024) :
    val_main_v58 (F := Ideal) x0 x1 x2 x3 x4 x5 x6 x7 (ix3 b t j)
      = token (fun k => x0 (ix3 b t k)) (fun k => x1 (ix3 b t k)) (fun k => x2 (ix3 b t k))
          (fun k j => val_main_v2 (F := Ideal) x7 (ix2 (⟨k.val, by omega⟩ : Fin 1024) j)) (fun k j => val_main_v2 (F := Ideal) x7 (ix2 (⟨768 + k.val, by omega⟩ : Fin 1024) j))
          (fun k => val_main_v5 (F := Ideal) x3 (ix1 k)) (fun k => val_main_v21 (F := Ideal) x4 (ix1 k)) (fun k => val_main_v44 (F := Ideal) x4 (ix1 k))
          (fun d k => val_main_v36 (F := Ideal) x5 (ix2 d k)) (fun k j => val_main_v41 (F := Ideal) x6 (ix2 k j)) j := by
  have h : val_main_v58 (F := Ideal) x0 x1 x2 x3 x4 x5 x6 x7
      = tailH sides (midH sides x0 (Host.dotGeneral (F := Ideal) (φ₁ := .f32) (φ₂ := .f32) (rowsDot 8192 1024 1024) none
            (joinH x1 x2 concatenates_S8x8192x768_S8x8192x256_S8x8192x1024_d2 bitsLt_bf16_f32) (val_main_v2 (F := Ideal) x7)) (val_main_v5 (F := Ideal) x3))
          (val_main_v21 (F := Ideal) x4) (val_main_v44 (F := Ideal) x4) (val_main_v36 (F := Ideal) x5) (val_main_v41 (F := Ideal) x6) := rfl
  rw [h]
  exact token_of_joined sides (A := 768) (B := 256) rfl x1 x2 _ _ x0 _ _ _ _ _ _ b t j

end Cert.Mlp.Ref

end
-- ==== Proof.FfArr.lean ====
module

public import proofs.«01_k».proof.Proof.Gen.Kernel2Ideal.Value
public import proofs.«01_k».proof.Proof.FfBlock
public import proofs.«01_k».proof.Proof.FfRef
public import Idealize.ShloMosaic.Lib.StableHlo.Run

@[expose] public section

set_option maxRecDepth 16384

noncomputable section

namespace Cert.Mlp

open Cert.Kernel2Ideal Cert.Kernel2Ideal.Gen
open Idealize.ShloMosaic Idealize.ShloMosaic.TcCoe Idealize.SL.Sem Idealize.ShloMosaic.StableHlo
open Idealize.ShloMosaic.Pipeline (Window)

variable (m : (ℓ : Loc nD τ sig) → Buf (Elt Ideal) ℓ)

/-! ## The blocks of the windows -/

theorem index_x : ∀ t : Fin cfg0.N, win0_0.index t = ![t.val / 16, t.val % 16, 0] := by decide +kernel
theorem index_a : ∀ t : Fin cfg0.N, win0_1.index t = ![t.val / 16, t.val % 16, 0] := by decide +kernel
theorem index_b : ∀ t : Fin cfg0.N, win0_2.index t = ![t.val / 16, t.val % 16, 0] := by decide +kernel
theorem index_wa : ∀ t : Fin cfg0.N, win0_3.index t = ![0, 0] := by decide +kernel
theorem index_wb : ∀ t : Fin cfg0.N, win0_4.index t = ![0, 0] := by decide +kernel
theorem index_gm : ∀ t : Fin cfg0.N, win0_5.index t = ![0, 0] := by decide +kernel
theorem index_g1 : ∀ t : Fin cfg0.N, win0_6.index t = ![0, 0] := by decide +kernel
theorem index_w1 : ∀ t : Fin cfg0.N, win0_7.index t = ![0, 0] := by decide +kernel
theorem index_w2 : ∀ t : Fin cfg0.N, win0_8.index t = ![0, 0] := by decide +kernel
theorem index_g2 : ∀ t : Fin cfg0.N, win0_9.index t = ![0, 0] := by decide +kernel
theorem index_o : ∀ t : Fin cfg0.N, win0_10.index t = ![t.val / 16, t.val % 16, 0] := by decide +kernel

theorem zero2 : ∀ a : Fin 2, (![0, 0] : Fin 2 → ℕ) a = 0 := by decide

theorem pt_lt (t : Fin cfg0.N) : t.val < 128 := lt_of_lt_of_eq t.isLt N_0

/-- The sequence of a point. -/
def ptB (t : Fin cfg0.N) : Fin 8 := ⟨t.val / 16, by have := pt_lt t; omega⟩
/-- The position of a point's row. -/
def ptT (t : Fin cfg0.N) (r : Fin 512) : Fin 8192 := ⟨512 * (t.val % 16) + r.val, by omega⟩

theorem blk_x (c : Dev nD) (t : Fin cfg0.N) (r : Fin 512) (k : Fin 1024) :
    iblk m c 0 t (ix3 (0 : Fin 1) r k) = V m c main_arg0 (ix3 (ptB t) (ptT t r) k) := by
  show V m c main_arg0 ((win0_0.rect t).emb (ix3 (0 : Fin 1) r k)) = _
  refine congrArg (V m c main_arg0) (funext fun a => Fin.ext ?_)
  refine (Window.rect_emb_val win0_0 t _ a).trans ?_
  rw [index_x]
  match a with
  | ⟨0, _⟩ => show t.val / 16 * 1 + 0 = t.val / 16; omega
  | ⟨1, _⟩ => show t.val % 16 * 512 + r.val = 512 * (t.val % 16) + r.val; omega
  | ⟨2, _⟩ => show 0 * 1024 + k.val = k.val; omega

theorem blk_a (c : Dev nD) (t : Fin cfg0.N) (r : Fin 512) (k : Fin 768) :
    iblk m c 1 t (ix3 (0 : Fin 1) r k) = V m c main_arg1 (ix3 (ptB t) (ptT t r) k) := by
  show V m c main_arg1 ((win0_1.rect t).emb (ix3 (0 : Fin 1) r k)) = _
  refine congrArg (V m c main_arg1) (funext fun a => Fin.ext ?_)
  refine (Window.rect_emb_val win0_1 t _ a).trans ?_
  rw [index_a]
  match a with
  | ⟨0, _⟩ => show t.val / 16 * 1 + 0 = t.val / 16; omega
  | ⟨1, _⟩ => show t.val % 16 * 512 + r.val = 512 * (t.val % 16) + r.val; omega
  | ⟨2, _⟩ => show 0 * 768 + k.val = k.val; omega

theorem blk_b (c : Dev nD) (t : Fin cfg0.N) (r : Fin 512) (k : Fin 256) :
    iblk m c 2 t (ix3 (0 : Fin 1) r k) = V m c main_arg2 (ix3 (ptB t) (ptT t r) k) := by
  show V m c main_arg2 ((win0_2.rect t).emb (ix3 (0 : Fin 1) r k)) = _
  refine congrArg (V m c main_arg2) (funext fun a => Fin.ext ?_)
  refine (Window.rect_emb_val win0_2 t _ a).trans ?_
  rw [index_b]
  match a with
  | ⟨0, _⟩ => show t.val / 16 * 1 + 0 = t.val / 16; omega
  | ⟨1, _⟩ => show t.val % 16 * 512 + r.val = 512 * (t.val % 16) + r.val; omega
  | ⟨2, _⟩ => show 0 * 256 + k.val = k.val; omega

theorem blk_wa (c : Dev nD) (t : Fin cfg0.N) : iblk m c 3 t = V m c main_v2 :=
  funext fun y => congrArg (V m c main_v2) (funext fun a => Fin.ext (win0_3.rect_emb_val_of_index_zero t a (by rw [index_wa]; exact zero2 a) y))

theorem blk_wb (c : Dev nD) (t : Fin cfg0.N) : iblk m c 4 t = V m c main_v5 :=
  funext fun y => congrArg (V m c main_v5) (funext fun a => Fin.ext (win0_4.rect_emb_val_of_index_zero t a (by rw [index_wb]; exact zero2 a) y))

theorem blk_gm (c : Dev nD) (t : Fin cfg0.N) : iblk m c 5 t = V m c main_v8 :=
  funext fun y => congrArg (V m c main_v8) (funext fun a => Fin.ext (win0_5.rect_emb_val_of_index_zero t a (by rw [index_gm]; exact zero2 a) y))

theorem blk_g1 (c : Dev nD) (t : Fin cfg0.N) : iblk m c 6 t = V m c main_v11 :=
  funext fun y => congrArg (V m c main_v11) (funext fun a => Fin.ext (win0_6.rect_emb_val_of_index_zero t a (by rw [index_g1]; exact zero2 a) y))

theorem blk_w1 (c : Dev nD) (t : Fin cfg0.N) : iblk m c 7 t = V m c main_v14 :=
  funext fun y => congrArg (V m c main_v14) (funext fun a => Fin.ext (win0_7.rect_emb_val_of_index_zero t a (by rw [index_w1]; exact zero2 a) y))

theorem blk_w2 (c : Dev nD) (t : Fin cfg0.N) : iblk m c 8 t = V m c main_v17 :=
  funext fun y => congrArg (V m c main_v17) (funext fun a => Fin.ext (win0_8.rect_emb_val_of_index_zero t a (by rw [index_w2]; exact zero2 a) y))

theorem blk_g2 (c : Dev nD) (t : Fin cfg0.N) : iblk m c 9 t = V m c main_v20 :=
  funext fun y => congrArg (V m c main_v20) (funext fun a => Fin.ext (win0_9.rect_emb_val_of_index_zero t a (by rw [index_g2]; exact zero2 a) y))

theorem emb_o (t : Fin cfg0.N) (r : Fin 512) (k : Fin 1024) :
    (win0_10.rect t).emb (ix3 (0 : Fin 1) r k) = (ix3 (ptB t) (ptT t r) k : S8x8192x1024.Idx) := by
  refine funext fun a => Fin.ext ?_
  refine (Window.rect_emb_val win0_10 t _ a).trans ?_
  rw [index_o]
  match a with
  | ⟨0, _⟩ => show t.val / 16 * 1 + 0 = t.val / 16; omega
  | ⟨1, _⟩ => show t.val % 16 * 512 + r.val = 512 * (t.val % 16) + r.val; omega
  | ⟨2, _⟩ => show 0 * 1024 + k.val = k.val; omega

theorem vix2 {n k : ℕ} (a : Fin n) (b : Fin k) : ValueIdx.ix2 a b = ix2 a b := by
  funext i; fin_cases i <;> rfl
theorem vix3 {n k l : ℕ} (a : Fin n) (b : Fin k) (c : Fin l) : ValueIdx.ix3 a b c = ix3 a b c := by
  funext i; fin_cases i <;> rfl

/-! ## The arrays the host prepares, as the reference's values -/

section Arrays

open Cert.Reference2Ideal.Read

/-- A row with a leading axis of length one. -/
theorem row_cast (v : (⟨S1024, .f32⟩ : BufTy).Contents (Elt Ideal)) (k : Fin 1024) :
    shapeCast S1x1024 v shapeCasts_S1024_S1x1024 (ix2 (0 : Fin 1) k) = v (ix1 k) := by
  refine shapeCast_apply _ _ _ _ ?_
  rw [Shape.rowMajor_val_one, Shape.rowMajor_val_two]
  show k.val = 0 * 1024 + k.val
  omega

theorem V_gm (c : Dev nD) (k : Fin 1024) :
    V m c main_v8 (ix2 (0 : Fin 1) k) = val_main_v5 (F := Ideal) (m ((c : Thread nD τ).loc main_arg3)) (ix1 k) := by
  have h : V m c main_v8 = shapeCast S1x1024 (val_main_v5 (F := Ideal) (m ((c : Thread nD τ).loc main_arg3))) shapeCasts_S1024_S1x1024 := by
    show StableHlo.after hostOps0 (fun b => m (c, b)) (Proc.devRef .tc main_v8) = _
    unfold hostOps0
    after_results <;> rfl
  rw [h]
  exact row_cast _ k

theorem V_g1 (c : Dev nD) (k : Fin 1024) :
    V m c main_v11 (ix2 (0 : Fin 1) k) = val_main_v21 (F := Ideal) (m ((c : Thread nD τ).loc main_arg4)) (ix1 k) := by
  have h : V m c main_v11 = shapeCast S1x1024 (val_main_v21 (F := Ideal) (m ((c : Thread nD τ).loc main_arg4))) shapeCasts_S1024_S1x1024 := by
    show StableHlo.after hostOps0 (fun b => m (c, b)) (Proc.devRef .tc main_v11) = _
    unfold hostOps0
    after_results <;> rfl
  rw [h]
  exact row_cast _ k

theorem V_g2 (c : Dev nD) (k : Fin 1024) :
    V m c main_v20 (ix2 (0 : Fin 1) k) = val_main_v44 (F := Ideal) (m ((c : Thread nD τ).loc main_arg4)) (ix1 k) := by
  have h : V m c main_v20 = shapeCast S1x1024 (val_main_v44 (F := Ideal) (m ((c : Thread nD τ).loc main_arg4))) shapeCasts_S1024_S1x1024 := by
    show StableHlo.after hostOps0 (fun b => m (c, b)) (Proc.devRef .tc main_v20) = _
    unfold hostOps0
    after_results <;> rfl
  rw [h]
  exact row_cast _ k

theorem V_w1 (c : Dev nD) : V m c main_v14 = val_main_v36 (F := Ideal) (m ((c : Thread nD τ).loc main_arg5)) := by
  show StableHlo.after hostOps0 (fun b => m (c, b)) (Proc.devRef .tc main_v14) = _
  unfold hostOps0
  after_results <;> rfl

theorem V_w2 (c : Dev nD) : V m c main_v17 = val_main_v41 (F := Ideal) (m ((c : Thread nD τ).loc main_arg6)) := by
  show StableHlo.after hostOps0 (fun b => m (c, b)) (Proc.devRef .tc main_v17) = _
  unfold hostOps0
  after_results <;> rfl

theorem V_wa (c : Dev nD) (k : Fin 768) (j : Fin 1024) :
    V m c main_v2 (ix2 k j) = val_main_v2 (F := Ideal) (m ((c : Thread nD τ).loc main_arg7)) (ix2 (⟨k.val, by omega⟩ : Fin 1024) j) := by
  have h : V m c main_v2 = extractStridedSlice S768x1024 ![0, 0] (val_main_v2 (F := Ideal) (m ((c : Thread nD τ).loc main_arg7))) slices_S1024x1024_S768x1024_0_0 := by
    show StableHlo.after hostOps0 (fun b => m (c, b)) (Proc.devRef .tc main_v2) = _
    unfold hostOps0
    after_results <;> rfl
  rw [h]
  refine extractStridedSlice_apply _ _ _ _ _ fun a => ?_
  match a with
  | ⟨0, _⟩ => exact (Nat.zero_add _).symm
  | ⟨1, _⟩ => exact (Nat.zero_add _).symm

theorem V_wb (c : Dev nD) (k : Fin 256) (j : Fin 1024) :
    V m c main_v5 (ix2 k j) = val_main_v2 (F := Ideal) (m ((c : Thread nD τ).loc main_arg7)) (ix2 (⟨768 + k.val, by omega⟩ : Fin 1024) j) := by
  have h : V m c main_v5 = extractStridedSlice S256x1024 ![768, 0] (val_main_v2 (F := Ideal) (m ((c : Thread nD τ).loc main_arg7))) slices_S1024x1024_S256x1024_768_0 := by
    show StableHlo.after hostOps0 (fun b => m (c, b)) (Proc.devRef .tc main_v5) = _
    unfold hostOps0
    after_results <;> rfl
  rw [h]
  refine extractStridedSlice_apply _ _ _ _ _ fun a => ?_
  match a with
  | ⟨0, _⟩ => rfl
  | ⟨1, _⟩ => exact (Nat.zero_add _).symm

/-- The kernel's result is the reference's function of the arguments. -/
theorem kernel_value (c : Dev nD) :
    (dats m 0 c).arrAt 10 cfg0.N = val_main_v58 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_cover 10 _ (fun t _ => ?_) (fun i => ?_)
  · rw [Value.flushed10]
    funext y
    obtain ⟨y0, r, j, rfl⟩ : ∃ (y0 : Fin 1) (r : Fin 512) (j : Fin 1024), y = ix3 y0 r j := ⟨y 0, y 1, y 2, eq_ix3 y⟩
    obtain rfl : y0 = 0 := Subsingleton.elim _ _
    show out0_10 (F := Ideal) (iblk m c 0 t) (iblk m c 1 t) (iblk m c 2 t) (iblk m c 3 t) (iblk m c 4 t) (iblk m c 5 t) (iblk m c 6 t) (iblk m c 7 t) (iblk m c 8 t) (iblk m c 9 t) (ix3 (0 : Fin 1) r j)
      = val_main_v58 (F := Ideal) _ _ _ _ _ _ _ _ ((win0_10.rect t).emb (ix3 (0 : Fin 1) r j))
    rw [emb_o, ← vix3 (0 : Fin 1) r j, out_apply, Ref.value]
    simp only [vix2, vix3, blk_x, blk_a, blk_b, blk_wa, blk_wb, blk_gm, blk_g1, blk_w1, blk_w2, blk_g2]
    exact token_congr j (fun k => congrFun (V_main_arg0 m c) _) (fun k => congrFun (V_main_arg1 m c) _) (fun k => congrFun (V_main_arg2 m c) _)
      (V_wa m c) (V_wb m c) (V_gm m c) (V_g1 m c) (V_g2 m c) (fun d k => congrFun (V_w1 m c) _) (fun k j => congrFun (V_w2 m c) _)
  · have hb : (i 0).val < 8 := (i 0).isLt
    have ht : (i 1).val < 8192 := (i 1).isLt
    let t : Fin cfg0.N := ⟨16 * (i 0).val + (i 1).val / 512, by rw [show cfg0.N = 128 from N_0]; omega⟩
    refine ⟨t, flush0_10 t, ?_⟩
    have h := ((cfg0.win 10).blk t).view.emb_mem_set (ix3 (0 : Fin 1) (⟨(i 1).val % 512, by omega⟩ : Fin 512) (i 2))
    have e : ((cfg0.win 10).blk t).view.emb (ix3 (0 : Fin 1) (⟨(i 1).val % 512, by omega⟩ : Fin 512) (i 2)) = i := by
      refine (emb_o t _ _).trans (funext fun a => Fin.ext ?_)
      match a with
      | ⟨0, _⟩ => show (16 * (i 0).val + (i 1).val / 512) / 16 = (i 0).val; omega
      | ⟨1, _⟩ => show 512 * ((16 * (i 0).val + (i 1).val / 512) % 16) + (i 1).val % 512 = (i 1).val; omega
      | ⟨2, _⟩ => rfl
    rwa [e] at h

end Arrays

end Cert.Mlp

end
-- ==== Proof.Ff1Block.lean ====
module

public import proofs.«01_k».proof.Proof.Gen.Kernel3Ideal.Value
public import proofs.«01_k».proof.Proof.FfBlock

@[expose] public section

set_option maxRecDepth 16384

noncomputable section

namespace Cert.Mlp1

open Cert.Kernel3Ideal Cert.Kernel3Ideal.Gen
open Cert.Mlp (rowMul token mid midV tailV midV_apply tailV_apply cast_self)
open Idealize.ShloMosaic Idealize.ShloMosaic.TcCoe Idealize.SL.Sem Idealize.ShloMosaic.ValueIdx
open scoped BigOperators

section Text

variable {F : FTy → Type} [FloatOps F]

/-! ## The body's text in parts: the first layer's projections, then the last layer's body -/

/-- The two projections of a block; the second one's rows stand as columns, head by head. -/
def mixV (a : Vec F S1x512x512 .bf16) (wa : Vec F S512x1024 .bf16) (b : Vec F S1x8x1x64x512 .bf16) (wb : Vec F S512x1024 .bf16) : FVec F S512x1024 .f32 :=
  addf (matmul dot_S512x512_S512x1024_S512x1024_1_0_0_1_n_n none (shapeCast S512x512 a shapeCasts_S1x512x512_S512x512 : FVec F S512x512 .bf16)
      (shapeCast S512x1024 wa shapeCasts_S512x1024_S512x1024 : FVec F S512x1024 .bf16) (constant S512x1024 .f32 0x00000000#32))
    (matmul dot_S512x512_S512x1024_S512x1024_0_0_1_1_n_n none
      (shapeCast S512x512 (shapeCast S8x64x512 b shapeCasts_S1x8x1x64x512_S8x64x512) shapeCasts_S8x64x512_S512x512 : FVec F S512x512 .bf16)
      (shapeCast S512x1024 wb shapeCasts_S512x1024_S512x1024 : FVec F S512x1024 .bf16) (constant S512x1024 .f32 0x00000000#32))

/-- What a point leaves in the output's block. -/
theorem out_eq (x0 : Vec F S1x512x1024 .f32) (x1 : Vec F S1x512x512 .bf16) (x2 : Vec F S1x8x1x64x512 .bf16) (x3 x4 : Vec F S512x1024 .bf16)
    (x5 x6 : Vec F S1x1024 .f32) (x7 : Vec F S1024x4096 .bf16) (x8 : Vec F S4096x1024 .bf16) (x9 : Vec F S1x1024 .f32) :
    out0_10 x0 x1 x2 x3 x4 x5 x6 x7 x8 x9 = tailV (midV x0 (mixV x1 x3 x2 x4) x5) x6 x9 x7 x8 := by
  have h2 : ∀ {n : Nat}, (![0, 0] : Fin 2 → Nat) = fun _ => 0 := fun {_} => by funext a; fin_cases a <;> rfl
  have h3 : (![0, 0, 0] : Fin 3 → Nat) = fun _ => 0 := by funext a; fin_cases a <;> rfl
  have h5 : (![0, 0, 0, 0, 0] : Fin 5 → Nat) = fun _ => 0 := by funext a; fin_cases a <;> rfl
  have e0 : View.ld x0 r0_3 = x0 := View.ld_unit_zero h3 _ _
  have e1 : View.ld x1 r0_0 = x1 := View.ld_unit_zero h3 _ _
  have e2 : View.ld x2 r0_2 = x2 := View.ld_unit_zero h5 _ _
  have e3 : View.ld x3 r0_1 = x3 := View.ld_unit_zero (h2 (n := 0)) _ _
  have e4 : View.ld x4 r0_1 = x4 := View.ld_unit_zero (h2 (n := 0)) _ _
  have e5 : View.ld x5 r0_4 = x5 := View.ld_unit_zero (h2 (n := 0)) _ _
  have e6 : View.ld x6 r0_4 = x6 := View.ld_unit_zero (h2 (n := 0)) _ _
  have e9 : View.ld x9 r0_4 = x9 := View.ld_unit_zero (h2 (n := 0)) _ _
  unfold out0_10
  refine (View.canon_unit_zero h3 _ _).trans ?_
  unfold k0_pay10 k0_pay9 k0_pay8
  rw [e0, e1, e2, e3, e4, e5, e6, e9]
  rfl

end Text

/-! ## The parts read at an index over the reals -/

/-- A product contracted on the first axes of both operands. -/
theorem matmul_columns_apply (v : FVec Ideal S512x512 .bf16) (w : FVec Ideal S512x1024 .bf16) (r : Fin 512) (j : Fin 1024) :
    matmul (F := Ideal) dot_S512x512_S512x1024_S512x1024_0_0_1_1_n_n none v w (constant S512x1024 .f32 0x00000000#32) (ix2 r j)
      = rowMul (fun k => v (ix2 k r)) (fun k j => w (ix2 k j)) j := by
  let D := dot_S512x512_S512x1024_S512x1024_0_0_1_1_n_n
  have hr : D.contr.rank = 1 := rfl
  have hc : D.contr.size ⟨0, by rw [hr]; omega⟩ = 512 := rfl
  refine (Ideal.matmul_apply D none v w _ (ix2 r j)).trans (((congrArg (· + _) Ideal.ofBits_zero_f32).trans (zero_add _)).trans ?_)
  rw [← Equiv.sum_comp (contrEquiv1 D 512 hr hc).symm]
  refine Finset.sum_congr rfl fun k _ => ?_
  have hk := contrEquiv1_symm_val D 512 hr hc k
  have el : D.lhsIdx (ix2 r j) ((contrEquiv1 D 512 hr hc).symm k) = ix2 k r := by
    funext a; apply Fin.ext
    match a with
    | ⟨0, _⟩ => exact hk
    | ⟨1, _⟩ => rfl
  have er : D.rhsIdx (ix2 r j) ((contrEquiv1 D 512 hr hc).symm k) = ix2 k j := by
    funext a; apply Fin.ext
    match a with
    | ⟨0, _⟩ => exact hk
    | ⟨1, _⟩ => rfl
  rw [el, er]

theorem mixV_apply (a : Vec Ideal S1x512x512 .bf16) (wa : Vec Ideal S512x1024 .bf16) (b : Vec Ideal S1x8x1x64x512 .bf16) (wb : Vec Ideal S512x1024 .bf16)
    (r : Fin 512) (j : Fin 1024) :
    mixV (F := Ideal) a wa b wb (ix2 r j) = rowMul (fun k => a (ix3 (0 : Fin 1) r k)) (fun k j => wa (ix2 k j)) j
      + rowMul (fun k : Fin 512 => b (ix5 (0 : Fin 1) (⟨k.val / 64, by omega⟩ : Fin 8) (0 : Fin 1) (⟨k.val % 64, by omega⟩ : Fin 64) r)) (fun k j => wb (ix2 k j)) j := by
  unfold mixV
  rw [cast_self, cast_self]
  refine congr (congrArg (fun p q : EReal => p + q) ?_) ?_
  · refine (Ideal.matmul_plain_apply (M := 512) (K := 512) (N := 1024) (φ₁ := .bf16) (φ₂ := .bf16) none _ wa (constant S512x1024 .f32 0x00000000#32) r j).trans
      (((congrArg (· + _) Ideal.ofBits_zero_f32).trans (zero_add _)).trans ?_)
    refine Finset.sum_congr rfl fun k _ => congrArg (· * (wa (ix2 k j) : EReal)) ?_
    exact shapeCast_1ab_ab_apply a _ r k
  · refine (matmul_columns_apply _ wb r j).trans ?_
    refine congrArg (fun v => rowMul v (fun k j => wb (ix2 k j)) j) (funext fun k => ?_)
    refine (shapeCast_apply _ _ (ix2 k r) (ix3 (⟨k.val / 64, by omega⟩ : Fin 8) (⟨k.val % 64, by omega⟩ : Fin 64) r) ?_).trans
      (shapeCast_apply _ _ _ (ix5 (0 : Fin 1) (⟨k.val / 64, by omega⟩ : Fin 8) (0 : Fin 1) (⟨k.val % 64, by omega⟩ : Fin 64) r) ?_)
    · rw [Shape.rowMajor_val_three, Shape.rowMajor_val_two]
      show (k.val / 64 * 64 + k.val % 64) * 512 + r.val = k.val * 512 + r.val
      omega
    · rw [Shape.rowMajor_val_five, Shape.rowMajor_val_three]
      show (((0 * 8 + k.val / 64) * 1 + 0) * 64 + k.val % 64) * 512 + r.val = (k.val / 64 * 64 + k.val % 64) * 512 + r.val
      omega

/-- What a point leaves in the output's block, token by token. -/
theorem out_apply (x0 : Vec Ideal S1x512x1024 .f32) (x1 : Vec Ideal S1x512x512 .bf16) (x2 : Vec Ideal S1x8x1x64x512 .bf16) (x3 x4 : Vec Ideal S512x1024 .bf16)
    (x5 x6 : Vec Ideal S1x1024 .f32) (x7 : Vec Ideal S1024x4096 .bf16) (x8 : Vec Ideal S4096x1024 .bf16) (x9 : Vec Ideal S1x1024 .f32) (r : Fin 512) (j : Fin 1024) :
    out0_10 (F := Ideal) x0 x1 x2 x3 x4 x5 x6 x7 x8 x9 (ix3 (0 : Fin 1) r j)
      = token (fun k => x0 (ix3 (0 : Fin 1) r k)) (fun k => x1 (ix3 (0 : Fin 1) r k))
        (fun k : Fin 512 => x2 (ix5 (0 : Fin 1) (⟨k.val / 64, by omega⟩ : Fin 8) (0 : Fin 1) (⟨k.val % 64, by omega⟩ : Fin 64) r))
        (fun k j => x3 (ix2 k j)) (fun k j => x4 (ix2 k j))
        (fun k => x5 (ix2 (0 : Fin 1) k)) (fun k => x6 (ix2 (0 : Fin 1) k)) (fun k => x9 (ix2 (0 : Fin 1) k)) (fun d k => x7 (ix2 d k)) (fun k j => x8 (ix2 k j)) j := by
  rw [out_eq]
  refine (tailV_apply _ x6 x9 x7 x8 r j).trans ?_
  unfold token
  refine congrArg (fun v => Cert.Mlp.tail v _ _ _ _ j) (funext fun k => (midV_apply x0 _ x5 r k).trans ?_)
  exact congrArg (fun v => mid _ v _ k) (funext fun l => mixV_apply x1 x3 x2 x4 r l)

end Cert.Mlp1

end
-- ==== Proof.Ff1Ref.lean ====
module

public import proofs.«01_k».proof.Proof.Gen.Reference3Ideal.Read
public import proofs.«01_k».proof.Proof.FfRef

@[expose] public section

set_option maxRecDepth 16384

noncomputable section

namespace Cert.Mlp1.Ref

open Cert.Reference3Ideal Cert.Reference3Ideal.Gen Cert.Reference3Ideal.Read
open Cert.Mlp (token)
open Cert.Mlp.Ref (rowsDot midH tailH joinH token_of_joined sides)
open Idealize.ShloMosaic Idealize.ShloMosaic.TcCoe Idealize.SL.Sem

/-! ## The first layer's reference, token by token -/

variable (x0 : (⟨S8x8192x1024, .f32⟩ : BufTy).Contents (Elt Ideal)) (x1 : (⟨S8x8192x512, .bf16⟩ : BufTy).Contents (Elt Ideal)) (x2 : (⟨S8x8192x512, .bf16⟩ : BufTy).Contents (Elt Ideal))
  (x3 x4 : (⟨S2x2x1024, .f32⟩ : BufTy).Contents (Elt Ideal)) (x5 : (⟨S2x1024x4096, .f32⟩ : BufTy).Contents (Elt Ideal))
  (x6 : (⟨S2x4096x1024, .f32⟩ : BufTy).Contents (Elt Ideal)) (x7 : (⟨S1x1024x1024, .f32⟩ : BufTy).Contents (Elt Ideal))

/-- What the reference computes for one token. -/
theorem value (b : Fin 8) (t : Fin 8192) (j : Fin 1024) :
    val_main_v58 (F := Ideal) x0 x1 x2 x3 x4 x5 x6 x7 (ix3 b t j)
      = token (fun k => x0 (ix3 b t k)) (fun k => x1 (ix3 b t k)) (fun k => x2 (ix3 b t k))
          (fun k j => val_main_v2 (F := Ideal) x7 (ix2 (⟨k.val, by omega⟩ : Fin 1024) j)) (fun k j => val_main_v2 (F := Ideal) x7 (ix2 (⟨512 + k.val, by omega⟩ : Fin 1024) j))
          (fun k => val_main_v5 (F := Ideal) x3 (ix1 k)) (fun k => val_main_v21 (F := Ideal) x4 (ix1 k)) (fun k => val_main_v44 (F := Ideal) x4 (ix1 k))
          (fun d k => val_main_v36 (F := Ideal) x5 (ix2 d k)) (fun k j => val_main_v41 (F := Ideal) x6 (ix2 k j)) j := by
  have h : val_main_v58 (F := Ideal) x0 x1 x2 x3 x4 x5 x6 x7
      = tailH sides (midH sides x0 (Host.dotGeneral (F := Ideal) (φ₁ := .f32) (φ₂ := .f32) (rowsDot 8192 1024 1024) none
            (joinH x1 x2 concatenates_S8x8192x512_S8x8192x512_S8x8192x1024_d2 bitsLt_bf16_f32) (val_main_v2 (F := Ideal) x7)) (val_main_v5 (F := Ideal) x3))
          (val_main_v21 (F := Ideal) x4) (val_main_v44 (F := Ideal) x4) (val_main_v36 (F := Ideal) x5) (val_main_v41 (F := Ideal) x6) := rfl
  rw [h]
  exact token_of_joined sides (A := 512) (B := 512) rfl x1 x2 _ _ x0 _ _ _ _ _ _ b t j

end Cert.Mlp1.Ref

end
-- ==== Proof.Ff1Arr.lean ====
module

public import proofs.«01_k».proof.Proof.Gen.Kernel3Ideal.Value
public import proofs.«01_k».proof.Proof.Ff1Block
public import proofs.«01_k».proof.Proof.Ff1Ref
public import proofs.«01_k».proof.Proof.FfArr
public import Idealize.ShloMosaic.Lib.StableHlo.Run

@[expose] public section

set_option maxRecDepth 16384

noncomputable section

namespace Cert.Mlp1

open Cert.Mlp (token_congr row_cast zero2 vix2 vix3)
open Cert.Kernel3Ideal Cert.Kernel3Ideal.Gen
open Idealize.ShloMosaic Idealize.ShloMosaic.TcCoe Idealize.SL.Sem Idealize.ShloMosaic.StableHlo
open Idealize.ShloMosaic.Pipeline (Window)

variable (m : (ℓ : Loc nD τ sig) → Buf (Elt Ideal) ℓ)

/-! ## The blocks of the windows -/

theorem index_x : ∀ t : Fin cfg0.N, win0_0.index t = ![t.val / 16, t.val % 16, 0] := by decide +kernel
theorem index_a : ∀ t : Fin cfg0.N, win0_1.index t = ![t.val / 16, t.val % 16, 0] := by decide +kernel
theorem index_b : ∀ t : Fin cfg0.N, win0_2.index t = ![t.val / 16, 0, t.val % 16, 0, 0] := by decide +kernel
theorem index_wa : ∀ t : Fin cfg0.N, win0_3.index t = ![0, 0] := by decide +kernel
theorem index_wb : ∀ t : Fin cfg0.N, win0_4.index t = ![0, 0] := by decide +kernel
theorem index_gm : ∀ t : Fin cfg0.N, win0_5.index t = ![0, 0] := by decide +kernel
theorem index_g1 : ∀ t : Fin cfg0.N, win0_6.index t = ![0, 0] := by decide +kernel
theorem index_w1 : ∀ t : Fin cfg0.N, win0_7.index t = ![0, 0] := by decide +kernel
theorem index_w2 : ∀ t : Fin cfg0.N, win0_8.index t = ![0, 0] := by decide +kernel
theorem index_g2 : ∀ t : Fin cfg0.N, win0_9.index t = ![0, 0] := by decide +kernel
theorem index_o : ∀ t : Fin cfg0.N, win0_10.index t = ![t.val / 16, t.val % 16, 0] := by decide +kernel

theorem pt_lt (t : Fin cfg0.N) : t.val < 128 := lt_of_lt_of_eq t.isLt N_0

/-- The sequence of a point. -/
def ptB (t : Fin cfg0.N) : Fin 8 := ⟨t.val / 16, by have := pt_lt t; omega⟩
/-- The position of a point's row. -/
def ptT (t : Fin cfg0.N) (r : Fin 512) : Fin 8192 := ⟨512 * (t.val % 16) + r.val, by omega⟩

theorem blk_x (c : Dev nD) (t : Fin cfg0.N) (r : Fin 512) (k : Fin 1024) :
    iblk m c 0 t (ix3 (0 : Fin 1) r k) = V m c main_arg0 (ix3 (ptB t) (ptT t r) k) := by
  show V m c main_arg0 ((win0_0.rect t).emb (ix3 (0 : Fin 1) r k)) = _
  refine congrArg (V m c main_arg0) (funext fun a => Fin.ext ?_)
  refine (Window.rect_emb_val win0_0 t _ a).trans ?_
  rw [index_x]
  match a with
  | ⟨0, _⟩ => show t.val / 16 * 1 + 0 = t.val / 16; omega
  | ⟨1, _⟩ => show t.val % 16 * 512 + r.val = 512 * (t.val % 16) + r.val; omega
  | ⟨2, _⟩ => show 0 * 1024 + k.val = k.val; omega

theorem blk_a (c : Dev nD) (t : Fin cfg0.N) (r : Fin 512) (k : Fin 512) :
    iblk m c 1 t (ix3 (0 : Fin 1) r k) = V m c main_arg1 (ix3 (ptB t) (ptT t r) k) := by
  show V m c main_arg1 ((win0_1.rect t).emb (ix3 (0 : Fin 1) r k)) = _
  refine congrArg (V m c main_arg1) (funext fun a => Fin.ext ?_)
  refine (Window.rect_emb_val win0_1 t _ a).trans ?_
  rw [index_a]
  match a with
  | ⟨0, _⟩ => show t.val / 16 * 1 + 0 = t.val / 16; omega
  | ⟨1, _⟩ => show t.val % 16 * 512 + r.val = 512 * (t.val % 16) + r.val; omega
  | ⟨2, _⟩ => show 0 * 512 + k.val = k.val; omega

theorem blk_b (c : Dev nD) (t : Fin cfg0.N) (h : Fin 8) (v : Fin 64) (r : Fin 512) :
    iblk m c 2 t (ix5 (0 : Fin 1) h (0 : Fin 1) v r) = V m c main_v1 (ix5 (ptB t) h (⟨t.val % 16, by omega⟩ : Fin 16) v r) := by
  show V m c main_v1 ((win0_2.rect t).emb (ix5 (0 : Fin 1) h (0 : Fin 1) v r)) = _
  refine congrArg (V m c main_v1) (funext fun a => Fin.ext ?_)
  refine (Window.rect_emb_val win0_2 t _ a).trans ?_
  rw [index_b]
  match a with
  | ⟨0, _⟩ => show t.val / 16 * 1 + 0 = t.val / 16; omega
  | ⟨1, _⟩ => show 0 * 8 + h.val = h.val; omega
  | ⟨2, _⟩ => show t.val % 16 * 1 + 0 = t.val % 16; omega
  | ⟨3, _⟩ => show 0 * 64 + v.val = v.val; omega
  | ⟨4, _⟩ => show 0 * 512 + r.val = r.val; omega

theorem blk_wa (c : Dev nD) (t : Fin cfg0.N) : iblk m c 3 t = V m c main_v4 :=
  funext fun y => congrArg (V m c main_v4) (funext fun a => Fin.ext (win0_3.rect_emb_val_of_index_zero t a (by rw [index_wa]; exact zero2 a) y))

theorem blk_wb (c : Dev nD) (t : Fin cfg0.N) : iblk m c 4 t = V m c main_v7 :=
  funext fun y => congrArg (V m c main_v7) (funext fun a => Fin.ext (win0_4.rect_emb_val_of_index_zero t a (by rw [index_wb]; exact zero2 a) y))

theorem blk_gm (c : Dev nD) (t : Fin cfg0.N) : iblk m c 5 t = V m c main_v10 :=
  funext fun y => congrArg (V m c main_v10) (funext fun a => Fin.ext (win0_5.rect_emb_val_of_index_zero t a (by rw [index_gm]; exact zero2 a) y))

theorem blk_g1 (c : Dev nD) (t : Fin cfg0.N) : iblk m c 6 t = V m c main_v13 :=
  funext fun y => congrArg (V m c main_v13) (funext fun a => Fin.ext (win0_6.rect_emb_val_of_index_zero t a (by rw [index_g1]; exact zero2 a) y))

theorem blk_w1 (c : Dev nD) (t : Fin cfg0.N) : iblk m c 7 t = V m c main_v16 :=
  funext fun y => congrArg (V m c main_v16) (funext fun a => Fin.ext (win0_7.rect_emb_val_of_index_zero t a (by rw [index_w1]; exact zero2 a) y))

theorem blk_w2 (c : Dev nD) (t : Fin cfg0.N) : iblk m c 8 t = V m c main_v19 :=
  funext fun y => congrArg (V m c main_v19) (funext fun a => Fin.ext (win0_8.rect_emb_val_of_index_zero t a (by rw [index_w2]; exact zero2 a) y))

theorem blk_g2 (c : Dev nD) (t : Fin cfg0.N) : iblk m c 9 t = V m c main_v22 :=
  funext fun y => congrArg (V m c main_v22) (funext fun a => Fin.ext (win0_9.rect_emb_val_of_index_zero t a (by rw [index_g2]; exact zero2 a) y))

theorem emb_o (t : Fin cfg0.N) (r : Fin 512) (k : Fin 1024) :
    (win0_10.rect t).emb (ix3 (0 : Fin 1) r k) = (ix3 (ptB t) (ptT t r) k : S8x8192x1024.Idx) := by
  refine funext fun a => Fin.ext ?_
  refine (Window.rect_emb_val win0_10 t _ a).trans ?_
  rw [index_o]
  match a with
  | ⟨0, _⟩ => show t.val / 16 * 1 + 0 = t.val / 16; omega
  | ⟨1, _⟩ => show t.val % 16 * 512 + r.val = 512 * (t.val % 16) + r.val; omega
  | ⟨2, _⟩ => show 0 * 1024 + k.val = k.val; omega

theorem vix5 {n k l p q : ℕ} (a : Fin n) (b : Fin k) (c : Fin l) (d : Fin p) (e : Fin q) : ValueIdx.ix5 a b c d e = ix5 a b c d e := by
  funext i; fin_cases i <;> rfl

/-! ## The arrays the host prepares, as the reference's values -/

section Arrays

open Cert.Reference3Ideal.Read

theorem V_gm (c : Dev nD) (k : Fin 1024) :
    V m c main_v10 (ix2 (0 : Fin 1) k) = val_main_v5 (F := Ideal) (m ((c : Thread nD τ).loc main_arg3)) (ix1 k) := by
  have h : V m c main_v10 = shapeCast S1x1024 (val_main_v5 (F := Ideal) (m ((c : Thread nD τ).loc main_arg3))) shapeCasts_S1024_S1x1024 := by
    show StableHlo.after hostOps0 (fun b => m (c, b)) (Proc.devRef .tc main_v10) = _
    unfold hostOps0
    after_results <;> rfl
  rw [h]
  exact row_cast _ k

theorem V_g1 (c : Dev nD) (k : Fin 1024) :
    V m c main_v13 (ix2 (0 : Fin 1) k) = val_main_v21 (F := Ideal) (m ((c : Thread nD τ).loc main_arg4)) (ix1 k) := by
  have h : V m c main_v13 = shapeCast S1x1024 (val_main_v21 (F := Ideal) (m ((c : Thread nD τ).loc main_arg4))) shapeCasts_S1024_S1x1024 := by
    show StableHlo.after hostOps0 (fun b => m (c, b)) (Proc.devRef .tc main_v13) = _
    unfold hostOps0
    after_results <;> rfl
  rw [h]
  exact row_cast _ k

theorem V_g2 (c : Dev nD) (k : Fin 1024) :
    V m c main_v22 (ix2 (0 : Fin 1) k) = val_main_v44 (F := Ideal) (m ((c : Thread nD τ).loc main_arg4)) (ix1 k) := by
  have h : V m c main_v22 = shapeCast S1x1024 (val_main_v44 (F := Ideal) (m ((c : Thread nD τ).loc main_arg4))) shapeCasts_S1024_S1x1024 := by
    show StableHlo.after hostOps0 (fun b => m (c, b)) (Proc.devRef .tc main_v22) = _
    unfold hostOps0
    after_results <;> rfl
  rw [h]
  exact row_cast _ k

theorem V_w1 (c : Dev nD) : V m c main_v16 = val_main_v36 (F := Ideal) (m ((c : Thread nD τ).loc main_arg5)) := by
  show StableHlo.after hostOps0 (fun b => m (c, b)) (Proc.devRef .tc main_v16) = _
  unfold hostOps0
  after_results <;> rfl

theorem V_w2 (c : Dev nD) : V m c main_v19 = val_main_v41 (F := Ideal) (m ((c : Thread nD τ).loc main_arg6)) := by
  show StableHlo.after hostOps0 (fun b => m (c, b)) (Proc.devRef .tc main_v19) = _
  unfold hostOps0
  after_results <;> rfl

theorem V_wa (c : Dev nD) (k : Fin 512) (j : Fin 1024) :
    V m c main_v4 (ix2 k j) = val_main_v2 (F := Ideal) (m ((c : Thread nD τ).loc main_arg7)) (ix2 (⟨k.val, by omega⟩ : Fin 1024) j) := by
  have h : V m c main_v4 = extractStridedSlice S512x1024 ![0, 0] (val_main_v2 (F := Ideal) (m ((c : Thread nD τ).loc main_arg7))) slices_S1024x1024_S512x1024_0_0 := by
    show StableHlo.after hostOps0 (fun b => m (c, b)) (Proc.devRef .tc main_v4) = _
    unfold hostOps0
    after_results <;> rfl
  rw [h]
  refine extractStridedSlice_apply _ _ _ _ _ fun a => ?_
  match a with
  | ⟨0, _⟩ => exact (Nat.zero_add _).symm
  | ⟨1, _⟩ => exact (Nat.zero_add _).symm

theorem V_wb (c : Dev nD) (k : Fin 512) (j : Fin 1024) :
    V m c main_v7 (ix2 k j) = val_main_v2 (F := Ideal) (m ((c : Thread nD τ).loc main_arg7)) (ix2 (⟨512 + k.val, by omega⟩ : Fin 1024) j) := by
  have h : V m c main_v7 = extractStridedSlice S512x1024 ![512, 0] (val_main_v2 (F := Ideal) (m ((c : Thread nD τ).loc main_arg7))) slices_S1024x1024_S512x1024_512_0 := by
    show StableHlo.after hostOps0 (fun b => m (c, b)) (Proc.devRef .tc main_v7) = _
    unfold hostOps0
    after_results <;> rfl
  rw [h]
  refine extractStridedSlice_apply _ _ _ _ _ fun a => ?_
  match a with
  | ⟨0, _⟩ => rfl
  | ⟨1, _⟩ => exact (Nat.zero_add _).symm

/-- The heads' outputs, laid out with the tokens on the last axis. -/
theorem V_b (c : Dev nD) (t : Fin cfg0.N) (r : Fin 512) (k : Fin 512) :
    V m c main_v1 (ix5 (ptB t) (⟨k.val / 64, by omega⟩ : Fin 8) (⟨t.val % 16, by omega⟩ : Fin 16) (⟨k.val % 64, by omega⟩ : Fin 64) r)
      = (m ((c : Thread nD τ).loc main_arg2) : (⟨S8x8192x512, .bf16⟩ : BufTy).Contents (Elt Ideal)) (ix3 (ptB t) (ptT t r) k) := by
  have h : V m c main_v1 = transpose S8x8x16x64x512 [0, 3, 1, 4, 2] (shapeCast S8x16x512x8x64 (m ((c : Thread nD τ).loc main_arg2) : (⟨S8x8192x512, .bf16⟩ : BufTy).Contents (Elt Ideal)) shapeCasts_S8x8192x512_S8x16x512x8x64)
      transposes_S8x16x512x8x64_S8x8x16x64x512_0_3_1_4_2 := by
    show StableHlo.after hostOps0 (fun b => m (c, b)) (Proc.devRef .tc main_v1) = _
    unfold hostOps0
    after_results <;> rfl
  rw [h]
  refine (transpose_apply _ _ _ _ (ix5 (ptB t) (⟨t.val % 16, by omega⟩ : Fin 16) r (⟨k.val / 64, by omega⟩ : Fin 8) (⟨k.val % 64, by omega⟩ : Fin 64)) ?_).trans
    (shapeCast_apply _ _ _ (ix3 (ptB t) (ptT t r) k) ?_)
  · intro a; fin_cases a <;> rfl
  · rw [Shape.rowMajor_val_five, Shape.rowMajor_val_three]
    show (t.val / 16 * 8192 + (512 * (t.val % 16) + r.val)) * 512 + k.val = (((t.val / 16 * 16 + t.val % 16) * 512 + r.val) * 8 + k.val / 64) * 64 + k.val % 64
    omega

/-- The kernel's result is the reference's function of the arguments. -/
theorem kernel_value (c : Dev nD) :
    (dats m 0 c).arrAt 10 cfg0.N = val_main_v58 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_cover 10 _ (fun t _ => ?_) (fun i => ?_)
  · rw [Value.flushed10]
    funext y
    obtain ⟨y0, r, j, rfl⟩ : ∃ (y0 : Fin 1) (r : Fin 512) (j : Fin 1024), y = ix3 y0 r j := ⟨y 0, y 1, y 2, eq_ix3 y⟩
    obtain rfl : y0 = 0 := Subsingleton.elim _ _
    show out0_10 (F := Ideal) (iblk m c 0 t) (iblk m c 1 t) (iblk m c 2 t) (iblk m c 3 t) (iblk m c 4 t) (iblk m c 5 t) (iblk m c 6 t) (iblk m c 7 t) (iblk m c 8 t) (iblk m c 9 t) (ix3 (0 : Fin 1) r j)
      = val_main_v58 (F := Ideal) _ _ _ _ _ _ _ _ ((win0_10.rect t).emb (ix3 (0 : Fin 1) r j))
    rw [emb_o, ← vix3 (0 : Fin 1) r j, out_apply, Ref.value]
    simp only [vix2, vix3, vix5, blk_x, blk_a, blk_b, blk_wa, blk_wb, blk_gm, blk_g1, blk_w1, blk_w2, blk_g2]
    exact token_congr j (fun k => congrFun (V_main_arg0 m c) _) (fun k => congrFun (V_main_arg1 m c) _) (V_b m c t r)
      (V_wa m c) (V_wb m c) (V_gm m c) (V_g1 m c) (V_g2 m c) (fun d k => congrFun (V_w1 m c) _) (fun k j => congrFun (V_w2 m c) _)
  · have hb : (i 0).val < 8 := (i 0).isLt
    have ht : (i 1).val < 8192 := (i 1).isLt
    let t : Fin cfg0.N := ⟨16 * (i 0).val + (i 1).val / 512, by rw [show cfg0.N = 128 from N_0]; omega⟩
    refine ⟨t, flush0_10 t, ?_⟩
    have h := ((cfg0.win 10).blk t).view.emb_mem_set (ix3 (0 : Fin 1) (⟨(i 1).val % 512, by omega⟩ : Fin 512) (i 2))
    have e : ((cfg0.win 10).blk t).view.emb (ix3 (0 : Fin 1) (⟨(i 1).val % 512, by omega⟩ : Fin 512) (i 2)) = i := by
      refine (emb_o t _ _).trans (funext fun a => Fin.ext ?_)
      match a with
      | ⟨0, _⟩ => show (16 * (i 0).val + (i 1).val / 512) / 16 = (i 0).val; omega
      | ⟨1, _⟩ => show 512 * ((16 * (i 0).val + (i 1).val / 512) % 16) + (i 1).val % 512 = (i 1).val; omega
      | ⟨2, _⟩ => rfl
    rwa [e] at h

end Arrays

end Cert.Mlp1

end
-- ==== Proof.FfPRef.lean ====
module

public import proofs.«01_k».proof.Proof.Gen.Reference4Ideal.Read
public import proofs.«01_k».proof.Proof.FfHost

@[expose] public section

set_option maxRecDepth 16384

noncomputable section

namespace Cert.MlpP.Ref

open Cert.Reference4Ideal Cert.Reference4Ideal.Gen Cert.Reference4Ideal.Read
open Cert.Mlp (token)
open Cert.Mlp.Ref (Sides rowsDot midH tailH joinH token_of_joined)
open Idealize.ShloMosaic Idealize.ShloMosaic.TcCoe Idealize.SL.Sem

/-! ## The last layer's reference at the prompt batch, token by token -/

/-- The side conditions at the prompt batch's length. -/
theorem sides : Sides 2048 :=
  ⟨by decide, reducesTo_S8x2048x1024_S8x2048_d2, by decide, h_S_, bcast_S8x2048_S8x2048x1_0_1, bcast_S_S8x2048x1, bcast_S8x2048x1_S8x2048x1024_0_1_2,
    bcast_S1024_S1x1x1024_2, bcast_S1x1x1024_S8x2048x1024_0_1_2, bcast_S_S8x2048x4096⟩

variable (x0 : (⟨S8x2048x1024, .f32⟩ : BufTy).Contents (Elt Ideal)) (x1 : (⟨S8x2048x768, .bf16⟩ : BufTy).Contents (Elt Ideal)) (x2 : (⟨S8x2048x256, .bf16⟩ : BufTy).Contents (Elt Ideal))
  (x3 x4 : (⟨S2x2x1024, .f32⟩ : BufTy).Contents (Elt Ideal)) (x5 : (⟨S2x1024x4096, .f32⟩ : BufTy).Contents (Elt Ideal))
  (x6 : (⟨S2x4096x1024, .f32⟩ : BufTy).Contents (Elt Ideal)) (x7 : (⟨S1x1024x1024, .f32⟩ : BufTy).Contents (Elt Ideal))

/-- What the reference computes for one token. -/
theorem value (b : Fin 8) (t : Fin 2048) (j : Fin 1024) :
    val_main_v58 (F := Ideal) x0 x1 x2 x3 x4 x5 x6 x7 (ix3 b t j)
      = token (fun k => x0 (ix3 b t k)) (fun k => x1 (ix3 b t k)) (fun k => x2 (ix3 b t k))
          (fun k j => val_main_v2 (F := Ideal) x7 (ix2 (⟨k.val, by omega⟩ : Fin 1024) j)) (fun k j => val_main_v2 (F := Ideal) x7 (ix2 (⟨768 + k.val, by omega⟩ : Fin 1024) j))
          (fun k => val_main_v5 (F := Ideal) x3 (ix1 k)) (fun k => val_main_v21 (F := Ideal) x4 (ix1 k)) (fun k => val_main_v44 (F := Ideal) x4 (ix1 k))
          (fun d k => val_main_v36 (F := Ideal) x5 (ix2 d k)) (fun k j => val_main_v41 (F := Ideal) x6 (ix2 k j)) j := by
  have h : val_main_v58 (F := Ideal) x0 x1 x2 x3 x4 x5 x6 x7
      = tailH sides (midH sides x0 (Host.dotGeneral (F := Ideal) (φ₁ := .f32) (φ₂ := .f32) (rowsDot 2048 1024 1024) none
            (joinH x1 x2 concatenates_S8x2048x768_S8x2048x256_S8x2048x1024_d2 bitsLt_bf16_f32) (val_main_v2 (F := Ideal) x7)) (val_main_v5 (F := Ideal) x3))
          (val_main_v21 (F := Ideal) x4) (val_main_v44 (F := Ideal) x4) (val_main_v36 (F := Ideal) x5) (val_main_v41 (F := Ideal) x6) := rfl
  rw [h]
  exact token_of_joined sides (A := 768) (B := 256) rfl x1 x2 _ _ x0 _ _ _ _ _ _ b t j

end Cert.MlpP.Ref

end
-- ==== Proof.FfPArr.lean ====
module

public import proofs.«01_k».proof.Proof.Gen.Kernel4Ideal.Value
public import proofs.«01_k».proof.Proof.FfArr
public import proofs.«01_k».proof.Proof.FfPRef
public import Idealize.ShloMosaic.Lib.StableHlo.Run

@[expose] public section

set_option maxRecDepth 16384

noncomputable section

namespace Cert.MlpP

open Cert.Mlp (token token_congr row_cast zero2 vix2 vix3)
open Cert.Kernel4Ideal Cert.Kernel4Ideal.Gen
open Idealize.ShloMosaic Idealize.ShloMosaic.TcCoe Idealize.SL.Sem Idealize.ShloMosaic.StableHlo
open Idealize.ShloMosaic.Pipeline (Window)

variable (m : (ℓ : Loc nD τ sig) → Buf (Elt Ideal) ℓ)

/-! ## The blocks of the windows -/

theorem index_x : ∀ t : Fin cfg0.N, win0_0.index t = ![t.val / 4, t.val % 4, 0] := by decide +kernel
theorem index_a : ∀ t : Fin cfg0.N, win0_1.index t = ![t.val / 4, t.val % 4, 0] := by decide +kernel
theorem index_b : ∀ t : Fin cfg0.N, win0_2.index t = ![t.val / 4, t.val % 4, 0] := by decide +kernel
theorem index_wa : ∀ t : Fin cfg0.N, win0_3.index t = ![0, 0] := by decide +kernel
theorem index_wb : ∀ t : Fin cfg0.N, win0_4.index t = ![0, 0] := by decide +kernel
theorem index_gm : ∀ t : Fin cfg0.N, win0_5.index t = ![0, 0] := by decide +kernel
theorem index_g1 : ∀ t : Fin cfg0.N, win0_6.index t = ![0, 0] := by decide +kernel
theorem index_w1 : ∀ t : Fin cfg0.N, win0_7.index t = ![0, 0] := by decide +kernel
theorem index_w2 : ∀ t : Fin cfg0.N, win0_8.index t = ![0, 0] := by decide +kernel
theorem index_g2 : ∀ t : Fin cfg0.N, win0_9.index t = ![0, 0] := by decide +kernel
theorem index_o : ∀ t : Fin cfg0.N, win0_10.index t = ![t.val / 4, t.val % 4, 0] := by decide +kernel

theorem pt_lt (t : Fin cfg0.N) : t.val < 32 := lt_of_lt_of_eq t.isLt N_0

/-- The sequence of a point. -/
def ptB (t : Fin cfg0.N) : Fin 8 := ⟨t.val / 4, by have := pt_lt t; omega⟩
/-- The position of a point's row. -/
def ptT (t : Fin cfg0.N) (r : Fin 512) : Fin 2048 := ⟨512 * (t.val % 4) + r.val, by omega⟩

theorem blk_x (c : Dev nD) (t : Fin cfg0.N) (r : Fin 512) (k : Fin 1024) :
    iblk m c 0 t (ix3 (0 : Fin 1) r k) = V m c main_arg0 (ix3 (ptB t) (ptT t r) k) := by
  show V m c main_arg0 ((win0_0.rect t).emb (ix3 (0 : Fin 1) r k)) = _
  refine congrArg (V m c main_arg0) (funext fun a => Fin.ext ?_)
  refine (Window.rect_emb_val win0_0 t _ a).trans ?_
  rw [index_x]
  match a with
  | ⟨0, _⟩ => show t.val / 4 * 1 + 0 = t.val / 4; omega
  | ⟨1, _⟩ => show t.val % 4 * 512 + r.val = 512 * (t.val % 4) + r.val; omega
  | ⟨2, _⟩ => show 0 * 1024 + k.val = k.val; omega

theorem blk_a (c : Dev nD) (t : Fin cfg0.N) (r : Fin 512) (k : Fin 768) :
    iblk m c 1 t (ix3 (0 : Fin 1) r k) = V m c main_arg1 (ix3 (ptB t) (ptT t r) k) := by
  show V m c main_arg1 ((win0_1.rect t).emb (ix3 (0 : Fin 1) r k)) = _
  refine congrArg (V m c main_arg1) (funext fun a => Fin.ext ?_)
  refine (Window.rect_emb_val win0_1 t _ a).trans ?_
  rw [index_a]
  match a with
  | ⟨0, _⟩ => show t.val / 4 * 1 + 0 = t.val / 4; omega
  | ⟨1, _⟩ => show t.val % 4 * 512 + r.val = 512 * (t.val % 4) + r.val; omega
  | ⟨2, _⟩ => show 0 * 768 + k.val = k.val; omega

theorem blk_b (c : Dev nD) (t : Fin cfg0.N) (r : Fin 512) (k : Fin 256) :
    iblk m c 2 t (ix3 (0 : Fin 1) r k) = V m c main_arg2 (ix3 (ptB t) (ptT t r) k) := by
  show V m c main_arg2 ((win0_2.rect t).emb (ix3 (0 : Fin 1) r k)) = _
  refine congrArg (V m c main_arg2) (funext fun a => Fin.ext ?_)
  refine (Window.rect_emb_val win0_2 t _ a).trans ?_
  rw [index_b]
  match a with
  | ⟨0, _⟩ => show t.val / 4 * 1 + 0 = t.val / 4; omega
  | ⟨1, _⟩ => show t.val % 4 * 512 + r.val = 512 * (t.val % 4) + r.val; omega
  | ⟨2, _⟩ => show 0 * 256 + k.val = k.val; omega

theorem blk_wa (c : Dev nD) (t : Fin cfg0.N) : iblk m c 3 t = V m c main_v2 :=
  funext fun y => congrArg (V m c main_v2) (funext fun a => Fin.ext (win0_3.rect_emb_val_of_index_zero t a (by rw [index_wa]; exact zero2 a) y))

theorem blk_wb (c : Dev nD) (t : Fin cfg0.N) : iblk m c 4 t = V m c main_v5 :=
  funext fun y => congrArg (V m c main_v5) (funext fun a => Fin.ext (win0_4.rect_emb_val_of_index_zero t a (by rw [index_wb]; exact zero2 a) y))

theorem blk_gm (c : Dev nD) (t : Fin cfg0.N) : iblk m c 5 t = V m c main_v8 :=
  funext fun y => congrArg (V m c main_v8) (funext fun a => Fin.ext (win0_5.rect_emb_val_of_index_zero t a (by rw [index_gm]; exact zero2 a) y))

theorem blk_g1 (c : Dev nD) (t : Fin cfg0.N) : iblk m c 6 t = V m c main_v11 :=
  funext fun y => congrArg (V m c main_v11) (funext fun a => Fin.ext (win0_6.rect_emb_val_of_index_zero t a (by rw [index_g1]; exact zero2 a) y))

theorem blk_w1 (c : Dev nD) (t : Fin cfg0.N) : iblk m c 7 t = V m c main_v14 :=
  funext fun y => congrArg (V m c main_v14) (funext fun a => Fin.ext (win0_7.rect_emb_val_of_index_zero t a (by rw [index_w1]; exact zero2 a) y))

theorem blk_w2 (c : Dev nD) (t : Fin cfg0.N) : iblk m c 8 t = V m c main_v17 :=
  funext fun y => congrArg (V m c main_v17) (funext fun a => Fin.ext (win0_8.rect_emb_val_of_index_zero t a (by rw [index_w2]; exact zero2 a) y))

theorem blk_g2 (c : Dev nD) (t : Fin cfg0.N) : iblk m c 9 t = V m c main_v20 :=
  funext fun y => congrArg (V m c main_v20) (funext fun a => Fin.ext (win0_9.rect_emb_val_of_index_zero t a (by rw [index_g2]; exact zero2 a) y))

theorem emb_o (t : Fin cfg0.N) (r : Fin 512) (k : Fin 1024) :
    (win0_10.rect t).emb (ix3 (0 : Fin 1) r k) = (ix3 (ptB t) (ptT t r) k : S8x2048x1024.Idx) := by
  refine funext fun a => Fin.ext ?_
  refine (Window.rect_emb_val win0_10 t _ a).trans ?_
  rw [index_o]
  match a with
  | ⟨0, _⟩ => show t.val / 4 * 1 + 0 = t.val / 4; omega
  | ⟨1, _⟩ => show t.val % 4 * 512 + r.val = 512 * (t.val % 4) + r.val; omega
  | ⟨2, _⟩ => show 0 * 1024 + k.val = k.val; omega

/-! ## The arrays the host prepares, as the reference's values -/

section Arrays

open Cert.Reference4Ideal.Read

theorem V_gm (c : Dev nD) (k : Fin 1024) :
    V m c main_v8 (ix2 (0 : Fin 1) k) = val_main_v5 (F := Ideal) (m ((c : Thread nD τ).loc main_arg3)) (ix1 k) := by
  have h : V m c main_v8 = shapeCast S1x1024 (val_main_v5 (F := Ideal) (m ((c : Thread nD τ).loc main_arg3))) shapeCasts_S1024_S1x1024 := by
    show StableHlo.after hostOps0 (fun b => m (c, b)) (Proc.devRef .tc main_v8) = _
    unfold hostOps0
    after_results <;> rfl
  rw [h]
  exact row_cast _ k

theorem V_g1 (c : Dev nD) (k : Fin 1024) :
    V m c main_v11 (ix2 (0 : Fin 1) k) = val_main_v21 (F := Ideal) (m ((c : Thread nD τ).loc main_arg4)) (ix1 k) := by
  have h : V m c main_v11 = shapeCast S1x1024 (val_main_v21 (F := Ideal) (m ((c : Thread nD τ).loc main_arg4))) shapeCasts_S1024_S1x1024 := by
    show StableHlo.after hostOps0 (fun b => m (c, b)) (Proc.devRef .tc main_v11) = _
    unfold hostOps0
    after_results <;> rfl
  rw [h]
  exact row_cast _ k

theorem V_g2 (c : Dev nD) (k : Fin 1024) :
    V m c main_v20 (ix2 (0 : Fin 1) k) = val_main_v44 (F := Ideal) (m ((c : Thread nD τ).loc main_arg4)) (ix1 k) := by
  have h : V m c main_v20 = shapeCast S1x1024 (val_main_v44 (F := Ideal) (m ((c : Thread nD τ).loc main_arg4))) shapeCasts_S1024_S1x1024 := by
    show StableHlo.after hostOps0 (fun b => m (c, b)) (Proc.devRef .tc main_v20) = _
    unfold hostOps0
    after_results <;> rfl
  rw [h]
  exact row_cast _ k

theorem V_w1 (c : Dev nD) : V m c main_v14 = val_main_v36 (F := Ideal) (m ((c : Thread nD τ).loc main_arg5)) := by
  show StableHlo.after hostOps0 (fun b => m (c, b)) (Proc.devRef .tc main_v14) = _
  unfold hostOps0
  after_results <;> rfl

theorem V_w2 (c : Dev nD) : V m c main_v17 = val_main_v41 (F := Ideal) (m ((c : Thread nD τ).loc main_arg6)) := by
  show StableHlo.after hostOps0 (fun b => m (c, b)) (Proc.devRef .tc main_v17) = _
  unfold hostOps0
  after_results <;> rfl

theorem V_wa (c : Dev nD) (k : Fin 768) (j : Fin 1024) :
    V m c main_v2 (ix2 k j) = val_main_v2 (F := Ideal) (m ((c : Thread nD τ).loc main_arg7)) (ix2 (⟨k.val, by omega⟩ : Fin 1024) j) := by
  have h : V m c main_v2 = extractStridedSlice S768x1024 ![0, 0] (val_main_v2 (F := Ideal) (m ((c : Thread nD τ).loc main_arg7))) slices_S1024x1024_S768x1024_0_0 := by
    show StableHlo.after hostOps0 (fun b => m (c, b)) (Proc.devRef .tc main_v2) = _
    unfold hostOps0
    after_results <;> rfl
  rw [h]
  refine extractStridedSlice_apply _ _ _ _ _ fun a => ?_
  match a with
  | ⟨0, _⟩ => exact (Nat.zero_add _).symm
  | ⟨1, _⟩ => exact (Nat.zero_add _).symm

theorem V_wb (c : Dev nD) (k : Fin 256) (j : Fin 1024) :
    V m c main_v5 (ix2 k j) = val_main_v2 (F := Ideal) (m ((c : Thread nD τ).loc main_arg7)) (ix2 (⟨768 + k.val, by omega⟩ : Fin 1024) j) := by
  have h : V m c main_v5 = extractStridedSlice S256x1024 ![768, 0] (val_main_v2 (F := Ideal) (m ((c : Thread nD τ).loc main_arg7))) slices_S1024x1024_S256x1024_768_0 := by
    show StableHlo.after hostOps0 (fun b => m (c, b)) (Proc.devRef .tc main_v5) = _
    unfold hostOps0
    after_results <;> rfl
  rw [h]
  refine extractStridedSlice_apply _ _ _ _ _ fun a => ?_
  match a with
  | ⟨0, _⟩ => rfl
  | ⟨1, _⟩ => exact (Nat.zero_add _).symm

/-- A point of the prompt batch computes what a point of the sample batch does. -/
theorem out_same : out0_10 (F := Ideal) = Cert.Kernel2Ideal.Gen.out0_10 := rfl

/-- The kernel's result is the reference's function of the arguments. -/
theorem kernel_value (c : Dev nD) :
    (dats m 0 c).arrAt 10 cfg0.N = val_main_v58 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_cover 10 _ (fun t _ => ?_) (fun i => ?_)
  · rw [Value.flushed10]
    funext y
    obtain ⟨y0, r, j, rfl⟩ : ∃ (y0 : Fin 1) (r : Fin 512) (j : Fin 1024), y = ix3 y0 r j := ⟨y 0, y 1, y 2, eq_ix3 y⟩
    obtain rfl : y0 = 0 := Subsingleton.elim _ _
    show out0_10 (F := Ideal) (iblk m c 0 t) (iblk m c 1 t) (iblk m c 2 t) (iblk m c 3 t) (iblk m c 4 t) (iblk m c 5 t) (iblk m c 6 t) (iblk m c 7 t) (iblk m c 8 t) (iblk m c 9 t) (ix3 (0 : Fin 1) r j)
      = val_main_v58 (F := Ideal) _ _ _ _ _ _ _ _ ((win0_10.rect t).emb (ix3 (0 : Fin 1) r j))
    rw [emb_o, ← vix3 (0 : Fin 1) r j, out_same, Cert.Mlp.out_apply, Ref.value]
    simp only [vix2, vix3, blk_x, blk_a, blk_b, blk_wa, blk_wb, blk_gm, blk_g1, blk_w1, blk_w2, blk_g2]
    exact token_congr j (fun k => congrFun (V_main_arg0 m c) _) (fun k => congrFun (V_main_arg1 m c) _) (fun k => congrFun (V_main_arg2 m c) _)
      (V_wa m c) (V_wb m c) (V_gm m c) (V_g1 m c) (V_g2 m c) (fun d k => congrFun (V_w1 m c) _) (fun k j => congrFun (V_w2 m c) _)
  · have hb : (i 0).val < 8 := (i 0).isLt
    have ht : (i 1).val < 2048 := (i 1).isLt
    let t : Fin cfg0.N := ⟨4 * (i 0).val + (i 1).val / 512, by rw [show cfg0.N = 32 from N_0]; omega⟩
    refine ⟨t, flush0_10 t, ?_⟩
    have h := ((cfg0.win 10).blk t).view.emb_mem_set (ix3 (0 : Fin 1) (⟨(i 1).val % 512, by omega⟩ : Fin 512) (i 2))
    have e : ((cfg0.win 10).blk t).view.emb (ix3 (0 : Fin 1) (⟨(i 1).val % 512, by omega⟩ : Fin 512) (i 2)) = i := by
      refine (emb_o t _ _).trans (funext fun a => Fin.ext ?_)
      match a with
      | ⟨0, _⟩ => show (4 * (i 0).val + (i 1).val / 512) / 4 = (i 0).val; omega
      | ⟨1, _⟩ => show 512 * ((4 * (i 0).val + (i 1).val / 512) % 4) + (i 1).val % 512 = (i 1).val; omega
      | ⟨2, _⟩ => rfl
    rwa [e] at h

end Arrays

end Cert.MlpP

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Run
public import proofs.«01_k».proof.Proof.Equal
public import proofs.«01_k».proof.Proof.FfArr
public import proofs.«01_k».proof.Proof.Ff1Arr
public import proofs.«01_k».proof.Proof.FfPArr
public import Idealize.ShloMosaic.Lib.Pipeline.Regions

@[expose] public section

noncomputable section

namespace Cert.Proof

open Idealize.ShloMosaic Idealize.SL.Sem

attribute [local instance] Cert.Kernel.Gen.facts Cert.KernelIdeal.Gen.facts Cert.ReferenceIdeal.Gen.facts
  Cert.Kernel2.Gen.facts Cert.Kernel2Ideal.Gen.facts Cert.Reference2Ideal.Gen.facts
  Cert.Kernel3.Gen.facts Cert.Kernel3Ideal.Gen.facts Cert.Reference3Ideal.Gen.facts
  Cert.Kernel4.Gen.facts Cert.Kernel4Ideal.Gen.facts Cert.Reference4Ideal.Gen.facts

/-- The side conditions of the precondition's own operations. -/
theorem pre_facts : Cert.Pre_finite_scores.Facts where
  bcast_S8x8192x32_S8x8192x1x32_0_1_3 := by decide
  bcast_S8x8192x1x32_S8x8192x8x32_0_1_2_3 := by decide
  concatenates_S8x8192x8x64_S8x8192x8x32_S8x8192x8x64_S8x8192x8x32_S8x8192x8x192_d3 := by decide
  bcast_S_S8x8192x8x192 := by decide

attribute [local instance] pre_facts

/-- The frame of the ideal program at `Bits`. -/
def FrameAtBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

/-- The kernel's text is one text for every float interpretation. -/
theorem frame_same : Cert.quiescent_Kernel = FrameAtBits := by chain_rfl

theorem frame_kernel : Cert.quiescent_Kernel :=
  Eq.mpr frame_same (fun m ρ _ => Cert.Attn.run_frame (F := Bits) m ρ)

theorem frame_kernel_ideal : Cert.quiescent_KernelIdeal := fun m ρ _ =>
  Cert.Attn.run_frame (F := Ideal) m ρ

theorem frame_reference : Cert.quiescent_ReferenceIdeal := fun m ρ _ =>
  (θ_run Cert.ReferenceIdeal.defs _ _).mono (fun _ h => ⟨fun c => (h c).2, sem_eq_zero_of_no_sems (by decide) _⟩)
    (Cert.ReferenceIdeal.Value.run (F := Ideal) m ρ)

/-! ## The values -/

/-- A value whose magnitude is below infinity is a real. -/
theorem real_of_abs (x : EReal) (h : max x (-x) < ⊤) : ∃ r : ℝ, x = (r : EReal) := by
  induction x using EReal.rec with
  | bot => simp at h
  | coe r => exact ⟨r, rfl⟩
  | top => simp at h

section Finite

open Cert.Pre_finite_scores

variable (x0 : FVec Ideal S8x8192x8x64 .f32) (x1 : FVec Ideal S8x8192x8x32 .f32) (x2 : FVec Ideal S8x8192x8x64 .f32) (x3 : FVec Ideal S8x8192x32 .f32)
  (x4 : FVec Ideal S8x8192x8x64 .f32) (h : fn (F := Ideal) x0 x1 x2 x3 x4 = fun _ => 1#1)

/-- The queries' and the keys' parts side by side. -/
def parts : FVec Ideal S8x8192x8x192 .f32 :=
  concatenate S8x8192x8x192 3 [⟨S8x8192x8x64, x0⟩, ⟨S8x8192x8x32, x1⟩, ⟨S8x8192x8x64, x2⟩,
    ⟨S8x8192x8x32, broadcastInDim S8x8192x8x32 ![0, 1, 2, 3] Facts.bcast_S8x8192x1x32_S8x8192x8x32_0_1_2_3
      (broadcastInDim S8x8192x1x32 ![0, 1, 3] Facts.bcast_S8x8192x32_S8x8192x1x32_0_1_3 x3)⟩]
    Facts.concatenates_S8x8192x8x64_S8x8192x8x32_S8x8192x8x64_S8x8192x8x32_S8x8192x8x192_d3

include h in
theorem parts_real (i : S8x8192x8x192.Idx) : ∃ r : ℝ, (parts x0 x1 x2 x3 i : EReal) = (r : EReal) := by
  refine real_of_abs _ ?_
  have hi : BitVec.ofBool (decide (max (parts x0 x1 x2 x3 i : EReal) (-(parts x0 x1 x2 x3 i : EReal)) < Ideal.ofBits .f32 0x7F800000#32)) = 1#1 := congrFun h i
  rw [Cert.Attn.Ref.ofBits_top] at hi
  by_contra hn
  rw [decide_eq_false hn] at hi
  exact absurd hi (by decide)

include h in
theorem real_0 (i : S8x8192x8x64.Idx) : ∃ r : ℝ, (x0 i : EReal) = (r : EReal) := by
  obtain ⟨r, hr⟩ := parts_real x0 x1 x2 x3 x4 h (ix4 (i 0) (i 1) (i 2) (⟨(i 3).val, by have h3 : (i 3).val < 64 := (i 3).isLt; omega⟩ : Fin 192))
  refine ⟨r, Eq.trans (Eq.symm ?_) hr⟩
  unfold parts
  refine concatenate_apply_piece (t := S8x8192x8x192) 3 _ _ _ 0 (by simp) S8x8192x8x64 x0 rfl rfl 0 rfl i ?_ ?_
  · intro a ha
    match a with
    | ⟨0, _⟩ => rfl
    | ⟨1, _⟩ => rfl
    | ⟨2, _⟩ => rfl
    | ⟨3, _⟩ => exact absurd rfl ha
  · show 0 + (i 3).val = (i 3).val
    omega

include h in
theorem real_1 (i : S8x8192x8x32.Idx) : ∃ r : ℝ, (x1 i : EReal) = (r : EReal) := by
  obtain ⟨r, hr⟩ := parts_real x0 x1 x2 x3 x4 h (ix4 (i 0) (i 1) (i 2) (⟨64 + (i 3).val, by have h3 : (i 3).val < 32 := (i 3).isLt; omega⟩ : Fin 192))
  refine ⟨r, Eq.trans (Eq.symm ?_) hr⟩
  unfold parts
  refine concatenate_apply_piece (t := S8x8192x8x192) 3 _ _ _ 1 (by simp) S8x8192x8x32 x1 rfl rfl 64 rfl i ?_ ?_
  · intro a ha
    match a with
    | ⟨0, _⟩ => rfl
    | ⟨1, _⟩ => rfl
    | ⟨2, _⟩ => rfl
    | ⟨3, _⟩ => exact absurd rfl ha
  · rfl

include h in
theorem real_2 (i : S8x8192x8x64.Idx) : ∃ r : ℝ, (x2 i : EReal) = (r : EReal) := by
  obtain ⟨r, hr⟩ := parts_real x0 x1 x2 x3 x4 h (ix4 (i 0) (i 1) (i 2) (⟨96 + (i 3).val, by have h3 : (i 3).val < 64 := (i 3).isLt; omega⟩ : Fin 192))
  refine ⟨r, Eq.trans (Eq.symm ?_) hr⟩
  unfold parts
  refine concatenate_apply_piece (t := S8x8192x8x192) 3 _ _ _ 2 (by simp) S8x8192x8x64 x2 rfl rfl 96 rfl i ?_ ?_
  · intro a ha
    match a with
    | ⟨0, _⟩ => rfl
    | ⟨1, _⟩ => rfl
    | ⟨2, _⟩ => rfl
    | ⟨3, _⟩ => exact absurd rfl ha
  · rfl

include h in
theorem real_3 (i : S8x8192x32.Idx) : ∃ r : ℝ, (x3 i : EReal) = (r : EReal) := by
  obtain ⟨r, hr⟩ := parts_real x0 x1 x2 x3 x4 h (ix4 (i 0) (i 1) (0 : Fin 8) (⟨160 + (i 2).val, by have h3 : (i 2).val < 32 := (i 2).isLt; omega⟩ : Fin 192))
  refine ⟨r, Eq.trans (Eq.symm ?_) hr⟩
  unfold parts
  refine (concatenate_apply_piece (t := S8x8192x8x192) 3 _ _ _ 3 (by simp) S8x8192x8x32 _ rfl rfl 160 rfl (ix4 (i 0) (i 1) (0 : Fin 8) (i 2)) ?_ ?_).trans ?_
  · intro a ha
    match a with
    | ⟨0, _⟩ => rfl
    | ⟨1, _⟩ => rfl
    | ⟨2, _⟩ => rfl
    | ⟨3, _⟩ => exact absurd rfl ha
  · rfl
  · refine (broadcastInDim_apply _ _ _ _ (ix4 (i 0) (i 1) (0 : Fin 1) (i 2)) ?_).trans (broadcastInDim_apply _ _ _ _ i ?_)
    · intro a; fin_cases a <;> rfl
    · intro a; fin_cases a <;> rfl

end Finite

/-- At finite queries and keys both programs end with the reference's function of the arguments. -/
theorem values : Cert.algebraic_KernelIdeal_ReferenceIdeal_pre_finite_scores := by
  intro m g m' g' hp hm
  refine ⟨fun c => (Cert.Attn.dats m 0 c).arrAt 3 Cert.KernelIdeal.cfg0.N,
    (θ_run Cert.KernelIdeal.defs _ _).mono (fun _ h c => h.1 c) (Cert.Attn.run_full (F := Ideal) m g), ?_⟩
  refine (θ_run Cert.ReferenceIdeal.defs _ _).mono (fun _ h c => ⟨(h c).1.trans ?_, (h c).2⟩) (Cert.ReferenceIdeal.Value.run (F := Ideal) m' g')
  obtain ⟨e0, e1, e2, e3, e4⟩ := hm c
  rw [Cert.ReferenceIdeal.Read.val_main_v23_eq, e0, e1, e2, e3, e4]
  have hc := hp c
  choose r0 h0 using real_0 _ _ _ _ _ hc
  choose r1 h1 using real_1 _ _ _ _ _ hc
  choose r2 h2 using real_2 _ _ _ _ _ hc
  choose r3 h3 using real_3 _ _ _ _ _ hc
  refine Eq.trans ?_ (Cert.Attn.kernel_value m c r0 r1 r2 r3 _ (funext h0) (funext h1) (funext h2) (funext h3) rfl).symm
  exact congrFun (congr (congr (congr (congrArg (Cert.ReferenceIdeal.Read.val_main_v23 (F := Ideal)) (funext h0)) (funext h1)) (funext h2)) (funext h3)) _

/-! ## The projection with the feed-forward part -/

/-- The frame of the second ideal program at `Bits`. -/
def FrameAtBits2 : Prop :=
  ∀ (m : (ℓ : Loc Cert.Kernel2Ideal.nD Cert.Kernel2Ideal.τ Cert.Kernel2Ideal.sig) → Buf (Elt Bits) ℓ) (g : Dev Cert.Kernel2Ideal.nD → PrngReg), True →
    θ_run (Cert.Kernel2Ideal.defs (F := Bits)) (onTc (τ := Cert.Kernel2Ideal.τ) (Cert.Kernel2Ideal.main (F := Bits))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

theorem frame_same2 : Cert.quiescent_Kernel2 = FrameAtBits2 := by chain_rfl

theorem frame_kernel2 : Cert.quiescent_Kernel2 :=
  Eq.mpr frame_same2 (fun m ρ _ => Cert.Kernel2Ideal.Gen.frame (F := Bits) m ρ)

theorem frame_kernel2_ideal : Cert.quiescent_Kernel2Ideal := fun m ρ _ =>
  Cert.Kernel2Ideal.Gen.frame (F := Ideal) m ρ

theorem frame_reference2 : Cert.quiescent_Reference2Ideal := fun m ρ _ =>
  (θ_run Cert.Reference2Ideal.defs _ _).mono (fun _ h => ⟨fun c => (h c).2, sem_eq_zero_of_no_sems (by decide) _⟩)
    (Cert.Reference2Ideal.Value.run (F := Ideal) m ρ)

/-- Both programs end with the reference's function of the arguments, whatever these are. -/
theorem values2 : Cert.algebraic_Kernel2Ideal_Reference2Ideal := by
  intro m g m' g' hp hm
  refine ⟨fun c => (Cert.Kernel2Ideal.Gen.dats m 0 c).arrAt 10 Cert.Kernel2Ideal.cfg0.N, Cert.Kernel2Ideal.Value.run_blocks (F := Ideal) m g, ?_⟩
  refine (θ_run Cert.Reference2Ideal.defs _ _).mono (fun _ h c => ⟨(h c).1.trans ?_, (h c).2⟩) (Cert.Reference2Ideal.Value.run (F := Ideal) m' g')
  obtain ⟨e0, e1, e2, e3, e4, e5, e6, e7⟩ := hm c
  rw [Cert.Reference2Ideal.Read.val_main_v58_eq, e0, e1, e2, e3, e4, e5, e6, e7]
  exact (Cert.Mlp.kernel_value m c).symm

/-! ## The same call in the first layer -/

/-- The frame of the third ideal program at `Bits`. -/
def FrameAtBits3 : Prop :=
  ∀ (m : (ℓ : Loc Cert.Kernel3Ideal.nD Cert.Kernel3Ideal.τ Cert.Kernel3Ideal.sig) → Buf (Elt Bits) ℓ) (g : Dev Cert.Kernel3Ideal.nD → PrngReg), True →
    θ_run (Cert.Kernel3Ideal.defs (F := Bits)) (onTc (τ := Cert.Kernel3Ideal.τ) (Cert.Kernel3Ideal.main (F := Bits))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

theorem frame_same3 : Cert.quiescent_Kernel3 = FrameAtBits3 := by chain_rfl

theorem frame_kernel3 : Cert.quiescent_Kernel3 :=
  Eq.mpr frame_same3 (fun m ρ _ => Cert.Kernel3Ideal.Gen.frame (F := Bits) m ρ)

theorem frame_kernel3_ideal : Cert.quiescent_Kernel3Ideal := fun m ρ _ =>
  Cert.Kernel3Ideal.Gen.frame (F := Ideal) m ρ

theorem frame_reference3 : Cert.quiescent_Reference3Ideal := fun m ρ _ =>
  (θ_run Cert.Reference3Ideal.defs _ _).mono (fun _ h => ⟨fun c => (h c).2, sem_eq_zero_of_no_sems (by decide) _⟩)
    (Cert.Reference3Ideal.Value.run (F := Ideal) m ρ)

/-- Both programs end with the reference's function of the arguments, whatever these are. -/
theorem values3 : Cert.algebraic_Kernel3Ideal_Reference3Ideal := by
  intro m g m' g' hp hm
  refine ⟨fun c => (Cert.Kernel3Ideal.Gen.dats m 0 c).arrAt 10 Cert.Kernel3Ideal.cfg0.N, Cert.Kernel3Ideal.Value.run_blocks (F := Ideal) m g, ?_⟩
  refine (θ_run Cert.Reference3Ideal.defs _ _).mono (fun _ h c => ⟨(h c).1.trans ?_, (h c).2⟩) (Cert.Reference3Ideal.Value.run (F := Ideal) m' g')
  obtain ⟨e0, e1, e2, e3, e4, e5, e6, e7⟩ := hm c
  rw [Cert.Reference3Ideal.Read.val_main_v58_eq, e0, e1, e2, e3, e4, e5, e6, e7]
  exact (Cert.Mlp1.kernel_value m c).symm

/-! ## The last layer's call at the prompt batch -/

/-- The frame of the fourth ideal program at `Bits`. -/
def FrameAtBits4 : Prop :=
  ∀ (m : (ℓ : Loc Cert.Kernel4Ideal.nD Cert.Kernel4Ideal.τ Cert.Kernel4Ideal.sig) → Buf (Elt Bits) ℓ) (g : Dev Cert.Kernel4Ideal.nD → PrngReg), True →
    θ_run (Cert.Kernel4Ideal.defs (F := Bits)) (onTc (τ := Cert.Kernel4Ideal.τ) (Cert.Kernel4Ideal.main (F := Bits))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

theorem frame_same4 : Cert.quiescent_Kernel4 = FrameAtBits4 := by chain_rfl

theorem frame_kernel4 : Cert.quiescent_Kernel4 :=
  Eq.mpr frame_same4 (fun m ρ _ => Cert.Kernel4Ideal.Gen.frame (F := Bits) m ρ)

theorem frame_kernel4_ideal : Cert.quiescent_Kernel4Ideal := fun m ρ _ =>
  Cert.Kernel4Ideal.Gen.frame (F := Ideal) m ρ

theorem frame_reference4 : Cert.quiescent_Reference4Ideal := fun m ρ _ =>
  (θ_run Cert.Reference4Ideal.defs _ _).mono (fun _ h => ⟨fun c => (h c).2, sem_eq_zero_of_no_sems (by decide) _⟩)
    (Cert.Reference4Ideal.Value.run (F := Ideal) m ρ)

/-- Both programs end with the reference's function of the arguments, whatever these are. -/
theorem values4 : Cert.algebraic_Kernel4Ideal_Reference4Ideal := by
  intro m g m' g' hp hm
  refine ⟨fun c => (Cert.Kernel4Ideal.Gen.dats m 0 c).arrAt 10 Cert.Kernel4Ideal.cfg0.N, Cert.Kernel4Ideal.Value.run_blocks (F := Ideal) m g, ?_⟩
  refine (θ_run Cert.Reference4Ideal.defs _ _).mono (fun _ h c => ⟨(h c).1.trans ?_, (h c).2⟩) (Cert.Reference4Ideal.Value.run (F := Ideal) m' g')
  obtain ⟨e0, e1, e2, e3, e4, e5, e6, e7⟩ := hm c
  rw [Cert.Reference4Ideal.Read.val_main_v58_eq, e0, e1, e2, e3, e4, e5, e6, e7]
  exact (Cert.MlpP.kernel_value m c).symm

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, pre_facts,
    frame_kernel, frame_kernel_ideal, fun m ρ _ => frame_kernel_ideal m ρ trivial, frame_reference,
    fun m ρ _ => frame_reference m ρ trivial, frame_kernel2, frame_kernel2_ideal, frame_reference2,
    frame_kernel3, frame_kernel3_ideal, frame_reference3,
    frame_kernel4, frame_kernel4_ideal, frame_reference4, trivial, values, trivial, values2, trivial, values3, trivial, values4⟩

end Cert.Proof

end
